-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S224x4096 : Shape := ⟨2, ![224, 4096]⟩
abbrev S4096 : Shape := ⟨1, ![4096]⟩
abbrev S4096x14336 : Shape := ⟨2, ![4096, 14336]⟩
abbrev S14336 : Shape := ⟨1, ![14336]⟩
abbrev S14336x4096 : Shape := ⟨2, ![14336, 4096]⟩
abbrev S1x4096 : Shape := ⟨2, ![1, 4096]⟩
abbrev S1x14336 : Shape := ⟨2, ![1, 14336]⟩
abbrev S2x112x4096 : Shape := ⟨3, ![2, 112, 4096]⟩
abbrev S2x112 : Shape := ⟨2, ![2, 112]⟩
abbrev S2x112x14336 : Shape := ⟨3, ![2, 112, 14336]⟩
abbrev S16x4096x512 : Shape := ⟨3, ![16, 4096, 512]⟩
abbrev S224x14336 : Shape := ⟨2, ![224, 14336]⟩
abbrev S2x2x112x1792 : Shape := ⟨4, ![2, 2, 112, 1792]⟩
abbrev S224x128 : Shape := ⟨2, ![224, 128]⟩
abbrev S16 : Shape := ⟨1, ![16]⟩
abbrev S1 : Shape := ⟨1, ![1]⟩
abbrev S2 : Shape := ⟨1, ![2]⟩
abbrev S_ : Shape := ⟨0, ![]⟩
abbrev S1x4096x512 : Shape := ⟨3, ![1, 4096, 512]⟩
abbrev S4096x512 : Shape := ⟨2, ![4096, 512]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S112x128 : Shape := ⟨2, ![112, 128]⟩
abbrev S128 : Shape := ⟨1, ![128]⟩
abbrev S1x128 : Shape := ⟨2, ![1, 128]⟩
abbrev S1x112 : Shape := ⟨2, ![1, 112]⟩
abbrev S112x4096 : Shape := ⟨2, ![112, 4096]⟩
abbrev S1x112x4096 : Shape := ⟨3, ![1, 112, 4096]⟩
abbrev S224x512 : Shape := ⟨2, ![224, 512]⟩
abbrev S1x512 : Shape := ⟨2, ![1, 512]⟩
abbrev S1x3584x512 : Shape := ⟨3, ![1, 3584, 512]⟩
abbrev S3584x512 : Shape := ⟨2, ![3584, 512]⟩
abbrev S224 : Shape := ⟨1, ![224]⟩
abbrev S224x1 : Shape := ⟨2, ![224, 1]⟩
abbrev S2x112x1792 : Shape := ⟨3, ![2, 112, 1792]⟩
abbrev S1x2x112x1792 : Shape := ⟨4, ![1, 2, 112, 1792]⟩
abbrev S224x1792 : Shape := ⟨2, ![224, 1792]⟩
abbrev S112x1792 : Shape := ⟨2, ![112, 1792]⟩
abbrev S1x1x112x1792 : Shape := ⟨4, ![1, 1, 112, 1792]⟩
abbrev S224x3584 : Shape := ⟨2, ![224, 3584]⟩

abbrev nBuf : Space → Nat
  | .hbm => 18
  | .vmem => 17
  | .smem => 0
  | _ => 0

abbrev bufTy : (tb : Table) → Fin (tcTables nBuf tb) → BufTy
  | .hbm, ⟨0, _⟩ => ⟨S224x4096, .f32⟩
  | .hbm, ⟨1, _⟩ => ⟨S224x4096, .f32⟩
  | .hbm, ⟨2, _⟩ => ⟨S4096, .f32⟩
  | .hbm, ⟨3, _⟩ => ⟨S4096x14336, .fp8e4m3⟩
  | .hbm, ⟨4, _⟩ => ⟨S14336, .f32⟩
  | .hbm, ⟨5, _⟩ => ⟨S4096x14336, .fp8e4m3⟩
  | .hbm, ⟨6, _⟩ => ⟨S14336, .f32⟩
  | .hbm, ⟨7, _⟩ => ⟨S14336x4096, .fp8e4m3⟩
  | .hbm, ⟨8, _⟩ => ⟨S4096, .f32⟩
  | .hbm, ⟨9, _⟩ => ⟨S1x4096, .f32⟩
  | .hbm, ⟨10, _⟩ => ⟨S1x14336, .f32⟩
  | .hbm, ⟨11, _⟩ => ⟨S1x14336, .f32⟩
  | .hbm, ⟨12, _⟩ => ⟨S1x4096, .f32⟩
  | .hbm, ⟨13, _⟩ => ⟨S224x4096, .f32⟩
  | .hbm, ⟨14, _⟩ => ⟨S2x112x4096, .fp8e4m3⟩
  | .hbm, ⟨15, _⟩ => ⟨S2x112, .f32⟩
  | .hbm, ⟨16, _⟩ => ⟨S2x112x14336, .fp8e4m3⟩
  | .hbm, ⟨17, _⟩ => ⟨S2x112, .f32⟩
  | .local _ .vmem, ⟨0, _⟩ => ⟨S224x4096, .f32⟩
  | .local _ .vmem, ⟨1, _⟩ => ⟨S224x4096, .f32⟩
  | .local _ .vmem, ⟨2, _⟩ => ⟨S1x4096, .f32⟩
  | .local _ .vmem, ⟨3, _⟩ => ⟨S1x14336, .f32⟩
  | .local _ .vmem, ⟨4, _⟩ => ⟨S1x14336, .f32⟩
  | .local _ .vmem, ⟨5, _⟩ => ⟨S1x4096, .f32⟩
  | .local _ .vmem, ⟨6, _⟩ => ⟨S2x112, .f32⟩
  | .local _ .vmem, ⟨7, _⟩ => ⟨S2x112, .f32⟩
  | .local _ .vmem, ⟨8, _⟩ => ⟨S16x4096x512, .fp8e4m3⟩
  | .local _ .vmem, ⟨9, _⟩ => ⟨S224x14336, .f32⟩
  | .local _ .vmem, ⟨10, _⟩ => ⟨S224x4096, .fp8e4m3⟩
  | .local _ .vmem, ⟨11, _⟩ => ⟨S224x14336, .fp8e4m3⟩
  | .local _ .vmem, ⟨12, _⟩ => ⟨S2x112x4096, .fp8e4m3⟩
  | .local _ .vmem, ⟨13, _⟩ => ⟨S2x2x112x1792, .fp8e4m3⟩
  | .local _ .vmem, ⟨14, _⟩ => ⟨S224x4096, .f32⟩
  | .local _ .vmem, ⟨15, _⟩ => ⟨S224x128, .f32⟩
  | .local _ .vmem, ⟨16, _⟩ => ⟨S224x128, .f32⟩
  | _, _ => ⟨S224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_mult1 : BitVec 32 :=
  let c0_i32_0 : BitVec 32 := 0#32
  let c512_i32 : BitVec 32 := 512#32
  let v3 : BitVec 32 := Scalar.muli c0_i32_0 c512_i32
  v3
def k0_off1 (c21_i32 : BitVec 32) (c0_i32 : BitVec 32) : Fin 1 → Nat :=
  let c2_i32 : BitVec 32 := 2#32
  let v0 : BitVec 32 := Scalar.muli c2_i32 c0_i32
  let v1 : BitVec 32 := Scalar.addi c21_i32 v0
  let c16_i32 : BitVec 32 := 16#32
  let v2 : BitVec 32 := Scalar.remsi v1 c16_i32
  ![v2.toNat]
def k0_off2 (c21_i32 : BitVec 32) (c0_i32 : BitVec 32) : Fin 3 → Nat :=
  let c2_i32 : BitVec 32 := 2#32
  let v0 : BitVec 32 := Scalar.muli c2_i32 c0_i32
  let v1 : BitVec 32 := Scalar.addi c21_i32 v0
  let c16_i32 : BitVec 32 := 16#32
  let v2 : BitVec 32 := Scalar.remsi v1 c16_i32
  let c0_i32_1 : BitVec 32 := 0#32
  let c0_i32_2 : BitVec 32 := 0#32
  ![v2.toNat, 0, 0]
def k0_off3 (c0_i32_0 : BitVec 32) : Fin 2 → Nat :=
  let c0_i32_3 : BitVec 32 := 0#32
  let c512_i32 : BitVec 32 := 512#32
  let v3 : BitVec 32 := Scalar.muli c0_i32_0 c512_i32
  let v4 : BitVec 32 := v3
  ![0, v4.toNat]
def k0_mult2 : BitVec 32 :=
  let c0_i32_7 : BitVec 32 := 0#32
  let c512_i32_8 : BitVec 32 := 512#32
  let v13 : BitVec 32 := Scalar.muli c0_i32_7 c512_i32_8
  v13
def k0_mult3 : BitVec 32 :=
  let c1_i32_15 : BitVec 32 := 1#32
  let c512_i32_16 : BitVec 32 := 512#32
  let v23 : BitVec 32 := Scalar.muli c1_i32_15 c512_i32_16
  v23
def k0_mult4 : BitVec 32 :=
  let c1_i32_24 : BitVec 32 := 1#32
  let c512_i32_25 : BitVec 32 := 512#32
  let v33 : BitVec 32 := Scalar.muli c1_i32_24 c512_i32_25
  v33
def k0_mult5 : BitVec 32 :=
  let c2_i32_33 : BitVec 32 := 2#32
  let c512_i32_34 : BitVec 32 := 512#32
  let v43 : BitVec 32 := Scalar.muli c2_i32_33 c512_i32_34
  v43
def k0_mult6 : BitVec 32 :=
  let c2_i32_42 : BitVec 32 := 2#32
  let c512_i32_43 : BitVec 32 := 512#32
  let v53 : BitVec 32 := Scalar.muli c2_i32_42 c512_i32_43
  v53
def k0_mult7 : BitVec 32 :=
  let c3_i32_50 : BitVec 32 := 3#32
  let c512_i32_51 : BitVec 32 := 512#32
  let v63 : BitVec 32 := Scalar.muli c3_i32_50 c512_i32_51
  v63
def k0_mult8 : BitVec 32 :=
  let c3_i32_59 : BitVec 32 := 3#32
  let c512_i32_60 : BitVec 32 := 512#32
  let v73 : BitVec 32 := Scalar.muli c3_i32_59 c512_i32_60
  v73
def k0_mult9 : BitVec 32 :=
  let c4_i32_67 : BitVec 32 := 4#32
  let c512_i32_68 : BitVec 32 := 512#32
  let v83 : BitVec 32 := Scalar.muli c4_i32_67 c512_i32_68
  v83
def k0_mult10 : BitVec 32 :=
  let c4_i32_76 : BitVec 32 := 4#32
  let c512_i32_77 : BitVec 32 := 512#32
  let v93 : BitVec 32 := Scalar.muli c4_i32_76 c512_i32_77
  v93
def k0_mult11 : BitVec 32 :=
  let c5_i32_84 : BitVec 32 := 5#32
  let c512_i32_85 : BitVec 32 := 512#32
  let v103 : BitVec 32 := Scalar.muli c5_i32_84 c512_i32_85
  v103
def k0_mult12 : BitVec 32 :=
  let c5_i32_93 : BitVec 32 := 5#32
  let c512_i32_94 : BitVec 32 := 512#32
  let v113 : BitVec 32 := Scalar.muli c5_i32_93 c512_i32_94
  v113
def k0_mult13 : BitVec 32 :=
  let c6_i32_101 : BitVec 32 := 6#32
  let c512_i32_102 : BitVec 32 := 512#32
  let v123 : BitVec 32 := Scalar.muli c6_i32_101 c512_i32_102
  v123
def k0_mult14 : BitVec 32 :=
  let c6_i32_110 : BitVec 32 := 6#32
  let c512_i32_111 : BitVec 32 := 512#32
  let v133 : BitVec 32 := Scalar.muli c6_i32_110 c512_i32_111
  v133
def k0_mult15 : BitVec 32 :=
  let c7_i32_118 : BitVec 32 := 7#32
  let c512_i32_119 : BitVec 32 := 512#32
  let v143 : BitVec 32 := Scalar.muli c7_i32_118 c512_i32_119
  v143
def k0_mult16 : BitVec 32 :=
  let c7_i32_127 : BitVec 32 := 7#32
  let c512_i32_128 : BitVec 32 := 512#32
  let v153 : BitVec 32 := Scalar.muli c7_i32_127 c512_i32_128
  v153
@[reducible] def k0_t1_loop : Scf.Loop 32 :=
  let c0_i32_135 : BitVec 32 := 0#32
  let c7_i32_136 : BitVec 32 := 7#32
  let v164 : BitVec 32 := Scalar.addi c0_i32_135 c7_i32_136
  let c1_i32_137 : BitVec 32 := 1#32
  ⟨c0_i32_135, v164, c1_i32_137⟩
def k0_mult17 (k0_t1 : Fin k0_t1_loop.trips) : BitVec 32 :=
  let c0_i32_228 : BitVec 32 := 0#32
  let c0_i32_135 : BitVec 32 := 0#32
  let c1_i32_137 : BitVec 32 := 1#32
  let arg27 : BitVec 32 := Scf.iv c0_i32_135 c1_i32_137 k0_t1
  let c1_i32_227 : BitVec 32 := 1#32
  let v274 : BitVec 32 := Scalar.muli arg27 c1_i32_227
  let v275 : BitVec 32 := Scalar.addi c0_i32_228 v274
  let c32_i32 : BitVec 32 := 32#32
  let v276 : BitVec 32 := Scalar.muli v275 c32_i32
  v276
def k0_off4 (k0_t1 : Fin k0_t1_loop.trips) : Fin 2 → Nat :=
  let c0_i32_228 : BitVec 32 := 0#32
  let c0_i32_135 : BitVec 32 := 0#32
  let c1_i32_137 : BitVec 32 := 1#32
  let arg27 : BitVec 32 := Scf.iv c0_i32_135 c1_i32_137 k0_t1
  let c1_i32_227 : BitVec 32 := 1#32
  let v274 : BitVec 32 := Scalar.muli arg27 c1_i32_227
  let v275 : BitVec 32 := Scalar.addi c0_i32_228 v274
  let c32_i32 : BitVec 32 := 32#32
  let v276 : BitVec 32 := Scalar.muli v275 c32_i32
  let v277 : BitVec 32 := v276
  let v278 : Index := Scalar.indexCast v277
  let c0_229 : Index := 0#32
  ![v278.toNat, 0]
def k0_mult18 (k0_t1 : Fin k0_t1_loop.trips) : BitVec 32 :=
  let c0_i32_228 : BitVec 32 := 0#32
  let c0_i32_135 : BitVec 32 := 0#32
  let c1_i32_137 : BitVec 32 := 1#32
  let arg27 : BitVec 32 := Scf.iv c0_i32_135 c1_i32_137 k0_t1
  let c1_i32_227 : BitVec 32 := 1#32
  let v274 : BitVec 32 := Scalar.muli arg27 c1_i32_227
  let v275 : BitVec 32 := Scalar.addi c0_i32_228 v274
  let c32_i32_230 : BitVec 32 := 32#32
  let v280 : BitVec 32 := Scalar.muli v275 c32_i32_230
  v280
def k0_off5 (k0_t1 : Fin k0_t1_loop.trips) : Fin 2 → Nat :=
  let c0_i32_228 : BitVec 32 := 0#32
  let c0_i32_135 : BitVec 32 := 0#32
  let c1_i32_137 : BitVec 32 := 1#32
  let arg27 : BitVec 32 := Scf.iv c0_i32_135 c1_i32_137 k0_t1
  let c1_i32_227 : BitVec 32 := 1#32
  let v274 : BitVec 32 := Scalar.muli arg27 c1_i32_227
  let v275 : BitVec 32 := Scalar.addi c0_i32_228 v274
  let c32_i32_230 : BitVec 32 := 32#32
  let v280 : BitVec 32 := Scalar.muli v275 c32_i32_230
  let v281 : BitVec 32 := v280
  let v318 : Index := Scalar.indexCast v281
  let c0_243 : Index := 0#32
  ![v318.toNat, 0]
@[reducible] def k0_t2_loop : Scf.Loop 32 :=
  let c0_i32_163 : BitVec 32 := 0#32
  let c28_i32 : BitVec 32 := 28#32
  let v201 : BitVec 32 := Scalar.addi c0_i32_163 c28_i32
  let c1_i32_164 : BitVec 32 := 1#32
  ⟨c0_i32_163, v201, c1_i32_164⟩
def k0_mult19 (k0_t2 : Fin k0_t2_loop.trips) : BitVec 32 :=
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c512_i32_235 : BitVec 32 := 512#32
  let v282 : BitVec 32 := Scalar.muli v275 c512_i32_235
  v282
def k0_off6 (k0_t2 : Fin k0_t2_loop.trips) (c21_i32_230 : BitVec 32) : Fin 1 → Nat :=
  let c2_i32_229 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let v276 : BitVec 32 := Scalar.muli c2_i32_229 v275
  let v277 : BitVec 32 := Scalar.addi c21_i32_230 v276
  let c16_i32_231 : BitVec 32 := 16#32
  let v278 : BitVec 32 := Scalar.remsi v277 c16_i32_231
  ![v278.toNat]
def k0_off7 (k0_t2 : Fin k0_t2_loop.trips) (c21_i32_230 : BitVec 32) : Fin 3 → Nat :=
  let c2_i32_229 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let v276 : BitVec 32 := Scalar.muli c2_i32_229 v275
  let v277 : BitVec 32 := Scalar.addi c21_i32_230 v276
  let c16_i32_231 : BitVec 32 := 16#32
  let v278 : BitVec 32 := Scalar.remsi v277 c16_i32_231
  let c0_i32_236 : BitVec 32 := 0#32
  let c0_i32_237 : BitVec 32 := 0#32
  ![v278.toNat, 0, 0]
def k0_off8 (k0_t2 : Fin k0_t2_loop.trips) : Fin 2 → Nat :=
  let c0_i32_238 : BitVec 32 := 0#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c512_i32_235 : BitVec 32 := 512#32
  let v282 : BitVec 32 := Scalar.muli v275 c512_i32_235
  let v283 : BitVec 32 := v282
  ![0, v283.toNat]
def k0_mult20 (k0_t2 : Fin k0_t2_loop.trips) : BitVec 32 :=
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c512_i32_242 : BitVec 32 := 512#32
  let v294 : BitVec 32 := Scalar.muli v275 c512_i32_242
  v294
def k0_off9 (k0_t2 : Fin k0_t2_loop.trips) (c21_i32_246 : BitVec 32) : Fin 3 → Nat :=
  let c2_i32_245 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let v298 : BitVec 32 := Scalar.muli c2_i32_245 v275
  let v299 : BitVec 32 := Scalar.addi c21_i32_246 v298
  let c16_i32_247 : BitVec 32 := 16#32
  let v300 : BitVec 32 := Scalar.remsi v299 c16_i32_247
  let v302 : Index := Scalar.indexCast v300
  let c0_250 : Index := 0#32
  let c0_251 : Index := 0#32
  ![v302.toNat, 0, 0]
def k0_off10 (k0_t2 : Fin k0_t2_loop.trips) : Fin 2 → Nat :=
  let c0_253 : Index := 0#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c512_i32_242 : BitVec 32 := 512#32
  let v294 : BitVec 32 := Scalar.muli v275 c512_i32_242
  let v295 : BitVec 32 := v294
  let v307 : Index := Scalar.indexCast v295
  ![0, v307.toNat]
def k0_off11 (k0_t2 : Fin k0_t2_loop.trips) : Fin 2 → Nat :=
  let c0_263 : Index := 0#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c512_i32_242 : BitVec 32 := 512#32
  let v294 : BitVec 32 := Scalar.muli v275 c512_i32_242
  let v295 : BitVec 32 := v294
  let v329 : Index := Scalar.indexCast v295
  ![0, v329.toNat]
def k0_cond1 (k0_t2 : Fin k0_t2_loop.trips) : BitVec 1 :=
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_268 : BitVec 32 := 8#32
  let v349 : BitVec 32 := Scalar.addi v275 c8_i32_268
  let c28_i32_269 : BitVec 32 := 28#32
  let v350 : BitVec 1 := Scalar.cmpi .slt v349 c28_i32_269
  let v351 : BitVec 32 := Scalar.extui v350
  let c0_i32_270 : BitVec 32 := 0#32
  let v352 : BitVec 1 := Scalar.cmpi .ne v351 c0_i32_270
  v352

def k0_mult21 (k0_t2 : Fin k0_t2_loop.trips) : BitVec 32 :=
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c512_i32_281 : BitVec 32 := 512#32
  let v364 : BitVec 32 := Scalar.muli v357 c512_i32_281
  v364
def k0_off12 (k0_t2 : Fin k0_t2_loop.trips) (c21_i32_276 : BitVec 32) : Fin 1 → Nat :=
  let c2_i32_275 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let v358 : BitVec 32 := Scalar.muli c2_i32_275 v357
  let v359 : BitVec 32 := Scalar.addi c21_i32_276 v358
  let c16_i32_277 : BitVec 32 := 16#32
  let v360 : BitVec 32 := Scalar.remsi v359 c16_i32_277
  ![v360.toNat]
def k0_off13 (k0_t2 : Fin k0_t2_loop.trips) (c21_i32_276 : BitVec 32) : Fin 3 → Nat :=
  let c2_i32_275 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let v358 : BitVec 32 := Scalar.muli c2_i32_275 v357
  let v359 : BitVec 32 := Scalar.addi c21_i32_276 v358
  let c16_i32_277 : BitVec 32 := 16#32
  let v360 : BitVec 32 := Scalar.remsi v359 c16_i32_277
  let c0_i32_282 : BitVec 32 := 0#32
  let c0_i32_283 : BitVec 32 := 0#32
  ![v360.toNat, 0, 0]
def k0_off14 (k0_t2 : Fin k0_t2_loop.trips) : Fin 2 → Nat :=
  let c0_i32_284 : BitVec 32 := 0#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c512_i32_281 : BitVec 32 := 512#32
  let v364 : BitVec 32 := Scalar.muli v357 c512_i32_281
  let v365 : BitVec 32 := v364
  ![0, v365.toNat]
def k0_cond2 (k0_t2 : Fin k0_t2_loop.trips) : BitVec 1 :=
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_271 : BitVec 32 := 8#32
  let v353 : BitVec 32 := Scalar.addi v275 c8_i32_271
  let c28_i32_272 : BitVec 32 := 28#32
  let v354 : BitVec 1 := Scalar.cmpi .sge v353 c28_i32_272
  let v355 : BitVec 32 := Scalar.extui v354
  let c0_i32_273 : BitVec 32 := 0#32
  let v356 : BitVec 1 := Scalar.cmpi .ne v355 c0_i32_273
  v356

def k0_mult22 (k0_t2 : Fin k0_t2_loop.trips) : BitVec 32 :=
  let c2_i32_276 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c28_i32_275 : BitVec 32 := 28#32
  let v358 : BitVec 32 := Scalar.subi v357 c28_i32_275
  let v359 : BitVec 32 := Scalar.muli c2_i32_276 v358
  let c0_i32_277 : BitVec 32 := 0#32
  let v360 : BitVec 32 := Scalar.addi v359 c0_i32_277
  let c4_i32_286 : BitVec 32 := 4#32
  let v380 : BitVec 32 := Scalar.remsi v360 c4_i32_286
  let c3584_i32 : BitVec 32 := 3584#32
  let v381 : BitVec 32 := Scalar.muli v380 c3584_i32
  v381
def k0_mult23 (k0_t2 : Fin k0_t2_loop.trips) : BitVec 32 :=
  let c2_i32_276 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c28_i32_275 : BitVec 32 := 28#32
  let v358 : BitVec 32 := Scalar.subi v357 c28_i32_275
  let v359 : BitVec 32 := Scalar.muli c2_i32_276 v358
  let c0_i32_277 : BitVec 32 := 0#32
  let v360 : BitVec 32 := Scalar.addi v359 c0_i32_277
  let c0_i32_280 : BitVec 32 := 0#32
  let v364 : BitVec 1 := Scalar.cmpi .sgt v360 c0_i32_280
  let v365 : BitVec 32 := Scalar.extui v364
  let c0_i32_281 : BitVec 32 := 0#32
  let v366 : BitVec 1 := Scalar.cmpi .slt v360 c0_i32_281
  let v367 : BitVec 32 := Scalar.extui v366
  let v368 : BitVec 32 := Scalar.subi v365 v367
  let c4_i32_279 : BitVec 32 := 4#32
  let c0_i32_282 : BitVec 32 := 0#32
  let v369 : BitVec 1 := Scalar.cmpi .sgt c4_i32_279 c0_i32_282
  let v370 : BitVec 32 := Scalar.extui v369
  let c0_i32_283 : BitVec 32 := 0#32
  let v371 : BitVec 1 := Scalar.cmpi .slt c4_i32_279 c0_i32_283
  let v372 : BitVec 32 := Scalar.extui v371
  let v373 : BitVec 32 := Scalar.subi v370 v372
  let v374 : BitVec 1 := Scalar.cmpi .ne v368 v373
  let v375 : BitVec 32 := Scalar.remsi v360 c4_i32_279
  let c0_i32_284 : BitVec 32 := 0#32
  let v376 : BitVec 1 := Scalar.cmpi .ne v375 c0_i32_284
  let v377 : BitVec 1 := Scalar.andi v374 v376
  let v363 : BitVec 32 := Scalar.divsi v360 c4_i32_279
  let c1_i32_285 : BitVec 32 := 1#32
  let v378 : BitVec 32 := Scalar.subi v363 c1_i32_285
  let v379 : BitVec 32 := Scalar.select v377 v378 v363
  let c512_i32_287 : BitVec 32 := 512#32
  let v383 : BitVec 32 := Scalar.muli v379 c512_i32_287
  v383
def k0_off15 (k0_t2 : Fin k0_t2_loop.trips) (c0_i32_277 : BitVec 32) : Fin 1 → Nat :=
  let c77_i32 : BitVec 32 := 77#32
  let c2_i32_276 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c28_i32_275 : BitVec 32 := 28#32
  let v358 : BitVec 32 := Scalar.subi v357 c28_i32_275
  let v359 : BitVec 32 := Scalar.muli c2_i32_276 v358
  let v360 : BitVec 32 := Scalar.addi v359 c0_i32_277
  let v361 : BitVec 32 := Scalar.addi c77_i32 v360
  let c16_i32_278 : BitVec 32 := 16#32
  let v362 : BitVec 32 := Scalar.remsi v361 c16_i32_278
  ![v362.toNat]
def k0_off16 (k0_t2 : Fin k0_t2_loop.trips) (c0_i32_277 : BitVec 32) : Fin 3 → Nat :=
  let c77_i32 : BitVec 32 := 77#32
  let c2_i32_276 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c28_i32_275 : BitVec 32 := 28#32
  let v358 : BitVec 32 := Scalar.subi v357 c28_i32_275
  let v359 : BitVec 32 := Scalar.muli c2_i32_276 v358
  let v360 : BitVec 32 := Scalar.addi v359 c0_i32_277
  let v361 : BitVec 32 := Scalar.addi c77_i32 v360
  let c16_i32_278 : BitVec 32 := 16#32
  let v362 : BitVec 32 := Scalar.remsi v361 c16_i32_278
  let c0_i32_288 : BitVec 32 := 0#32
  let c0_i32_289 : BitVec 32 := 0#32
  ![v362.toNat, 0, 0]
def k0_off17 (k0_t2 : Fin k0_t2_loop.trips) (c0_i32_277 : BitVec 32) : Fin 2 → Nat :=
  let c2_i32_276 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_274 : BitVec 32 := 8#32
  let v357 : BitVec 32 := Scalar.addi v275 c8_i32_274
  let c28_i32_275 : BitVec 32 := 28#32
  let v358 : BitVec 32 := Scalar.subi v357 c28_i32_275
  let v359 : BitVec 32 := Scalar.muli c2_i32_276 v358
  let v360 : BitVec 32 := Scalar.addi v359 c0_i32_277
  let c4_i32_286 : BitVec 32 := 4#32
  let v380 : BitVec 32 := Scalar.remsi v360 c4_i32_286
  let c3584_i32 : BitVec 32 := 3584#32
  let v381 : BitVec 32 := Scalar.muli v380 c3584_i32
  let v382 : BitVec 32 := v381
  let c0_i32_280 : BitVec 32 := 0#32
  let v364 : BitVec 1 := Scalar.cmpi .sgt v360 c0_i32_280
  let v365 : BitVec 32 := Scalar.extui v364
  let c0_i32_281 : BitVec 32 := 0#32
  let v366 : BitVec 1 := Scalar.cmpi .slt v360 c0_i32_281
  let v367 : BitVec 32 := Scalar.extui v366
  let v368 : BitVec 32 := Scalar.subi v365 v367
  let c4_i32_279 : BitVec 32 := 4#32
  let c0_i32_282 : BitVec 32 := 0#32
  let v369 : BitVec 1 := Scalar.cmpi .sgt c4_i32_279 c0_i32_282
  let v370 : BitVec 32 := Scalar.extui v369
  let c0_i32_283 : BitVec 32 := 0#32
  let v371 : BitVec 1 := Scalar.cmpi .slt c4_i32_279 c0_i32_283
  let v372 : BitVec 32 := Scalar.extui v371
  let v373 : BitVec 32 := Scalar.subi v370 v372
  let v374 : BitVec 1 := Scalar.cmpi .ne v368 v373
  let v375 : BitVec 32 := Scalar.remsi v360 c4_i32_279
  let c0_i32_284 : BitVec 32 := 0#32
  let v376 : BitVec 1 := Scalar.cmpi .ne v375 c0_i32_284
  let v377 : BitVec 1 := Scalar.andi v374 v376
  let v363 : BitVec 32 := Scalar.divsi v360 c4_i32_279
  let c1_i32_285 : BitVec 32 := 1#32
  let v378 : BitVec 32 := Scalar.subi v363 c1_i32_285
  let v379 : BitVec 32 := Scalar.select v377 v378 v363
  let c512_i32_287 : BitVec 32 := 512#32
  let v383 : BitVec 32 := Scalar.muli v379 c512_i32_287
  let v384 : BitVec 32 := v383
  ![v382.toNat, v384.toNat]
def k0_mult24 (k0_t2 : Fin k0_t2_loop.trips) : BitVec 32 :=
  let c2_i32_292 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_290 : BitVec 32 := 8#32
  let v390 : BitVec 32 := Scalar.addi v275 c8_i32_290
  let c28_i32_291 : BitVec 32 := 28#32
  let v391 : BitVec 32 := Scalar.subi v390 c28_i32_291
  let v392 : BitVec 32 := Scalar.muli c2_i32_292 v391
  let c1_i32_293 : BitVec 32 := 1#32
  let v393 : BitVec 32 := Scalar.addi v392 c1_i32_293
  let c4_i32_303 : BitVec 32 := 4#32
  let v413 : BitVec 32 := Scalar.remsi v393 c4_i32_303
  let c3584_i32_304 : BitVec 32 := 3584#32
  let v414 : BitVec 32 := Scalar.muli v413 c3584_i32_304
  v414
def k0_mult25 (k0_t2 : Fin k0_t2_loop.trips) : BitVec 32 :=
  let c2_i32_292 : BitVec 32 := 2#32
  let c0_i32_228 : BitVec 32 := 0#32
  let c0_i32_163 : BitVec 32 := 0#32
  let c1_i32_164 : BitVec 32 := 1#32
  let arg27 : BitVec 32 := Scf.iv c0_i32_163 c1_i32_164 k0_t2
  let c1_i32_227 : BitVec 32 := 1#32
  let v274 : BitVec 32 := Scalar.muli arg27 c1_i32_227
  let v275 : BitVec 32 := Scalar.addi c0_i32_228 v274
  let c8_i32_290 : BitVec 32 := 8#32
  let v390 : BitVec 32 := Scalar.addi v275 c8_i32_290
  let c28_i32_291 : BitVec 32 := 28#32
  let v391 : BitVec 32 := Scalar.subi v390 c28_i32_291
  let v392 : BitVec 32 := Scalar.muli c2_i32_292 v391
  let c1_i32_293 : BitVec 32 := 1#32
  let v393 : BitVec 32 := Scalar.addi v392 c1_i32_293
  let c0_i32_297 : BitVec 32 := 0#32
  let v397 : BitVec 1 := Scalar.cmpi .sgt v393 c0_i32_297
  let v398 : BitVec 32 := Scalar.extui v397
  let c0_i32_298 : BitVec 32 := 0#32
  let v399 : BitVec 1 := Scalar.cmpi .slt v393 c0_i32_298
  let v400 : BitVec 32 := Scalar.extui v399
  let v401 : BitVec 32 := Scalar.subi v398 v400
  let c4_i32_296 : BitVec 32 := 4#32
  let c0_i32_299 : BitVec 32 := 0#32
  let v402 : BitVec 1 := Scalar.cmpi .sgt c4_i32_296 c0_i32_299
  let v403 : BitVec 32 := Scalar.extui v402
  let c0_i32_300 : BitVec 32 := 0#32
  let v404 : BitVec 1 := Scalar.cmpi .slt c4_i32_296 c0_i32_300
  let v405 : BitVec 32 := Scalar.extui v404
  let v406 : BitVec 32 := Scalar.subi v403 v405
  let v407 : BitVec 1 := Scalar.cmpi .ne v401 v406
  let v408 : BitVec 32 := Scalar.remsi v393 c4_i32_296
  let c0_i32_301 : BitVec 32 := 0#32
  let v409 : BitVec 1 := Scalar.cmpi .ne v408 c0_i32_301
  let v410 : BitVec 1 := Scalar.andi v407 v409
  let v396 : BitVec 32 := Scalar.divsi v393 c4_i32_296
  let c1_i32_302 : BitVec 32 := 1#32
  let v411 : BitVec 32 := Scalar.subi v396 c1_i32_302
  let v412 : BitVec 32 := Scalar.select v410 v411 v396
  let c512_i32_305 : BitVec 32 := 512#32
  let v416 : BitVec 32 := Scalar.muli v412 c512_i32_305
  v416
@[reducible] def k0_t3_loop : Scf.Loop 32 :=
  let c0_i32_195 : BitVec 32 := 0#32
  let c28_i32_196 : BitVec 32 := 28#32
  let v253 : BitVec 32 := Scalar.addi c0_i32_195 c28_i32_196
  let c1_i32_197 : BitVec 32 := 1#32
  ⟨c0_i32_195, v253, c1_i32_197⟩
def k0_mult26 (k0_t3 : Fin k0_t3_loop.trips) : BitVec 32 :=
  let c0_i32_228 : BitVec 32 := 0#32
  let c0_i32_195 : BitVec 32 := 0#32
  let c1_i32_197 : BitVec 32 := 1#32
  let arg27 : BitVec 32 := Scf.iv c0_i32_195 c1_i32_197 k0_t3
  let c1_i32_227 : BitVec 32 := 1#32
  let v274 : BitVec 32 := Scalar.muli arg27 c1_i32_227
  let v275 : BitVec 32 := Scalar.addi c0_i32_228 v274
  let c512_i32_229 : BitVec 32 := 512#32
  let v276 : BitVec 32 := Scalar.muli v275 c512_i32_229
  v276
def k0_off18 (k0_t3 : Fin k0_t3_loop.trips) : Fin 2 → Nat :=
  let c0_230 : Index := 0#32
  let c0_i32_228 : BitVec 32 := 0#32
  let c0_i32_195 : BitVec 32 := 0#32
  let c1_i32_197 : BitVec 32 := 1#32
  let arg27 : BitVec 32 := Scf.iv c0_i32_195 c1_i32_197 k0_t3
  let c1_i32_227 : BitVec 32 := 1#32
  let v274 : BitVec 32 := Scalar.muli arg27 c1_i32_227
  let v275 : BitVec 32 := Scalar.addi c0_i32_228 v274
  let c512_i32_229 : BitVec 32 := 512#32
  let v276 : BitVec 32 := Scalar.muli v275 c512_i32_229
  let v277 : BitVec 32 := v276
  let v278 : Index := Scalar.indexCast v277
  ![0, v278.toNat]
@[reducible] def k0_t4_loop : Scf.Loop 32 :=
  let c0_i32_199 : BitVec 32 := 0#32
  let c8_i32 : BitVec 32 := 8#32
  let v254 : BitVec 32 := Scalar.addi c0_i32_199 c8_i32
  let c1_i32_200 : BitVec 32 := 1#32
  ⟨c0_i32_199, v254, c1_i32_200⟩
def k0_mult27 (k0_t4 : Fin k0_t4_loop.trips) : BitVec 32 :=
  let c4_i32_229 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v276 : BitVec 32 := Scalar.muli c4_i32_229 v275
  let c0_i32_230 : BitVec 32 := 0#32
  let v277 : BitVec 32 := Scalar.addi v276 c0_i32_230
  let c4_i32_239 : BitVec 32 := 4#32
  let v297 : BitVec 32 := Scalar.remsi v277 c4_i32_239
  let c3584_i32 : BitVec 32 := 3584#32
  let v298 : BitVec 32 := Scalar.muli v297 c3584_i32
  v298
def k0_mult28 (k0_t4 : Fin k0_t4_loop.trips) : BitVec 32 :=
  let c4_i32_229 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v276 : BitVec 32 := Scalar.muli c4_i32_229 v275
  let c0_i32_230 : BitVec 32 := 0#32
  let v277 : BitVec 32 := Scalar.addi v276 c0_i32_230
  let c0_i32_233 : BitVec 32 := 0#32
  let v281 : BitVec 1 := Scalar.cmpi .sgt v277 c0_i32_233
  let v282 : BitVec 32 := Scalar.extui v281
  let c0_i32_234 : BitVec 32 := 0#32
  let v283 : BitVec 1 := Scalar.cmpi .slt v277 c0_i32_234
  let v284 : BitVec 32 := Scalar.extui v283
  let v285 : BitVec 32 := Scalar.subi v282 v284
  let c4_i32_232 : BitVec 32 := 4#32
  let c0_i32_235 : BitVec 32 := 0#32
  let v286 : BitVec 1 := Scalar.cmpi .sgt c4_i32_232 c0_i32_235
  let v287 : BitVec 32 := Scalar.extui v286
  let c0_i32_236 : BitVec 32 := 0#32
  let v288 : BitVec 1 := Scalar.cmpi .slt c4_i32_232 c0_i32_236
  let v289 : BitVec 32 := Scalar.extui v288
  let v290 : BitVec 32 := Scalar.subi v287 v289
  let v291 : BitVec 1 := Scalar.cmpi .ne v285 v290
  let v292 : BitVec 32 := Scalar.remsi v277 c4_i32_232
  let c0_i32_237 : BitVec 32 := 0#32
  let v293 : BitVec 1 := Scalar.cmpi .ne v292 c0_i32_237
  let v294 : BitVec 1 := Scalar.andi v291 v293
  let v280 : BitVec 32 := Scalar.divsi v277 c4_i32_232
  let c1_i32_238 : BitVec 32 := 1#32
  let v295 : BitVec 32 := Scalar.subi v280 c1_i32_238
  let v296 : BitVec 32 := Scalar.select v294 v295 v280
  let c512_i32_240 : BitVec 32 := 512#32
  let v300 : BitVec 32 := Scalar.muli v296 c512_i32_240
  v300
def k0_off19 (k0_t4 : Fin k0_t4_loop.trips) (c0_i32_230 : BitVec 32) : Fin 1 → Nat :=
  let c77_i32 : BitVec 32 := 77#32
  let c4_i32_229 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v276 : BitVec 32 := Scalar.muli c4_i32_229 v275
  let v277 : BitVec 32 := Scalar.addi v276 c0_i32_230
  let v278 : BitVec 32 := Scalar.addi c77_i32 v277
  let c16_i32_231 : BitVec 32 := 16#32
  let v279 : BitVec 32 := Scalar.remsi v278 c16_i32_231
  ![v279.toNat]
def k0_off20 (k0_t4 : Fin k0_t4_loop.trips) (c0_i32_230 : BitVec 32) : Fin 3 → Nat :=
  let c77_i32 : BitVec 32 := 77#32
  let c4_i32_229 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v276 : BitVec 32 := Scalar.muli c4_i32_229 v275
  let v277 : BitVec 32 := Scalar.addi v276 c0_i32_230
  let v278 : BitVec 32 := Scalar.addi c77_i32 v277
  let c16_i32_231 : BitVec 32 := 16#32
  let v279 : BitVec 32 := Scalar.remsi v278 c16_i32_231
  let c0_i32_241 : BitVec 32 := 0#32
  let c0_i32_242 : BitVec 32 := 0#32
  ![v279.toNat, 0, 0]
def k0_off21 (k0_t4 : Fin k0_t4_loop.trips) (c0_i32_230 : BitVec 32) : Fin 2 → Nat :=
  let c4_i32_229 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v276 : BitVec 32 := Scalar.muli c4_i32_229 v275
  let v277 : BitVec 32 := Scalar.addi v276 c0_i32_230
  let c4_i32_239 : BitVec 32 := 4#32
  let v297 : BitVec 32 := Scalar.remsi v277 c4_i32_239
  let c3584_i32 : BitVec 32 := 3584#32
  let v298 : BitVec 32 := Scalar.muli v297 c3584_i32
  let v299 : BitVec 32 := v298
  let c0_i32_233 : BitVec 32 := 0#32
  let v281 : BitVec 1 := Scalar.cmpi .sgt v277 c0_i32_233
  let v282 : BitVec 32 := Scalar.extui v281
  let c0_i32_234 : BitVec 32 := 0#32
  let v283 : BitVec 1 := Scalar.cmpi .slt v277 c0_i32_234
  let v284 : BitVec 32 := Scalar.extui v283
  let v285 : BitVec 32 := Scalar.subi v282 v284
  let c4_i32_232 : BitVec 32 := 4#32
  let c0_i32_235 : BitVec 32 := 0#32
  let v286 : BitVec 1 := Scalar.cmpi .sgt c4_i32_232 c0_i32_235
  let v287 : BitVec 32 := Scalar.extui v286
  let c0_i32_236 : BitVec 32 := 0#32
  let v288 : BitVec 1 := Scalar.cmpi .slt c4_i32_232 c0_i32_236
  let v289 : BitVec 32 := Scalar.extui v288
  let v290 : BitVec 32 := Scalar.subi v287 v289
  let v291 : BitVec 1 := Scalar.cmpi .ne v285 v290
  let v292 : BitVec 32 := Scalar.remsi v277 c4_i32_232
  let c0_i32_237 : BitVec 32 := 0#32
  let v293 : BitVec 1 := Scalar.cmpi .ne v292 c0_i32_237
  let v294 : BitVec 1 := Scalar.andi v291 v293
  let v280 : BitVec 32 := Scalar.divsi v277 c4_i32_232
  let c1_i32_238 : BitVec 32 := 1#32
  let v295 : BitVec 32 := Scalar.subi v280 c1_i32_238
  let v296 : BitVec 32 := Scalar.select v294 v295 v280
  let c512_i32_240 : BitVec 32 := 512#32
  let v300 : BitVec 32 := Scalar.muli v296 c512_i32_240
  let v301 : BitVec 32 := v300
  ![v299.toNat, v301.toNat]
def k0_mult29 (k0_t4 : Fin k0_t4_loop.trips) : BitVec 32 :=
  let c4_i32_243 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v307 : BitVec 32 := Scalar.muli c4_i32_243 v275
  let c1_i32_244 : BitVec 32 := 1#32
  let v308 : BitVec 32 := Scalar.addi v307 c1_i32_244
  let c4_i32_254 : BitVec 32 := 4#32
  let v328 : BitVec 32 := Scalar.remsi v308 c4_i32_254
  let c3584_i32_255 : BitVec 32 := 3584#32
  let v329 : BitVec 32 := Scalar.muli v328 c3584_i32_255
  v329
def k0_mult30 (k0_t4 : Fin k0_t4_loop.trips) : BitVec 32 :=
  let c4_i32_243 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v307 : BitVec 32 := Scalar.muli c4_i32_243 v275
  let c1_i32_244 : BitVec 32 := 1#32
  let v308 : BitVec 32 := Scalar.addi v307 c1_i32_244
  let c0_i32_248 : BitVec 32 := 0#32
  let v312 : BitVec 1 := Scalar.cmpi .sgt v308 c0_i32_248
  let v313 : BitVec 32 := Scalar.extui v312
  let c0_i32_249 : BitVec 32 := 0#32
  let v314 : BitVec 1 := Scalar.cmpi .slt v308 c0_i32_249
  let v315 : BitVec 32 := Scalar.extui v314
  let v316 : BitVec 32 := Scalar.subi v313 v315
  let c4_i32_247 : BitVec 32 := 4#32
  let c0_i32_250 : BitVec 32 := 0#32
  let v317 : BitVec 1 := Scalar.cmpi .sgt c4_i32_247 c0_i32_250
  let v318 : BitVec 32 := Scalar.extui v317
  let c0_i32_251 : BitVec 32 := 0#32
  let v319 : BitVec 1 := Scalar.cmpi .slt c4_i32_247 c0_i32_251
  let v320 : BitVec 32 := Scalar.extui v319
  let v321 : BitVec 32 := Scalar.subi v318 v320
  let v322 : BitVec 1 := Scalar.cmpi .ne v316 v321
  let v323 : BitVec 32 := Scalar.remsi v308 c4_i32_247
  let c0_i32_252 : BitVec 32 := 0#32
  let v324 : BitVec 1 := Scalar.cmpi .ne v323 c0_i32_252
  let v325 : BitVec 1 := Scalar.andi v322 v324
  let v311 : BitVec 32 := Scalar.divsi v308 c4_i32_247
  let c1_i32_253 : BitVec 32 := 1#32
  let v326 : BitVec 32 := Scalar.subi v311 c1_i32_253
  let v327 : BitVec 32 := Scalar.select v325 v326 v311
  let c512_i32_256 : BitVec 32 := 512#32
  let v331 : BitVec 32 := Scalar.muli v327 c512_i32_256
  v331
def k0_mult31 (k0_t4 : Fin k0_t4_loop.trips) : BitVec 32 :=
  let c4_i32_259 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v338 : BitVec 32 := Scalar.muli c4_i32_259 v275
  let c2_i32_260 : BitVec 32 := 2#32
  let v339 : BitVec 32 := Scalar.addi v338 c2_i32_260
  let c4_i32_270 : BitVec 32 := 4#32
  let v359 : BitVec 32 := Scalar.remsi v339 c4_i32_270
  let c3584_i32_271 : BitVec 32 := 3584#32
  let v360 : BitVec 32 := Scalar.muli v359 c3584_i32_271
  v360
def k0_mult32 (k0_t4 : Fin k0_t4_loop.trips) : BitVec 32 :=
  let c4_i32_259 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v338 : BitVec 32 := Scalar.muli c4_i32_259 v275
  let c2_i32_260 : BitVec 32 := 2#32
  let v339 : BitVec 32 := Scalar.addi v338 c2_i32_260
  let c0_i32_264 : BitVec 32 := 0#32
  let v343 : BitVec 1 := Scalar.cmpi .sgt v339 c0_i32_264
  let v344 : BitVec 32 := Scalar.extui v343
  let c0_i32_265 : BitVec 32 := 0#32
  let v345 : BitVec 1 := Scalar.cmpi .slt v339 c0_i32_265
  let v346 : BitVec 32 := Scalar.extui v345
  let v347 : BitVec 32 := Scalar.subi v344 v346
  let c4_i32_263 : BitVec 32 := 4#32
  let c0_i32_266 : BitVec 32 := 0#32
  let v348 : BitVec 1 := Scalar.cmpi .sgt c4_i32_263 c0_i32_266
  let v349 : BitVec 32 := Scalar.extui v348
  let c0_i32_267 : BitVec 32 := 0#32
  let v350 : BitVec 1 := Scalar.cmpi .slt c4_i32_263 c0_i32_267
  let v351 : BitVec 32 := Scalar.extui v350
  let v352 : BitVec 32 := Scalar.subi v349 v351
  let v353 : BitVec 1 := Scalar.cmpi .ne v347 v352
  let v354 : BitVec 32 := Scalar.remsi v339 c4_i32_263
  let c0_i32_268 : BitVec 32 := 0#32
  let v355 : BitVec 1 := Scalar.cmpi .ne v354 c0_i32_268
  let v356 : BitVec 1 := Scalar.andi v353 v355
  let v342 : BitVec 32 := Scalar.divsi v339 c4_i32_263
  let c1_i32_269 : BitVec 32 := 1#32
  let v357 : BitVec 32 := Scalar.subi v342 c1_i32_269
  let v358 : BitVec 32 := Scalar.select v356 v357 v342
  let c512_i32_272 : BitVec 32 := 512#32
  let v362 : BitVec 32 := Scalar.muli v358 c512_i32_272
  v362
def k0_mult33 (k0_t4 : Fin k0_t4_loop.trips) : BitVec 32 :=
  let c4_i32_275 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v369 : BitVec 32 := Scalar.muli c4_i32_275 v275
  let c3_i32_276 : BitVec 32 := 3#32
  let v370 : BitVec 32 := Scalar.addi v369 c3_i32_276
  let c4_i32_286 : BitVec 32 := 4#32
  let v390 : BitVec 32 := Scalar.remsi v370 c4_i32_286
  let c3584_i32_287 : BitVec 32 := 3584#32
  let v391 : BitVec 32 := Scalar.muli v390 c3584_i32_287
  v391
def k0_mult34 (k0_t4 : Fin k0_t4_loop.trips) : BitVec 32 :=
  let c4_i32_275 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v369 : BitVec 32 := Scalar.muli c4_i32_275 v275
  let c3_i32_276 : BitVec 32 := 3#32
  let v370 : BitVec 32 := Scalar.addi v369 c3_i32_276
  let c0_i32_280 : BitVec 32 := 0#32
  let v374 : BitVec 1 := Scalar.cmpi .sgt v370 c0_i32_280
  let v375 : BitVec 32 := Scalar.extui v374
  let c0_i32_281 : BitVec 32 := 0#32
  let v376 : BitVec 1 := Scalar.cmpi .slt v370 c0_i32_281
  let v377 : BitVec 32 := Scalar.extui v376
  let v378 : BitVec 32 := Scalar.subi v375 v377
  let c4_i32_279 : BitVec 32 := 4#32
  let c0_i32_282 : BitVec 32 := 0#32
  let v379 : BitVec 1 := Scalar.cmpi .sgt c4_i32_279 c0_i32_282
  let v380 : BitVec 32 := Scalar.extui v379
  let c0_i32_283 : BitVec 32 := 0#32
  let v381 : BitVec 1 := Scalar.cmpi .slt c4_i32_279 c0_i32_283
  let v382 : BitVec 32 := Scalar.extui v381
  let v383 : BitVec 32 := Scalar.subi v380 v382
  let v384 : BitVec 1 := Scalar.cmpi .ne v378 v383
  let v385 : BitVec 32 := Scalar.remsi v370 c4_i32_279
  let c0_i32_284 : BitVec 32 := 0#32
  let v386 : BitVec 1 := Scalar.cmpi .ne v385 c0_i32_284
  let v387 : BitVec 1 := Scalar.andi v384 v386
  let v373 : BitVec 32 := Scalar.divsi v370 c4_i32_279
  let c1_i32_285 : BitVec 32 := 1#32
  let v388 : BitVec 32 := Scalar.subi v373 c1_i32_285
  let v389 : BitVec 32 := Scalar.select v387 v388 v373
  let c512_i32_288 : BitVec 32 := 512#32
  let v393 : BitVec 32 := Scalar.muli v389 c512_i32_288
  v393
def k0_cond3 (k0_t4 : Fin k0_t4_loop.trips) : BitVec 1 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c1_i32_291 : BitVec 32 := 1#32
  let v400 : BitVec 1 := Scalar.cmpi .sgt v275 c1_i32_291
  let v401 : BitVec 32 := Scalar.extui v400
  let c0_i32_292 : BitVec 32 := 0#32
  let v402 : BitVec 1 := Scalar.cmpi .ne v401 c0_i32_292
  v402

def k0_mult35 (k0_t4 : Fin k0_t4_loop.trips) : BitVec 32 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_356 : BitVec 32 := 2#32
  let v493 : BitVec 32 := Scalar.subi v275 c2_i32_356
  let c1792_i32_357 : BitVec 32 := 1792#32
  let v494 : BitVec 32 := Scalar.muli v493 c1792_i32_357
  v494
def k0_off22 (k0_t4 : Fin k0_t4_loop.trips) : Fin 1 → Nat :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_356 : BitVec 32 := 2#32
  let v493 : BitVec 32 := Scalar.subi v275 c2_i32_356
  let c2_i32_359 : BitVec 32 := 2#32
  let v497 : BitVec 32 := Scalar.remsi v493 c2_i32_359
  ![v497.toNat]
def k0_off23 (k0_t4 : Fin k0_t4_loop.trips) : Fin 3 → Nat :=
  let c0_i32_360 : BitVec 32 := 0#32
  let c0_i32_361 : BitVec 32 := 0#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_356 : BitVec 32 := 2#32
  let v493 : BitVec 32 := Scalar.subi v275 c2_i32_356
  let c1792_i32_357 : BitVec 32 := 1792#32
  let v494 : BitVec 32 := Scalar.muli v493 c1792_i32_357
  let v495 : BitVec 32 := v494
  ![0, 0, v495.toNat]
def k0_off24 (k0_t4 : Fin k0_t4_loop.trips) : Fin 4 → Nat :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_356 : BitVec 32 := 2#32
  let v493 : BitVec 32 := Scalar.subi v275 c2_i32_356
  let c2_i32_358 : BitVec 32 := 2#32
  let v496 : BitVec 32 := Scalar.remsi v493 c2_i32_358
  let c0_i32_362 : BitVec 32 := 0#32
  let c0_i32_363 : BitVec 32 := 0#32
  let c0_i32_364 : BitVec 32 := 0#32
  ![v496.toNat, 0, 0, 0]
def k0_mult36 (k0_t4 : Fin k0_t4_loop.trips) : BitVec 32 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c1792_i32_293 : BitVec 32 := 1792#32
  let v403 : BitVec 32 := Scalar.muli v275 c1792_i32_293
  v403
def k0_off25 (k0_t4 : Fin k0_t4_loop.trips) : Fin 2 → Nat :=
  let c0_294 : Index := 0#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c1792_i32_293 : BitVec 32 := 1792#32
  let v403 : BitVec 32 := Scalar.muli v275 c1792_i32_293
  let v404 : BitVec 32 := v403
  let v405 : Index := Scalar.indexCast v404
  ![0, v405.toNat]
def k0_off26 (k0_t4 : Fin k0_t4_loop.trips) : Fin 4 → Nat :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_295 : BitVec 32 := 2#32
  let v408 : BitVec 32 := Scalar.remsi v275 c2_i32_295
  let v409 : Index := Scalar.indexCast v408
  let c0_296 : Index := 0#32
  let c0_297 : Index := 0#32
  let c0_298 : Index := 0#32
  ![v409.toNat, 0, 0, 0]
def k0_off27 (k0_t4 : Fin k0_t4_loop.trips) : Fin 4 → Nat :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_299 : BitVec 32 := 2#32
  let v414 : BitVec 32 := Scalar.remsi v275 c2_i32_299
  let v415 : Index := Scalar.indexCast v414
  let c1_300 : Index := 1#32
  let c0_301 : Index := 0#32
  let c0_302 : Index := 0#32
  ![v415.toNat, 1, 0, 0]
def k0_mult37 (k0_t4 : Fin k0_t4_loop.trips) : BitVec 32 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c512_i32_303 : BitVec 32 := 512#32
  let v419 : BitVec 32 := Scalar.muli v275 c512_i32_303
  v419
def k0_off28 (k0_t4 : Fin k0_t4_loop.trips) : Fin 3 → Nat :=
  let c77_i32_305 : BitVec 32 := 77#32
  let c4_i32_304 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v421 : BitVec 32 := Scalar.muli c4_i32_304 v275
  let v422 : BitVec 32 := Scalar.addi c77_i32_305 v421
  let c16_i32_306 : BitVec 32 := 16#32
  let v423 : BitVec 32 := Scalar.remsi v422 c16_i32_306
  let v425 : Index := Scalar.indexCast v423
  let c0_309 : Index := 0#32
  let c0_310 : Index := 0#32
  ![v425.toNat, 0, 0]
def k0_off29 (k0_t4 : Fin k0_t4_loop.trips) (c1_i32_314 : BitVec 32) : Fin 3 → Nat :=
  let c77_i32_313 : BitVec 32 := 77#32
  let c4_i32_312 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let v429 : BitVec 32 := Scalar.muli c4_i32_312 v275
  let v430 : BitVec 32 := Scalar.addi c77_i32_313 v429
  let v431 : BitVec 32 := Scalar.addi v430 c1_i32_314
  let c16_i32_315 : BitVec 32 := 16#32
  let v432 : BitVec 32 := Scalar.remsi v431 c16_i32_315
  let v434 : Index := Scalar.indexCast v432
  let c0_317 : Index := 0#32
  let c0_318 : Index := 0#32
  ![v434.toNat, 0, 0]
def k0_off30 (k0_t4 : Fin k0_t4_loop.trips) : Fin 2 → Nat :=
  let c0_336 : Index := 0#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c512_i32_303 : BitVec 32 := 512#32
  let v419 : BitVec 32 := Scalar.muli v275 c512_i32_303
  let v420 : BitVec 32 := v419
  let v459 : Index := Scalar.indexCast v420
  ![0, v459.toNat]
def k0_off31 (k0_t4 : Fin k0_t4_loop.trips) : Fin 2 → Nat :=
  let c0_339 : Index := 0#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c512_i32_303 : BitVec 32 := 512#32
  let v419 : BitVec 32 := Scalar.muli v275 c512_i32_303
  let v420 : BitVec 32 := v419
  let v464 : Index := Scalar.indexCast v420
  ![0, v464.toNat]
def k0_mult38 (k0_t4 : Fin k0_t4_loop.trips) : BitVec 32 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c512_i32_341 : BitVec 32 := 512#32
  let v474 : BitVec 32 := Scalar.muli v275 c512_i32_341
  v474
def k0_off32 (k0_t4 : Fin k0_t4_loop.trips) : Fin 2 → Nat :=
  let c0_i32_343 : BitVec 32 := 0#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c512_i32_341 : BitVec 32 := 512#32
  let v474 : BitVec 32 := Scalar.muli v275 c512_i32_341
  let v475 : BitVec 32 := v474
  ![0, v475.toNat]
def k0_mult39 (k0_t4 : Fin k0_t4_loop.trips) : BitVec 32 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c1792_i32_345 : BitVec 32 := 1792#32
  let v480 : BitVec 32 := Scalar.muli v275 c1792_i32_345
  v480
def k0_off33 (k0_t4 : Fin k0_t4_loop.trips) : Fin 1 → Nat :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_347 : BitVec 32 := 2#32
  let v483 : BitVec 32 := Scalar.remsi v275 c2_i32_347
  ![v483.toNat]
def k0_off34 (k0_t4 : Fin k0_t4_loop.trips) : Fin 3 → Nat :=
  let c0_i32_348 : BitVec 32 := 0#32
  let c0_i32_349 : BitVec 32 := 0#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c1792_i32_345 : BitVec 32 := 1792#32
  let v480 : BitVec 32 := Scalar.muli v275 c1792_i32_345
  let v481 : BitVec 32 := v480
  ![0, 0, v481.toNat]
def k0_off35 (k0_t4 : Fin k0_t4_loop.trips) : Fin 4 → Nat :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c2_i32_346 : BitVec 32 := 2#32
  let v482 : BitVec 32 := Scalar.remsi v275 c2_i32_346
  let c0_i32_350 : BitVec 32 := 0#32
  let c0_i32_351 : BitVec 32 := 0#32
  let c0_i32_352 : BitVec 32 := 0#32
  ![v482.toNat, 0, 0, 0]
def k0_cond4 (k0_t4 : Fin k0_t4_loop.trips) : BitVec 1 :=
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_353 : BitVec 32 := 4#32
  let v489 : BitVec 32 := Scalar.addi v275 c4_i32_353
  let c8_i32_354 : BitVec 32 := 8#32
  let v490 : BitVec 1 := Scalar.cmpi .slt v489 c8_i32_354
  let v491 : BitVec 32 := Scalar.extui v490
  let c0_i32_355 : BitVec 32 := 0#32
  let v492 : BitVec 1 := Scalar.cmpi .ne v491 c0_i32_355
  v492

def k0_mult40 (k0_t4 : Fin k0_t4_loop.trips) : BitVec 32 :=
  let c4_i32_357 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_356 : BitVec 32 := 4#32
  let v493 : BitVec 32 := Scalar.addi v275 c4_i32_356
  let v494 : BitVec 32 := Scalar.muli c4_i32_357 v493
  let c0_i32_358 : BitVec 32 := 0#32
  let v495 : BitVec 32 := Scalar.addi v494 c0_i32_358
  let c4_i32_368 : BitVec 32 := 4#32
  let v515 : BitVec 32 := Scalar.remsi v495 c4_i32_368
  let c3584_i32_369 : BitVec 32 := 3584#32
  let v516 : BitVec 32 := Scalar.muli v515 c3584_i32_369
  v516
def k0_mult41 (k0_t4 : Fin k0_t4_loop.trips) : BitVec 32 :=
  let c4_i32_357 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_356 : BitVec 32 := 4#32
  let v493 : BitVec 32 := Scalar.addi v275 c4_i32_356
  let v494 : BitVec 32 := Scalar.muli c4_i32_357 v493
  let c0_i32_358 : BitVec 32 := 0#32
  let v495 : BitVec 32 := Scalar.addi v494 c0_i32_358
  let c0_i32_362 : BitVec 32 := 0#32
  let v499 : BitVec 1 := Scalar.cmpi .sgt v495 c0_i32_362
  let v500 : BitVec 32 := Scalar.extui v499
  let c0_i32_363 : BitVec 32 := 0#32
  let v501 : BitVec 1 := Scalar.cmpi .slt v495 c0_i32_363
  let v502 : BitVec 32 := Scalar.extui v501
  let v503 : BitVec 32 := Scalar.subi v500 v502
  let c4_i32_361 : BitVec 32 := 4#32
  let c0_i32_364 : BitVec 32 := 0#32
  let v504 : BitVec 1 := Scalar.cmpi .sgt c4_i32_361 c0_i32_364
  let v505 : BitVec 32 := Scalar.extui v504
  let c0_i32_365 : BitVec 32 := 0#32
  let v506 : BitVec 1 := Scalar.cmpi .slt c4_i32_361 c0_i32_365
  let v507 : BitVec 32 := Scalar.extui v506
  let v508 : BitVec 32 := Scalar.subi v505 v507
  let v509 : BitVec 1 := Scalar.cmpi .ne v503 v508
  let v510 : BitVec 32 := Scalar.remsi v495 c4_i32_361
  let c0_i32_366 : BitVec 32 := 0#32
  let v511 : BitVec 1 := Scalar.cmpi .ne v510 c0_i32_366
  let v512 : BitVec 1 := Scalar.andi v509 v511
  let v498 : BitVec 32 := Scalar.divsi v495 c4_i32_361
  let c1_i32_367 : BitVec 32 := 1#32
  let v513 : BitVec 32 := Scalar.subi v498 c1_i32_367
  let v514 : BitVec 32 := Scalar.select v512 v513 v498
  let c512_i32_370 : BitVec 32 := 512#32
  let v518 : BitVec 32 := Scalar.muli v514 c512_i32_370
  v518
def k0_off36 (k0_t4 : Fin k0_t4_loop.trips) (c0_i32_358 : BitVec 32) : Fin 1 → Nat :=
  let c77_i32_359 : BitVec 32 := 77#32
  let c4_i32_357 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_356 : BitVec 32 := 4#32
  let v493 : BitVec 32 := Scalar.addi v275 c4_i32_356
  let v494 : BitVec 32 := Scalar.muli c4_i32_357 v493
  let v495 : BitVec 32 := Scalar.addi v494 c0_i32_358
  let v496 : BitVec 32 := Scalar.addi c77_i32_359 v495
  let c16_i32_360 : BitVec 32 := 16#32
  let v497 : BitVec 32 := Scalar.remsi v496 c16_i32_360
  ![v497.toNat]
def k0_off37 (k0_t4 : Fin k0_t4_loop.trips) (c0_i32_358 : BitVec 32) : Fin 3 → Nat :=
  let c77_i32_359 : BitVec 32 := 77#32
  let c4_i32_357 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_356 : BitVec 32 := 4#32
  let v493 : BitVec 32 := Scalar.addi v275 c4_i32_356
  let v494 : BitVec 32 := Scalar.muli c4_i32_357 v493
  let v495 : BitVec 32 := Scalar.addi v494 c0_i32_358
  let v496 : BitVec 32 := Scalar.addi c77_i32_359 v495
  let c16_i32_360 : BitVec 32 := 16#32
  let v497 : BitVec 32 := Scalar.remsi v496 c16_i32_360
  let c0_i32_371 : BitVec 32 := 0#32
  let c0_i32_372 : BitVec 32 := 0#32
  ![v497.toNat, 0, 0]
def k0_off38 (k0_t4 : Fin k0_t4_loop.trips) (c0_i32_358 : BitVec 32) : Fin 2 → Nat :=
  let c4_i32_357 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_356 : BitVec 32 := 4#32
  let v493 : BitVec 32 := Scalar.addi v275 c4_i32_356
  let v494 : BitVec 32 := Scalar.muli c4_i32_357 v493
  let v495 : BitVec 32 := Scalar.addi v494 c0_i32_358
  let c4_i32_368 : BitVec 32 := 4#32
  let v515 : BitVec 32 := Scalar.remsi v495 c4_i32_368
  let c3584_i32_369 : BitVec 32 := 3584#32
  let v516 : BitVec 32 := Scalar.muli v515 c3584_i32_369
  let v517 : BitVec 32 := v516
  let c0_i32_362 : BitVec 32 := 0#32
  let v499 : BitVec 1 := Scalar.cmpi .sgt v495 c0_i32_362
  let v500 : BitVec 32 := Scalar.extui v499
  let c0_i32_363 : BitVec 32 := 0#32
  let v501 : BitVec 1 := Scalar.cmpi .slt v495 c0_i32_363
  let v502 : BitVec 32 := Scalar.extui v501
  let v503 : BitVec 32 := Scalar.subi v500 v502
  let c4_i32_361 : BitVec 32 := 4#32
  let c0_i32_364 : BitVec 32 := 0#32
  let v504 : BitVec 1 := Scalar.cmpi .sgt c4_i32_361 c0_i32_364
  let v505 : BitVec 32 := Scalar.extui v504
  let c0_i32_365 : BitVec 32 := 0#32
  let v506 : BitVec 1 := Scalar.cmpi .slt c4_i32_361 c0_i32_365
  let v507 : BitVec 32 := Scalar.extui v506
  let v508 : BitVec 32 := Scalar.subi v505 v507
  let v509 : BitVec 1 := Scalar.cmpi .ne v503 v508
  let v510 : BitVec 32 := Scalar.remsi v495 c4_i32_361
  let c0_i32_366 : BitVec 32 := 0#32
  let v511 : BitVec 1 := Scalar.cmpi .ne v510 c0_i32_366
  let v512 : BitVec 1 := Scalar.andi v509 v511
  let v498 : BitVec 32 := Scalar.divsi v495 c4_i32_361
  let c1_i32_367 : BitVec 32 := 1#32
  let v513 : BitVec 32 := Scalar.subi v498 c1_i32_367
  let v514 : BitVec 32 := Scalar.select v512 v513 v498
  let c512_i32_370 : BitVec 32 := 512#32
  let v518 : BitVec 32 := Scalar.muli v514 c512_i32_370
  let v519 : BitVec 32 := v518
  ![v517.toNat, v519.toNat]
def k0_mult42 (k0_t4 : Fin k0_t4_loop.trips) : BitVec 32 :=
  let c4_i32_374 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_373 : BitVec 32 := 4#32
  let v525 : BitVec 32 := Scalar.addi v275 c4_i32_373
  let v526 : BitVec 32 := Scalar.muli c4_i32_374 v525
  let c1_i32_375 : BitVec 32 := 1#32
  let v527 : BitVec 32 := Scalar.addi v526 c1_i32_375
  let c4_i32_385 : BitVec 32 := 4#32
  let v547 : BitVec 32 := Scalar.remsi v527 c4_i32_385
  let c3584_i32_386 : BitVec 32 := 3584#32
  let v548 : BitVec 32 := Scalar.muli v547 c3584_i32_386
  v548
def k0_mult43 (k0_t4 : Fin k0_t4_loop.trips) : BitVec 32 :=
  let c4_i32_374 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_373 : BitVec 32 := 4#32
  let v525 : BitVec 32 := Scalar.addi v275 c4_i32_373
  let v526 : BitVec 32 := Scalar.muli c4_i32_374 v525
  let c1_i32_375 : BitVec 32 := 1#32
  let v527 : BitVec 32 := Scalar.addi v526 c1_i32_375
  let c0_i32_379 : BitVec 32 := 0#32
  let v531 : BitVec 1 := Scalar.cmpi .sgt v527 c0_i32_379
  let v532 : BitVec 32 := Scalar.extui v531
  let c0_i32_380 : BitVec 32 := 0#32
  let v533 : BitVec 1 := Scalar.cmpi .slt v527 c0_i32_380
  let v534 : BitVec 32 := Scalar.extui v533
  let v535 : BitVec 32 := Scalar.subi v532 v534
  let c4_i32_378 : BitVec 32 := 4#32
  let c0_i32_381 : BitVec 32 := 0#32
  let v536 : BitVec 1 := Scalar.cmpi .sgt c4_i32_378 c0_i32_381
  let v537 : BitVec 32 := Scalar.extui v536
  let c0_i32_382 : BitVec 32 := 0#32
  let v538 : BitVec 1 := Scalar.cmpi .slt c4_i32_378 c0_i32_382
  let v539 : BitVec 32 := Scalar.extui v538
  let v540 : BitVec 32 := Scalar.subi v537 v539
  let v541 : BitVec 1 := Scalar.cmpi .ne v535 v540
  let v542 : BitVec 32 := Scalar.remsi v527 c4_i32_378
  let c0_i32_383 : BitVec 32 := 0#32
  let v543 : BitVec 1 := Scalar.cmpi .ne v542 c0_i32_383
  let v544 : BitVec 1 := Scalar.andi v541 v543
  let v530 : BitVec 32 := Scalar.divsi v527 c4_i32_378
  let c1_i32_384 : BitVec 32 := 1#32
  let v545 : BitVec 32 := Scalar.subi v530 c1_i32_384
  let v546 : BitVec 32 := Scalar.select v544 v545 v530
  let c512_i32_387 : BitVec 32 := 512#32
  let v550 : BitVec 32 := Scalar.muli v546 c512_i32_387
  v550
def k0_mult44 (k0_t4 : Fin k0_t4_loop.trips) : BitVec 32 :=
  let c4_i32_391 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_390 : BitVec 32 := 4#32
  let v557 : BitVec 32 := Scalar.addi v275 c4_i32_390
  let v558 : BitVec 32 := Scalar.muli c4_i32_391 v557
  let c2_i32_392 : BitVec 32 := 2#32
  let v559 : BitVec 32 := Scalar.addi v558 c2_i32_392
  let c4_i32_402 : BitVec 32 := 4#32
  let v579 : BitVec 32 := Scalar.remsi v559 c4_i32_402
  let c3584_i32_403 : BitVec 32 := 3584#32
  let v580 : BitVec 32 := Scalar.muli v579 c3584_i32_403
  v580
def k0_mult45 (k0_t4 : Fin k0_t4_loop.trips) : BitVec 32 :=
  let c4_i32_391 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_390 : BitVec 32 := 4#32
  let v557 : BitVec 32 := Scalar.addi v275 c4_i32_390
  let v558 : BitVec 32 := Scalar.muli c4_i32_391 v557
  let c2_i32_392 : BitVec 32 := 2#32
  let v559 : BitVec 32 := Scalar.addi v558 c2_i32_392
  let c0_i32_396 : BitVec 32 := 0#32
  let v563 : BitVec 1 := Scalar.cmpi .sgt v559 c0_i32_396
  let v564 : BitVec 32 := Scalar.extui v563
  let c0_i32_397 : BitVec 32 := 0#32
  let v565 : BitVec 1 := Scalar.cmpi .slt v559 c0_i32_397
  let v566 : BitVec 32 := Scalar.extui v565
  let v567 : BitVec 32 := Scalar.subi v564 v566
  let c4_i32_395 : BitVec 32 := 4#32
  let c0_i32_398 : BitVec 32 := 0#32
  let v568 : BitVec 1 := Scalar.cmpi .sgt c4_i32_395 c0_i32_398
  let v569 : BitVec 32 := Scalar.extui v568
  let c0_i32_399 : BitVec 32 := 0#32
  let v570 : BitVec 1 := Scalar.cmpi .slt c4_i32_395 c0_i32_399
  let v571 : BitVec 32 := Scalar.extui v570
  let v572 : BitVec 32 := Scalar.subi v569 v571
  let v573 : BitVec 1 := Scalar.cmpi .ne v567 v572
  let v574 : BitVec 32 := Scalar.remsi v559 c4_i32_395
  let c0_i32_400 : BitVec 32 := 0#32
  let v575 : BitVec 1 := Scalar.cmpi .ne v574 c0_i32_400
  let v576 : BitVec 1 := Scalar.andi v573 v575
  let v562 : BitVec 32 := Scalar.divsi v559 c4_i32_395
  let c1_i32_401 : BitVec 32 := 1#32
  let v577 : BitVec 32 := Scalar.subi v562 c1_i32_401
  let v578 : BitVec 32 := Scalar.select v576 v577 v562
  let c512_i32_404 : BitVec 32 := 512#32
  let v582 : BitVec 32 := Scalar.muli v578 c512_i32_404
  v582
def k0_mult46 (k0_t4 : Fin k0_t4_loop.trips) : BitVec 32 :=
  let c4_i32_408 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_407 : BitVec 32 := 4#32
  let v589 : BitVec 32 := Scalar.addi v275 c4_i32_407
  let v590 : BitVec 32 := Scalar.muli c4_i32_408 v589
  let c3_i32_409 : BitVec 32 := 3#32
  let v591 : BitVec 32 := Scalar.addi v590 c3_i32_409
  let c4_i32_419 : BitVec 32 := 4#32
  let v611 : BitVec 32 := Scalar.remsi v591 c4_i32_419
  let c3584_i32_420 : BitVec 32 := 3584#32
  let v612 : BitVec 32 := Scalar.muli v611 c3584_i32_420
  v612
def k0_mult47 (k0_t4 : Fin k0_t4_loop.trips) : BitVec 32 :=
  let c4_i32_408 : BitVec 32 := 4#32
  let c0_i32_228 : BitVec 32 := 0#32
  let c0_i32_199 : BitVec 32 := 0#32
  let c1_i32_200 : BitVec 32 := 1#32
  let arg27 : BitVec 32 := Scf.iv c0_i32_199 c1_i32_200 k0_t4
  let c1_i32_227 : BitVec 32 := 1#32
  let v274 : BitVec 32 := Scalar.muli arg27 c1_i32_227
  let v275 : BitVec 32 := Scalar.addi c0_i32_228 v274
  let c4_i32_407 : BitVec 32 := 4#32
  let v589 : BitVec 32 := Scalar.addi v275 c4_i32_407
  let v590 : BitVec 32 := Scalar.muli c4_i32_408 v589
  let c3_i32_409 : BitVec 32 := 3#32
  let v591 : BitVec 32 := Scalar.addi v590 c3_i32_409
  let c0_i32_413 : BitVec 32 := 0#32
  let v595 : BitVec 1 := Scalar.cmpi .sgt v591 c0_i32_413
  let v596 : BitVec 32 := Scalar.extui v595
  let c0_i32_414 : BitVec 32 := 0#32
  let v597 : BitVec 1 := Scalar.cmpi .slt v591 c0_i32_414
  let v598 : BitVec 32 := Scalar.extui v597
  let v599 : BitVec 32 := Scalar.subi v596 v598
  let c4_i32_412 : BitVec 32 := 4#32
  let c0_i32_415 : BitVec 32 := 0#32
  let v600 : BitVec 1 := Scalar.cmpi .sgt c4_i32_412 c0_i32_415
  let v601 : BitVec 32 := Scalar.extui v600
  let c0_i32_416 : BitVec 32 := 0#32
  let v602 : BitVec 1 := Scalar.cmpi .slt c4_i32_412 c0_i32_416
  let v603 : BitVec 32 := Scalar.extui v602
  let v604 : BitVec 32 := Scalar.subi v601 v603
  let v605 : BitVec 1 := Scalar.cmpi .ne v599 v604
  let v606 : BitVec 32 := Scalar.remsi v591 c4_i32_412
  let c0_i32_417 : BitVec 32 := 0#32
  let v607 : BitVec 1 := Scalar.cmpi .ne v606 c0_i32_417
  let v608 : BitVec 1 := Scalar.andi v605 v607
  let v594 : BitVec 32 := Scalar.divsi v591 c4_i32_412
  let c1_i32_418 : BitVec 32 := 1#32
  let v609 : BitVec 32 := Scalar.subi v594 c1_i32_418
  let v610 : BitVec 32 := Scalar.select v608 v609 v594
  let c512_i32_421 : BitVec 32 := 512#32
  let v614 : BitVec 32 := Scalar.muli v610 c512_i32_421
  v614
def k0_mult48 : BitVec 32 :=
  let c6_i32_202 : BitVec 32 := 6#32
  let c1792_i32 : BitVec 32 := 1792#32
  let v255 : BitVec 32 := Scalar.muli c6_i32_202 c1792_i32
  v255
def k0_off39 (c6_i32_205 : BitVec 32) : Fin 1 → Nat :=
  let c2_i32_206 : BitVec 32 := 2#32
  let v258 : BitVec 32 := Scalar.remsi c6_i32_205 c2_i32_206
  ![v258.toNat]
def k0_off40 (c6_i32_202 : BitVec 32) : Fin 3 → Nat :=
  let c0_i32_207 : BitVec 32 := 0#32
  let c0_i32_208 : BitVec 32 := 0#32
  let c1792_i32 : BitVec 32 := 1792#32
  let v255 : BitVec 32 := Scalar.muli c6_i32_202 c1792_i32
  let v256 : BitVec 32 := v255
  ![0, 0, v256.toNat]
def k0_off41 (c6_i32_203 : BitVec 32) : Fin 4 → Nat :=
  let c2_i32_204 : BitVec 32 := 2#32
  let v257 : BitVec 32 := Scalar.remsi c6_i32_203 c2_i32_204
  let c0_i32_209 : BitVec 32 := 0#32
  let c0_i32_210 : BitVec 32 := 0#32
  let c0_i32_211 : BitVec 32 := 0#32
  ![v257.toNat, 0, 0, 0]
def k0_mult49 : BitVec 32 :=
  let c7_i32_212 : BitVec 32 := 7#32
  let c1792_i32_213 : BitVec 32 := 1792#32
  let v264 : BitVec 32 := Scalar.muli c7_i32_212 c1792_i32_213
  v264
@[reducible] def k0_t5_loop : Scf.Loop 32 :=
  let c0_i32_223 : BitVec 32 := 0#32
  let c8_i32_224 : BitVec 32 := 8#32
  let v273 : BitVec 32 := Scalar.addi c0_i32_223 c8_i32_224
  let c1_i32_225 : BitVec 32 := 1#32
  ⟨c0_i32_223, v273, c1_i32_225⟩
def k0_mult50 (k0_t5 : Fin k0_t5_loop.trips) : BitVec 32 :=
  let c0_i32_228 : BitVec 32 := 0#32
  let c0_i32_223 : BitVec 32 := 0#32
  let c1_i32_225 : BitVec 32 := 1#32
  let arg27 : BitVec 32 := Scf.iv c0_i32_223 c1_i32_225 k0_t5
  let c1_i32_227 : BitVec 32 := 1#32
  let v274 : BitVec 32 := Scalar.muli arg27 c1_i32_227
  let v275 : BitVec 32 := Scalar.addi c0_i32_228 v274
  let c512_i32_229 : BitVec 32 := 512#32
  let v276 : BitVec 32 := Scalar.muli v275 c512_i32_229
  v276
def k0_off42 (k0_t5 : Fin k0_t5_loop.trips) : Fin 2 → Nat :=
  let c0_i32_231 : BitVec 32 := 0#32
  let c0_i32_228 : BitVec 32 := 0#32
  let c0_i32_223 : BitVec 32 := 0#32
  let c1_i32_225 : BitVec 32 := 1#32
  let arg27 : BitVec 32 := Scf.iv c0_i32_223 c1_i32_225 k0_t5
  let c1_i32_227 : BitVec 32 := 1#32
  let v274 : BitVec 32 := Scalar.muli arg27 c1_i32_227
  let v275 : BitVec 32 := Scalar.addi c0_i32_228 v274
  let c512_i32_229 : BitVec 32 := 512#32
  let v276 : BitVec 32 := Scalar.muli v275 c512_i32_229
  let v277 : BitVec 32 := v276
  ![0, v277.toNat]
abbrev stage0_0 : Fin 1 → Memref sig .tc .vmem S224x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x112 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S224x4096 : Shape := ⟨2, ![224, 4096]⟩
abbrev S4096 : Shape := ⟨1, ![4096]⟩
abbrev S4096x14336 : Shape := ⟨2, ![4096, 14336]⟩
abbrev S14336 : Shape := ⟨1, ![14336]⟩
abbrev S14336x4096 : Shape := ⟨2, ![14336, 4096]⟩
abbrev S1x4096 : Shape := ⟨2, ![1, 4096]⟩
abbrev S1x14336 : Shape := ⟨2, ![1, 14336]⟩
abbrev S224x1 : Shape := ⟨2, ![224, 1]⟩
abbrev S224x14336 : Shape := ⟨2, ![224, 14336]⟩
abbrev S224 : Shape := ⟨1, ![224]⟩
abbrev S2x112x4096 : Shape := ⟨3, ![2, 112, 4096]⟩
abbrev S2x112 : Shape := ⟨2, ![2, 112]⟩
abbrev S2x112x14336 : Shape := ⟨3, ![2, 112, 14336]⟩

abbrev nBuf : Space → Nat
  | .hbm => 22
  | .vmem => 14
  | .smem => 0
  | _ => 0

abbrev bufTy : (tb : Table) → Fin (tcTables nBuf tb) → BufTy
  | .hbm, ⟨0, _⟩ => ⟨S224x4096, .f32⟩
  | .hbm, ⟨1, _⟩ => ⟨S224x4096, .f32⟩
  | .hbm, ⟨2, _⟩ => ⟨S4096, .f32⟩
  | .hbm, ⟨3, _⟩ => ⟨S4096x14336, .fp8e4m3⟩
  | .hbm, ⟨4, _⟩ => ⟨S14336, .f32⟩
  | .hbm, ⟨5, _⟩ => ⟨S4096x14336, .fp8e4m3⟩
  | .hbm, ⟨6, _⟩ => ⟨S14336, .f32⟩
  | .hbm, ⟨7, _⟩ => ⟨S14336x4096, .fp8e4m3⟩
  | .hbm, ⟨8, _⟩ => ⟨S4096, .f32⟩
  | .hbm, ⟨9, _⟩ => ⟨S1x4096, .f32⟩
  | .hbm, ⟨10, _⟩ => ⟨S1x14336, .f32⟩
  | .hbm, ⟨11, _⟩ => ⟨S1x14336, .f32⟩
  | .hbm, ⟨12, _⟩ => ⟨S1x4096, .f32⟩
  | .hbm, ⟨13, _⟩ => ⟨S224x4096, .f32⟩
  | .hbm, ⟨14, _⟩ => ⟨S224x4096, .fp8e4m3⟩
  | .hbm, ⟨15, _⟩ => ⟨S224x1, .f32⟩
  | .hbm, ⟨16, _⟩ => ⟨S224x14336, .fp8e4m3⟩
  | .hbm, ⟨17, _⟩ => ⟨S224x1, .f32⟩
  | .hbm, ⟨18, _⟩ => ⟨S2x112x4096, .fp8e4m3⟩
  | .hbm, ⟨19, _⟩ => ⟨S2x112, .f32⟩
  | .hbm, ⟨20, _⟩ => ⟨S2x112x14336, .fp8e4m3⟩
  | .hbm, ⟨21, _⟩ => ⟨S2x112, .f32⟩
  | .local _ .vmem, ⟨0, _⟩ => ⟨S224x4096, .f32⟩
  | .local _ .vmem, ⟨1, _⟩ => ⟨S224x4096, .f32⟩
  | .local _ .vmem, ⟨2, _⟩ => ⟨S1x4096, .f32⟩
  | .local _ .vmem, ⟨3, _⟩ => ⟨S4096x14336, .fp8e4m3⟩
  | .local _ .vmem, ⟨4, _⟩ => ⟨S1x14336, .f32⟩
  | .local _ .vmem, ⟨5, _⟩ => ⟨S4096x14336, .fp8e4m3⟩
  | .local _ .vmem, ⟨6, _⟩ => ⟨S1x14336, .f32⟩
  | .local _ .vmem, ⟨7, _⟩ => ⟨S14336x4096, .fp8e4m3⟩
  | .local _ .vmem, ⟨8, _⟩ => ⟨S1x4096, .f32⟩
  | .local _ .vmem, ⟨9, _⟩ => ⟨S224x4096, .f32⟩
  | .local _ .vmem, ⟨10, _⟩ => ⟨S224x4096, .fp8e4m3⟩
  | .local _ .vmem, ⟨11, _⟩ => ⟨S224x1, .f32⟩
  | .local _ .vmem, ⟨12, _⟩ => ⟨S224x14336, .fp8e4m3⟩
  | .local _ .vmem, ⟨13, _⟩ => ⟨S224x1, .f32⟩
  | _, _ => ⟨S224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S224x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S224x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S224x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S224x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S224x14336 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S224x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.IBase.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The sixteen-slot weight ring: its slots, its cells, the windows it copies from -/

/-- Slot of the ring at offset `off`, whole: what a gate or an up copy fills. -/
abbrev slotM (arg14 : Memref sig .tc .vmem S16x4096x512 .fp8e4m3) (off : Fin 3 → ℕ) (h : ∀ a, off a + S1x4096x512.size a ≤ S16x4096x512.size a) : Memref sig .tc .vmem S4096x512 .fp8e4m3 :=
  (arg14.slice (Rect.unit (s := S16x4096x512) off S1x4096x512.size h) (fun _ => rfl)).squeeze S4096x512 squeezes_S1x4096x512_S4096x512
/-- The first 3584 rows of the slot at offset `off`: what a down copy fills. -/
abbrev dslotM (arg14 : Memref sig .tc .vmem S16x4096x512 .fp8e4m3) (off : Fin 3 → ℕ) (h : ∀ a, off a + S1x3584x512.size a ≤ S16x4096x512.size a) : Memref sig .tc .vmem S3584x512 .fp8e4m3 :=
  (arg14.slice (Rect.unit (s := S16x4096x512) off S1x3584x512.size h) (fun _ => rfl)).squeeze S3584x512 squeezes_S1x3584x512_S3584x512
/-- The semaphore of the ring at offset `off`. -/
abbrev cellM (arg23 : DmaSems sig S16) (off : Fin 1 → ℕ) (h : ∀ a, off a + S1.size a ≤ S16.size a) : SemLoc sig :=
  .dma ((arg23.slice (Rect.unit (s := S16) off S1.size h)).squeeze S_ squeezes_S1_S_).sem
/-- A window of 512 columns of a gate or an up weight. -/
abbrev gwin (a : Memref sig .tc .hbm S4096x14336 .fp8e4m3) (off : Fin 2 → ℕ) (h : ∀ a, off a + S4096x512.size a ≤ S4096x14336.size a) : Memref sig .tc .hbm S4096x512 .fp8e4m3 :=
  a.slice (Rect.unit (s := S4096x14336) off S4096x512.size h) (fun _ => rfl)
/-- A window of 3584 rows and 512 columns of the down weight. -/
abbrev dwin (a : Memref sig .tc .hbm S14336x4096 .fp8e4m3) (off : Fin 2 → ℕ) (h : ∀ a, off a + S3584x512.size a ≤ S14336x4096.size a) : Memref sig .tc .hbm S3584x512 .fp8e4m3 :=
  a.slice (Rect.unit (s := S14336x4096) off S3584x512.size h) (fun _ => rfl)

section Values

/-- The block of 512 columns of a gate or an up weight that pass `p` reads, as the ring hands it over. -/
def gslab (w : Vec F S4096x14336 .fp8e4m3) (p : Fin k0_t2_loop.trips) : Vec F S1x4096x512 .fp8e4m3 :=
  fun i => VecWindow.window w (k0_off8 p) S4096x512.size (k0_off8_inb p) ((Shape.reshapeEquiv squeezes_S1x4096x512_S4096x512.numel_eq).symm i)

/-- A load of a whole slot after a copy filled it. -/
theorem slot_readAt (arg14 : Memref sig .tc .vmem S16x4096x512 .fp8e4m3) {os od : Fin 3 → ℕ} (e : os = od) (hs : ∀ a, os a + S1x4096x512.size a ≤ S16x4096x512.size a)
    (hd : ∀ a, od a + S1x4096x512.size a ≤ S16x4096x512.size a) (f : BufTy.Contents (Elt F) (slotM arg14 os hs).view.ty) (v : S4096x512.Idx → Elt F .fp8e4m3) :
    arg14.view.readAt (Elt F) (Rect.unit (s := S16x4096x512) od S1x4096x512.size hd).toLoadRect ((slotM arg14 os hs).view.writes (Elt F) f [⟨Rect.whole S4096x512, v⟩])
      = fun i => v ((Shape.reshapeEquiv squeezes_S1x4096x512_S4096x512.numel_eq).symm i) := by
  subst e
  funext i
  have h := congrFun (View.read_writes_whole (slotM arg14 os hs).view f v) ((Shape.reshapeEquiv squeezes_S1x4096x512_S4096x512.numel_eq).symm i)
  rw [← h]
  conv_lhs => rw [← (Shape.reshapeEquiv squeezes_S1x4096x512_S4096x512.numel_eq).apply_symm_apply i]
  rfl
/-- A load of a slot's first rows after a copy filled them. -/
theorem dslot_readAt (arg14 : Memref sig .tc .vmem S16x4096x512 .fp8e4m3) {os od : Fin 3 → ℕ} (e : os = od) (hs : ∀ a, os a + S1x3584x512.size a ≤ S16x4096x512.size a)
    (hd : ∀ a, od a + S1x3584x512.size a ≤ S16x4096x512.size a) (f : BufTy.Contents (Elt F) (dslotM arg14 os hs).view.ty) (v : S3584x512.Idx → Elt F .fp8e4m3) :
    arg14.view.readAt (Elt F) (Rect.unit (s := S16x4096x512) od S1x3584x512.size hd).toLoadRect ((dslotM arg14 os hs).view.writes (Elt F) f [⟨Rect.whole S3584x512, v⟩])
      = fun i => v ((Shape.reshapeEquiv squeezes_S1x3584x512_S3584x512.numel_eq).symm i) := by
  subst e
  funext i
  have h := congrFun (View.read_writes_whole (dslotM arg14 os hs).view f v) ((Shape.reshapeEquiv squeezes_S1x3584x512_S3584x512.numel_eq).symm i)
  rw [← h]
  conv_lhs => rw [← (Shape.reshapeEquiv squeezes_S1x3584x512_S3584x512.numel_eq).apply_symm_apply i]
  rfl

end Values

section Slots
variable (c : Dev nD) (arg14 : Memref sig .tc .vmem S16x4096x512 .fp8e4m3) (arg23 : DmaSems sig S16)

/-- A whole slot of the ring, at some contents. -/
abbrev slotP (os : Fin 3 → ℕ) (hs : ∀ a, os a + S1x4096x512.size a ≤ S16x4096x512.size a) : sProp 𝕄 :=
  iprop(∃ f, (slotM arg14 os hs).view.loc (c : Thread nD τ) ↦[(slotM arg14 os hs).view.set]{fullShare} f)
/-- A slot's first 3584 rows, at some contents. -/
abbrev dslotP (os : Fin 3 → ℕ) (hs : ∀ a, os a + S1x3584x512.size a ≤ S16x4096x512.size a) : sProp 𝕄 :=
  iprop(∃ f, (dslotM arg14 os hs).view.loc (c : Thread nD τ) ↦[(dslotM arg14 os hs).view.set]{fullShare} f)
/-- A slot's last 512 rows, at some contents. -/
abbrev tailP (os : Fin 3 → ℕ) (hs : ∀ a, os a + S1x4096x512.size a ≤ S16x4096x512.size a)
    (hd : ∀ a, os a + S1x3584x512.size a ≤ S16x4096x512.size a) : sProp 𝕄 :=
  iprop(∃ f, (slotM arg14 os hs).view.loc (c : Thread nD τ) ↦[(slotM arg14 os hs).view.set \ (dslotM arg14 os hd).view.set]{fullShare} f)

/-- A copy of a gate or an up window into a slot, in flight, with what stays of the reading share. -/
abbrev gfl (a : Memref sig .tc .hbm S4096x14336 .fp8e4m3) (W : BufTy.Contents (Elt F) a.view.ty) (k : Fin 16)
    (oc : Fin 1 → ℕ) (hc : ∀ a, oc a + S1.size a ≤ S16.size a)
    (os : Fin 3 → ℕ) (hs : ∀ a, os a + S1x4096x512.size a ≤ S16x4096x512.size a) (ow : Fin 2 → ℕ) (hw : ∀ a, ow a + S4096x512.size a ≤ S4096x14336.size a) : sProp 𝕄 :=
  iprop((∃ f, Transfers.Flight (countersEmb (U := UC sig nD τ)) (c : Thread nD τ) (cellM arg23 oc hc) () 65536
      iprop(((slotM arg14 os hs).view.loc (c : Thread nD τ) ↦[(slotM arg14 os hs).view.set]{fullShare}
          (slotM arg14 os hs).view.writes (Elt F) f [⟨Rect.whole S4096x512, ReadAs.same.apply ((gwin a ow hw).view.read (Elt F) W)⟩])
        ∗ (a.view.loc (c : Thread nD τ) ↦[(gwin a ow hw).view.set]{Transfers.shareTok fullShare 16 k} W)))
    ∗ (a.view.loc (c : Thread nD τ) ↦[a.view.set \ (gwin a ow hw).view.set]{Transfers.shareTok fullShare 16 k} W))

/-- A copy of a down window into a slot's first rows, in flight, with what stays of the reading share and of the slot. -/
abbrev dfl (a : Memref sig .tc .hbm S14336x4096 .fp8e4m3) (W : BufTy.Contents (Elt F) a.view.ty) (k : Fin 16)
    (oc : Fin 1 → ℕ) (hc : ∀ a, oc a + S1.size a ≤ S16.size a)
    (os : Fin 3 → ℕ) (hs : ∀ a, os a + S1x4096x512.size a ≤ S16x4096x512.size a)
    (hd : ∀ a, os a + S1x3584x512.size a ≤ S16x4096x512.size a) (ow : Fin 2 → ℕ) (hw : ∀ a, ow a + S3584x512.size a ≤ S14336x4096.size a) : sProp 𝕄 :=
  iprop((∃ f, Transfers.Flight (countersEmb (U := UC sig nD τ)) (c : Thread nD τ) (cellM arg23 oc hc) () 57344
      iprop(((dslotM arg14 os hd).view.loc (c : Thread nD τ) ↦[(dslotM arg14 os hd).view.set]{fullShare}
          (dslotM arg14 os hd).view.writes (Elt F) f [⟨Rect.whole S3584x512, ReadAs.same.apply ((dwin a ow hw).view.read (Elt F) W)⟩])
        ∗ (a.view.loc (c : Thread nD τ) ↦[(dwin a ow hw).view.set]{Transfers.shareTok fullShare 16 k} W)))
    ∗ (a.view.loc (c : Thread nD τ) ↦[a.view.set \ (dwin a ow hw).view.set]{Transfers.shareTok fullShare 16 k} W)
    ∗ tailP (F := F) c arg14 os hs hd)

/-- The copy's assertion depends on the offsets' values alone. -/
theorem gfl_congr (a : Memref sig .tc .hbm S4096x14336 .fp8e4m3) (W : BufTy.Contents (Elt F) a.view.ty) (k : Fin 16)
    {oc oc' : Fin 1 → ℕ} {os os' : Fin 3 → ℕ} {ow ow' : Fin 2 → ℕ} (e1 : oc = oc') (e2 : os = os') (e3 : ow = ow')
    (hc) (hs) (hw) (hc') (hs') (hw') :
    gfl (F := F) c arg14 arg23 a W k oc hc os hs ow hw = gfl c arg14 arg23 a W k oc' hc' os' hs' ow' hw' := by
  subst e1 e2 e3; rfl
/-- As `gfl_congr`, for a down copy. -/
theorem dfl_congr (a : Memref sig .tc .hbm S14336x4096 .fp8e4m3) (W : BufTy.Contents (Elt F) a.view.ty) (k : Fin 16)
    {oc oc' : Fin 1 → ℕ} {os os' : Fin 3 → ℕ} {ow ow' : Fin 2 → ℕ} (e1 : oc = oc') (e2 : os = os') (e3 : ow = ow')
    (hc) (hs) (hd) (hw) (hc') (hs') (hd') (hw') :
    dfl (F := F) c arg14 arg23 a W k oc hc os hs hd ow hw = dfl c arg14 arg23 a W k oc' hc' os' hs' hd' ow' hw' := by
  subst e1 e2 e3; rfl
/-- A slot held at one spelling of its offset is held at another. -/
theorem slotP_congr {os os' : Fin 3 → ℕ} (e : os = os') (hs) (hs') : slotP (F := F) c arg14 os hs = slotP c arg14 os' hs' := by
  subst e; rfl
/-- As `slotP_congr`, for the first rows. -/
theorem dslotP_congr {os os' : Fin 3 → ℕ} (e : os = os') (hs) (hs') : dslotP (F := F) c arg14 os hs = dslotP c arg14 os' hs' := by
  subst e; rfl
/-- As `slotP_congr`, for the last rows. -/
theorem tailP_congr {os os' : Fin 3 → ℕ} (e : os = os') (hs) (hd) (hs') (hd') : tailP (F := F) c arg14 os hs hd = tailP c arg14 os' hs' hd' := by
  subst e; rfl
/-- A semaphore named at one spelling of its offset is the one named at another. -/
theorem cellM_congr {oc oc' : Fin 1 → ℕ} (e : oc = oc') (hc) (hc') : cellM arg23 oc hc = cellM arg23 oc' hc' := by
  subst e; rfl

/-- A semaphore at zero at one spelling of its offset is at zero at another. -/
theorem cell_move {oc oc' : Fin 1 → ℕ} (e : oc = oc') (hc) (hc') :
    (semVal ((c : Thread nD τ), cellM arg23 oc hc) 0 : sProp 𝕄) ⊢ semVal ((c : Thread nD τ), cellM arg23 oc' hc') 0 := by
  subst e; exact .rfl
/-- A slot held at one spelling of its offset is held at another. -/
theorem slot_move {os os' : Fin 3 → ℕ} (e : os = os') (hs) (hs') (f : BufTy.Contents (Elt F) (slotM arg14 os hs).view.ty) :
    ((slotM arg14 os hs).view.loc (c : Thread nD τ) ↦[(slotM arg14 os hs).view.set]{fullShare} f : sProp 𝕄) ⊢ slotP c arg14 os' hs' := by
  subst e; iintro H; iexists f; iexact H
/-- As `slot_move`, for the first rows. -/
theorem dslot_move {os os' : Fin 3 → ℕ} (e : os = os') (hs) (hs') (f : BufTy.Contents (Elt F) (dslotM arg14 os hs).view.ty) :
    ((dslotM arg14 os hs).view.loc (c : Thread nD τ) ↦[(dslotM arg14 os hs).view.set]{fullShare} f : sProp 𝕄) ⊢ dslotP c arg14 os' hs' := by
  subst e; iintro H; iexists f; iexact H

/-- The first rows of a slot lie in the slot. -/
theorem dslot_sub (os : Fin 3 → ℕ) (hs : ∀ a, os a + S1x4096x512.size a ≤ S16x4096x512.size a)
    (hd : ∀ a, os a + S1x3584x512.size a ≤ S16x4096x512.size a) : (dslotM arg14 os hd).view.set ⊆ (slotM arg14 os hs).view.set := by
  have e1 : (dslotM arg14 os hd).view.set = (Rect.unit (s := S16x4096x512) os S1x3584x512.size hd).set.map arg14.view.emb :=
    (View.set_reshape _ _).trans (View.set_slice _ _)
  have e2 : (slotM arg14 os hs).view.set = (Rect.unit (s := S16x4096x512) os S1x4096x512.size hs).set.map arg14.view.emb :=
    (View.set_reshape _ _).trans (View.set_slice _ _)
  rw [e1, e2]
  refine Finset.map_subset_map.mpr fun y hy => ?_
  rw [Rect.mem_set_unit] at hy ⊢
  intro a
  have := hy a
  refine ⟨this.1, lt_of_lt_of_le this.2 (Nat.add_le_add_left ?_ _)⟩
  exact (by decide : ∀ a, S1x3584x512.size a ≤ S1x4096x512.size a) a

/-- A whole slot is its first rows and its last rows. -/
theorem slot_split (os : Fin 3 → ℕ) (hs : ∀ a, os a + S1x4096x512.size a ≤ S16x4096x512.size a)
    (hd : ∀ a, os a + S1x3584x512.size a ≤ S16x4096x512.size a) :
    slotP (F := F) c arg14 os hs ⊢ iprop(dslotP c arg14 os hd ∗ tailP c arg14 os hs hd) := by
  iintro ⟨%f, H⟩
  ihave H' := (pointsTo_split_subset (dslot_sub arg14 os hs hd)).1 $$ H
  icases H' with ⟨H1, H2⟩
  isplitl [H1]
  · iexists f; iexact H1
  · iexists f; iexact H2

/-- The first rows and the last rows of a slot are the whole slot. -/
theorem slot_join (os : Fin 3 → ℕ) (hs : ∀ a, os a + S1x4096x512.size a ≤ S16x4096x512.size a)
    (hd : ∀ a, os a + S1x3584x512.size a ≤ S16x4096x512.size a) :
    iprop(dslotP (F := F) c arg14 os hd ∗ tailP c arg14 os hs hd) ⊢ slotP c arg14 os hs := by
  iintro ⟨⟨%f, H⟩, ⟨%g, H'⟩⟩
  ihave H'' := (pointsTo_join_subset (ℓ := arg14.view.loc (c : Thread nD τ)) (f := g) (g := f) (q := fullShare) (dslot_sub arg14 os hs hd)) $$ [H H']
  · isplitl [H]
    · iexact H
    · iexact H'
  iexists _; iexact H''

end Slots

/-! ## What a slot of the ring is doing -/

/-- A slot's state: waiting for a gate window, an up window, a down window, or free. -/
inductive St where
  | gate (p : Fin 28)
  | up (p : Fin 28)
  | down (d : Fin 32)
  | free

/-- The state a slot is in while copy number `n` (in issue order over the whole kernel) occupies it. -/
def chunkSt (n : ℕ) : St :=
  if h : 21 ≤ n ∧ n < 77 then (if n % 2 = 1 then .gate ⟨(n - 21) / 2, by omega⟩ else .up ⟨(n - 21) / 2, by omega⟩)
  else if h : 77 ≤ n ∧ n < 109 then .down ⟨n - 77, by omega⟩ else .free

/-- The sixteen copies from number `b` on, each at the slot its number says. -/
def tab (b : ℕ) (k : Fin 16) : St := chunkSt (b + (k.val + 16 - b % 16) % 16)

/-- The slot of copy number `n`. -/
def slotOf (n : ℕ) : Fin 16 := ⟨n % 16, Nat.mod_lt _ (by decide)⟩

theorem tab_here (b j : ℕ) (hj : j < 16) : tab b (slotOf (b + j)) = chunkSt (b + j) := by
  unfold tab slotOf; congr 2; simp only; omega
theorem tab_next (b j n : ℕ) (hj : j < n) (hn : n ≤ 16) : tab (b + n) (slotOf (b + j)) = chunkSt (b + j + 16) := by
  unfold tab slotOf; congr 1; simp only; omega
theorem tab_off (b n : ℕ) (hn : n ≤ 16) (k : Fin 16) (h : ∀ j < n, k ≠ slotOf (b + j)) : tab (b + n) k = tab b k := by
  unfold tab; congr 1
  have hk := k.isLt
  have hx : ¬ ((k.val + 16 - b % 16) % 16 < n) := fun hlt => h _ hlt (Fin.ext (by simp only [slotOf]; omega))
  omega

theorem cell_inb (k : Fin 16) : ∀ a, (![k.val] : Fin 1 → ℕ) a + S1.size a ≤ S16.size a := by revert k; decide +kernel
theorem slot_inb (k : Fin 16) : ∀ a, (![k.val, 0, 0] : Fin 3 → ℕ) a + S1x4096x512.size a ≤ S16x4096x512.size a := by revert k; decide +kernel
theorem dslot_inb (k : Fin 16) : ∀ a, (![k.val, 0, 0] : Fin 3 → ℕ) a + S1x3584x512.size a ≤ S16x4096x512.size a := by revert k; decide +kernel
theorem gwin_inb (p : Fin 28) : ∀ a, (![0, 512 * p.val] : Fin 2 → ℕ) a + S4096x512.size a ≤ S4096x14336.size a := by revert p; decide +kernel
theorem dwin_inb (d : Fin 32) : ∀ a, (![3584 * (d.val % 4), 512 * (d.val / 4)] : Fin 2 → ℕ) a + S3584x512.size a ≤ S14336x4096.size a := by revert d; decide +kernel

section Ring
variable (c : Dev nD) (arg3 : Memref sig .tc .hbm S4096x14336 .fp8e4m3) (arg5 : Memref sig .tc .hbm S4096x14336 .fp8e4m3)
  (arg7 : Memref sig .tc .hbm S14336x4096 .fp8e4m3) (arg14 : Memref sig .tc .vmem S16x4096x512 .fp8e4m3) (arg23 : DmaSems sig S16)
  (W3 : BufTy.Contents (Elt F) arg3.view.ty) (W5 : BufTy.Contents (Elt F) arg5.view.ty) (W7 : BufTy.Contents (Elt F) arg7.view.ty)

/-- Slot `k`'s share for reading a weight. -/
abbrev tok {s : Shape} (a : Memref sig .tc .hbm s .fp8e4m3) (W : BufTy.Contents (Elt F) a.view.ty) (k : Fin 16) : sProp 𝕄 :=
  (a.view.loc (c : Thread nD τ) ↦[a.view.set]{Transfers.shareTok fullShare 16 k} W)

/-- Slot `k`, its semaphore and its reading shares, in state `s`. -/
def ringAt (k : Fin 16) (s : St) : sProp 𝕄 := match s with
  | .gate p => iprop(gfl c arg14 arg23 arg3 W3 k ![k.val] (cell_inb k) ![k.val, 0, 0] (slot_inb k) ![0, 512 * p.val] (gwin_inb p)
      ∗ tok c arg5 W5 k ∗ tok c arg7 W7 k)
  | .up p => iprop(gfl c arg14 arg23 arg5 W5 k ![k.val] (cell_inb k) ![k.val, 0, 0] (slot_inb k) ![0, 512 * p.val] (gwin_inb p)
      ∗ tok c arg3 W3 k ∗ tok c arg7 W7 k)
  | .down d => iprop(dfl c arg14 arg23 arg7 W7 k ![k.val] (cell_inb k) ![k.val, 0, 0] (slot_inb k) (dslot_inb k)
      ![3584 * (d.val % 4), 512 * (d.val / 4)] (dwin_inb d) ∗ tok c arg3 W3 k ∗ tok c arg5 W5 k)
  | .free => iprop(semVal ((c : Thread nD τ), cellM arg23 ![k.val] (cell_inb k)) 0 ∗ slotP (F := F) c arg14 ![k.val, 0, 0] (slot_inb k)
      ∗ tok c arg3 W3 k ∗ tok c arg5 W5 k ∗ tok c arg7 W7 k)

end Ring

/-- `P`, put out of the way. -/
def held (P : sProp 𝕄) : sProp 𝕄 := P
omit [FloatOps F] in
theorem held_in (P : sProp 𝕄) : P ⊢ held P := by unfold held; exact Entails.refl _
omit [FloatOps F] in
theorem held_out (P : sProp 𝕄) : held P ⊢ P := by unfold held; exact Entails.refl _

/-! ## The offsets the printed loops compute, in closed form -/

theorem t2_trips : k0_t2_loop.trips = 28 := by decide +kernel
theorem t1_trips : k0_t1_loop.trips = 7 := by decide +kernel
theorem t3_trips : k0_t3_loop.trips = 28 := by decide +kernel
theorem t4_trips : k0_t4_loop.trips = 8 := by decide +kernel
theorem t5_trips : k0_t5_loop.trips = 8 := by decide +kernel

theorem off6_21 : ∀ p : Fin k0_t2_loop.trips, ![(slotOf (21 + 2 * p.val)).val] = k0_off6 p 21#32 := by decide +kernel
theorem off6_22 : ∀ p : Fin k0_t2_loop.trips, ![(slotOf (21 + 2 * p.val + 1)).val] = k0_off6 p 22#32 := by decide +kernel
theorem off7_21 : ∀ p : Fin k0_t2_loop.trips, ![(slotOf (21 + 2 * p.val)).val, 0, 0] = k0_off7 p 21#32 := by decide +kernel
theorem off7_22 : ∀ p : Fin k0_t2_loop.trips, ![(slotOf (21 + 2 * p.val + 1)).val, 0, 0] = k0_off7 p 22#32 := by decide +kernel
theorem off8 : ∀ p : Fin k0_t2_loop.trips, ![0, 512 * p.val] = k0_off8 p := by decide +kernel
theorem off9_21 : ∀ p : Fin k0_t2_loop.trips, k0_off7 p 21#32 = k0_off9 p 21#32 := by decide +kernel
theorem off9_22 : ∀ p : Fin k0_t2_loop.trips, k0_off7 p 22#32 = k0_off9 p 22#32 := by decide +kernel
theorem off10 : ∀ p : Fin k0_t2_loop.trips, k0_off10 p = ![0, 512 * p.val] := by decide +kernel
theorem off11 : ∀ p : Fin k0_t2_loop.trips, k0_off11 p = ![0, 512 * p.val] := by decide +kernel
theorem off12_21 : ∀ p : Fin k0_t2_loop.trips, k0_cond1 p = 1#1 → k0_off6 p 21#32 = k0_off12 p 21#32 := by decide +kernel
theorem off12_22 : ∀ p : Fin k0_t2_loop.trips, k0_cond1 p = 1#1 → k0_off6 p 22#32 = k0_off12 p 22#32 := by decide +kernel
theorem off13_21 : ∀ p : Fin k0_t2_loop.trips, k0_cond1 p = 1#1 → k0_off7 p 21#32 = k0_off13 p 21#32 := by decide +kernel
theorem off13_22 : ∀ p : Fin k0_t2_loop.trips, k0_cond1 p = 1#1 → k0_off7 p 22#32 = k0_off13 p 22#32 := by decide +kernel
theorem off14 : ∀ p : Fin k0_t2_loop.trips, k0_cond1 p = 1#1 → k0_off14 p = ![0, 512 * (p.val + 8)] := by decide +kernel
theorem off15_0 : ∀ p : Fin k0_t2_loop.trips, k0_cond2 p = 1#1 → k0_off6 p 21#32 = k0_off15 p 0#32 := by decide +kernel
theorem off15_1 : ∀ p : Fin k0_t2_loop.trips, k0_cond2 p = 1#1 → k0_off6 p 22#32 = k0_off15 p 1#32 := by decide +kernel
theorem off16_0 : ∀ p : Fin k0_t2_loop.trips, k0_cond2 p = 1#1 → k0_off7 p 21#32 = k0_off16 p 0#32 := by decide +kernel
theorem off16_1 : ∀ p : Fin k0_t2_loop.trips, k0_cond2 p = 1#1 → k0_off7 p 22#32 = k0_off16 p 1#32 := by decide +kernel
theorem off17_0 : ∀ p : Fin k0_t2_loop.trips, k0_cond2 p = 1#1 → k0_off17 p 0#32 = ![3584 * ((2 * p.val - 40) % 4), 512 * ((2 * p.val - 40) / 4)] := by decide +kernel
theorem off17_1 : ∀ p : Fin k0_t2_loop.trips, k0_cond2 p = 1#1 → k0_off17 p 1#32 = ![3584 * ((2 * p.val - 39) % 4), 512 * ((2 * p.val - 39) / 4)] := by decide +kernel
theorem cond1_iff : ∀ p : Fin k0_t2_loop.trips, k0_cond1 p = 1#1 ↔ p.val < 20 := by decide +kernel
theorem cond2_iff : ∀ p : Fin k0_t2_loop.trips, k0_cond2 p = 1#1 ↔ 20 ≤ p.val := by decide +kernel
theorem off18 : ∀ p : Fin k0_t3_loop.trips, k0_off18 p = ![0, 512 * p.val] := by decide +kernel

end Cert.Proof.KernelIdeal
-- ==== Proof.IT2.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBase
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The gate/up loop: what one pass computes -/

section Values
variable (Av : Vec F S224x128 .f32) (Cv : Vec F S224x4096 .fp8e4m3) (w3 w5 : Vec F S4096x14336 .fp8e4m3) (x4 x6 : Vec F S1x14336 .f32)

/-- The activations pass `p` stores. -/
def zval (p : Fin k0_t2_loop.trips) : FVec F S224x512 .f32 :=
  k0_pay8 (k0_pay5 Av) Cv (k0_pay6 (gslab w3 p)) (constant S224x512 .f32 0#32)
    (VecWindow.window x4 (k0_off10 p) S1x512.size (k0_off10_inb p)) Cv (gslab w5 p) (VecWindow.window x6 (k0_off10 p) S1x512.size (k0_off10_inb p))
/-- The running lane maxima after pass `p`, from those before it. -/
def mnext (p : Fin k0_t2_loop.trips) (m : Vec F S224x128 .f32) : FVec F S224x128 .f32 :=
  k0_pay9 (k0_pay5 Av) Cv (k0_pay6 (gslab w3 p)) (constant S224x512 .f32 0#32)
    (VecWindow.window x4 (k0_off10 p) S1x512.size (k0_off10_inb p)) Cv (gslab w5 p) (VecWindow.window x6 (k0_off10 p) S1x512.size (k0_off10_inb p)) m
/-- The running lane maxima before pass `p`. -/
def mval : ℕ → Vec F S224x128 .f32
  | 0 => k0_pay23
  | p + 1 => if h : p < k0_t2_loop.trips then mnext Av Cv w3 w5 x4 x6 ⟨p, h⟩ (mval p) else mval p
end Values

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (C : BufTy.Contents (Elt F) arg16.view.ty) (A : BufTy.Contents (Elt F) arg21.view.ty) (X4 : BufTy.Contents (Elt F) arg4.view.ty) (X6 : BufTy.Contents (Elt F) arg6.view.ty)

/-- What the gate/up loop reads and writes besides the ring. -/
abbrev t2Env (M : BufTy.Contents (Elt F) arg22.view.ty) (Z : BufTy.Contents (Elt F) arg15.view.ty) : sProp 𝕄 :=
  iprop((arg16.view.loc (c : Thread nD τ) ↦[arg16.view.set]{fullShare} C)
    ∗ (arg21.view.loc (c : Thread nD τ) ↦[arg21.view.set]{fullShare} A)
    ∗ (arg22.view.loc (c : Thread nD τ) ↦[arg22.view.set]{fullShare} M)
    ∗ (arg15.view.loc (c : Thread nD τ) ↦[arg15.view.set]{fullShare} Z)
    ∗ (arg4.view.loc (c : Thread nD τ) ↦[arg4.view.set]{fullShare} X4)
    ∗ (arg6.view.loc (c : Thread nD τ) ↦[arg6.view.set]{fullShare} X6))

/-- One pass's effect on the activations and the maxima. -/
abbrev t2Next (p : Fin k0_t2_loop.trips) (M : BufTy.Contents (Elt F) arg22.view.ty) (Z : BufTy.Contents (Elt F) arg15.view.ty) : sProp 𝕄 :=
  iprop((∃ (M' : BufTy.Contents (Elt F) arg22.view.ty) (Z' : BufTy.Contents (Elt F) arg15.view.ty), t2Env c arg4 arg6 arg15 arg16 arg21 arg22 C A X4 X6 M' Z'
    ∗ ⌜arg22.view.read (Elt F) M' = mnext (arg21.view.read (Elt F) A) (arg16.view.read (Elt F) C) (arg3.view.read (Elt F) W3) (arg5.view.read (Elt F) W5) (arg4.view.read (Elt F) X4) (arg6.view.read (Elt F) X6) p (arg22.view.read (Elt F) M)
      ∧ arg15.view.read (Elt F) Z' = VecWindow.put (arg15.view.read (Elt F) Z) (k0_off11 p) S224x512.size (zval (arg21.view.read (Elt F) A) (arg16.view.read (Elt F) C) (arg3.view.read (Elt F) W3) (arg5.view.read (Elt F) W5) (arg4.view.read (Elt F) X4) (arg6.view.read (Elt F) X6) p)⌝)
    ∗ ∃ W, owes (c : Thread nD τ) 0 W)

set_option maxHeartbeats 4000000 in
/-- A pass that goes on with gate and up windows. -/
theorem t2_more (M : BufTy.Contents (Elt F) arg22.view.ty) (Z : BufTy.Contents (Elt F) arg15.view.ty) (W : Waits sig Unit) (p : Fin k0_t2_loop.trips)
   (v175 : Vec F S112x128 .f32) (v178 : IVec S112x128 1) (v179 : FVec F S112x128 .f32) (k0 k1 : Fin 16) (hp : k0_cond1 p = 1#1) (hp2 : ¬ k0_cond2 p = 1#1)  :
  iprop(gfl c arg14 arg23 arg3 W3 k0 (k0_off6 p 21#32) (k0_off6_inb p 0) (k0_off7 p 21#32) (k0_off7_inb p 0) (k0_off8 p) (k0_off8_inb p)
    ∗ gfl c arg14 arg23 arg5 W5 k1 (k0_off6 p 22#32) (k0_off6_inb p 1) (k0_off7 p 22#32) (k0_off7_inb p 1) (k0_off8 p) (k0_off8_inb p)
    ∗ t2Env c arg4 arg6 arg15 arg16 arg21 arg22 C A X4 X6 M Z
    ∗ owes (c : Thread nD τ) 0 W)
   ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v175 v178 v179 p ())
    (fun _ => iprop(gfl c arg14 arg23 arg3 W3 k0 (k0_off12 p 21#32) (k0_off12_inb p hp 0) (k0_off13 p 21#32) (k0_off13_inb p hp 0) (k0_off14 p) (k0_off14_inb p hp)
      ∗ gfl c arg14 arg23 arg5 W5 k1 (k0_off12 p 22#32) (k0_off12_inb p hp 1) (k0_off13 p 22#32) (k0_off13_inb p hp 1) (k0_off14 p) (k0_off14_inb p hp)
      ∗ t2Next c arg3 arg4 arg5 arg6 arg15 arg16 arg21 arg22 W3 W5 C A X4 X6 p M Z)) := by
  iintro ⟨⟨⟨%g1, Hf1⟩, Hr1⟩, ⟨⟨%g2, Hf2⟩, Hr2⟩, ⟨HC, HA, HM, HZ, H4, H6⟩, HO⟩
  delta gwin slotM cellM
  unfold k0_t2_body
  sl_exec
  ihave Hd1 := slot_move c arg14 (off13_21 p hp) (k0_off7_inb p 0) (k0_off13_inb p hp 0) _ $$ Hf1_dst
  ihave Hd2 := slot_move c arg14 (off13_22 p hp) (k0_off7_inb p 1) (k0_off13_inb p hp 1) _ $$ Hf2_dst
  ihave Hf1 := cell_move c arg23 (off12_21 p hp) (k0_off6_inb p 0) (k0_off12_inb p hp 0) $$ Hf1
  ihave Hf2 := cell_move c arg23 (off12_22 p hp) (k0_off6_inb p 1) (k0_off12_inb p hp 1) $$ Hf2
  icases Hd1 with ⟨%g3, Hd1⟩
  icases Hd2 with ⟨%g4, Hd2⟩
  delta slotM cellM
  sl_exec
  sl_step
  isplitl [Hf1 Hr1]
  · isplitl [Hf1]
    · iexists g3; iexact Hf1
    · iexact Hr1
  isplitl [Hf2 Hr2]
  · isplitl [Hf2]
    · iexists g4; iexact Hf2
    · iexact Hr2
  isplitr [HO]
  · iexists _; iexists _
    isplitl [HC HA HM HZ H4 H6]
    · isplitl [HC]; · iexact HC
      isplitl [HA]; · iexact HA
      isplitl [HM]; · iexact HM
      isplitl [HZ]; · iexact HZ
      isplitl [H4]; · iexact H4
      iexact H6
    · ipureintro
      constructor
      · refine (View.read_writes_full _ _ _ _ _).trans ?_
        unfold t2_more.sl.r_3 t2_more.sl.r_2 t2_more.sl.r_1 t2_more.sl.r t2_more.sl.v317 t2_more.sl.v303 t2_more.sl.cst_252
        rw [slot_readAt arg14 (off9_21 p), slot_readAt arg14 (off9_22 p)]
        rw [View.readAt_full arg21.view A, View.readAt_full arg16.view C, View.readAt_full arg22.view M]
        rfl
      · refine (View.read_writes_cons_put _ _ _ _ _ rfl).trans ?_
        unfold t2_more.sl.r_2 t2_more.sl.r_1 t2_more.sl.r t2_more.sl.v317 t2_more.sl.v303 t2_more.sl.cst_252
        rw [slot_readAt arg14 (off9_21 p), slot_readAt arg14 (off9_22 p)]
        rw [View.readAt_full arg21.view A, View.readAt_full arg16.view C]
        rfl
  · iexists _; iexact HO

set_option maxHeartbeats 4000000 in
/-- A pass that goes on with windows of the down weights. -/
theorem t2_last (M : BufTy.Contents (Elt F) arg22.view.ty) (Z : BufTy.Contents (Elt F) arg15.view.ty) (W : Waits sig Unit) (p : Fin k0_t2_loop.trips)
   (v175 : Vec F S112x128 .f32) (v178 : IVec S112x128 1) (v179 : FVec F S112x128 .f32) (k0 k1 : Fin 16) (hp : k0_cond2 p = 1#1) (hp1 : ¬ k0_cond1 p = 1#1)  :
  iprop(gfl c arg14 arg23 arg3 W3 k0 (k0_off6 p 21#32) (k0_off6_inb p 0) (k0_off7 p 21#32) (k0_off7_inb p 0) (k0_off8 p) (k0_off8_inb p)
    ∗ gfl c arg14 arg23 arg5 W5 k1 (k0_off6 p 22#32) (k0_off6_inb p 1) (k0_off7 p 22#32) (k0_off7_inb p 1) (k0_off8 p) (k0_off8_inb p)
    ∗ tok c arg7 W7 k0 ∗ tok c arg7 W7 k1
    ∗ t2Env c arg4 arg6 arg15 arg16 arg21 arg22 C A X4 X6 M Z
    ∗ owes (c : Thread nD τ) 0 W)
   ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v175 v178 v179 p ())
    (fun _ => iprop(dfl c arg14 arg23 arg7 W7 k0 (k0_off15 p 0#32) (k0_off15_inb p hp 0) (k0_off16 p 0#32) (off16_0 p hp ▸ k0_off7_inb p 0) (k0_off16_inb p hp 0) (k0_off17 p 0#32) (k0_off17_inb p hp 0)
      ∗ dfl c arg14 arg23 arg7 W7 k1 (k0_off15 p 1#32) (k0_off15_inb p hp 1) (k0_off16 p 1#32) (off16_1 p hp ▸ k0_off7_inb p 1) (k0_off16_inb p hp 1) (k0_off17 p 1#32) (k0_off17_inb p hp 1)
      ∗ tok c arg3 W3 k0 ∗ tok c arg5 W5 k1
      ∗ t2Next c arg3 arg4 arg5 arg6 arg15 arg16 arg21 arg22 W3 W5 C A X4 X6 p M Z)) := by
  iintro ⟨⟨⟨%g1, Hf1⟩, Hr1⟩, ⟨⟨%g2, Hf2⟩, Hr2⟩, HT0, HT1, ⟨HC, HA, HM, HZ, H4, H6⟩, HO⟩
  delta gwin slotM cellM
  unfold k0_t2_body
  ihave HT1 := held_in _ $$ HT1
  sl_exec
  ihave Hd1 := slot_move c arg14 (off16_0 p hp) (k0_off7_inb p 0) (off16_0 p hp ▸ k0_off7_inb p 0) _ $$ Hf1_dst
  ihave Hd2 := slot_move c arg14 (off16_1 p hp) (k0_off7_inb p 1) (off16_1 p hp ▸ k0_off7_inb p 1) _ $$ Hf2_dst
  ihave Hf1 := cell_move c arg23 (off15_0 p hp) (k0_off6_inb p 0) (k0_off15_inb p hp 0) $$ Hf1
  ihave Hf2 := cell_move c arg23 (off15_1 p hp) (k0_off6_inb p 1) (k0_off15_inb p hp 1) $$ Hf2
  ihave Hd1 := slot_split c arg14 (k0_off16 p 0#32) (off16_0 p hp ▸ k0_off7_inb p 0) (k0_off16_inb p hp 0) $$ Hd1
  ihave Hd2 := slot_split c arg14 (k0_off16 p 1#32) (off16_1 p hp ▸ k0_off7_inb p 1) (k0_off16_inb p hp 1) $$ Hd2
  icases Hd1 with ⟨⟨%g3, Hd1⟩, Ht1⟩
  icases Hd2 with ⟨⟨%g4, Hd2⟩, Ht2⟩
  ihave Hd2 := held_in _ $$ Hd2
  delta dslotM slotM cellM
  sl_exec
  ihave HT0 := held_in _ $$ HT0
  ihave HT1 := held_out _ $$ HT1
  ihave Hd2 := held_out _ $$ Hd2
  sl_exec
  ihave HT0 := held_out _ $$ HT0
  sl_step
  isplitl [Hf1 HT0 Ht1]
  · isplitl [Hf1]
    · iexists g3; iexact Hf1
    isplitl [HT0]
    · iexact HT0
    · iexact Ht1
  isplitl [Hf2 HT1 Ht2]
  · isplitl [Hf2]
    · iexists g4; iexact Hf2
    isplitl [HT1]
    · iexact HT1
    · iexact Ht2
  isplitl [Hr1]; · iexact Hr1
  isplitl [Hr2]; · iexact Hr2
  isplitr [HO]
  · iexists _; iexists _
    isplitl [HC HA HM HZ H4 H6]
    · isplitl [HC]; · iexact HC
      isplitl [HA]; · iexact HA
      isplitl [HM]; · iexact HM
      isplitl [HZ]; · iexact HZ
      isplitl [H4]; · iexact H4
      iexact H6
    · ipureintro
      constructor
      · refine (View.read_writes_full _ _ _ _ _).trans ?_
        unfold t2_last.sl.r_3 t2_last.sl.r_2 t2_last.sl.r_1 t2_last.sl.r t2_last.sl.v317 t2_last.sl.v303 t2_last.sl.cst_252
        rw [slot_readAt arg14 (off9_21 p), slot_readAt arg14 (off9_22 p)]
        rw [View.readAt_full arg21.view A, View.readAt_full arg16.view C, View.readAt_full arg22.view M]
        rfl
      · refine (View.read_writes_cons_put _ _ _ _ _ rfl).trans ?_
        unfold t2_last.sl.r_2 t2_last.sl.r_1 t2_last.sl.r t2_last.sl.v317 t2_last.sl.v303 t2_last.sl.cst_252
        rw [slot_readAt arg14 (off9_21 p), slot_readAt arg14 (off9_22 p)]
        rw [View.readAt_full arg21.view A, View.readAt_full arg16.view C]
        rfl
  · iexists _; iexact HO

end Cert.Proof.KernelIdeal
-- ==== Proof.IT2Loop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IT2
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The gate/up loop: its invariant and its step -/

theorem t2_lt (p : Fin k0_t2_loop.trips) : p.val < 28 := lt_of_lt_of_eq p.isLt t2_trips
theorem pair_eq {I : Type} (i j : I) (Φ : I → sProp 𝕄) : bigSepL [i, j] Φ = iprop(Φ i ∗ Φ j) := rfl
theorem chunk_gate (p : Fin 28) : chunkSt (21 + 2 * p.val) = .gate p := by
  have := p.isLt
  unfold chunkSt; rw [dif_pos (by omega), if_pos (by omega)]; congr 1; apply Fin.ext; simp only; omega
theorem chunk_up (p : Fin 28) : chunkSt (21 + 2 * p.val + 1) = .up p := by
  have := p.isLt
  unfold chunkSt; rw [dif_pos (by omega), if_neg (by omega)]; congr 1; apply Fin.ext; simp only; omega
theorem chunk_down (n : ℕ) (h : 77 ≤ n) (h' : n < 109) : chunkSt n = .down ⟨n - 77, by omega⟩ := by
  unfold chunkSt; rw [dif_neg (by omega), dif_pos ⟨h, h'⟩]
theorem chunk_down' (n : ℕ) (d : Fin 32) (h : n = 77 + d.val) : chunkSt n = .down d := by
  subst h; have := d.isLt
  rw [chunk_down _ (by omega) (by omega)]; congr 1; apply Fin.ext; simp only; omega
theorem t2_lt0 (p : Fin k0_t2_loop.trips) : 2 * p.val - 40 < 32 := by have := t2_lt p; omega
theorem t2_lt1 (p : Fin k0_t2_loop.trips) : 2 * p.val - 39 < 32 := by have := t2_lt p; omega
theorem chunk_free (n : ℕ) (h : 109 ≤ n) : chunkSt n = .free := by
  unfold chunkSt; rw [dif_neg (by omega), dif_neg (by omega)]

theorem tab_gate (p : Fin k0_t2_loop.trips) : tab (21 + 2 * p.val) (slotOf (21 + 2 * p.val)) = .gate ⟨p.val, t2_trips ▸ p.isLt⟩ :=
  (tab_here (21 + 2 * p.val) 0 (by omega)).trans (chunk_gate ⟨p.val, t2_trips ▸ p.isLt⟩)
theorem tab_up (p : Fin k0_t2_loop.trips) : tab (21 + 2 * p.val) (slotOf (21 + 2 * p.val + 1)) = .up ⟨p.val, t2_trips ▸ p.isLt⟩ :=
  (tab_here (21 + 2 * p.val) 1 (by omega)).trans (chunk_up ⟨p.val, t2_trips ▸ p.isLt⟩)
theorem tab_gate' (p : Fin k0_t2_loop.trips) (h : p.val < 20) : tab (21 + 2 * (p.val + 1)) (slotOf (21 + 2 * p.val)) = .gate ⟨p.val + 8, by omega⟩ :=
  (tab_next (21 + 2 * p.val) 0 2 (by omega) (by omega)).trans ((congrArg chunkSt (by simp only; omega)).trans (chunk_gate ⟨p.val + 8, by omega⟩))
theorem tab_up' (p : Fin k0_t2_loop.trips) (h : p.val < 20) : tab (21 + 2 * (p.val + 1)) (slotOf (21 + 2 * p.val + 1)) = .up ⟨p.val + 8, by omega⟩ :=
  (tab_next (21 + 2 * p.val) 1 2 (by omega) (by omega)).trans ((congrArg chunkSt (by simp only; omega)).trans (chunk_up ⟨p.val + 8, by omega⟩))
theorem tab_down0 (p : Fin k0_t2_loop.trips) (h : 20 ≤ p.val) : tab (21 + 2 * (p.val + 1)) (slotOf (21 + 2 * p.val))
    = .down ⟨2 * p.val - 40, t2_lt0 p⟩ :=
  (tab_next (21 + 2 * p.val) 0 2 (by omega) (by omega)).trans (chunk_down' _ ⟨2 * p.val - 40, t2_lt0 p⟩ (by show 21 + 2 * p.val + 0 + 16 = 77 + (2 * p.val - 40); omega))
theorem tab_down1 (p : Fin k0_t2_loop.trips) (h : 20 ≤ p.val) : tab (21 + 2 * (p.val + 1)) (slotOf (21 + 2 * p.val + 1))
    = .down ⟨2 * p.val - 39, t2_lt1 p⟩ :=
  (tab_next (21 + 2 * p.val) 1 2 (by omega) (by omega)).trans (chunk_down' _ ⟨2 * p.val - 39, t2_lt1 p⟩ (by show 21 + 2 * p.val + 1 + 16 = 77 + (2 * p.val - 39); omega))
variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (C : BufTy.Contents (Elt F) arg16.view.ty) (A : BufTy.Contents (Elt F) arg21.view.ty) (X4 : BufTy.Contents (Elt F) arg4.view.ty) (X6 : BufTy.Contents (Elt F) arg6.view.ty)

/-- Before pass `p`, the slot of its gate window. -/
theorem ring_gate (p : Fin k0_t2_loop.trips) :
    ringAt c arg3 arg5 arg7 arg14 arg23 W3 W5 W7 (slotOf (21 + 2 * p.val)) (tab (21 + 2 * p.val) (slotOf (21 + 2 * p.val)))
    = iprop(gfl c arg14 arg23 arg3 W3 (slotOf (21 + 2 * p.val)) (k0_off6 p 21#32) (k0_off6_inb p 0) (k0_off7 p 21#32) (k0_off7_inb p 0) (k0_off8 p) (k0_off8_inb p)
      ∗ tok c arg5 W5 (slotOf (21 + 2 * p.val)) ∗ tok c arg7 W7 (slotOf (21 + 2 * p.val))) := by
  rw [tab_gate p]; unfold ringAt; dsimp only
  rw [gfl_congr c arg14 arg23 arg3 W3 _ (off6_21 p) (off7_21 p) (off8 p)]
/-- Before pass `p`, the slot of its up window. -/
theorem ring_up (p : Fin k0_t2_loop.trips) :
    ringAt c arg3 arg5 arg7 arg14 arg23 W3 W5 W7 (slotOf (21 + 2 * p.val + 1)) (tab (21 + 2 * p.val) (slotOf (21 + 2 * p.val + 1)))
    = iprop(gfl c arg14 arg23 arg5 W5 (slotOf (21 + 2 * p.val + 1)) (k0_off6 p 22#32) (k0_off6_inb p 1) (k0_off7 p 22#32) (k0_off7_inb p 1) (k0_off8 p) (k0_off8_inb p)
      ∗ tok c arg3 W3 (slotOf (21 + 2 * p.val + 1)) ∗ tok c arg7 W7 (slotOf (21 + 2 * p.val + 1))) := by
  rw [tab_up p]; unfold ringAt; dsimp only
  rw [gfl_congr c arg14 arg23 arg5 W5 _ (off6_22 p) (off7_22 p) (off8 p)]
/-- After an early pass, the slot of its gate window. -/
theorem ring_gate' (p : Fin k0_t2_loop.trips) (hp : k0_cond1 p = 1#1) :
    ringAt c arg3 arg5 arg7 arg14 arg23 W3 W5 W7 (slotOf (21 + 2 * p.val)) (tab (21 + 2 * (p.val + 1)) (slotOf (21 + 2 * p.val)))
    = iprop(gfl c arg14 arg23 arg3 W3 (slotOf (21 + 2 * p.val)) (k0_off12 p 21#32) (k0_off12_inb p hp 0) (k0_off13 p 21#32) (k0_off13_inb p hp 0) (k0_off14 p) (k0_off14_inb p hp)
      ∗ tok c arg5 W5 (slotOf (21 + 2 * p.val)) ∗ tok c arg7 W7 (slotOf (21 + 2 * p.val))) := by
  rw [tab_gate' p ((cond1_iff p).1 hp)]; unfold ringAt; dsimp only
  rw [gfl_congr c arg14 arg23 arg3 W3 _ ((off6_21 p).trans (off12_21 p hp)) ((off7_21 p).trans (off13_21 p hp)) (off14 p hp).symm]
/-- After an early pass, the slot of its up window. -/
theorem ring_up' (p : Fin k0_t2_loop.trips) (hp : k0_cond1 p = 1#1) :
    ringAt c arg3 arg5 arg7 arg14 arg23 W3 W5 W7 (slotOf (21 + 2 * p.val + 1)) (tab (21 + 2 * (p.val + 1)) (slotOf (21 + 2 * p.val + 1)))
    = iprop(gfl c arg14 arg23 arg5 W5 (slotOf (21 + 2 * p.val + 1)) (k0_off12 p 22#32) (k0_off12_inb p hp 1) (k0_off13 p 22#32) (k0_off13_inb p hp 1) (k0_off14 p) (k0_off14_inb p hp)
      ∗ tok c arg3 W3 (slotOf (21 + 2 * p.val + 1)) ∗ tok c arg7 W7 (slotOf (21 + 2 * p.val + 1))) := by
  rw [tab_up' p ((cond1_iff p).1 hp)]; unfold ringAt; dsimp only
  rw [gfl_congr c arg14 arg23 arg5 W5 _ ((off6_22 p).trans (off12_22 p hp)) ((off7_22 p).trans (off13_22 p hp)) (off14 p hp).symm]
/-- After a late pass, the slot of its gate window. -/
theorem ring_down0 (p : Fin k0_t2_loop.trips) (hp : k0_cond2 p = 1#1) :
    ringAt c arg3 arg5 arg7 arg14 arg23 W3 W5 W7 (slotOf (21 + 2 * p.val)) (tab (21 + 2 * (p.val + 1)) (slotOf (21 + 2 * p.val)))
    = iprop(dfl c arg14 arg23 arg7 W7 (slotOf (21 + 2 * p.val)) (k0_off15 p 0#32) (k0_off15_inb p hp 0) (k0_off16 p 0#32) (off16_0 p hp ▸ k0_off7_inb p 0) (k0_off16_inb p hp 0) (k0_off17 p 0#32) (k0_off17_inb p hp 0)
      ∗ tok c arg3 W3 (slotOf (21 + 2 * p.val)) ∗ tok c arg5 W5 (slotOf (21 + 2 * p.val))) := by
  rw [tab_down0 p ((cond2_iff p).1 hp)]; unfold ringAt; dsimp only
  rw [dfl_congr c arg14 arg23 arg7 W7 _ ((off6_21 p).trans (off15_0 p hp)) ((off7_21 p).trans (off16_0 p hp)) (off17_0 p hp).symm]
/-- After a late pass, the slot of its up window. -/
theorem ring_down1 (p : Fin k0_t2_loop.trips) (hp : k0_cond2 p = 1#1) :
    ringAt c arg3 arg5 arg7 arg14 arg23 W3 W5 W7 (slotOf (21 + 2 * p.val + 1)) (tab (21 + 2 * (p.val + 1)) (slotOf (21 + 2 * p.val + 1)))
    = iprop(dfl c arg14 arg23 arg7 W7 (slotOf (21 + 2 * p.val + 1)) (k0_off15 p 1#32) (k0_off15_inb p hp 1) (k0_off16 p 1#32) (off16_1 p hp ▸ k0_off7_inb p 1) (k0_off16_inb p hp 1) (k0_off17 p 1#32) (k0_off17_inb p hp 1)
      ∗ tok c arg3 W3 (slotOf (21 + 2 * p.val + 1)) ∗ tok c arg5 W5 (slotOf (21 + 2 * p.val + 1))) := by
  rw [tab_down1 p ((cond2_iff p).1 hp)]; unfold ringAt; dsimp only
  rw [dfl_congr c arg14 arg23 arg7 W7 _ ((off6_22 p).trans (off15_1 p hp)) ((off7_22 p).trans (off16_1 p hp)) (off17_1 p hp).symm]

/-- The state before pass `k` of the gate/up loop. -/
def t2At (k : ℕ) : sProp 𝕄 :=
  iprop(Ring.AtW (σ := fun _ => St) (ringAt (F := F) c arg3 arg5 arg7 arg14 arg23 W3 W5 W7) (tab (21 + 2 * k))
    ∗ (∃ (M : BufTy.Contents (Elt F) arg22.view.ty) (Z : BufTy.Contents (Elt F) arg15.view.ty), t2Env c arg4 arg6 arg15 arg16 arg21 arg22 C A X4 X6 M Z
      ∗ ⌜arg22.view.read (Elt F) M = mval (arg21.view.read (Elt F) A) (arg16.view.read (Elt F) C) (arg3.view.read (Elt F) W3) (arg5.view.read (Elt F) W5) (arg4.view.read (Elt F) X4) (arg6.view.read (Elt F) X6) k
        ∧ ∀ q : Fin k0_t2_loop.trips, q.val < k → VecWindow.window (arg15.view.read (Elt F) Z) (k0_off11 q) S224x512.size (k0_off11_inb q) = zval (arg21.view.read (Elt F) A) (arg16.view.read (Elt F) C) (arg3.view.read (Elt F) W3) (arg5.view.read (Elt F) W5) (arg4.view.read (Elt F) X4) (arg6.view.read (Elt F) X6) q⌝)
    ∗ ∃ W, owes (c : Thread nD τ) 0 W)

theorem t2_slots (p : ℕ) : [slotOf (21 + 2 * p), slotOf (21 + 2 * p + 1)].Nodup := by
  have : slotOf (21 + 2 * p) ≠ slotOf (21 + 2 * p + 1) := fun h => by
    have := congrArg Fin.val h; simp only [slotOf] at this; omega
  simp [this]
theorem t2_away (p : ℕ) (k : Fin 16) (hk : k ∉ [slotOf (21 + 2 * p), slotOf (21 + 2 * p + 1)]) : tab (21 + 2 * (p + 1)) k = tab (21 + 2 * p) k := by
  simp only [List.mem_cons, List.not_mem_nil, or_false, not_or] at hk
  refine tab_off (21 + 2 * p) 2 (by omega) k fun j hj => ?_
  obtain rfl | rfl : j = 0 ∨ j = 1 := by omega
  · exact hk.1
  · exact hk.2

omit [FloatOps F] in
/-- Windows of the activations written by different passes do not meet. -/
theorem off11_window {α : Type} (z : S224x14336.Idx → α) (p q : Fin k0_t2_loop.trips) (h : q.val ≠ p.val) (w) :
    VecWindow.window (VecWindow.put z (k0_off11 p) S224x512.size w) (k0_off11 q) S224x512.size (k0_off11_inb q)
      = VecWindow.window z (k0_off11 q) S224x512.size (k0_off11_inb q) := by
  refine VecWindow.window_put_of_disjoint _ _ _ _ _ _ _ (1 : Fin 2) ?_
  rw [off11 p, off11 q]
  show 512 * q.val + 512 ≤ 512 * p.val ∨ 512 * p.val + 512 ≤ 512 * q.val
  omega

/-- One pass's facts make the next pass's. -/
theorem t2_facts (p : Fin k0_t2_loop.trips) (M M' : BufTy.Contents (Elt F) arg22.view.ty) (Z Z' : BufTy.Contents (Elt F) arg15.view.ty)
    (h : arg22.view.read (Elt F) M = mval (arg21.view.read (Elt F) A) (arg16.view.read (Elt F) C) (arg3.view.read (Elt F) W3) (arg5.view.read (Elt F) W5) (arg4.view.read (Elt F) X4) (arg6.view.read (Elt F) X6) p.val
        ∧ ∀ q : Fin k0_t2_loop.trips, q.val < p.val → VecWindow.window (arg15.view.read (Elt F) Z) (k0_off11 q) S224x512.size (k0_off11_inb q) = zval (arg21.view.read (Elt F) A) (arg16.view.read (Elt F) C) (arg3.view.read (Elt F) W3) (arg5.view.read (Elt F) W5) (arg4.view.read (Elt F) X4) (arg6.view.read (Elt F) X6) q)
    (h' : arg22.view.read (Elt F) M' = mnext (arg21.view.read (Elt F) A) (arg16.view.read (Elt F) C) (arg3.view.read (Elt F) W3) (arg5.view.read (Elt F) W5) (arg4.view.read (Elt F) X4) (arg6.view.read (Elt F) X6) p (arg22.view.read (Elt F) M)
      ∧ arg15.view.read (Elt F) Z' = VecWindow.put (arg15.view.read (Elt F) Z) (k0_off11 p) S224x512.size (zval (arg21.view.read (Elt F) A) (arg16.view.read (Elt F) C) (arg3.view.read (Elt F) W3) (arg5.view.read (Elt F) W5) (arg4.view.read (Elt F) X4) (arg6.view.read (Elt F) X6) p)) :
    arg22.view.read (Elt F) M' = mval (arg21.view.read (Elt F) A) (arg16.view.read (Elt F) C) (arg3.view.read (Elt F) W3) (arg5.view.read (Elt F) W5) (arg4.view.read (Elt F) X4) (arg6.view.read (Elt F) X6) (p.val + 1)
      ∧ ∀ q : Fin k0_t2_loop.trips, q.val < p.val + 1 → VecWindow.window (arg15.view.read (Elt F) Z') (k0_off11 q) S224x512.size (k0_off11_inb q) = zval (arg21.view.read (Elt F) A) (arg16.view.read (Elt F) C) (arg3.view.read (Elt F) W3) (arg5.view.read (Elt F) W5) (arg4.view.read (Elt F) X4) (arg6.view.read (Elt F) X6) q := by
  refine ⟨?_, fun q hq => ?_⟩
  · rw [h'.1, h.1]
    show _ = (if h : p.val < k0_t2_loop.trips then _ else _)
    rw [dif_pos p.isLt]
  · rw [h'.2]
    by_cases e : q.val = p.val
    · obtain rfl : q = p := Fin.ext e
      exact VecWindow.window_put_same _ _ _ _ _
    · rw [off11_window _ p q e]; exact h.2 q (by omega)

/-- One pass of the gate/up loop. -/
theorem t2_step (v175 : Vec F S112x128 .f32) (v178 : IVec S112x128 1) (v179 : FVec F S112x128 .f32) (p : Fin k0_t2_loop.trips) (a : Unit) :
    t2At c arg3 arg4 arg5 arg6 arg7 arg14 arg15 arg16 arg21 arg22 arg23 W3 W5 W7 C A X4 X6 p.val
      ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v175 v178 v179 p a)
        (fun _ => t2At c arg3 arg4 arg5 arg6 arg7 arg14 arg15 arg16 arg21 arg22 arg23 W3 W5 W7 C A X4 X6 (p.val + 1)) := by
  unfold t2At
  rw [Ring.AtW_focusL _ _ _ (t2_slots p.val)]
  rw [pair_eq]
  rw [ring_gate, ring_up]
  by_cases hp : k0_cond1 p = 1#1
  · have hp2 : ¬ k0_cond2 p = 1#1 := by rw [cond2_iff]; have := (cond1_iff p).1 hp; omega
    iintro ⟨⟨⟨⟨Hg, Hg5, Hg7⟩, ⟨Hu, Hu3, Hu7⟩⟩, HR⟩, ⟨%M, ⟨%Z, ⟨HE, %hMZ⟩⟩⟩, ⟨%W, HO⟩⟩
    ihave HW := t2_more c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 C A X4 X6 M Z W p v175 v178 v179 _ _ hp hp2 $$ [Hg Hu HE HO]
    · isplitl [Hg]; · iexact Hg
      isplitl [Hu]; · iexact Hu
      isplitl [HE]; · iexact HE
      iexact HO
    iapply (wp_wand_r frame (wpE (defs₀ (F := F)) Variants.none (c : Thread nD τ) none) Set.univ)
    isplitl [HW]; · iexact HW
    iintro %_ ⟨Hg, Hu, ⟨%M', ⟨%Z', ⟨HE, %hMZ'⟩⟩⟩, HO⟩
    isplitr [HE HO]
    · iapply (Ring.AtW_refocusL (ringAt (F := F) c arg3 arg5 arg7 arg14 arg23 W3 W5 W7) (tab (21 + 2 * p.val)) _ _ (t2_slots p.val) (t2_away p.val))
      rw [pair_eq]
      rw [ring_gate' _ _ _ _ _ _ _ _ _ p hp, ring_up' _ _ _ _ _ _ _ _ _ p hp]
      isplitr [HR]
      · isplitl [Hg Hg5 Hg7]
        · isplitl [Hg]; · iexact Hg
          isplitl [Hg5]; · iexact Hg5
          iexact Hg7
        · isplitl [Hu]; · iexact Hu
          isplitl [Hu3]; · iexact Hu3
          iexact Hu7
      · iexact HR
    isplitl [HE]
    · iexists M'; iexists Z'
      isplitl [HE]; · iexact HE
      ipureintro; exact t2_facts arg3 arg4 arg5 arg6 arg15 arg16 arg21 arg22 W3 W5 C A X4 X6 p M M' Z Z' hMZ hMZ'
    · iexact HO
  · have hp2 : k0_cond2 p = 1#1 := by rw [cond2_iff]; rw [cond1_iff] at hp; omega
    iintro ⟨⟨⟨⟨Hg, Hg5, Hg7⟩, ⟨Hu, Hu3, Hu7⟩⟩, HR⟩, ⟨%M, ⟨%Z, ⟨HE, %hMZ⟩⟩⟩, ⟨%W, HO⟩⟩
    ihave HW := t2_last c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 C A X4 X6 M Z W p v175 v178 v179 _ _ hp2 hp $$ [Hg Hu Hg7 Hu7 HE HO]
    · isplitl [Hg]; · iexact Hg
      isplitl [Hu]; · iexact Hu
      isplitl [Hg7]; · iexact Hg7
      isplitl [Hu7]; · iexact Hu7
      isplitl [HE]; · iexact HE
      iexact HO
    iapply (wp_wand_r frame (wpE (defs₀ (F := F)) Variants.none (c : Thread nD τ) none) Set.univ)
    isplitl [HW]; · iexact HW
    iintro %_ ⟨Hg, Hu, Hg3, Hu5, ⟨%M', ⟨%Z', ⟨HE, %hMZ'⟩⟩⟩, HO⟩
    isplitr [HE HO]
    · iapply (Ring.AtW_refocusL (ringAt (F := F) c arg3 arg5 arg7 arg14 arg23 W3 W5 W7) (tab (21 + 2 * p.val)) _ _ (t2_slots p.val) (t2_away p.val))
      rw [pair_eq]
      rw [ring_down0 _ _ _ _ _ _ _ _ _ p hp2, ring_down1 _ _ _ _ _ _ _ _ _ p hp2]
      isplitr [HR]
      · isplitl [Hg Hg5 Hg3]
        · isplitl [Hg]; · iexact Hg
          isplitl [Hg3]; · iexact Hg3
          iexact Hg5
        · isplitl [Hu]; · iexact Hu
          isplitl [Hu3]; · iexact Hu3
          iexact Hu5
      · iexact HR
    isplitl [HE]
    · iexists M'; iexists Z'
      isplitl [HE]; · iexact HE
      ipureintro; exact t2_facts arg3 arg4 arg5 arg6 arg15 arg16 arg21 arg22 W3 W5 C A X4 X6 p M M' Z Z' hMZ hMZ'
    · iexact HO

end Cert.Proof.KernelIdeal
-- ==== Proof.IBase4.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBase
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The down loop: offsets, values and what its copies deliver -/

abbrev N4 : ℕ := k0_t4_loop.trips

theorem off19_ (j : Fin 4) : ∀ n : Fin N4, k0_off19 n (BitVec.ofNat 32 j.val) = ![(slotOf (77 + 4 * n.val + j.val)).val] := by revert j; decide +kernel
theorem off20_ (j : Fin 4) : ∀ n : Fin N4, k0_off20 n (BitVec.ofNat 32 j.val) = ![(slotOf (77 + 4 * n.val + j.val)).val, 0, 0] := by revert j; decide +kernel
theorem off21_ (j : Fin 4) : ∀ n : Fin N4, k0_off21 n (BitVec.ofNat 32 j.val) = ![3584 * ((4 * n.val + j.val) % 4), 512 * ((4 * n.val + j.val) / 4)] := by revert j; decide +kernel
theorem off28_ : ∀ n : Fin N4, k0_off20 n 0#32 = k0_off28 n := by decide +kernel
theorem off29_1 : ∀ n : Fin N4, k0_off20 n 1#32 = k0_off29 n 1#32 := by decide +kernel
theorem off29_2 : ∀ n : Fin N4, k0_off20 n 2#32 = k0_off29 n 2#32 := by decide +kernel
theorem off29_3 : ∀ n : Fin N4, k0_off20 n 3#32 = k0_off29 n 3#32 := by decide +kernel
theorem off30_ : ∀ n : Fin N4, k0_off30 n = k0_off32 n := by decide +kernel
theorem off32_ : ∀ n : Fin N4, k0_off32 n = ![0, 512 * n.val] := by decide +kernel
theorem off34_ : ∀ n : Fin N4, k0_off34 n = ![0, 0, 1792 * n.val] := by decide +kernel
theorem off36_ (j : Fin 4) : ∀ n : Fin N4, k0_cond4 n = 1#1 → k0_off19 n (BitVec.ofNat 32 j.val) = k0_off36 n (BitVec.ofNat 32 j.val) := by revert j; decide +kernel
theorem off37_ (j : Fin 4) : ∀ n : Fin N4, k0_cond4 n = 1#1 → k0_off20 n (BitVec.ofNat 32 j.val) = k0_off37 n (BitVec.ofNat 32 j.val) := by revert j; decide +kernel
theorem off38_ (j : Fin 4) : ∀ n : Fin N4, k0_cond4 n = 1#1 → k0_off38 n (BitVec.ofNat 32 j.val) = ![3584 * ((4 * n.val + 16 + j.val) % 4), 512 * ((4 * n.val + 16 + j.val) / 4)] := by revert j; decide +kernel
theorem cond3_iff : ∀ n : Fin N4, k0_cond3 n = 1#1 ↔ 2 ≤ n.val := by decide +kernel
theorem cond4_iff : ∀ n : Fin N4, k0_cond4 n = 1#1 ↔ n.val < 4 := by decide +kernel
theorem t4_lt (n : Fin N4) : n.val < 8 := lt_of_lt_of_eq n.isLt t4_trips
theorem tdslot_inb (j : Fin 4) : ∀ n : Fin N4, ∀ a, k0_off20 n (BitVec.ofNat 32 j.val) a + S1x4096x512.size a ≤ S16x4096x512.size a := by revert j; decide +kernel
theorem off33_ : ∀ n : Fin N4, k0_off33 n = ![n.val % 2] := by decide +kernel
theorem off35_ : ∀ n : Fin N4, k0_off35 n = ![n.val % 2, 0, 0, 0] := by decide +kernel
theorem off22_ : ∀ n : Fin N4, k0_cond3 n = 1#1 → k0_off22 n = ![(n.val - 2) % 2] := by decide +kernel
theorem off24_ : ∀ n : Fin N4, k0_cond3 n = 1#1 → k0_off24 n = ![(n.val - 2) % 2, 0, 0, 0] := by decide +kernel
theorem off23_ : ∀ n : Fin N4, k0_cond3 n = 1#1 → k0_off23 n = ![0, 0, 1792 * (n.val - 2)] := by decide +kernel
theorem off22_33 : ∀ n : Fin N4, k0_cond3 n = 1#1 → k0_off22 n = k0_off33 n := by decide +kernel
theorem off24_35 : ∀ n : Fin N4, k0_cond3 n = 1#1 → k0_off24 n = k0_off35 n := by decide +kernel
theorem off26_ : ∀ n : Fin N4, k0_off26 n = ![n.val % 2, 0, 0, 0] := by decide +kernel
theorem off27_ : ∀ n : Fin N4, k0_off27 n = ![n.val % 2, 1, 0, 0] := by decide +kernel
theorem par_inb (n : ℕ) : ∀ a, (![n % 2] : Fin 1 → ℕ) a + S1.size a ≤ S2.size a := by
  have : ∀ k : Fin 2, ∀ a, (![k.val] : Fin 1 → ℕ) a + S1.size a ≤ S2.size a := by decide +kernel
  exact this ⟨n % 2, Nat.mod_lt _ (by omega)⟩
theorem spar_inb (n : ℕ) : ∀ a, (![n % 2, 0, 0, 0] : Fin 4 → ℕ) a + S1x2x112x1792.size a ≤ S2x2x112x1792.size a := by
  have : ∀ k : Fin 2, ∀ a, (![k.val, 0, 0, 0] : Fin 4 → ℕ) a + S1x2x112x1792.size a ≤ S2x2x112x1792.size a := by decide +kernel
  exact this ⟨n % 2, Nat.mod_lt _ (by omega)⟩

section Values
variable (Xv : Vec F S224x14336 .fp8e4m3) (w7 : Vec F S14336x4096 .fp8e4m3) (x8 : Vec F S1x4096 .f32) (Tv : Vec F S224x4096 .f32) (Av : Vec F S224x128 .f32)

/-- The down weights' block `j` of pass `n`, as a slot holds it. -/
def dslab (n : Fin N4) (j : Fin 4) : Vec F S1x3584x512 .fp8e4m3 := fun i =>
  VecWindow.window w7 (k0_off21 n (BitVec.ofNat 32 j.val)) S3584x512.size (k0_off21_inb n j) ((Shape.reshapeEquiv squeezes_S1x3584x512_S3584x512.numel_eq).symm i)
/-- The sum of the first three partial products of pass `n`. -/
def dsum (n : Fin N4) : FVec F S224x512 .f32 :=
  k0_pay12 (VecWindow.window Xv ![0, 0] S224x3584.size inb_S224x14336_S224x3584_0_0) (dslab w7 n 0)
    (VecWindow.window Xv ![0, 3584] S224x3584.size inb_S224x14336_S224x3584_0_3584) (dslab w7 n 1)
    (VecWindow.window Xv ![0, 7168] S224x3584.size inb_S224x14336_S224x3584_0_7168) (dslab w7 n 2)
/-- The columns of the result pass `n` computes. -/
def dval (n : Fin N4) : FVec F S224x512 .f32 :=
  k0_pay13 (dsum Xv w7 n) (VecWindow.window Xv ![0, 10752] S224x3584.size inb_S224x14336_S224x3584_0_10752) (dslab w7 n 3)
    (VecWindow.window Tv (k0_off30 n) S224x512.size (k0_off30_inb n)) Av (VecWindow.window x8 (k0_off31 n) S1x512.size (k0_off31_inb n))
/-- An index of a 112-row block of codes. -/
def idx4 (r : Fin 112) (k : Fin 1792) : S1x1x112x1792.Idx := fun a => match a with
  | ⟨0, _⟩ => (⟨0, by decide⟩ : Fin 1) | ⟨1, _⟩ => (⟨0, by decide⟩ : Fin 1) | ⟨2, _⟩ => r | ⟨3, _⟩ => k
/-- The codes pass `n` sends out: the first 112 rows, then the others. -/
def c4val (n : Fin N4) : Vec F S2x112x1792 .fp8e4m3 := fun y =>
  if (y 0).val = 0 then k0_pay10 (VecWindow.window Xv (k0_off25 n) S224x1792.size (k0_off25_inb n)) (idx4 (y 1) (y 2))
  else k0_pay11 (VecWindow.window Xv (k0_off25 n) S224x1792.size (k0_off25_inb n)) (idx4 (y 1) (y 2))
end Values

section Slots
variable (c : Dev nD) (arg9 : Memref sig .tc .hbm S224x4096 .f32) (arg12 : Memref sig .tc .hbm S2x112x14336 .fp8e4m3)
  (arg19 : Memref sig .tc .vmem S2x2x112x1792 .fp8e4m3) (arg20 : Memref sig .tc .vmem S224x4096 .f32) (arg25 : DmaSems sig S2) (arg26 : DmaSems sig S2)

abbrev cell4 (oc : Fin 1 → ℕ) (hc : ∀ a, oc a + S1.size a ≤ S2.size a) : SemLoc sig :=
  .dma ((arg26.slice (Rect.unit (s := S2) oc S1.size hc)).squeeze S_ squeezes_S1_S_).sem
abbrev slot4 (os : Fin 4 → ℕ) (hs : ∀ a, os a + S1x2x112x1792.size a ≤ S2x2x112x1792.size a) : Memref sig .tc .vmem S2x112x1792 .fp8e4m3 :=
  (arg19.slice (Rect.unit (s := S2x2x112x1792) os S1x2x112x1792.size hs) (fun _ => rfl)).squeeze S2x112x1792 squeezes_S1x2x112x1792_S2x112x1792
abbrev win4 (ow : Fin 3 → ℕ) (hw : ∀ a, ow a + S2x112x1792.size a ≤ S2x112x14336.size a) : Memref sig .tc .hbm S2x112x1792 .fp8e4m3 :=
  arg12.slice (Rect.unit (s := S2x112x14336) ow S2x112x1792.size hw) (fun _ => rfl)
abbrev win20 (ow : Fin 2 → ℕ) (hw : ∀ a, ow a + S224x512.size a ≤ S224x4096.size a) : Memref sig .tc .vmem S224x512 .f32 :=
  arg20.slice (Rect.unit (s := S224x4096) ow S224x512.size hw) (fun _ => rfl)
abbrev win9 (ow : Fin 2 → ℕ) (hw : ∀ a, ow a + S224x512.size a ≤ S224x4096.size a) : Memref sig .tc .hbm S224x512 .f32 :=
  arg9.slice (Rect.unit (s := S224x4096) ow S224x512.size hw) (fun _ => rfl)
abbrev cell1 : SemLoc sig := .dma ((arg25.slice (Rect.unit (s := S2) ![1] S1.size inb_S2_S1_1)).squeeze S_ squeezes_S1_S_).sem

/-- A copy of codes out, in flight. -/
abbrev cfl (X : Vec F S2x112x1792 .fp8e4m3) (oc : Fin 1 → ℕ) (hc : ∀ a, oc a + S1.size a ≤ S2.size a) (os : Fin 4 → ℕ) (hs : ∀ a, os a + S1x2x112x1792.size a ≤ S2x2x112x1792.size a)
    (ow : Fin 3 → ℕ) (hw : ∀ a, ow a + S2x112x1792.size a ≤ S2x112x14336.size a) : sProp 𝕄 :=
  iprop(∃ f, Transfers.Flight (countersEmb (U := UC sig nD τ)) (c : Thread nD τ) (cell4 arg26 oc hc) () 14336
    iprop(((win4 arg12 ow hw).view.loc (c : Thread nD τ) ↦[(win4 arg12 ow hw).view.set]{fullShare}
        (win4 arg12 ow hw).view.writes (Elt F) f [⟨Rect.whole S2x112x1792, ReadAs.same.apply ((slot4 arg19 os hs).view.read (Elt F) ((slot4 arg19 os hs).view.rep X))⟩])
      ∗ ((slot4 arg19 os hs).view.loc (c : Thread nD τ) ↦[(slot4 arg19 os hs).view.set]{fullShare} (slot4 arg19 os hs).view.rep X)))
/-- A staging buffer of codes and its semaphore, at rest. -/
abbrev cidle (oc : Fin 1 → ℕ) (hc : ∀ a, oc a + S1.size a ≤ S2.size a) (os : Fin 4 → ℕ) (hs : ∀ a, os a + S1x2x112x1792.size a ≤ S2x2x112x1792.size a) : sProp 𝕄 :=
  iprop(semVal ((c : Thread nD τ), cell4 arg26 oc hc) 0
    ∗ ∃ f, (slot4 arg19 os hs).view.loc (c : Thread nD τ) ↦[(slot4 arg19 os hs).view.set]{fullShare} f)
theorem cfl_congr (X : Vec F S2x112x1792 .fp8e4m3) {oc oc' : Fin 1 → ℕ} {os os' : Fin 4 → ℕ} {ow ow' : Fin 3 → ℕ} (e1 : oc = oc') (e2 : os = os') (e3 : ow = ow')
    (hc) (hs) (hw) (hc') (hs') (hw') :
    cfl c arg12 arg19 arg26 X oc hc os hs ow hw = cfl c arg12 arg19 arg26 X oc' hc' os' hs' ow' hw' := by
  subst e1 e2 e3; rfl
theorem cidle_congr {oc oc' : Fin 1 → ℕ} {os os' : Fin 4 → ℕ} (e1 : oc = oc') (e2 : os = os') (hc) (hs) (hc') (hs') :
    cidle (F := F) c arg19 arg26 oc hc os hs = cidle c arg19 arg26 oc' hc' os' hs' := by
  subst e1 e2; rfl
theorem cell4_move {oc oc' : Fin 1 → ℕ} (e : oc = oc') (hc) (hc') :
    (semVal ((c : Thread nD τ), cell4 arg26 oc hc) 0 : sProp 𝕄) ⊢ semVal ((c : Thread nD τ), cell4 arg26 oc' hc') 0 := by
  subst e; exact Entails.refl _
theorem slot4_move {os os' : Fin 4 → ℕ} (e : os = os') (hs) (hs') (f : BufTy.Contents (Elt F) (slot4 arg19 os hs).view.ty) :
    ((slot4 arg19 os hs).view.loc (c : Thread nD τ) ↦[(slot4 arg19 os hs).view.set]{fullShare} f : sProp 𝕄)
      ⊢ iprop(∃ f, (slot4 arg19 os' hs').view.loc (c : Thread nD τ) ↦[(slot4 arg19 os' hs').view.set]{fullShare} f) := by
  subst e; iintro H; iexists f; iexact H

/-- What the copy of pass `n`'s columns delivers. -/
abbrev ddel (X : Fin N4 → Vec F S224x512 .f32) (n : Fin N4) : sProp 𝕄 :=
  iprop(∃ f, ((win9 arg9 (k0_off32 n) (k0_off32_inb n)).view.loc (c : Thread nD τ) ↦[(win9 arg9 (k0_off32 n) (k0_off32_inb n)).view.set]{fullShare}
        (win9 arg9 (k0_off32 n) (k0_off32_inb n)).view.writes (Elt F) f
          [⟨Rect.whole S224x512, ReadAs.same.apply ((win20 arg20 (k0_off32 n) (k0_off32_inb n)).view.read (Elt F) ((win20 arg20 (k0_off32 n) (k0_off32_inb n)).view.rep (X n)))⟩])
      ∗ ((win20 arg20 (k0_off32 n) (k0_off32_inb n)).view.loc (c : Thread nD τ) ↦[(win20 arg20 (k0_off32 n) (k0_off32_inb n)).view.set]{fullShare}
          (win20 arg20 (k0_off32 n) (k0_off32_inb n)).view.rep (X n)))
/-- The copies of the result's columns: the first `k` issued, `u` units waited for. -/
abbrev dbatch (X : Fin N4 → Vec F S224x512 .f32) (k u : ℕ) : sProp 𝕄 :=
  Transfers.Batch (countersEmb (U := UC sig nD τ)) (c : Thread nD τ) (cell1 arg25) () 14336 (ddel c arg9 arg20 X) k u
end Slots

end Cert.Proof.KernelIdeal
-- ==== Proof.IT4V.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBase4
public import Idealize.ShloMosaic.Lib.ValueLayout
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

open Idealize.ShloMosaic.ValueIdx
/-! ## What one pass of the down loop leaves in its buffers -/

variable (c : Dev nD) (arg7 : Memref sig .tc .hbm S14336x4096 .fp8e4m3) (arg8 : Memref sig .tc .vmem S1x4096 .f32) (arg14 : Memref sig .tc .vmem S16x4096x512 .fp8e4m3)
  (arg17 : Memref sig .tc .vmem S224x14336 .fp8e4m3) (arg19 : Memref sig .tc .vmem S2x2x112x1792 .fp8e4m3) (arg20 : Memref sig .tc .vmem S224x4096 .f32) (arg21 : Memref sig .tc .vmem S224x128 .f32)
  (W7 : BufTy.Contents (Elt F) arg7.view.ty) (X : BufTy.Contents (Elt F) arg17.view.ty) (A : BufTy.Contents (Elt F) arg21.view.ty) (X8 : BufTy.Contents (Elt F) arg8.view.ty)
  (T : BufTy.Contents (Elt F) arg20.view.ty)

/-- The two stores of a pass into its staging buffer. -/
theorem w4_read (p : ℕ) {o35 o26 o27 : Fin 4 → ℕ} (e35 : o35 = ![p, 0, 0, 0]) (e26 : o26 = ![p, 0, 0, 0]) (e27 : o27 = ![p, 1, 0, 0])
    (h35 : ∀ a, o35 a + S1x2x112x1792.size a ≤ S2x2x112x1792.size a) (h26 : ∀ a, o26 a + S1x1x112x1792.size a ≤ S2x2x112x1792.size a)
    (h27 : ∀ a, o27 a + S1x1x112x1792.size a ≤ S2x2x112x1792.size a)
    (g : BufTy.Contents (Elt F) arg19.view.ty) (w0 w1 : Vec F S1x1x112x1792 .fp8e4m3) :
    (slot4 arg19 o35 h35).view.read (Elt F) (arg19.view.writes (Elt F) g [⟨Rect.unit (s := S2x2x112x1792) o27 S1x1x112x1792.size h27, w1⟩, ⟨Rect.unit (s := S2x2x112x1792) o26 S1x1x112x1792.size h26, w0⟩])
      = fun y => if (y 0).val = 0 then w0 (idx4 (y 1) (y 2)) else w1 (idx4 (y 1) (y 2)) := by
  subst e35
  funext y
  have hy : y = ix3 (y 0) (y 1) (y 2) := by funext a; fin_cases a <;> rfl
  have hr : Shape.reshapeEquiv squeezes_S1x2x112x1792_S2x112x1792.numel_eq y = ix4 (⟨0, Nat.one_pos⟩ : Fin 1) (y 0) (y 1) (y 2) := by
    conv_lhs => rw [hy]
    exact reshapeEquiv_ix3_1abc _ _ _ _
  have h0 : (slot4 arg19 ![p, 0, 0, 0] h35).view.read (Elt F) (arg19.view.writes (Elt F) g [⟨Rect.unit (s := S2x2x112x1792) o27 S1x1x112x1792.size h27, w1⟩, ⟨Rect.unit (s := S2x2x112x1792) o26 S1x1x112x1792.size h26, w0⟩]) y
      = arg19.view.read (Elt F) (arg19.view.writes (Elt F) g [⟨Rect.unit (s := S2x2x112x1792) o27 S1x1x112x1792.size h27, w1⟩, ⟨Rect.unit (s := S2x2x112x1792) o26 S1x1x112x1792.size h26, w0⟩])
          ((Rect.unit (s := S2x2x112x1792) ![p, 0, 0, 0] S1x2x112x1792.size h35).emb (Shape.reshapeEquiv squeezes_S1x2x112x1792_S2x112x1792.numel_eq y)) := rfl
  obtain ⟨z, hz⟩ : ∃ z : S2x2x112x1792.Idx, z = (Rect.unit (s := S2x2x112x1792) ![p, 0, 0, 0] S1x2x112x1792.size h35).emb (Shape.reshapeEquiv squeezes_S1x2x112x1792_S2x112x1792.numel_eq y) := ⟨_, rfl⟩
  rw [h0, ← hz]
  rw [hr] at hz
  have z0 : (z 0).val = p := by rw [hz]; rfl
  have z1 : (z 1).val = (y 0).val := by rw [hz]; show 0 + 1 * (y 0).val = _; omega
  have z2 : (z 2).val = (y 1).val := by rw [hz]; show 0 + 1 * (y 1).val = _; omega
  have z3 : (z 3).val = (y 2).val := by rw [hz]; show 0 + 1 * (y 2).val = _; omega
  have hy0 : (y 0).val < 2 := (y 0).isLt
  by_cases h : (y 0).val = 0
  · rw [if_pos h]
    refine (View.read_writes_cons_unit_of_not_mem (s := S2x2x112x1792) arg19.view g h27 w1 _ z e27 1 (Or.inl ?_)).trans ?_
    · show (z 1).val < 1
      omega
    refine View.read_writes_cons_unit_of_mem (s := S2x2x112x1792) arg19.view g h26 w0 [] z (idx4 (y 1) (y 2)) e26 ?_
    intro a
    fin_cases a
    · exact z0
    · exact z1.trans h
    · exact z2.trans (Nat.zero_add _).symm
    · exact z3.trans (Nat.zero_add _).symm
  · rw [if_neg h]
    refine View.read_writes_cons_unit_of_mem (s := S2x2x112x1792) arg19.view g h27 w1 _ z (idx4 (y 1) (y 2)) e27 ?_
    intro a
    fin_cases a
    · exact z0
    · exact z1.trans (by show (y 0).val = 1 + 0; omega)
    · exact z2.trans (Nat.zero_add _).symm
    · exact z3.trans (Nat.zero_add _).symm

/-- What a staging buffer holds when a pass sends it out. -/
theorem c4_read (n : Fin N4) (g : BufTy.Contents (Elt F) arg19.view.ty) :
    (slot4 arg19 (k0_off35 n) (k0_off35_inb n)).view.read (Elt F) (arg19.view.writes (Elt F) g
      [⟨Rect.unit (s := S2x2x112x1792) (k0_off27 n) S1x1x112x1792.size (k0_off27_inb n), k0_pay11 (arg17.view.readAt (Elt F) (Rect.unit (s := S224x14336) (k0_off25 n) S224x1792.size (k0_off25_inb n)).toLoadRect X)⟩,
       ⟨Rect.unit (s := S2x2x112x1792) (k0_off26 n) S1x1x112x1792.size (k0_off26_inb n), k0_pay10 (arg17.view.readAt (Elt F) (Rect.unit (s := S224x14336) (k0_off25 n) S224x1792.size (k0_off25_inb n)).toLoadRect X)⟩])
      = c4val (arg17.view.read (Elt F) X) n := by
  rw [w4_read arg19 (n.val % 2) (off35_ n) (off26_ n) (off27_ n)]
  rfl

/-- A load of a slot's block of the down weights. -/
theorem dslab_readAt (n : Fin N4) (j : Fin 4) {od : Fin 3 → ℕ} (e : k0_off20 n (BitVec.ofNat 32 j.val) = od) (hd : ∀ a, od a + S1x3584x512.size a ≤ S16x4096x512.size a)
    (f : BufTy.Contents (Elt F) (dslotM arg14 (k0_off20 n (BitVec.ofNat 32 j.val)) (k0_off20_inb n j)).view.ty) :
    arg14.view.readAt (Elt F) (Rect.unit (s := S16x4096x512) od S1x3584x512.size hd).toLoadRect ((dslotM arg14 (k0_off20 n (BitVec.ofNat 32 j.val)) (k0_off20_inb n j)).view.writes (Elt F) f
        [⟨Rect.whole S3584x512, ReadAs.same.apply ((dwin arg7 (k0_off21 n (BitVec.ofNat 32 j.val)) (k0_off21_inb n j)).view.read (Elt F) W7)⟩])
      = dslab (arg7.view.read (Elt F) W7) n j := by
  rw [dslot_readAt arg14 e]
  rfl

/-- What the columns of the result hold when a pass sends them out. -/
theorem d_read (n : Fin N4) (f0 f1 f2 f3) :
    (win20 arg20 (k0_off30 n) (k0_off30_inb n)).view.read (Elt F) ((arg20.access (Rect.unit (s := S224x4096) (k0_off30 n) S224x512.size (k0_off30_inb n))).write (Elt F) T
      (k0_pay13
        (k0_pay12
          (arg17.view.readAt (Elt F) (Rect.unit (s := S224x14336) ![0, 0] S224x3584.size inb_S224x14336_S224x3584_0_0).toLoadRect X)
          (arg14.view.readAt (Elt F) (Rect.unit (s := S16x4096x512) (k0_off28 n) S1x3584x512.size (k0_off28_inb n)).toLoadRect ((dslotM arg14 (k0_off20 n 0#32) (k0_off20_inb n 0)).view.writes (Elt F) f0
            [⟨Rect.whole S3584x512, ReadAs.same.apply ((dwin arg7 (k0_off21 n 0#32) (k0_off21_inb n 0)).view.read (Elt F) W7)⟩]))
          (arg17.view.readAt (Elt F) (Rect.unit (s := S224x14336) ![0, 3584] S224x3584.size inb_S224x14336_S224x3584_0_3584).toLoadRect X)
          (arg14.view.readAt (Elt F) (Rect.unit (s := S16x4096x512) (k0_off29 n 1#32) S1x3584x512.size (k0_off29_inb n 0)).toLoadRect ((dslotM arg14 (k0_off20 n 1#32) (k0_off20_inb n 1)).view.writes (Elt F) f1
            [⟨Rect.whole S3584x512, ReadAs.same.apply ((dwin arg7 (k0_off21 n 1#32) (k0_off21_inb n 1)).view.read (Elt F) W7)⟩]))
          (arg17.view.readAt (Elt F) (Rect.unit (s := S224x14336) ![0, 7168] S224x3584.size inb_S224x14336_S224x3584_0_7168).toLoadRect X)
          (arg14.view.readAt (Elt F) (Rect.unit (s := S16x4096x512) (k0_off29 n 2#32) S1x3584x512.size (k0_off29_inb n 1)).toLoadRect ((dslotM arg14 (k0_off20 n 2#32) (k0_off20_inb n 2)).view.writes (Elt F) f2
            [⟨Rect.whole S3584x512, ReadAs.same.apply ((dwin arg7 (k0_off21 n 2#32) (k0_off21_inb n 2)).view.read (Elt F) W7)⟩])))
        (arg17.view.readAt (Elt F) (Rect.unit (s := S224x14336) ![0, 10752] S224x3584.size inb_S224x14336_S224x3584_0_10752).toLoadRect X)
        (arg14.view.readAt (Elt F) (Rect.unit (s := S16x4096x512) (k0_off29 n 3#32) S1x3584x512.size (k0_off29_inb n 2)).toLoadRect ((dslotM arg14 (k0_off20 n 3#32) (k0_off20_inb n 3)).view.writes (Elt F) f3
            [⟨Rect.whole S3584x512, ReadAs.same.apply ((dwin arg7 (k0_off21 n 3#32) (k0_off21_inb n 3)).view.read (Elt F) W7)⟩]))
        (arg20.view.readAt (Elt F) (Rect.unit (s := S224x4096) (k0_off30 n) S224x512.size (k0_off30_inb n)).toLoadRect T)
        (arg21.view.readAt (Elt F) (Rect.unit (s := S224x128) ![0, 0] S224x128.size inb_S224x128_S224x128_0_0).toLoadRect A)
        (arg8.view.readAt (Elt F) (Rect.unit (s := S1x4096) (k0_off31 n) S1x512.size (k0_off31_inb n)).toLoadRect X8)) Finset.univ)
      = dval (arg17.view.read (Elt F) X) (arg7.view.read (Elt F) W7) (arg8.view.read (Elt F) X8) (arg20.view.read (Elt F) T) (arg21.view.read (Elt F) A) n := by
  refine (Memref.read_slice_write arg20 _ rfl _ _ _).trans ?_
  have e0 := dslab_readAt arg7 arg14 W7 n 0 (off28_ n) (k0_off28_inb n) f0
  have e1 := dslab_readAt arg7 arg14 W7 n 1 (off29_1 n) (k0_off29_inb n 0) f1
  have e2 := dslab_readAt arg7 arg14 W7 n 2 (off29_2 n) (k0_off29_inb n 1) f2
  have e3 := dslab_readAt arg7 arg14 W7 n 3 (off29_3 n) (k0_off29_inb n 2) f3
  have e4 := View.readAt_full arg21.view A inb_S224x128_S224x128_0_0
  unfold dval dsum
  exact congr (congr (congrFun (congr (congr (congrArg k0_pay13 (congr (congrFun (congr (congrFun (congrArg _ e0) _) e1) _) e2)) rfl) e3) _) e4) rfl

/-- The result's columns, named by what they hold and respelt. -/
theorem w20_out [∀ e, Nonempty (Elt F e)] (n : Fin N4) (g : BufTy.Contents (Elt F) arg20.view.ty) :
    ((win20 arg20 (k0_off30 n) (k0_off30_inb n)).view.loc (c : Thread nD τ) ↦[(win20 arg20 (k0_off30 n) (k0_off30_inb n)).view.set]{fullShare} g : sProp 𝕄)
      ⊢ iprop(∃ x, ⌜x = (win20 arg20 (k0_off30 n) (k0_off30_inb n)).view.read (Elt F) g⌝
        ∗ ((win20 arg20 (k0_off32 n) (k0_off32_inb n)).view.loc (c : Thread nD τ) ↦[(win20 arg20 (k0_off32 n) (k0_off32_inb n)).view.set]{fullShare} (win20 arg20 (k0_off32 n) (k0_off32_inb n)).view.rep x)) := by
  have key : ∀ (o o' : Fin 2 → ℕ) (e : o = o') (h) (h'), ((win20 arg20 o h).view.loc (c : Thread nD τ) ↦[(win20 arg20 o h).view.set]{fullShare} g : sProp 𝕄)
      ⊢ iprop(∃ x, ⌜x = (win20 arg20 o h).view.read (Elt F) g⌝
        ∗ ((win20 arg20 o' h').view.loc (c : Thread nD τ) ↦[(win20 arg20 o' h').view.set]{fullShare} (win20 arg20 o' h').view.rep x)) := by
    intro o o' e h h'
    subst e
    iintro H
    iexists _
    isplitr [H]
    · ipureintro; rfl
    · iapply (pointsTo_rep_of_read (c : Thread nD τ) (win20 arg20 o h) g fullShare _ rfl) $$ H
  exact key _ _ (off30_ n) _ _
/-- A staging buffer, named by what it holds. -/
theorem slot4_out [∀ e, Nonempty (Elt F e)] (n : Fin N4) (g : BufTy.Contents (Elt F) arg19.view.ty) :
    ((slot4 arg19 (k0_off35 n) (k0_off35_inb n)).view.loc (c : Thread nD τ) ↦[(slot4 arg19 (k0_off35 n) (k0_off35_inb n)).view.set]{fullShare} g : sProp 𝕄)
      ⊢ iprop(∃ x, ⌜x = (slot4 arg19 (k0_off35 n) (k0_off35_inb n)).view.read (Elt F) g⌝
        ∗ ((slot4 arg19 (k0_off35 n) (k0_off35_inb n)).view.loc (c : Thread nD τ) ↦[(slot4 arg19 (k0_off35 n) (k0_off35_inb n)).view.set]{fullShare} (slot4 arg19 (k0_off35 n) (k0_off35_inb n)).view.rep x)) := by
  iintro H
  iexists _
  isplitr [H]
  · ipureintro; rfl
  · iapply (pointsTo_rep_of_read (c : Thread nD τ) (slot4 arg19 (k0_off35 n) (k0_off35_inb n)) g fullShare _ rfl) $$ H

end Cert.Proof.KernelIdeal
-- ==== Proof.IT4.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IT4V
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The down loop: one pass -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W7 : BufTy.Contents (Elt F) arg7.view.ty) (X : BufTy.Contents (Elt F) arg17.view.ty) (A : BufTy.Contents (Elt F) arg21.view.ty) (X8 : BufTy.Contents (Elt F) arg8.view.ty)
  (T : BufTy.Contents (Elt F) arg20.view.ty)

/-- What the down loop reads besides the ring. -/
abbrev t4Env : sProp 𝕄 :=
  iprop((arg17.view.loc (c : Thread nD τ) ↦[arg17.view.set]{fullShare} X)
    ∗ (arg21.view.loc (c : Thread nD τ) ↦[arg21.view.set]{fullShare} A)
    ∗ (arg8.view.loc (c : Thread nD τ) ↦[arg8.view.set]{fullShare} X8))

/-- A slot after pass `n`, when copies go on and when they do not. -/
def t4Slot (k : Fin 16) (n : Fin N4) (j : Fin 4) : sProp 𝕄 :=
  if h : k0_cond4 n = 1#1 then
    dfl c arg14 arg23 arg7 W7 k (k0_off36 n (BitVec.ofNat 32 j.val)) (k0_off36_inb n h j) (k0_off37 n (BitVec.ofNat 32 j.val)) (off37_ j n h ▸ tdslot_inb j n) (k0_off37_inb n h j)
      (k0_off38 n (BitVec.ofNat 32 j.val)) (k0_off38_inb n h j)
  else iprop(semVal ((c : Thread nD τ), cellM arg23 (k0_off19 n (BitVec.ofNat 32 j.val)) (k0_off19_inb n j)) 0
    ∗ slotP (F := F) c arg14 (k0_off20 n (BitVec.ofNat 32 j.val)) (tdslot_inb j n) ∗ tok c arg7 W7 k)

/-- The staging buffer of pass `n` before it. -/
abbrev t4Pre (Y : Vec F S2x112x1792 .fp8e4m3) (n : Fin N4) : sProp 𝕄 :=
  if h : k0_cond3 n = 1#1 then cfl c arg12 arg19 arg26 Y (k0_off22 n) (k0_off22_inb n h) (k0_off24 n) (k0_off24_inb n h) (k0_off23 n) (k0_off23_inb n h)
  else cidle (F := F) c arg19 arg26 (k0_off33 n) (k0_off33_inb n) (k0_off35 n) (k0_off35_inb n)
/-- The codes that pass `n` saw arrive. -/
def t4Got (Y : Vec F S2x112x1792 .fp8e4m3) (n : Fin N4) : sProp 𝕄 :=
  if h : k0_cond3 n = 1#1 then iprop(∃ f, ((win4 arg12 (k0_off23 n) (k0_off23_inb n h)).view.loc (c : Thread nD τ) ↦[(win4 arg12 (k0_off23 n) (k0_off23_inb n h)).view.set]{fullShare} f)
    ∗ ⌜(win4 arg12 (k0_off23 n) (k0_off23_inb n h)).view.read (Elt F) f = Y⌝)
  else iprop(emp)

theorem pre_pos (Y : Vec F S2x112x1792 .fp8e4m3) (n : Fin N4) (h : k0_cond3 n = 1#1) :
    t4Pre c arg12 arg19 arg26 Y n ⊢ cfl c arg12 arg19 arg26 Y (k0_off22 n) (k0_off22_inb n h) (k0_off24 n) (k0_off24_inb n h) (k0_off23 n) (k0_off23_inb n h) := by
  rw [t4Pre, dif_pos h]
theorem pre_neg (Y : Vec F S2x112x1792 .fp8e4m3) (n : Fin N4) (h : ¬ k0_cond3 n = 1#1) :
    t4Pre c arg12 arg19 arg26 Y n ⊢ cidle (F := F) c arg19 arg26 (k0_off33 n) (k0_off33_inb n) (k0_off35 n) (k0_off35_inb n) := by
  rw [t4Pre, dif_neg h]

theorem got_pos [∀ e, Nonempty (Elt F e)] (Y : Vec F S2x112x1792 .fp8e4m3) (n : Fin N4) (h : k0_cond3 n = 1#1) (g : BufTy.Contents (Elt F) (win4 arg12 (k0_off23 n) (k0_off23_inb n h)).view.ty) (v : Vec F S2x112x1792 .fp8e4m3) (hv : v = Y) :
    iprop((win4 arg12 (k0_off23 n) (k0_off23_inb n h)).view.loc (c : Thread nD τ) ↦[(win4 arg12 (k0_off23 n) (k0_off23_inb n h)).view.set]{fullShare}
        (win4 arg12 (k0_off23 n) (k0_off23_inb n h)).view.writes (Elt F) g [⟨Rect.whole S2x112x1792, v⟩]) ⊢ t4Got c arg12 Y n := by
  rw [t4Got, dif_pos h]
  iintro H
  iexists _
  isplitl [H]
  · iexact H
  ipureintro
  rw [View.read_writes_whole, hv]
theorem got_neg (Y : Vec F S2x112x1792 .fp8e4m3) (n : Fin N4) (h : ¬ k0_cond3 n = 1#1) :
    ⊢ t4Got (F := F) c arg12 Y n := by
  rw [t4Got, dif_neg h]
  exact Entails.refl _

theorem tslot_pos (k : Fin 16) (n : Fin N4) (j : Fin 4) (o : BitVec 32) (ho : BitVec.ofNat 32 j.val = o) (h : k0_cond4 n = 1#1)
    (hc : ∀ a, k0_off36 n o a + S1.size a ≤ S16.size a) (hd : ∀ a, k0_off37 n o a + S1x3584x512.size a ≤ S16x4096x512.size a) (hw : ∀ a, k0_off38 n o a + S3584x512.size a ≤ S14336x4096.size a)
    (hs : ∀ a, k0_off20 n o a + S1x4096x512.size a ≤ S16x4096x512.size a) (hd' : ∀ a, k0_off20 n o a + S1x3584x512.size a ≤ S16x4096x512.size a) (f) :
    iprop(Transfers.Flight (countersEmb (U := UC sig nD τ)) (c : Thread nD τ) (cellM arg23 (k0_off36 n o) hc) () 57344
      iprop(((dslotM arg14 (k0_off37 n o) hd).view.loc (c : Thread nD τ) ↦[(dslotM arg14 (k0_off37 n o) hd).view.set]{fullShare}
          (dslotM arg14 (k0_off37 n o) hd).view.writes (Elt F) f [⟨Rect.whole S3584x512, ReadAs.same.apply ((dwin arg7 (k0_off38 n o) hw).view.read (Elt F) W7)⟩])
        ∗ (arg7.view.loc (c : Thread nD τ) ↦[(dwin arg7 (k0_off38 n o) hw).view.set]{Transfers.shareTok fullShare 16 k} W7))
      ∗ (arg7.view.loc (c : Thread nD τ) ↦[arg7.view.set \ (dwin arg7 (k0_off38 n o) hw).view.set]{Transfers.shareTok fullShare 16 k} W7)
      ∗ tailP (F := F) c arg14 (k0_off20 n o) hs hd') ⊢ t4Slot c arg7 arg14 arg23 W7 k n j := by
  subst ho
  rw [t4Slot, dif_pos h, tailP_congr c arg14 (off37_ j n h) (tdslot_inb j n) (k0_off20_inb n j) (off37_ j n h ▸ tdslot_inb j n) (k0_off37_inb n h j)]
  iintro ⟨H, Hr, Ht⟩
  isplitl [H]; · iexists f; iexact H
  isplitl [Hr]; · iexact Hr
  iexact Ht
theorem tslot_neg (k : Fin 16) (n : Fin N4) (j : Fin 4) (o : BitVec 32) (ho : BitVec.ofNat 32 j.val = o) (h : ¬ k0_cond4 n = 1#1)
    (hc : ∀ a, k0_off19 n o a + S1.size a ≤ S16.size a)
    (hs : ∀ a, k0_off20 n o a + S1x4096x512.size a ≤ S16x4096x512.size a) (hd' : ∀ a, k0_off20 n o a + S1x3584x512.size a ≤ S16x4096x512.size a) (f) :
    iprop(semVal ((c : Thread nD τ), cellM arg23 (k0_off19 n o) hc) 0
      ∗ ((dslotM arg14 (k0_off20 n o) hd').view.loc (c : Thread nD τ) ↦[(dslotM arg14 (k0_off20 n o) hd').view.set]{fullShare} f)
      ∗ tok c arg7 W7 k
      ∗ tailP (F := F) c arg14 (k0_off20 n o) hs hd') ⊢ t4Slot c arg7 arg14 arg23 W7 k n j := by
  subst ho
  rw [t4Slot, dif_neg h]
  iintro ⟨H, Hd, Hr, Ht⟩
  isplitl [H]; · iexact H
  isplitr [Hr]
  · iapply (slot_join c arg14 (k0_off20 n (BitVec.ofNat 32 j.val)) (tdslot_inb j n) (k0_off20_inb n j))
    isplitl [Hd]
    · iexists f; iexact Hd
    · iexact Ht
  iexact Hr

set_option maxHeartbeats 8000000 in
/-- One pass of the down loop. -/
theorem t4_core [∀ e, Nonempty (Elt F e)] (Dv : Fin N4 → Vec F S224x512 .f32) (Y : Vec F S2x112x1792 .fp8e4m3) (W : Waits sig Unit) (n : Fin N4) (v245 : Vec F S112x128 .f32) (k0 k1 k2 k3 : Fin 16)
    (hD : Dv n = dval (arg17.view.read (Elt F) X) (arg7.view.read (Elt F) W7) (arg8.view.read (Elt F) X8) (arg20.view.read (Elt F) T) (arg21.view.read (Elt F) A) n) :
  iprop(dfl c arg14 arg23 arg7 W7 k0 (k0_off19 n 0#32) (k0_off19_inb n 0) (k0_off20 n 0#32) (tdslot_inb 0 n) (k0_off20_inb n 0) (k0_off21 n 0#32) (k0_off21_inb n 0) ∗ dfl c arg14 arg23 arg7 W7 k1 (k0_off19 n 1#32) (k0_off19_inb n 1) (k0_off20 n 1#32) (tdslot_inb 1 n) (k0_off20_inb n 1) (k0_off21 n 1#32) (k0_off21_inb n 1) ∗ dfl c arg14 arg23 arg7 W7 k2 (k0_off19 n 2#32) (k0_off19_inb n 2) (k0_off20 n 2#32) (tdslot_inb 2 n) (k0_off20_inb n 2) (k0_off21 n 2#32) (k0_off21_inb n 2) ∗ dfl c arg14 arg23 arg7 W7 k3 (k0_off19 n 3#32) (k0_off19_inb n 3) (k0_off20 n 3#32) (tdslot_inb 3 n) (k0_off20_inb n 3) (k0_off21 n 3#32) (k0_off21_inb n 3)
    ∗ t4Pre c arg12 arg19 arg26 Y n
    ∗ (∃ f, (win4 arg12 (k0_off34 n) (k0_off34_inb n)).view.loc (c : Thread nD τ) ↦[(win4 arg12 (k0_off34 n) (k0_off34_inb n)).view.set]{fullShare} f)
    ∗ ((win20 arg20 (k0_off30 n) (k0_off30_inb n)).view.loc (c : Thread nD τ) ↦[(win20 arg20 (k0_off30 n) (k0_off30_inb n)).view.set]{fullShare} T)
    ∗ (∃ f, (win9 arg9 (k0_off32 n) (k0_off32_inb n)).view.loc (c : Thread nD τ) ↦[(win9 arg9 (k0_off32 n) (k0_off32_inb n)).view.set]{fullShare} f)
    ∗ dbatch c arg9 arg20 arg25 Dv n.val 0
    ∗ t4Env c arg8 arg17 arg21 X A X8
    ∗ owes (c : Thread nD τ) 0 W)
   ⊢ wp frame (wpE (defs₀ (F := F)) Variants.none (c : Thread nD τ) none) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245 n ())
    (fun _ => iprop(t4Slot c arg7 arg14 arg23 W7 k0 n 0 ∗ t4Slot c arg7 arg14 arg23 W7 k1 n 1 ∗ t4Slot c arg7 arg14 arg23 W7 k2 n 2 ∗ t4Slot c arg7 arg14 arg23 W7 k3 n 3
      ∗ cfl c arg12 arg19 arg26 (c4val (arg17.view.read (Elt F) X) n) (k0_off33 n) (k0_off33_inb n) (k0_off35 n) (k0_off35_inb n) (k0_off34 n) (k0_off34_inb n)
      ∗ t4Got c arg12 Y n
      ∗ dbatch c arg9 arg20 arg25 Dv (n.val + 1) 0
      ∗ t4Env c arg8 arg17 arg21 X A X8
      ∗ ∃ W, owes (c : Thread nD τ) 0 W)) := by
  iintro ⟨⟨⟨%g0, Hf0⟩, Hr0, Ht0⟩, ⟨⟨%g1, Hf1⟩, Hr1, Ht1⟩, ⟨⟨%g2, Hf2⟩, Hr2, Ht2⟩, ⟨⟨%g3, Hf3⟩, Hr3, Ht3⟩, HP, ⟨%g12, H12⟩, H20, ⟨%g9, H9⟩, HB, ⟨HX, HA, H8⟩, HO⟩
  delta dwin dslotM cellM
  unfold k0_t4_body
  by_cases h3 : k0_cond3 n = 1#1
  on_goal 1 =>
    ihave HP := pre_pos _ _ _ _ _ n h3 $$ HP
    icases HP with ⟨%g4, HP⟩
    sl_exec
    ihave HG := got_pos _ _ _ n h3 _ _ (View.read_rep _ _) $$ HP_dst
    ihave HC := cell4_move c arg26 (off22_33 n h3) _ (k0_off33_inb n) $$ HP
    ihave H19 := slot4_move c arg19 (off24_35 n h3) _ (k0_off35_inb n) _ $$ HP_src
    icases H19 with ⟨%g19, H19⟩
    sl_exec
  on_goal 2 =>
    ihave HC := pre_neg _ _ _ _ _ n h3 $$ HP
    icases HC with ⟨HC, %g19, H19⟩
    sl_exec
    ihave HG := got_neg c arg12 Y n h3
  all_goals
    ihave H20 := w20_out c arg20 n _ $$ H20
    icases H20 with ⟨%x20, %hx20, H20⟩
    ihave H19 := slot4_out c arg19 n _ $$ H19
    icases H19 with ⟨%x19, %hx19, H19⟩
    have e20 : x20 = Dv n := (hx20.trans (d_read arg7 arg8 arg14 arg17 arg20 arg21 W7 X A X8 T n _ _ _ _)).trans hD.symm
    have e19 : x19 = c4val (arg17.view.read (Elt F) X) n := hx19.trans (c4_read arg17 arg19 X n _)
    clear hx20 hx19
    subst e20 e19
    by_cases h4 : k0_cond4 n = 1#1
    · sl_exec
      ihave Hd0 := dslot_move c arg14 (os := k0_off20 n 0#32) (os' := k0_off37 n 0#32) (off37_ 0 n h4) (k0_off20_inb n 0) (k0_off37_inb n h4 0) _ $$ Hf0_dst
      ihave Hf0 := cell_move c arg23 (oc := k0_off19 n 0#32) (oc' := k0_off36 n 0#32) (off36_ 0 n h4) (k0_off19_inb n 0) (k0_off36_inb n h4 0) $$ Hf0
      icases Hd0 with ⟨%d0, Hd0⟩
      ihave Hd1 := dslot_move c arg14 (os := k0_off20 n 1#32) (os' := k0_off37 n 1#32) (off37_ 1 n h4) (k0_off20_inb n 1) (k0_off37_inb n h4 1) _ $$ Hf1_dst
      ihave Hf1 := cell_move c arg23 (oc := k0_off19 n 1#32) (oc' := k0_off36 n 1#32) (off36_ 1 n h4) (k0_off19_inb n 1) (k0_off36_inb n h4 1) $$ Hf1
      icases Hd1 with ⟨%d1, Hd1⟩
      ihave Hd2 := dslot_move c arg14 (os := k0_off20 n 2#32) (os' := k0_off37 n 2#32) (off37_ 2 n h4) (k0_off20_inb n 2) (k0_off37_inb n h4 2) _ $$ Hf2_dst
      ihave Hf2 := cell_move c arg23 (oc := k0_off19 n 2#32) (oc' := k0_off36 n 2#32) (off36_ 2 n h4) (k0_off19_inb n 2) (k0_off36_inb n h4 2) $$ Hf2
      icases Hd2 with ⟨%d2, Hd2⟩
      ihave Hd3 := dslot_move c arg14 (os := k0_off20 n 3#32) (os' := k0_off37 n 3#32) (off37_ 3 n h4) (k0_off20_inb n 3) (k0_off37_inb n h4 3) _ $$ Hf3_dst
      ihave Hf3 := cell_move c arg23 (oc := k0_off19 n 3#32) (oc' := k0_off36 n 3#32) (off36_ 3 n h4) (k0_off19_inb n 3) (k0_off36_inb n h4 3) $$ Hf3
      icases Hd3 with ⟨%d3, Hd3⟩
      delta dslotM slotM cellM
      ihave Hd1 := held_in _ $$ Hd1
      ihave Hr1 := held_in _ $$ Hr1
      ihave Hd2 := held_in _ $$ Hd2
      ihave Hr2 := held_in _ $$ Hr2
      ihave Hd3 := held_in _ $$ Hd3
      ihave Hr3 := held_in _ $$ Hr3
      sl_exec
      ihave Hr0 := held_in _ $$ Hr0
      ihave Hd1 := held_out _ $$ Hd1
      ihave Hr1 := held_out _ $$ Hr1
      sl_exec
      ihave Hr1 := held_in _ $$ Hr1
      ihave Hd2 := held_out _ $$ Hd2
      ihave Hr2 := held_out _ $$ Hr2
      sl_exec
      ihave Hr2 := held_in _ $$ Hr2
      ihave Hd3 := held_out _ $$ Hd3
      ihave Hr3 := held_out _ $$ Hr3
      sl_exec
      ihave Hr0 := held_out _ $$ Hr0
      ihave Hr1 := held_out _ $$ Hr1
      ihave Hr2 := held_out _ $$ Hr2
      sl_step
      isplitl [Hf0 Hr0 Ht0]
      · iapply (tslot_pos c arg7 arg14 arg23 W7 k0 n 0 0#32 rfl h4 (k0_off36_inb n h4 0) (k0_off37_inb n h4 0) (k0_off38_inb n h4 0) (tdslot_inb 0 n) (k0_off20_inb n 0) d0)
        isplitl [Hf0]; · iexact Hf0
        isplitl [Hr0]; · iexact Hr0
        iexact Ht0
      isplitl [Hf1 Hr1 Ht1]
      · iapply (tslot_pos c arg7 arg14 arg23 W7 k1 n 1 1#32 rfl h4 (k0_off36_inb n h4 1) (k0_off37_inb n h4 1) (k0_off38_inb n h4 1) (tdslot_inb 1 n) (k0_off20_inb n 1) d1)
        isplitl [Hf1]; · iexact Hf1
        isplitl [Hr1]; · iexact Hr1
        iexact Ht1
      isplitl [Hf2 Hr2 Ht2]
      · iapply (tslot_pos c arg7 arg14 arg23 W7 k2 n 2 2#32 rfl h4 (k0_off36_inb n h4 2) (k0_off37_inb n h4 2) (k0_off38_inb n h4 2) (tdslot_inb 2 n) (k0_off20_inb n 2) d2)
        isplitl [Hf2]; · iexact Hf2
        isplitl [Hr2]; · iexact Hr2
        iexact Ht2
      isplitl [Hf3 Hr3 Ht3]
      · iapply (tslot_pos c arg7 arg14 arg23 W7 k3 n 3 3#32 rfl h4 (k0_off36_inb n h4 3) (k0_off37_inb n h4 3) (k0_off38_inb n h4 3) (tdslot_inb 3 n) (k0_off20_inb n 3) d3)
        isplitl [Hf3]; · iexact Hf3
        isplitl [Hr3]; · iexact Hr3
        iexact Ht3
      isplitl [HC]; · iexists g12; iexact HC
      isplitl [HG]; · iexact HG
      isplitl [HB]; · iexact HB
      isplitr [HO]
      · isplitl [HX]; · iexact HX
        isplitl [HA]; · iexact HA
        iexact H8
      · iexists _; iexact HO
    · sl_exec
      sl_step
      isplitl [Hf0 Hf0_dst Hr0 Ht0]
      · iapply (tslot_neg c arg7 arg14 arg23 W7 k0 n 0 0#32 rfl h4 (k0_off19_inb n 0) (tdslot_inb 0 n) (k0_off20_inb n 0) _)
        isplitl [Hf0]; · iexact Hf0
        isplitl [Hf0_dst]; · iexact Hf0_dst
        isplitl [Hr0]; · iexact Hr0
        iexact Ht0
      isplitl [Hf1 Hf1_dst Hr1 Ht1]
      · iapply (tslot_neg c arg7 arg14 arg23 W7 k1 n 1 1#32 rfl h4 (k0_off19_inb n 1) (tdslot_inb 1 n) (k0_off20_inb n 1) _)
        isplitl [Hf1]; · iexact Hf1
        isplitl [Hf1_dst]; · iexact Hf1_dst
        isplitl [Hr1]; · iexact Hr1
        iexact Ht1
      isplitl [Hf2 Hf2_dst Hr2 Ht2]
      · iapply (tslot_neg c arg7 arg14 arg23 W7 k2 n 2 2#32 rfl h4 (k0_off19_inb n 2) (tdslot_inb 2 n) (k0_off20_inb n 2) _)
        isplitl [Hf2]; · iexact Hf2
        isplitl [Hf2_dst]; · iexact Hf2_dst
        isplitl [Hr2]; · iexact Hr2
        iexact Ht2
      isplitl [Hf3 Hf3_dst Hr3 Ht3]
      · iapply (tslot_neg c arg7 arg14 arg23 W7 k3 n 3 3#32 rfl h4 (k0_off19_inb n 3) (tdslot_inb 3 n) (k0_off20_inb n 3) _)
        isplitl [Hf3]; · iexact Hf3
        isplitl [Hf3_dst]; · iexact Hf3_dst
        isplitl [Hr3]; · iexact Hr3
        iexact Ht3
      isplitl [HC]; · iexists g12; iexact HC
      isplitl [HG]; · iexact HG
      isplitl [HB]; · iexact HB
      isplitr [HO]
      · isplitl [HX]; · iexact HX
        isplitl [HA]; · iexact HA
        iexact H8
      · iexists _; iexact HO

end Cert.Proof.KernelIdeal
-- ==== Proof.IT4Loop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IT2Loop
public import proofs.«01_k».proof.Proof.IT4
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The down loop -/

theorem quad_eq {I : Type} (i j k l : I) (Φ : I → sProp 𝕄) : bigSepL [i, j, k, l] Φ = iprop(Φ i ∗ Φ j ∗ Φ k ∗ Φ l) := rfl

theorem ent_of_eq {P Q : sProp 𝕄} (h : P = Q) : P ⊢ Q := h ▸ Entails.refl _

theorem t4_slots (n : ℕ) : [slotOf (77 + 4 * n + (0 : Fin 4).val), slotOf (77 + 4 * n + (1 : Fin 4).val), slotOf (77 + 4 * n + (2 : Fin 4).val), slotOf (77 + 4 * n + (3 : Fin 4).val)].Nodup := by
  have key : ∀ i j : Fin 4, i ≠ j → slotOf (77 + 4 * n + i.val) ≠ slotOf (77 + 4 * n + j.val) := fun i j hij h => by
    have := congrArg Fin.val h; simp only [slotOf] at this
    exact hij (Fin.ext (by omega))
  simp only [List.nodup_cons, List.mem_cons, List.not_mem_nil, or_false, not_or, List.nodup_nil, and_true, not_false_eq_true]
  exact ⟨⟨key 0 1 (by decide), key 0 2 (by decide), key 0 3 (by decide)⟩, ⟨key 1 2 (by decide), key 1 3 (by decide)⟩, key 2 3 (by decide)⟩
theorem t4_away (n : ℕ) (k : Fin 16) (hk : k ∉ [slotOf (77 + 4 * n + (0 : Fin 4).val), slotOf (77 + 4 * n + (1 : Fin 4).val), slotOf (77 + 4 * n + (2 : Fin 4).val), slotOf (77 + 4 * n + (3 : Fin 4).val)]) :
    tab (77 + 4 * (n + 1)) k = tab (77 + 4 * n) k := by
  simp only [List.mem_cons, List.not_mem_nil, or_false, not_or] at hk
  refine tab_off (77 + 4 * n) 4 (by omega) k fun j hj => ?_
  obtain rfl | rfl | rfl | rfl : j = 0 ∨ j = 1 ∨ j = 2 ∨ j = 3 := by omega
  · exact hk.1
  · exact hk.2.1
  · exact hk.2.2.1
  · exact hk.2.2.2

theorem t4_d (n : Fin N4) (j : Fin 4) : 4 * n.val + j.val < 32 := by have := t4_lt n; have := j.isLt; omega
theorem tab_t4 (n : Fin N4) (j : Fin 4) : tab (77 + 4 * n.val) (slotOf (77 + 4 * n.val + j.val)) = .down ⟨4 * n.val + j.val, t4_d n j⟩ :=
  (tab_here (77 + 4 * n.val) j.val (by have := j.isLt; omega)).trans (chunk_down' _ ⟨4 * n.val + j.val, t4_d n j⟩ (by show _ = 77 + (4 * n.val + j.val); omega))
theorem tab_t4' (n : Fin N4) (j : Fin 4) (h : n.val < 4) : tab (77 + 4 * (n.val + 1)) (slotOf (77 + 4 * n.val + j.val)) = .down ⟨4 * n.val + 16 + j.val, by have := j.isLt; omega⟩ :=
  (tab_next (77 + 4 * n.val) j.val 4 j.isLt (by omega)).trans (chunk_down' _ ⟨4 * n.val + 16 + j.val, by have := j.isLt; omega⟩ (by show _ = 77 + (4 * n.val + 16 + j.val); omega))
theorem tab_t4f (n : Fin N4) (j : Fin 4) (h : ¬ n.val < 4) : tab (77 + 4 * (n.val + 1)) (slotOf (77 + 4 * n.val + j.val)) = .free :=
  (tab_next (77 + 4 * n.val) j.val 4 j.isLt (by omega)).trans (chunk_free _ (by omega))

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (X : BufTy.Contents (Elt F) arg17.view.ty) (A : BufTy.Contents (Elt F) arg21.view.ty) (X8 : BufTy.Contents (Elt F) arg8.view.ty)
  (T : BufTy.Contents (Elt F) arg20.view.ty)

/-- Before pass `n`, the slot of its block `j`. -/
theorem ring_t4 (n : Fin N4) (j : Fin 4) (o : BitVec 32) (ho : BitVec.ofNat 32 j.val = o)
    (hc : ∀ a, k0_off19 n o a + S1.size a ≤ S16.size a) (hs : ∀ a, k0_off20 n o a + S1x4096x512.size a ≤ S16x4096x512.size a)
    (hd : ∀ a, k0_off20 n o a + S1x3584x512.size a ≤ S16x4096x512.size a) (hw : ∀ a, k0_off21 n o a + S3584x512.size a ≤ S14336x4096.size a) :
    ringAt c arg3 arg5 arg7 arg14 arg23 W3 W5 W7 (slotOf (77 + 4 * n.val + j.val)) (tab (77 + 4 * n.val) (slotOf (77 + 4 * n.val + j.val)))
    ⊢ iprop(dfl c arg14 arg23 arg7 W7 (slotOf (77 + 4 * n.val + j.val)) (k0_off19 n o) hc (k0_off20 n o) hs hd (k0_off21 n o) hw
      ∗ tok c arg3 W3 (slotOf (77 + 4 * n.val + j.val)) ∗ tok c arg5 W5 (slotOf (77 + 4 * n.val + j.val))) := by
  subst ho
  rw [tab_t4 n j]; unfold ringAt; dsimp only
  refine ent_of_eq (congrArg (fun z : sProp 𝕄 => iprop(z ∗ _)) (dfl_congr c arg14 arg23 arg7 W7 _ (off19_ j n).symm (off20_ j n).symm (off21_ j n).symm _ _ _ _ _ _ _ _))
/-- After pass `n`, the slot of its block `j`. -/
theorem ring_t4' (n : Fin N4) (j : Fin 4) :
    iprop(t4Slot c arg7 arg14 arg23 W7 (slotOf (77 + 4 * n.val + j.val)) n j
      ∗ tok c arg3 W3 (slotOf (77 + 4 * n.val + j.val)) ∗ tok c arg5 W5 (slotOf (77 + 4 * n.val + j.val)))
    ⊢ ringAt c arg3 arg5 arg7 arg14 arg23 W3 W5 W7 (slotOf (77 + 4 * n.val + j.val)) (tab (77 + 4 * (n.val + 1)) (slotOf (77 + 4 * n.val + j.val))) := by
  by_cases h : k0_cond4 n = 1#1
  · rw [t4Slot, dif_pos h, tab_t4' n j ((cond4_iff n).1 h)]; unfold ringAt; dsimp only
    refine ent_of_eq (congrArg (fun z : sProp 𝕄 => iprop(z ∗ _)) (dfl_congr c arg14 arg23 arg7 W7 _ ((off36_ j n h).symm.trans (off19_ j n)) ((off37_ j n h).symm.trans (off20_ j n)) (off38_ j n h) _ _ _ _ _ _ _ _))
  · rw [t4Slot, dif_neg h, tab_t4f n j (fun h' => h ((cond4_iff n).2 h'))]; unfold ringAt; dsimp only
    iintro ⟨⟨Hc, Hs, H7⟩, H3, H5⟩
    isplitl [Hc]
    · iapply (cell_move c arg23 (off19_ j n)) $$ Hc
    isplitl [Hs]
    · icases Hs with ⟨%f, Hs⟩
      iapply (slot_move c arg14 (off20_ j n)) $$ Hs
    isplitl [H3]; · iexact H3
    isplitl [H5]; · iexact H5
    iexact H7

/-- A staging buffer before pass `i`: carrying the codes of two passes before, or at rest. -/
def cst (i : ℕ) : sProp 𝕄 :=
  if h : 2 ≤ i ∧ i - 2 < N4 then cfl c arg12 arg19 arg26 (c4val (arg17.view.read (Elt F) X) ⟨i - 2, h.2⟩) ![i % 2] (par_inb i) ![i % 2, 0, 0, 0] (spar_inb i) (k0_off34 ⟨i - 2, h.2⟩) (k0_off34_inb ⟨i - 2, h.2⟩)
  else cidle (F := F) c arg19 arg26 ![i % 2] (par_inb i) ![i % 2, 0, 0, 0] (spar_inb i)
/-- The codes of pass `m`, arrived. -/
def cdone (m : Fin N4) : sProp 𝕄 :=
  iprop(∃ f, ((win4 arg12 (k0_off34 m) (k0_off34_inb m)).view.loc (c : Thread nD τ) ↦[(win4 arg12 (k0_off34 m) (k0_off34_inb m)).view.set]{fullShare} f)
    ∗ ⌜(win4 arg12 (k0_off34 m) (k0_off34_inb m)).view.read (Elt F) f = c4val (arg17.view.read (Elt F) X) m⌝)
/-- What pass `n` has still to take. -/
def ctodo (n : Fin N4) : sProp 𝕄 :=
  iprop((∃ f, (win4 arg12 (k0_off34 n) (k0_off34_inb n)).view.loc (c : Thread nD τ) ↦[(win4 arg12 (k0_off34 n) (k0_off34_inb n)).view.set]{fullShare} f)
    ∗ ((win20 arg20 (k0_off30 n) (k0_off30_inb n)).view.loc (c : Thread nD τ) ↦[(win20 arg20 (k0_off30 n) (k0_off30_inb n)).view.set]{fullShare} T)
    ∗ (∃ f, (win9 arg9 (k0_off32 n) (k0_off32_inb n)).view.loc (c : Thread nD τ) ↦[(win9 arg9 (k0_off32 n) (k0_off32_inb n)).view.set]{fullShare} f))
/-- The columns the passes compute. -/
abbrev Dval (n : Fin N4) : Vec F S224x512 .f32 := dval (arg17.view.read (Elt F) X) (arg7.view.read (Elt F) W7) (arg8.view.read (Elt F) X8) (arg20.view.read (Elt F) T) (arg21.view.read (Elt F) A) n
theorem t4_lt2 (n : Fin N4) : n.val - 2 < N4 := lt_of_le_of_lt (Nat.sub_le _ _) n.isLt

theorem cst_pre (n : Fin N4) : cst c arg12 arg17 arg19 arg26 X n.val ⊢ t4Pre c arg12 arg19 arg26 (c4val (arg17.view.read (Elt F) X) ⟨n.val - 2, t4_lt2 n⟩) n := by
  by_cases h : k0_cond3 n = 1#1
  · have h2 := (cond3_iff n).1 h
    rw [t4Pre, dif_pos h, cst, dif_pos ⟨h2, t4_lt2 n⟩]
    exact ent_of_eq (cfl_congr c arg12 arg19 arg26 _ ((off22_33 n h).trans (off33_ n)).symm ((off24_35 n h).trans (off35_ n)).symm ((off23_ n h).trans (off34_ ⟨n.val - 2, t4_lt2 n⟩).symm).symm _ _ _ _ _ _)
  · rw [t4Pre, dif_neg h, cst, dif_neg (fun h' => h ((cond3_iff n).2 h'.1))]
    exact ent_of_eq (cidle_congr c arg19 arg26 (off33_ n).symm (off35_ n).symm _ _ _ _)
theorem cst_post (n : Fin N4) : cfl c arg12 arg19 arg26 (c4val (arg17.view.read (Elt F) X) n) (k0_off33 n) (k0_off33_inb n) (k0_off35 n) (k0_off35_inb n) (k0_off34 n) (k0_off34_inb n)
    ⊢ cst c arg12 arg17 arg19 arg26 X (n.val + 1 + 1) := by
  have hm : n.val % 2 = (n.val + 1 + 1) % 2 := by omega
  have key : ∀ (i : ℕ) (hi : 2 ≤ i ∧ i - 2 < N4) (m : Fin N4) (_ : m = ⟨i - 2, hi.2⟩) (_ : k0_off33 n = ![i % 2]) (_ : k0_off35 n = ![i % 2, 0, 0, 0]),
      cfl c arg12 arg19 arg26 (c4val (arg17.view.read (Elt F) X) m) (k0_off33 n) (k0_off33_inb n) (k0_off35 n) (k0_off35_inb n) (k0_off34 m) (k0_off34_inb m)
        ⊢ cst c arg12 arg17 arg19 arg26 X i := by
    intro i hi m e e1 e2
    subst e
    rw [cst, dif_pos hi]
    exact ent_of_eq (cfl_congr c arg12 arg19 arg26 _ e1 e2 rfl _ _ _ _ _ _)
  have h8 := n.isLt
  exact key (n.val + 1 + 1) ⟨by omega, by omega⟩ n (Fin.ext (by show n.val = n.val + 1 + 1 - 2; omega))
    ((off33_ n).trans (congrArg (fun x => ![x]) hm)) ((off35_ n).trans (congrArg (fun x => ![x, 0, 0, 0]) hm))
theorem cdone_post (n : Fin N4) :
    iprop(t4Got c arg12 (c4val (arg17.view.read (Elt F) X) ⟨n.val - 2, t4_lt2 n⟩) n ∗ bigSep (Ring.rangeSet N4 0 (n.val - 2)) (cdone c arg12 arg17 X))
      ⊢ bigSep (Ring.rangeSet N4 0 (n.val + 1 - 2)) (cdone c arg12 arg17 X) := by
  by_cases h : k0_cond3 n = 1#1
  · have h2 := (cond3_iff n).1 h
    have h8 := t4_lt n
    rw [Ring.bigSep_rangeSet_last (lo := 0) (hi := n.val + 1 - 2) (by omega) (by have := n.isLt; omega)]
    have e : n.val + 1 - 2 - 1 = n.val - 2 := by omega
    have key : ∀ (i : ℕ) (hi : i < N4) (e : i = n.val - 2), t4Got c arg12 (c4val (arg17.view.read (Elt F) X) ⟨n.val - 2, t4_lt2 n⟩) n ⊢ cdone c arg12 arg17 X ⟨i, hi⟩ := by
      intro i hi e
      subst e
      rw [t4Got, dif_pos h, cdone]
      have key' : ∀ (o o' : Fin 3 → ℕ) (e : o = o') (h) (h'),
          iprop(∃ f, ((win4 arg12 o h).view.loc (c : Thread nD τ) ↦[(win4 arg12 o h).view.set]{fullShare} f)
            ∗ ⌜(win4 arg12 o h).view.read (Elt F) f = c4val (arg17.view.read (Elt F) X) ⟨n.val - 2, hi⟩⌝)
          ⊢ (iprop(∃ f, ((win4 arg12 o' h').view.loc (c : Thread nD τ) ↦[(win4 arg12 o' h').view.set]{fullShare} f)
            ∗ ⌜(win4 arg12 o' h').view.read (Elt F) f = c4val (arg17.view.read (Elt F) X) ⟨n.val - 2, hi⟩⌝) : sProp 𝕄) := by
        intro o o' e h h'; subst e; exact Entails.refl _
      exact key' _ _ ((off23_ n h).trans (off34_ ⟨n.val - 2, hi⟩).symm) _ _
    iintro ⟨HG, HD⟩
    isplitl [HG]
    · iapply (key _ _ e) $$ HG
    · rw [e]; iexact HD
  · have h2 : ¬ 2 ≤ n.val := fun h' => h ((cond3_iff n).2 h')
    rw [t4Got, dif_neg h, show n.val + 1 - 2 = n.val - 2 by omega]
    iintro ⟨_, HD⟩
    iexact HD

/-- The state before pass `k` of the down loop. -/
def t4At (k : ℕ) : sProp 𝕄 :=
  iprop(Ring.AtW (σ := fun _ => St) (ringAt (F := F) c arg3 arg5 arg7 arg14 arg23 W3 W5 W7) (tab (77 + 4 * k))
    ∗ cst c arg12 arg17 arg19 arg26 X k ∗ cst c arg12 arg17 arg19 arg26 X (k + 1)
    ∗ bigSep (Ring.rangeSet N4 0 (k - 2)) (cdone c arg12 arg17 X)
    ∗ bigSep (Ring.rangeSet N4 k N4) (ctodo c arg9 arg12 arg20 T)
    ∗ dbatch c arg9 arg20 arg25 (Dval arg7 arg8 arg17 arg20 arg21 W7 X A X8 T) k 0
    ∗ t4Env c arg8 arg17 arg21 X A X8
    ∗ ∃ W, owes (c : Thread nD τ) 0 W)

/-- One pass of the down loop. -/
theorem t4_step [∀ e, Nonempty (Elt F e)] (v245 : Vec F S112x128 .f32) (n : Fin N4) (a : Unit) :
    t4At c arg3 arg5 arg7 arg8 arg9 arg12 arg14 arg17 arg19 arg20 arg21 arg23 arg25 arg26 W3 W5 W7 X A X8 T n.val
      ⊢ wp frame (wpE (defs₀ (F := F)) Variants.none (c : Thread nD τ) none) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245 n a)
        (fun _ => t4At c arg3 arg5 arg7 arg8 arg9 arg12 arg14 arg17 arg19 arg20 arg21 arg23 arg25 arg26 W3 W5 W7 X A X8 T (n.val + 1)) := by
  unfold t4At
  rw [Ring.AtW_focusL _ _ _ (t4_slots n.val), quad_eq]
  rw [Ring.bigSep_rangeSet_head (lo := n.val) (hi := N4) n.isLt n.isLt]
  iintro ⟨⟨⟨R0, R1, R2, R3⟩, HR⟩, C0, C1, HD, ⟨HT, HTs⟩, HB, HE, ⟨%W, HO⟩⟩
  ihave R0 := ring_t4 c arg3 arg5 arg7 arg14 arg23 W3 W5 W7 n 0 0#32 rfl (k0_off19_inb n 0) (tdslot_inb 0 n) (k0_off20_inb n 0) (k0_off21_inb n 0) $$ R0
  icases R0 with ⟨R0, A0, B0⟩
  ihave R1 := ring_t4 c arg3 arg5 arg7 arg14 arg23 W3 W5 W7 n 1 1#32 rfl (k0_off19_inb n 1) (tdslot_inb 1 n) (k0_off20_inb n 1) (k0_off21_inb n 1) $$ R1
  icases R1 with ⟨R1, A1, B1⟩
  ihave R2 := ring_t4 c arg3 arg5 arg7 arg14 arg23 W3 W5 W7 n 2 2#32 rfl (k0_off19_inb n 2) (tdslot_inb 2 n) (k0_off20_inb n 2) (k0_off21_inb n 2) $$ R2
  icases R2 with ⟨R2, A2, B2⟩
  ihave R3 := ring_t4 c arg3 arg5 arg7 arg14 arg23 W3 W5 W7 n 3 3#32 rfl (k0_off19_inb n 3) (tdslot_inb 3 n) (k0_off20_inb n 3) (k0_off21_inb n 3) $$ R3
  icases R3 with ⟨R3, A3, B3⟩
  ihave C0 := cst_pre c arg12 arg17 arg19 arg26 X n $$ C0
  unfold ctodo
  icases HT with ⟨H12, H20, H9⟩
  ihave HW := t4_core c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W7 X A X8 T (Dval arg7 arg8 arg17 arg20 arg21 W7 X A X8 T) _ W n v245 _ _ _ _ rfl $$ [R0 R1 R2 R3 C0 H12 H20 H9 HB HE HO]
  · isplitl [R0]; · iexact R0
    isplitl [R1]; · iexact R1
    isplitl [R2]; · iexact R2
    isplitl [R3]; · iexact R3
    isplitl [C0]; · iexact C0
    isplitl [H12]; · iexact H12
    isplitl [H20]; · iexact H20
    isplitl [H9]; · iexact H9
    isplitl [HB]; · iexact HB
    isplitl [HE]; · iexact HE
    iexact HO
  iapply (wp_wand_r frame (wpE (defs₀ (F := F)) Variants.none (c : Thread nD τ) none) Set.univ)
  isplitl [HW]; · iexact HW
  iintro %_ ⟨R0, R1, R2, R3, C0, HG, HB, HE, HO⟩
  isplitl [R0 R1 R2 R3 A0 A1 A2 A3 B0 B1 B2 B3 HR]
  · iapply (Ring.AtW_refocusL (ringAt (F := F) c arg3 arg5 arg7 arg14 arg23 W3 W5 W7) (tab (77 + 4 * n.val)) _ _ (t4_slots n.val) (t4_away n.val))
    rw [quad_eq]
    isplitr [HR]
    · isplitl [R0 A0 B0]
      · iapply (ring_t4' c arg3 arg5 arg7 arg14 arg23 W3 W5 W7 n 0)
        isplitl [R0]; · iexact R0
        isplitl [A0]; · iexact A0
        iexact B0
      isplitl [R1 A1 B1]
      · iapply (ring_t4' c arg3 arg5 arg7 arg14 arg23 W3 W5 W7 n 1)
        isplitl [R1]; · iexact R1
        isplitl [A1]; · iexact A1
        iexact B1
      isplitl [R2 A2 B2]
      · iapply (ring_t4' c arg3 arg5 arg7 arg14 arg23 W3 W5 W7 n 2)
        isplitl [R2]; · iexact R2
        isplitl [A2]; · iexact A2
        iexact B2
      · iapply (ring_t4' c arg3 arg5 arg7 arg14 arg23 W3 W5 W7 n 3)
        isplitl [R3]; · iexact R3
        isplitl [A3]; · iexact A3
        iexact B3
    · iexact HR
  isplitl [C1]; · iexact C1
  isplitl [C0]
  · iapply (cst_post c arg12 arg17 arg19 arg26 X n) $$ C0
  isplitl [HG HD]
  · iapply (cdone_post c arg12 arg17 X n)
    isplitl [HG]; · iexact HG
    iexact HD
  isplitl [HTs]; · iexact HTs
  isplitl [HB]; · iexact HB
  isplitl [HE]; · iexact HE
  iexact HO

end Cert.Proof.KernelIdeal
-- ==== Proof.IT5.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IT4Loop
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The wait for the result's columns -/

theorem t5_lt (k : Fin k0_t5_loop.trips) : k.val < 8 := lt_of_lt_of_eq k.isLt (by decide +kernel)
variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (D : Fin N4 → Vec F S224x512 .f32)

/-- Before pass `k` of the last loop: `k` copies waited for; after the last, the columns delivered. -/
def t5At (k : ℕ) : sProp 𝕄 :=
  iprop((∃ W, owes (c : Thread nD τ) 0 W)
    ∗ (if k < 8 then dbatch c arg9 arg20 arg25 D 8 (k * 14336)
       else iprop(semVal ((c : Thread nD τ), cell1 arg25) 0 ∗ bigSep Finset.univ (ddel c arg9 arg20 D))))

/-- One pass of the last loop. -/
theorem t5_step [∀ e, Nonempty (Elt F e)] (k : Fin k0_t5_loop.trips) (a : Unit) :
    t5At c arg9 arg20 arg25 D k.val
      ⊢ wp frame (wpE (defs₀ (F := F)) Variants.none (c : Thread nD τ) none) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 k a)
        (fun _ => t5At c arg9 arg20 arg25 D (k.val + 1)) := by
  have hk := t5_lt k
  unfold t5At
  rw [if_pos hk]
  rcases Nat.lt_or_ge (k.val + 1) 8 with h1 | h1
  · rw [if_pos h1]
    iintro ⟨⟨%W, HO⟩, HB⟩
    sl_unfold [k0_t5_body]
    sl_exec
    sl_step
    isplitl [HO]; · iexists _; iexact HO
    rw [show (k.val + 1) * 14336 = k.val * 14336 + 14336 by omega]
    iexact HB
  · rw [if_neg (Nat.not_lt.mpr h1)]
    iintro ⟨⟨%W, HO⟩, HB⟩
    sl_unfold [k0_t5_body]
    sl_exec
    sl_step
    isplitl [HO]; · iexists _; iexact HO
    isplitl [HB]; · iexact HB
    iexact HB_all

end Cert.Proof.KernelIdeal
-- ==== Proof.IT13.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBase
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The two plain loops: norm and quantise the rows; quantise the activations -/

section Values
variable (hv : Vec F S224x4096 .f32) (gv : Vec F S1x4096 .f32) (zv : Vec F S224x14336 .f32) (mv : Vec F S224x128 .f32)

/-- Rows of block `i`. -/
def hrow (i : Fin k0_t1_loop.trips) : Vec F S32x4096 .f32 := VecWindow.window hv (k0_off4 i) S32x4096.size (k0_off4_inb i)
/-- The scales block `i` stores, each along a row of lanes. -/
def sblk (i : Fin k0_t1_loop.trips) : FVec F S32x128 .f32 := k0_pay15 (k0_pay3 (hrow hv i) gv)
/-- The codes block `i` stores. -/
def cblk (i : Fin k0_t1_loop.trips) : FVec F S32x4096 .fp8e4m3 := k0_pay16 (k0_pay1 (hrow hv i) gv) (k0_pay2 (hrow hv i) gv) k0_pay4
/-- The codes pass `p` makes of the activations. -/
def qblk (p : Fin k0_t3_loop.trips) : FVec F S224x512 .fp8e4m3 := k0_pay32 (VecWindow.window zv (k0_off18 p) S224x512.size (k0_off18_inb p)) mv
end Values

theorem off4 : ∀ p : Fin k0_t1_loop.trips, k0_off4 p = ![32 * p.val, 0] := by decide +kernel
theorem off5 : ∀ p : Fin k0_t1_loop.trips, k0_off5 p = ![32 * p.val, 0] := by decide +kernel

omit [FloatOps F] in
theorem off4_window {α : Type} (z : S224x4096.Idx → α) (p q : Fin k0_t1_loop.trips) (h : q.val ≠ p.val) (w) :
    VecWindow.window (VecWindow.put z (k0_off4 p) S32x4096.size w) (k0_off4 q) S32x4096.size (k0_off4_inb q)
      = VecWindow.window z (k0_off4 q) S32x4096.size (k0_off4_inb q) := by
  refine VecWindow.window_put_of_disjoint _ _ _ _ _ _ _ (0 : Fin 2) ?_
  rw [off4 p, off4 q]
  show 32 * q.val + 32 ≤ 32 * p.val ∨ 32 * p.val + 32 ≤ 32 * q.val
  omega
omit [FloatOps F] in
theorem off5_window {α : Type} (z : S224x128.Idx → α) (p q : Fin k0_t1_loop.trips) (h : q.val ≠ p.val) (w) :
    VecWindow.window (VecWindow.put z (k0_off5 p) S32x128.size w) (k0_off5 q) S32x128.size (k0_off5_inb q)
      = VecWindow.window z (k0_off5 q) S32x128.size (k0_off5_inb q) := by
  refine VecWindow.window_put_of_disjoint _ _ _ _ _ _ _ (0 : Fin 2) ?_
  rw [off5 p, off5 q]
  show 32 * q.val + 32 ≤ 32 * p.val ∨ 32 * p.val + 32 ≤ 32 * q.val
  omega
omit [FloatOps F] in
theorem off18_window {α : Type} (z : S224x14336.Idx → α) (p q : Fin k0_t3_loop.trips) (h : q.val ≠ p.val) (w) :
    VecWindow.window (VecWindow.put z (k0_off18 p) S224x512.size w) (k0_off18 q) S224x512.size (k0_off18_inb q)
      = VecWindow.window z (k0_off18 q) S224x512.size (k0_off18_inb q) := by
  refine VecWindow.window_put_of_disjoint _ _ _ _ _ _ _ (1 : Fin 2) ?_
  rw [off18 p, off18 q]
  show 512 * q.val + 512 ≤ 512 * p.val ∨ 512 * p.val + 512 ≤ 512 * q.val
  omega

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (H : BufTy.Contents (Elt F) arg0.view.ty) (G : BufTy.Contents (Elt F) arg2.view.ty) (Z : BufTy.Contents (Elt F) arg15.view.ty) (M : BufTy.Contents (Elt F) arg22.view.ty)

/-- The state before pass `k` of the loop over the rows. -/
def t1At (k : ℕ) : sProp 𝕄 :=
  iprop((arg0.view.loc (c : Thread nD τ) ↦[arg0.view.set]{fullShare} H)
    ∗ (arg2.view.loc (c : Thread nD τ) ↦[arg2.view.set]{fullShare} G)
    ∗ ∃ (A : BufTy.Contents (Elt F) arg21.view.ty) (C : BufTy.Contents (Elt F) arg16.view.ty),
      ((arg21.view.loc (c : Thread nD τ) ↦[arg21.view.set]{fullShare} A)
      ∗ (arg16.view.loc (c : Thread nD τ) ↦[arg16.view.set]{fullShare} C))
      ∗ ⌜∀ q : Fin k0_t1_loop.trips, q.val < k →
          VecWindow.window (arg21.view.read (Elt F) A) (k0_off5 q) S32x128.size (k0_off5_inb q) = sblk (arg0.view.read (Elt F) H) (arg2.view.read (Elt F) G) q
          ∧ VecWindow.window (arg16.view.read (Elt F) C) (k0_off4 q) S32x4096.size (k0_off4_inb q) = cblk (arg0.view.read (Elt F) H) (arg2.view.read (Elt F) G) q⌝)

/-- One pass of the loop over the rows. -/
theorem t1_step (i : Fin k0_t1_loop.trips) (a : Unit) :
    t1At c arg0 arg2 arg16 arg21 H G i.val
      ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 i a)
        (fun _ => t1At c arg0 arg2 arg16 arg21 H G (i.val + 1)) := by
  unfold t1At
  iintro ⟨HH, HG, ⟨%A, ⟨%C, ⟨⟨HA, HC⟩, %hq⟩⟩⟩⟩
  unfold k0_t1_body
  sl_exec
  sl_step
  isplitl [HH]; · iexact HH
  isplitl [HG]; · iexact HG
  iexists _; iexists _
  isplitl [HA HC]
  · isplitl [HA]; · iexact HA
    iexact HC
  ipureintro
  intro q hlt
  rw [View.read_writes_cons_put arg21.view A (k0_off5_inb i) _ _ rfl, View.read_writes_cons_put arg16.view C (k0_off4_inb i) _ _ rfl]
  rw [View.writes_nil, View.writes_nil]
  by_cases e : q.val = i.val
  · obtain rfl : q = i := Fin.ext e
    rw [VecWindow.window_put_same, VecWindow.window_put_same]
    unfold t1_step.sl.r t1_step.sl.r_1 t1_step.sl.r_2
    rw [View.readAt_full arg2.view G]
    exact ⟨rfl, rfl⟩
  · rw [off5_window _ i q e, off4_window _ i q e]; exact hq q (by omega)

/-- The state before pass `k` of the loop that quantises the activations. -/
def t3At (k : ℕ) : sProp 𝕄 :=
  iprop((arg15.view.loc (c : Thread nD τ) ↦[arg15.view.set]{fullShare} Z)
    ∗ (arg22.view.loc (c : Thread nD τ) ↦[arg22.view.set]{fullShare} M)
    ∗ ∃ (X : BufTy.Contents (Elt F) arg17.view.ty),
      (arg17.view.loc (c : Thread nD τ) ↦[arg17.view.set]{fullShare} X)
      ∗ ⌜∀ q : Fin k0_t3_loop.trips, q.val < k →
          VecWindow.window (arg17.view.read (Elt F) X) (k0_off18 q) S224x512.size (k0_off18_inb q) = qblk (arg15.view.read (Elt F) Z) (arg22.view.read (Elt F) M) q⌝)

/-- One pass of the loop that quantises the activations. -/
theorem t3_step (v245 : Vec F S112x128 .f32) (i : Fin k0_t3_loop.trips) (a : Unit) :
    t3At c arg15 arg17 arg22 Z M i.val
      ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245 i a)
        (fun _ => t3At c arg15 arg17 arg22 Z M (i.val + 1)) := by
  unfold t3At
  iintro ⟨HZ, HM, ⟨%X, ⟨HX, %hq⟩⟩⟩
  unfold k0_t3_body
  sl_exec
  sl_step
  isplitl [HZ]; · iexact HZ
  isplitl [HM]; · iexact HM
  iexists _
  isplitl [HX]; · iexact HX
  ipureintro
  intro q hlt
  rw [View.read_writes_cons_put arg17.view X (k0_off18_inb i) _ _ rfl]
  rw [View.writes_nil]
  by_cases e : q.val = i.val
  · obtain rfl : q = i := Fin.ext e
    rw [VecWindow.window_put_same]
    rw [View.readAt_full arg22.view M]
    rfl
  · rw [off18_window _ i q e]; exact hq q (by omega)

end Cert.Proof.KernelIdeal
-- ==== Proof.IPro.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IT5
public import proofs.«01_k».proof.Proof.IT13
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The first sixteen copies -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)

/-- The copies of part 14 of the kernel's text. -/
theorem pro14 [∀ e, Nonempty (Elt F e)] :
    iprop(ringAt (F := F) c arg3 arg5 arg7 arg14 arg23 W3 W5 W7 5 .free ∗ ringAt (F := F) c arg3 arg5 arg7 arg14 arg23 W3 W5 W7 6 .free ∗ ringAt (F := F) c arg3 arg5 arg7 arg14 arg23 W3 W5 W7 7 .free)
      ⊢ wp frame (wpE (defs₀ (F := F)) Variants.none (c : Thread nD τ) none) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 5 (.gate 0) ∗ ringAt (F := F) c arg3 arg5 arg7 arg14 arg23 W3 W5 W7 6 (.up 0) ∗ ringAt (F := F) c arg3 arg5 arg7 arg14 arg23 W3 W5 W7 7 (.gate 1))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Hb0 := held_in _ $$ Hb0
  ihave Ha1 := held_in _ $$ Ha1
  ihave Hb2 := held_in _ $$ Hb2
  rw [k0_part14_eq_skeleton]
  sl_unfold [k0_part14_skel]
  sl_exec
  sl_step
  ihave Hb0 := held_out _ $$ Hb0
  isplitl [Hc0 Ha0 Hb0 Hd0]
  · isplitl [Hc0 Ha0]
    · isplitl [Hc0]
      · iexists f0
        iexact Hc0
      · iexact Ha0
    isplitl [Hb0]; · iexact Hb0
    iexact Hd0
  ihave Ha1 := held_out _ $$ Ha1
  isplitl [Hc1 Ha1 Hb1 Hd1]
  · isplitl [Hc1 Hb1]
    · isplitl [Hc1]
      · iexists f1
        iexact Hc1
      · iexact Hb1
    isplitl [Ha1]; · iexact Ha1
    iexact Hd1
  ihave Hb2 := held_out _ $$ Hb2
  isplitl [Hc2 Ha2]
  · isplitl [Hc2]
    · iexists f2
      iexact Hc2
    · iexact Ha2
  isplitl [Hb2]; · iexact Hb2
  iexact Hd2

/-- The copies of part 15 of the kernel's text. -/
theorem pro15 [∀ e, Nonempty (Elt F e)] :
    iprop(ringAt (F := F) c arg3 arg5 arg7 arg14 arg23 W3 W5 W7 8 .free ∗ ringAt (F := F) c arg3 arg5 arg7 arg14 arg23 W3 W5 W7 9 .free ∗ ringAt (F := F) c arg3 arg5 arg7 arg14 arg23 W3 W5 W7 10 .free)
      ⊢ wp frame (wpE (defs₀ (F := F)) Variants.none (c : Thread nD τ) none) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 8 (.up 1) ∗ ringAt (F := F) c arg3 arg5 arg7 arg14 arg23 W3 W5 W7 9 (.gate 2) ∗ ringAt (F := F) c arg3 arg5 arg7 arg14 arg23 W3 W5 W7 10 (.up 2))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Ha0 := held_in _ $$ Ha0
  ihave Hb1 := held_in _ $$ Hb1
  ihave Ha2 := held_in _ $$ Ha2
  rw [k0_part15_eq_skeleton]
  sl_unfold [k0_part15_skel]
  sl_exec
  sl_step
  ihave Ha0 := held_out _ $$ Ha0
  isplitl [Hc0 Ha0 Hb0 Hd0]
  · isplitl [Hc0 Hb0]
    · isplitl [Hc0]
      · iexists f0
        iexact Hc0
      · iexact Hb0
    isplitl [Ha0]; · iexact Ha0
    iexact Hd0
  ihave Hb1 := held_out _ $$ Hb1
  isplitl [Hc1 Ha1 Hb1 Hd1]
  · isplitl [Hc1 Ha1]
    · isplitl [Hc1]
      · iexists f1
        iexact Hc1
      · iexact Ha1
    isplitl [Hb1]; · iexact Hb1
    iexact Hd1
  ihave Ha2 := held_out _ $$ Ha2
  isplitl [Hc2 Hb2]
  · isplitl [Hc2]
    · iexists f2
      iexact Hc2
    · iexact Hb2
  isplitl [Ha2]; · iexact Ha2
  iexact Hd2

/-- The copies of part 16 of the kernel's text. -/
theorem pro16 [∀ e, Nonempty (Elt F e)] :
    iprop(ringAt (F := F) c arg3 arg5 arg7 arg14 arg23 W3 W5 W7 11 .free ∗ ringAt (F := F) c arg3 arg5 arg7 arg14 arg23 W3 W5 W7 12 .free ∗ ringAt (F := F) c arg3 arg5 arg7 arg14 arg23 W3 W5 W7 13 .free)
      ⊢ wp frame (wpE (defs₀ (F := F)) Variants.none (c : Thread nD τ) none) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 11 (.gate 3) ∗ ringAt (F := F) c arg3 arg5 arg7 arg14 arg23 W3 W5 W7 12 (.up 3) ∗ ringAt (F := F) c arg3 arg5 arg7 arg14 arg23 W3 W5 W7 13 (.gate 4))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Hb0 := held_in _ $$ Hb0
  ihave Ha1 := held_in _ $$ Ha1
  ihave Hb2 := held_in _ $$ Hb2
  rw [k0_part16_eq_skeleton]
  sl_unfold [k0_part16_skel]
  sl_exec
  sl_step
  ihave Hb0 := held_out _ $$ Hb0
  isplitl [Hc0 Ha0 Hb0 Hd0]
  · isplitl [Hc0 Ha0]
    · isplitl [Hc0]
      · iexists f0
        iexact Hc0
      · iexact Ha0
    isplitl [Hb0]; · iexact Hb0
    iexact Hd0
  ihave Ha1 := held_out _ $$ Ha1
  isplitl [Hc1 Ha1 Hb1 Hd1]
  · isplitl [Hc1 Hb1]
    · isplitl [Hc1]
      · iexists f1
        iexact Hc1
      · iexact Hb1
    isplitl [Ha1]; · iexact Ha1
    iexact Hd1
  ihave Hb2 := held_out _ $$ Hb2
  isplitl [Hc2 Ha2]
  · isplitl [Hc2]
    · iexists f2
      iexact Hc2
    · iexact Ha2
  isplitl [Hb2]; · iexact Hb2
  iexact Hd2

/-- The copies of part 17 of the kernel's text. -/
theorem pro17 [∀ e, Nonempty (Elt F e)] :
    iprop(ringAt (F := F) c arg3 arg5 arg7 arg14 arg23 W3 W5 W7 14 .free ∗ ringAt (F := F) c arg3 arg5 arg7 arg14 arg23 W3 W5 W7 15 .free ∗ ringAt (F := F) c arg3 arg5 arg7 arg14 arg23 W3 W5 W7 0 .free)
      ⊢ wp frame (wpE (defs₀ (F := F)) Variants.none (c : Thread nD τ) none) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 14 (.up 4) ∗ ringAt (F := F) c arg3 arg5 arg7 arg14 arg23 W3 W5 W7 15 (.gate 5) ∗ ringAt (F := F) c arg3 arg5 arg7 arg14 arg23 W3 W5 W7 0 (.up 5))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Ha0 := held_in _ $$ Ha0
  ihave Hb1 := held_in _ $$ Hb1
  ihave Ha2 := held_in _ $$ Ha2
  rw [k0_part17_eq_skeleton]
  sl_unfold [k0_part17_skel]
  sl_exec
  sl_step
  ihave Ha0 := held_out _ $$ Ha0
  isplitl [Hc0 Ha0 Hb0 Hd0]
  · isplitl [Hc0 Hb0]
    · isplitl [Hc0]
      · iexists f0
        iexact Hc0
      · iexact Hb0
    isplitl [Ha0]; · iexact Ha0
    iexact Hd0
  ihave Hb1 := held_out _ $$ Hb1
  isplitl [Hc1 Ha1 Hb1 Hd1]
  · isplitl [Hc1 Ha1]
    · isplitl [Hc1]
      · iexists f1
        iexact Hc1
      · iexact Ha1
    isplitl [Hb1]; · iexact Hb1
    iexact Hd1
  ihave Ha2 := held_out _ $$ Ha2
  isplitl [Hc2 Hb2]
  · isplitl [Hc2]
    · iexists f2
      iexact Hc2
    · iexact Hb2
  isplitl [Ha2]; · iexact Ha2
  iexact Hd2

/-- The copies of part 18 of the kernel's text. -/
theorem pro18 [∀ e, Nonempty (Elt F e)] :
    iprop(ringAt (F := F) c arg3 arg5 arg7 arg14 arg23 W3 W5 W7 1 .free ∗ ringAt (F := F) c arg3 arg5 arg7 arg14 arg23 W3 W5 W7 2 .free ∗ ringAt (F := F) c arg3 arg5 arg7 arg14 arg23 W3 W5 W7 3 .free)
      ⊢ wp frame (wpE (defs₀ (F := F)) Variants.none (c : Thread nD τ) none) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 1 (.gate 6) ∗ ringAt (F := F) c arg3 arg5 arg7 arg14 arg23 W3 W5 W7 2 (.up 6) ∗ ringAt (F := F) c arg3 arg5 arg7 arg14 arg23 W3 W5 W7 3 (.gate 7))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Hb0 := held_in _ $$ Hb0
  ihave Ha1 := held_in _ $$ Ha1
  ihave Hb2 := held_in _ $$ Hb2
  rw [k0_part18_eq_skeleton]
  sl_unfold [k0_part18_skel]
  sl_exec
  sl_step
  ihave Hb0 := held_out _ $$ Hb0
  isplitl [Hc0 Ha0 Hb0 Hd0]
  · isplitl [Hc0 Ha0]
    · isplitl [Hc0]
      · iexists f0
        iexact Hc0
      · iexact Ha0
    isplitl [Hb0]; · iexact Hb0
    iexact Hd0
  ihave Ha1 := held_out _ $$ Ha1
  isplitl [Hc1 Ha1 Hb1 Hd1]
  · isplitl [Hc1 Hb1]
    · isplitl [Hc1]
      · iexists f1
        iexact Hc1
      · iexact Hb1
    isplitl [Ha1]; · iexact Ha1
    iexact Hd1
  ihave Hb2 := held_out _ $$ Hb2
  isplitl [Hc2 Ha2]
  · isplitl [Hc2]
    · iexists f2
      iexact Hc2
    · iexact Ha2
  isplitl [Hb2]; · iexact Hb2
  iexact Hd2

end Cert.Proof.KernelIdeal
-- ==== Proof.IBlocks.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IPro
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## Arrays laid out in blocks along one axis -/

/-- An array read off its blocks: `q i` is the block that holds index `i`. -/
def untile {α : Type} {s : Shape} {NB : ℕ} (off : Fin NB → Fin s.rank → ℕ) (size : Fin s.rank → ℕ) (q : s.Idx → Fin NB)
    (hq : ∀ i a, off (q i) a ≤ (i a).val ∧ (i a).val < off (q i) a + size a) (blk : Fin NB → ((a : Fin s.rank) → Fin (size a)) → α) : s.Idx → α :=
  fun i => blk (q i) (fun a => ⟨(i a).val - off (q i) a, by have := hq i a; omega⟩)

omit [FloatOps F] in
/-- An array whose every window is the block named is the array read off those blocks. -/
theorem untile_eq {α : Type} {s : Shape} {NB : ℕ} (off : Fin NB → Fin s.rank → ℕ) (size : Fin s.rank → ℕ) (q : s.Idx → Fin NB)
    (hq : ∀ i a, off (q i) a ≤ (i a).val ∧ (i a).val < off (q i) a + size a) (blk : Fin NB → ((a : Fin s.rank) → Fin (size a)) → α)
    (inb : ∀ b a, off b a + size a ≤ s.size a) (V : s.Idx → α)
    (h : ∀ b, VecWindow.window V (off b) size (inb b) = blk b) : V = untile off size q hq blk := by
  funext i
  unfold untile
  rw [← h (q i)]
  unfold VecWindow.window
  refine congrArg V (funext fun a => Fin.ext ?_)
  show (i a).val = off (q i) a + 1 * ((i a).val - off (q i) a)
  have := hq i a
  omega

section Blocks
variable {sp : Space} {s : Shape} {e : EltTy} {NB : ℕ} (c : Dev nD) (m : Memref sig .tc sp s e) (a₀ : Fin s.rank) (R : ℕ)
  (off : Fin NB → Fin s.rank → ℕ) (size : Fin s.rank → ℕ) (inb : ∀ b a, off b a + size a ≤ s.size a)
  (hoff₀ : ∀ b, off b a₀ = R * b.val) (hoff : ∀ b a, a ≠ a₀ → off b a = 0)
  (hsz₀ : size a₀ = R) (hsz : ∀ a, a ≠ a₀ → size a = s.size a) (hN : NB * R = s.size a₀)
  (I : Fin NB → Finset (Idx (m.view.loc (c : Thread nD τ)))) (hI : ∀ b, I b = (Rect.unit (off b) size (inb b)).set.map m.view.emb)

include hI hoff₀ hsz₀ in
theorem blk_disj (b b' : Fin NB) (h : b ≠ b') : Disjoint (I b) (I b') := by
  rw [hI b, hI b']
  exact (Finset.disjoint_map _).2 (Ring.lead_disjoint a₀ R off size inb hoff₀ hsz₀ b b' h)
include hI hoff₀ hoff hsz₀ hsz hN in
theorem blk_cover : Finset.univ.biUnion I = m.view.set := by
  have h := Ring.lead_cover a₀ R off size inb hoff₀ hoff hsz₀ hsz hN
  ext i
  simp only [Finset.mem_biUnion, Finset.mem_univ, true_and]
  constructor
  · rintro ⟨b, hb⟩
    rw [hI b, Finset.mem_map] at hb
    obtain ⟨y, -, rfl⟩ := hb
    exact Finset.mem_map_of_mem _ (Finset.mem_univ y)
  · intro hi
    obtain ⟨y, -, rfl⟩ := Finset.mem_map.1 hi
    have hy : y ∈ Finset.univ.biUnion (fun b => (Rect.unit (off b) size (inb b)).set) := by rw [h]; exact Finset.mem_univ y
    obtain ⟨b, -, hb⟩ := Finset.mem_biUnion.1 hy
    exact ⟨b, by rw [hI b]; exact Finset.mem_map_of_mem _ hb⟩
include hI hoff₀ hoff hsz₀ hsz hN in
/-- An array held is its blocks held. -/
theorem blk_split (f : BufTy.Contents (Elt F) m.view.ty) :
    (m.view.loc (c : Thread nD τ) ↦[m.view.set]{fullShare} f : sProp 𝕄) ⊢ bigSep Finset.univ fun b => (m.view.loc (c : Thread nD τ) ↦[I b]{fullShare} f : sProp 𝕄) :=
  Entails.of_eq (Ring.pointsTo_sub_blocks I (blk_disj c m a₀ R off size inb hoff₀ hsz₀ I hI) m.view.set
    (blk_cover c m a₀ R off size inb hoff₀ hoff hsz₀ hsz hN I hI) f)
include hI hoff₀ hoff hsz₀ hsz hN in
/-- The blocks held, each at some contents, are the array held. -/
theorem blk_join [∀ e, Nonempty (Elt F e)] :
    (bigSep Finset.univ fun b => iprop(∃ f, m.view.loc (c : Thread nD τ) ↦[I b]{fullShare} f)) ⊢ (iprop(∃ g, m.view.loc (c : Thread nD τ) ↦[m.view.set]{fullShare} g) : sProp 𝕄) :=
  Ring.pointsTo_sub_blocks_join_exists I (blk_disj c m a₀ R off size inb hoff₀ hsz₀ I hI) m.view.set
    (blk_cover c m a₀ R off size inb hoff₀ hoff hsz₀ hsz hN I hI) (m.view.rep (fun _ => Classical.choice inferInstance))
include hoff₀ hoff hsz₀ hsz hN in
/-- The blocks held, each at the contents that read `X`, are the array held at contents whose windows are `X`. -/
theorem blk_join_rep [∀ e, Nonempty (Elt F e)] (X : Fin NB → ((a : Fin s.rank) → Fin (size a)) → Elt F e) :
    (bigSep Finset.univ fun b => ((m.slice (Rect.unit (off b) size (inb b)) (fun _ => rfl)).view.loc (c : Thread nD τ) ↦[(m.slice (Rect.unit (off b) size (inb b)) (fun _ => rfl)).view.set]{fullShare}
        (m.slice (Rect.unit (off b) size (inb b)) (fun _ => rfl)).view.rep (X b) : sProp 𝕄))
      ⊢ iprop(∃ g, (m.view.loc (c : Thread nD τ) ↦[m.view.set]{fullShare} g) ∗ ⌜∀ b, VecWindow.window (m.view.read (Elt F) g) (off b) size (inb b) = X b⌝) := by
  have hI : ∀ b, (m.slice (Rect.unit (off b) size (inb b)) (fun _ => rfl)).view.set = (Rect.unit (off b) size (inb b)).set.map m.view.emb := fun b => View.set_slice _ _
  have hd := blk_disj c m a₀ R off size inb hoff₀ hsz₀ _ hI
  have hc := blk_cover c m a₀ R off size inb hoff₀ hoff hsz₀ hsz hN _ hI
  refine (pointsTo_biUnion_join (ℓ := m.view.loc (c : Thread nD τ)) Finset.univ _ _ (m.view.rep (fun _ => Classical.choice inferInstance)) (fun b _ b' _ h => hd b b' h)).trans ?_
  iintro ⟨%g, %hg, H⟩
  iexists g
  rw [hc]
  isplitl [H]
  · iexact H
  · ipureintro
    intro b
    have := View.read_congr (v := (m.slice (Rect.unit (off b) size (inb b)) (fun _ => rfl)).view) (hg b (Finset.mem_univ b))
    exact this.trans (View.read_rep _ _)
end Blocks

end Cert.Proof.KernelIdeal
-- ==== Proof.IVals.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBlocks
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## What the whole kernel computes, from what its operands hold -/

theorem t1_lt (q : Fin k0_t1_loop.trips) : q.val < 7 := lt_of_lt_of_eq q.isLt (by decide +kernel)
theorem t3_lt (q : Fin k0_t3_loop.trips) : q.val < 28 := lt_of_lt_of_eq q.isLt (by decide +kernel)

/-- The block of 32 rows that holds a row. -/
def rowBlk (i : Fin 224) : Fin k0_t1_loop.trips := ⟨i.val / 32, lt_of_lt_of_eq (by omega : i.val / 32 < 7) (by decide +kernel)⟩
/-- The block of 512 columns that holds a column. -/
def colBlk2 (i : Fin 14336) : Fin k0_t2_loop.trips := ⟨i.val / 512, lt_of_lt_of_eq (by omega : i.val / 512 < 28) (by decide +kernel)⟩
/-- The block of 512 columns that holds a column. -/
def colBlk3 (i : Fin 14336) : Fin k0_t3_loop.trips := ⟨i.val / 512, lt_of_lt_of_eq (by omega : i.val / 512 < 28) (by decide +kernel)⟩
/-- The block of 512 columns that holds a column of the result. -/
def colBlk4 (i : Fin 4096) : Fin N4 := ⟨i.val / 512, lt_of_lt_of_eq (by omega : i.val / 512 < 8) (by decide +kernel)⟩
/-- The block of 1792 columns that holds a column of the codes. -/
def codeBlk (i : Fin 14336) : Fin N4 := ⟨i.val / 1792, lt_of_lt_of_eq (by omega : i.val / 1792 < 8) (by decide +kernel)⟩

omit [FloatOps F] in
theorem hq4 (i : S224x4096.Idx) (a : Fin 2) : k0_off4 (rowBlk (i 0)) a ≤ (i a).val ∧ (i a).val < k0_off4 (rowBlk (i 0)) a + S32x4096.size a := by
  rw [off4]
  match a with
  | 0 => have h : (i 0).val < 224 := (i 0).isLt
         show 32 * ((i 0).val / 32) ≤ (i 0).val ∧ (i 0).val < 32 * ((i 0).val / 32) + 32; omega
  | 1 => have h : (i 1).val < 4096 := (i 1).isLt
         show 0 ≤ (i 1).val ∧ (i 1).val < 0 + 4096; omega
omit [FloatOps F] in
theorem hq5 (i : S224x128.Idx) (a : Fin 2) : k0_off5 (rowBlk (i 0)) a ≤ (i a).val ∧ (i a).val < k0_off5 (rowBlk (i 0)) a + S32x128.size a := by
  rw [off5]
  match a with
  | 0 => have h : (i 0).val < 224 := (i 0).isLt
         show 32 * ((i 0).val / 32) ≤ (i 0).val ∧ (i 0).val < 32 * ((i 0).val / 32) + 32; omega
  | 1 => have h : (i 1).val < 128 := (i 1).isLt
         show 0 ≤ (i 1).val ∧ (i 1).val < 0 + 128; omega
omit [FloatOps F] in
theorem hq11 (i : S224x14336.Idx) (a : Fin 2) : k0_off11 (colBlk2 (i 1)) a ≤ (i a).val ∧ (i a).val < k0_off11 (colBlk2 (i 1)) a + S224x512.size a := by
  rw [off11]
  match a with
  | 0 => have h : (i 0).val < 224 := (i 0).isLt
         show 0 ≤ (i 0).val ∧ (i 0).val < 0 + 224; omega
  | 1 => have h : (i 1).val < 14336 := (i 1).isLt
         show 512 * ((i 1).val / 512) ≤ (i 1).val ∧ (i 1).val < 512 * ((i 1).val / 512) + 512; omega
theorem off18_ : ∀ q : Fin k0_t3_loop.trips, k0_off18 q = ![0, 512 * q.val] := by decide +kernel
omit [FloatOps F] in
theorem hq18 (i : S224x14336.Idx) (a : Fin 2) : k0_off18 (colBlk3 (i 1)) a ≤ (i a).val ∧ (i a).val < k0_off18 (colBlk3 (i 1)) a + S224x512.size a := by
  rw [off18_]
  match a with
  | 0 => have h : (i 0).val < 224 := (i 0).isLt
         show 0 ≤ (i 0).val ∧ (i 0).val < 0 + 224; omega
  | 1 => have h : (i 1).val < 14336 := (i 1).isLt
         show 512 * ((i 1).val / 512) ≤ (i 1).val ∧ (i 1).val < 512 * ((i 1).val / 512) + 512; omega
omit [FloatOps F] in
theorem hq32 (i : S224x4096.Idx) (a : Fin 2) : k0_off32 (colBlk4 (i 1)) a ≤ (i a).val ∧ (i a).val < k0_off32 (colBlk4 (i 1)) a + S224x512.size a := by
  rw [off32_]
  match a with
  | 0 => have h : (i 0).val < 224 := (i 0).isLt
         show 0 ≤ (i 0).val ∧ (i 0).val < 0 + 224; omega
  | 1 => have h : (i 1).val < 4096 := (i 1).isLt
         show 512 * ((i 1).val / 512) ≤ (i 1).val ∧ (i 1).val < 512 * ((i 1).val / 512) + 512; omega
omit [FloatOps F] in
theorem hq34 (i : S2x112x14336.Idx) (a : Fin 3) : k0_off34 (codeBlk (i 2)) a ≤ (i a).val ∧ (i a).val < k0_off34 (codeBlk (i 2)) a + S2x112x1792.size a := by
  rw [off34_]
  match a with
  | 0 => have h : (i 0).val < 2 := (i 0).isLt
         show 0 ≤ (i 0).val ∧ (i 0).val < 0 + 2; omega
  | 1 => have h : (i 1).val < 112 := (i 1).isLt
         show 0 ≤ (i 1).val ∧ (i 1).val < 0 + 112; omega
  | 2 => have h : (i 2).val < 14336 := (i 2).isLt
         show 1792 * ((i 2).val / 1792) ≤ (i 2).val ∧ (i 2).val < 1792 * ((i 2).val / 1792) + 1792; omega
/-- Where row `b` of a pair of rows sits. -/
abbrev offR (b : Fin 2) : Fin 2 → ℕ := ![b.val, 0]
theorem offR_inb : ∀ (b : Fin 2) a, offR b a + S1x112.size a ≤ S2x112.size a := by decide
omit [FloatOps F] in
theorem hqR (i : S2x112.Idx) (a : Fin 2) : offR (i 0) a ≤ (i a).val ∧ (i a).val < offR (i 0) a + S1x112.size a := by
  match a with
  | 0 => show (i 0).val ≤ (i 0).val ∧ (i 0).val < (i 0).val + 1; omega
  | 1 => have h : (i 1).val < 112 := (i 1).isLt
         show 0 ≤ (i 1).val ∧ (i 1).val < 0 + 112; omega
/-- Where half `b` of a pair of halves sits. -/
abbrev offH (b : Fin 2) : Fin 3 → ℕ := ![b.val, 0, 0]
theorem offH_inb : ∀ (b : Fin 2) a, offH b a + S1x112x4096.size a ≤ S2x112x4096.size a := by decide
omit [FloatOps F] in
theorem hqH (i : S2x112x4096.Idx) (a : Fin 3) : offH (i 0) a ≤ (i a).val ∧ (i a).val < offH (i 0) a + S1x112x4096.size a := by
  match a with
  | 0 => show (i 0).val ≤ (i 0).val ∧ (i 0).val < (i 0).val + 1; omega
  | 1 => have h : (i 1).val < 112 := (i 1).isLt
         show 0 ≤ (i 1).val ∧ (i 1).val < 0 + 112; omega
  | 2 => have h : (i 2).val < 4096 := (i 2).isLt
         show 0 ≤ (i 2).val ∧ (i 2).val < 0 + 4096; omega

section Values
variable (hv : Vec F S224x4096 .f32) (tv : Vec F S224x4096 .f32) (gv : Vec F S1x4096 .f32) (w3 w5 : Vec F S4096x14336 .fp8e4m3)
  (w7 : Vec F S14336x4096 .fp8e4m3) (x4 x6 : Vec F S1x14336 .f32) (x8 : Vec F S1x4096 .f32)

/-- The scales of the normalised rows. -/
def aAll : Vec F S224x128 .f32 := untile k0_off5 S32x128.size (fun i : S224x128.Idx => rowBlk (i 0)) hq5 (fun q => sblk hv gv q)
/-- The codes of the normalised rows. -/
def cAll : Vec F S224x4096 .fp8e4m3 := untile k0_off4 S32x4096.size (fun i : S224x4096.Idx => rowBlk (i 0)) hq4 (fun q => cblk hv gv q)
/-- The activations. -/
def zAll : Vec F S224x14336 .f32 := untile k0_off11 S224x512.size (fun i : S224x14336.Idx => colBlk2 (i 1)) hq11
  (fun q => zval (aAll hv gv) (cAll hv gv) w3 w5 x4 x6 q)
/-- Their lane maxima. -/
def mAll : Vec F S224x128 .f32 := mval (aAll hv gv) (cAll hv gv) w3 w5 x4 x6 28
/-- Their scales. -/
def a2All : FVec F S224x128 .f32 := k0_pay27 (k0_pay24 (mAll hv gv w3 w5 x4 x6)) k0_pay25
/-- The inverses of their scales. -/
def m2All : FVec F S224x128 .f32 := k0_pay28 (k0_pay24 (mAll hv gv w3 w5 x4 x6)) k0_pay25
/-- Their codes. -/
def xAll : Vec F S224x14336 .fp8e4m3 := untile k0_off18 S224x512.size (fun i : S224x14336.Idx => colBlk3 (i 1)) hq18
  (fun q => qblk (zAll hv gv w3 w5 x4 x6) (m2All hv gv w3 w5 x4 x6) q)
/-- A pair of rows of scales, the rows' first lanes. -/
def a3blk (A : Vec F S224x128 .f32) (b : Fin 2) : Vec F S1x112 .f32 :=
  if b.val = 0 then k0_pay17 (VecWindow.window A ![0, 0] S112x128.size inb_S224x128_S112x128_0_0)
  else k0_pay20 (VecWindow.window A ![112, 0] S112x128.size inb_S224x128_S112x128_112_0) k0_pay18 (k0_pay19 (F := F))
/-- The first scales, as the result keeps them. -/
def a3out : Vec F S2x112 .f32 := untile offR S1x112.size (fun i : S2x112.Idx => i 0) hqR (a3blk (aAll hv gv))
/-- A pair of rows of scales. -/
def a4blk (A : Vec F S224x128 .f32) (b : Fin 2) : Vec F S1x112 .f32 :=
  if b.val = 0 then k0_pay29 (VecWindow.window A ![0, 0] S112x128.size inb_S224x128_S112x128_0_0)
  else k0_pay31 (k0_pay30 (VecWindow.window A ![112, 0] S112x128.size inb_S224x128_S112x128_112_0))
/-- The second scales, as the result keeps them. -/
def a4out : Vec F S2x112 .f32 := untile offR S1x112.size (fun i : S2x112.Idx => i 0) hqR (a4blk (a2All hv gv w3 w5 x4 x6))
/-- A half of the first codes. -/
def c3blk (C : Vec F S224x4096 .fp8e4m3) (b : Fin 2) : FVec F S1x112x4096 .fp8e4m3 := if b.val = 0 then k0_pay21 C else k0_pay22 C
/-- The first codes, as the result keeps them. -/
def c3out : Vec F S2x112x4096 .fp8e4m3 := untile offH S1x112x4096.size (fun i : S2x112x4096.Idx => i 0) hqH (c3blk (cAll hv gv))
/-- The second codes, as the result keeps them. -/
def c4out : Vec F S2x112x14336 .fp8e4m3 := untile k0_off34 S2x112x1792.size (fun i : S2x112x14336.Idx => codeBlk (i 2)) hq34
  (fun n => c4val (xAll hv gv w3 w5 x4 x6) n)
/-- The first result. -/
def dout : Vec F S224x4096 .f32 := untile k0_off32 S224x512.size (fun i : S224x4096.Idx => colBlk4 (i 1)) hq32
  (fun n => dval (xAll hv gv w3 w5 x4 x6) w7 x8 (k0_pay14 tv) (a2All hv gv w3 w5 x4 x6) n)
end Values

/-- The first rows of scales are stored: then the others. -/
theorem rows_read (P : Vec F S2x112 .f32) (f : Vec F S2x112 .f32) (b : Fin 2 → Vec F S1x112 .f32)
    (h : P = VecWindow.put (VecWindow.put f ![0, 0] S1x112.size (b 0)) ![1, 0] S1x112.size (b 1)) :
    P = untile (s := S2x112) (NB := 2) offR S1x112.size (fun i : S2x112.Idx => i 0) hqR b := by
  refine untile_eq (s := S2x112) (NB := 2) offR _ _ _ _ offR_inb _ (fun q => ?_)
  subst h
  match q with
  | 0 =>
    refine (VecWindow.window_put_of_disjoint _ _ _ _ _ _ _ (0 : Fin 2) ?_).trans (VecWindow.window_put_same _ _ _ _ _)
    left; show 0 + 1 ≤ 1; omega
  | 1 => exact VecWindow.window_put_same _ _ _ _ _
/-- The two halves of the codes are stored. -/
theorem halves_read (P : Vec F S2x112x4096 .fp8e4m3) (f : Vec F S2x112x4096 .fp8e4m3) (b : Fin 2 → Vec F S1x112x4096 .fp8e4m3)
    (h : P = VecWindow.put (VecWindow.put f ![0, 0, 0] S1x112x4096.size (b 0)) ![1, 0, 0] S1x112x4096.size (b 1)) :
    P = untile (s := S2x112x4096) (NB := 2) offH S1x112x4096.size (fun i : S2x112x4096.Idx => i 0) hqH b := by
  refine untile_eq (s := S2x112x4096) (NB := 2) offH _ _ _ _ offH_inb _ (fun q => ?_)
  subst h
  match q with
  | 0 =>
    refine (VecWindow.window_put_of_disjoint _ _ _ _ _ _ _ (0 : Fin 3) ?_).trans (VecWindow.window_put_same _ _ _ _ _)
    left; show 0 + 1 ≤ 1; omega
  | 1 => exact VecWindow.window_put_same _ _ _ _ _

end Cert.Proof.KernelIdeal
-- ==== Proof.IBody19.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IVals
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The rows -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

set_option maxHeartbeats 4000000 in
/-- Part 19 of the kernel's text: the last of the first copies, and the loop over the rows. -/
theorem b19 [∀ e, Nonempty (Elt F e)] :
    iprop(ringAt (F := F) c arg3 arg5 arg7 arg14 arg23 W3 W5 W7 4 .free ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G) ∗ (∃ f, (arg11.view.loc (c : Thread nD τ) ↦[arg11.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
      ⊢ wp frame (wpE (defs₀ (F := F)) Variants.none (c : Thread nD τ) none) Set.univ (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun r => iprop(ringAt (F := F) c arg3 arg5 arg7 arg14 arg23 W3 W5 W7 4 (.up 7) ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G)
      ∗ (∃ f, (arg11.view.loc (c : Thread nD τ) ↦[arg11.view.set]{fullShare} f) ∗ ⌜∃ g : Vec F S2x112 .f32, arg11.view.read (Elt F) f = VecWindow.put g ![0, 0] S1x112.size (a3blk (aAll (arg0.view.read (Elt F) H) (arg2.view.read (Elt F) G)) 0)⌝)
      ∗ (∃ f, (arg16.view.loc (c : Thread nD τ) ↦[arg16.view.set]{fullShare} f) ∗ ⌜arg16.view.read (Elt F) f = cAll (arg0.view.read (Elt F) H) (arg2.view.read (Elt F) G)⌝)
      ∗ (∃ f, (arg20.view.loc (c : Thread nD τ) ↦[arg20.view.set]{fullShare} f) ∗ ⌜arg20.view.read (Elt F) f = k0_pay14 (arg1.view.read (Elt F) T1)⌝)
      ∗ (∃ f, (arg21.view.loc (c : Thread nD τ) ↦[arg21.view.set]{fullShare} f) ∗ ⌜arg21.view.read (Elt F) f = aAll (arg0.view.read (Elt F) H) (arg2.view.read (Elt F) G)⌝)
      ∗ ⌜r = ⟨VecWindow.window (aAll (arg0.view.read (Elt F) H) (arg2.view.read (Elt F) G)) ![112, 0] S112x128.size inb_S224x128_S112x128_112_0, k0_pay18, k0_pay19 (F := F)⟩⌝)) := by
  unfold ringAt; dsimp only
  iintro ⟨⟨Rc, ⟨%fr, Rs⟩, Ra, Rb, Rd⟩, H0, H1, H2, ⟨%f11, H11⟩, ⟨%f16, H16⟩, ⟨%f20, H20⟩, ⟨%f21, H21⟩⟩
  ihave Ra := held_in _ $$ Ra
  ihave Rd := held_in _ $$ Rd
  rw [k0_part19_eq_skeleton]
  sl_unfold [k0_part19_skel]
  sl_exec
  sl_for (fun k (_ : Unit) => t1At c arg0 arg2 arg16 arg21 H G k) $$ [H0 H2 H16 H21]
  · intro k acc
    exact t1_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 H G k acc
  · unfold t1At
    isplitl [H0]; · iexact H0
    isplitl [H2]; · iexact H2
    iexists f21; iexists f16
    isplitl [H16 H21]
    · isplitl [H21]; · iexact H21
      iexact H16
    ipureintro
    intro q hq
    exact absurd hq (Nat.not_lt_zero _)
  iintro %acc HL
  unfold t1At
  icases HL with ⟨H0, H2, ⟨%A, ⟨%C, ⟨⟨H21, H16⟩, %hq⟩⟩⟩⟩
  have hA : arg21.view.read (Elt F) A = aAll (arg0.view.read (Elt F) H) (arg2.view.read (Elt F) G) :=
    untile_eq (s := S224x128) (NB := k0_t1_loop.trips) k0_off5 S32x128.size (fun i : S224x128.Idx => rowBlk (i 0)) hq5 _ k0_off5_inb _ (fun q => (hq q q.isLt).1)
  have hC : arg16.view.read (Elt F) C = cAll (arg0.view.read (Elt F) H) (arg2.view.read (Elt F) G) :=
    untile_eq (s := S224x4096) (NB := k0_t1_loop.trips) k0_off4 S32x4096.size (fun i : S224x4096.Idx => rowBlk (i 0)) hq4 _ k0_off4_inb _ (fun q => (hq q q.isLt).2)
  sl_exec
  sl_step
  ihave Ra := held_out _ $$ Ra
  ihave Rd := held_out _ $$ Rd
  isplitl [Rc Rb Ra Rd]
  · isplitl [Rc Rb]
    · isplitl [Rc]
      · iexists fr; iexact Rc
      · iexact Rb
    isplitl [Ra]; · iexact Ra
    iexact Rd
  isplitl [H0]; · iexact H0
  isplitl [H1]; · iexact H1
  isplitl [H2]; · iexact H2
  isplitl [H11]
  · iexists _
    isplitl [H11]; · iexact H11
    ipureintro
    refine ⟨arg11.view.read (Elt F) f11, ?_⟩
    rw [View.read_writes_cons_put arg11.view f11 inb_S2x112_S1x112_0_0 _ _ rfl, View.writes_nil, View.readAt_unit arg21.view A inb_S224x128_S112x128_0_0 rfl inb_S224x128_S112x128_0_0, hA]
    rfl
  isplitl [H16]
  · iexists _
    isplitl [H16]; · iexact H16
    ipureintro; exact hC
  isplitl [H20]
  · iexists _
    isplitl [H20]; · iexact H20
    ipureintro
    unfold b19.sl.H20_1
    refine (View.read_writes_full _ _ _ _ _).trans ?_
    rw [View.readAt_full arg1.view T1]
  isplitl [H21]
  · iexists _
    isplitl [H21]; · iexact H21
    ipureintro; exact hA
  ipureintro
  rw [View.readAt_unit arg21.view A inb_S224x128_S112x128_112_0 rfl inb_S224x128_S112x128_112_0, hA]

end Cert.Proof.KernelIdeal
-- ==== Proof.IBody20.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBody19
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The gate and up products -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

/-- The semaphore of the copy of the first codes. -/
abbrev cell24 : SemLoc sig := .dma ((arg24.slice (Rect.unit (s := S1) ![0] S1.size inb_S1_S1_0)).squeeze S_ squeezes_S1_S_).sem
/-- The staging buffer of the first codes, as the copy takes it. -/
abbrev stg18 : Memref sig .tc .vmem S2x112x4096 .fp8e4m3 := arg18.slice (Rect.unit (s := S2x112x4096) ![0, 0, 0] S2x112x4096.size inb_S2x112x4096_S2x112x4096_0_0_0) (fun _ => rfl)

set_option maxHeartbeats 4000000 in
/-- Part 20 of the kernel's text: the first codes go out, and the loop over the gate and up windows. -/
theorem b20 [∀ e, Nonempty (Elt F e)] (W : Waits sig Unit) :
    iprop(Ring.AtW (σ := fun _ => St) (ringAt (F := F) c arg3 arg5 arg7 arg14 arg23 W3 W5 W7) (tab (21 + 2 * 0))
      ∗ (arg4.view.loc (c : Thread nD τ) ↦[arg4.view.set]{fullShare} X4) ∗ (arg6.view.loc (c : Thread nD τ) ↦[arg6.view.set]{fullShare} X6)
      ∗ (∃ f, (arg11.view.loc (c : Thread nD τ) ↦[arg11.view.set]{fullShare} f) ∗ ⌜∃ g : Vec F S2x112 .f32, arg11.view.read (Elt F) f = VecWindow.put g ![0, 0] S1x112.size (a3blk (aAll (arg0.view.read (Elt F) H) (arg2.view.read (Elt F) G)) 0)⌝)
      ∗ (∃ f, (arg16.view.loc (c : Thread nD τ) ↦[arg16.view.set]{fullShare} f) ∗ ⌜arg16.view.read (Elt F) f = cAll (arg0.view.read (Elt F) H) (arg2.view.read (Elt F) G)⌝)
      ∗ (∃ f, (arg21.view.loc (c : Thread nD τ) ↦[arg21.view.set]{fullShare} f) ∗ ⌜arg21.view.read (Elt F) f = aAll (arg0.view.read (Elt F) H) (arg2.view.read (Elt F) G)⌝)
      ∗ (∃ f, (arg18.view.loc (c : Thread nD τ) ↦[arg18.view.set]{fullShare} f)) ∗ (∃ f, (arg10.view.loc (c : Thread nD τ) ↦[arg10.view.set]{fullShare} f)) ∗ (∃ f, (arg22.view.loc (c : Thread nD τ) ↦[arg22.view.set]{fullShare} f)) ∗ (∃ f, (arg15.view.loc (c : Thread nD τ) ↦[arg15.view.set]{fullShare} f)) ∗ semVal ((c : Thread nD τ), cell24 arg24) 0 ∗ owes (c : Thread nD τ) 0 W)
      ⊢ wp frame (wpE (defs₀ (F := F)) Variants.none (c : Thread nD τ) none) Set.univ (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 (VecWindow.window (aAll (arg0.view.read (Elt F) H) (arg2.view.read (Elt F) G)) ![112, 0] S112x128.size inb_S224x128_S112x128_112_0) k0_pay18 (k0_pay19 (F := F)))
        (fun r => iprop(Ring.AtW (σ := fun _ => St) (ringAt (F := F) c arg3 arg5 arg7 arg14 arg23 W3 W5 W7) (tab (77 + 4 * 0))
      ∗ (arg4.view.loc (c : Thread nD τ) ↦[arg4.view.set]{fullShare} X4) ∗ (arg6.view.loc (c : Thread nD τ) ↦[arg6.view.set]{fullShare} X6)
      ∗ (∃ f, (arg11.view.loc (c : Thread nD τ) ↦[arg11.view.set]{fullShare} f) ∗ ⌜arg11.view.read (Elt F) f = a3out (arg0.view.read (Elt F) H) (arg2.view.read (Elt F) G)⌝)
      ∗ (∃ f, (arg16.view.loc (c : Thread nD τ) ↦[arg16.view.set]{fullShare} f)) ∗ (∃ f, (arg21.view.loc (c : Thread nD τ) ↦[arg21.view.set]{fullShare} f))
      ∗ (∃ g f18, Transfers.Flight (countersEmb (U := UC sig nD τ)) (c : Thread nD τ) (cell24 arg24) () 32768 iprop((arg10.view.loc (c : Thread nD τ) ↦[arg10.view.set]{fullShare} arg10.view.writes (Elt F) g [⟨Rect.whole S2x112x4096, ReadAs.same.apply ((stg18 arg18).view.read (Elt F) f18)⟩]) ∗ ((stg18 arg18).view.loc (c : Thread nD τ) ↦[(stg18 arg18).view.set]{fullShare} f18)) ∗ ⌜arg18.view.read (Elt F) f18 = c3out (arg0.view.read (Elt F) H) (arg2.view.read (Elt F) G)⌝)
      ∗ (∃ f, (arg22.view.loc (c : Thread nD τ) ↦[arg22.view.set]{fullShare} f)) ∗ (∃ f, (arg15.view.loc (c : Thread nD τ) ↦[arg15.view.set]{fullShare} f) ∗ ⌜arg15.view.read (Elt F) f = zAll (arg0.view.read (Elt F) H) (arg2.view.read (Elt F) G) (arg3.view.read (Elt F) W3) (arg5.view.read (Elt F) W5) (arg4.view.read (Elt F) X4) (arg6.view.read (Elt F) X6)⌝) ∗ (∃ W, owes (c : Thread nD τ) 0 W) ∗ ⌜r = ⟨k0_pay24 (mAll (arg0.view.read (Elt F) H) (arg2.view.read (Elt F) G) (arg3.view.read (Elt F) W3) (arg5.view.read (Elt F) W5) (arg4.view.read (Elt F) X4) (arg6.view.read (Elt F) X6)), k0_pay25 (F := F)⟩⌝)) := by
  iintro ⟨HR, H4, H6, ⟨%f11, ⟨H11, %h11⟩⟩, ⟨%C, ⟨H16, %hC⟩⟩, ⟨%A, ⟨H21, %hA⟩⟩, ⟨%f18, H18⟩, ⟨%f10, H10⟩, ⟨%f22, H22⟩, ⟨%f15, H15⟩, Hc, HO⟩
  obtain ⟨g11, h11⟩ := h11
  rw [k0_part20_eq_skeleton]
  sl_unfold [k0_part20_skel]
  sl_exec
  sl_for (fun k (_ : Unit) => t2At c arg3 arg4 arg5 arg6 arg7 arg14 arg15 arg16 arg21 arg22 arg23 W3 W5 W7 C A X4 X6 k) $$ [HR H4 H6 H15 H16 H21 H22 HO]
  · intro k acc
    exact t2_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 C A X4 X6 _ _ _ k acc
  · unfold t2At t2Env
    isplitl [HR]; · iexact HR
    isplitr [HO]
    · iexists _; iexists f15
      isplitl [H4 H6 H15 H16 H21 H22]
      · isplitl [H16]; · iexact H16
        isplitl [H21]; · iexact H21
        isplitl [H22]; · iexact H22
        isplitl [H15]; · iexact H15
        isplitl [H4]; · iexact H4
        iexact H6
      ipureintro
      refine ⟨?_, fun q hq => absurd hq (Nat.not_lt_zero _)⟩
      first | unfold b20.sl.H22_1 | skip
      exact View.read_writes_full _ _ _ _ _
    iexists _; iexact HO
  iintro %acc HL
  unfold t2At
  icases HL with ⟨HR, ⟨%M, ⟨%Z, ⟨HE, %hq⟩⟩⟩, HO⟩
  unfold t2Env
  icases HE with ⟨H16, H21, H22, H15, H4, H6⟩
  have e28 : Scf.trips k0_t2_loop.lb k0_t2_loop.ub k0_t2_loop.st = 28 := t2_trips
  have hM : arg22.view.read (Elt F) M = mAll (arg0.view.read (Elt F) H) (arg2.view.read (Elt F) G) (arg3.view.read (Elt F) W3) (arg5.view.read (Elt F) W5) (arg4.view.read (Elt F) X4) (arg6.view.read (Elt F) X6) := by
    rw [hq.1, hA, hC, e28]; rfl
  have hZ : arg15.view.read (Elt F) Z = zAll (arg0.view.read (Elt F) H) (arg2.view.read (Elt F) G) (arg3.view.read (Elt F) W3) (arg5.view.read (Elt F) W5) (arg4.view.read (Elt F) X4) (arg6.view.read (Elt F) X6) :=
    untile_eq (s := S224x14336) (NB := k0_t2_loop.trips) k0_off11 S224x512.size (fun i : S224x14336.Idx => colBlk2 (i 1)) hq11 _ k0_off11_inb _ (fun q => by
      rw [hq.2 q q.isLt, hA, hC])
  sl_exec
  sl_step
  rw [show tab (21 + 2 * Scf.trips k0_t2_loop.lb k0_t2_loop.ub k0_t2_loop.st) = tab (77 + 4 * 0) by rw [e28]]
  isplitl [HR]; · iexact HR
  isplitl [H4]; · iexact H4
  isplitl [H6]; · iexact H6
  isplitl [H11]
  · iexists _
    isplitl [H11]; · iexact H11
    ipureintro
    refine rows_read _ g11 _ ?_
    rw [View.read_writes_cons_put arg11.view f11 inb_S2x112_S1x112_1_0 _ _ rfl, View.writes_nil, h11]
    rfl
  isplitl [H16]; · iexists _; iexact H16
  isplitl [H21]; · iexists _; iexact H21
  isplitl [Hc]
  · iexists f10; iexists (arg18.view.writes (Elt F) f18 (b20.sl.H18_2 c arg16 C))
    isplitl [Hc]; · iexact Hc
    ipureintro
    refine halves_read _ (arg18.view.read (Elt F) f18) _ ?_
    unfold b20.sl.H18_2
    rw [View.read_writes_cons_put arg18.view f18 inb_S2x112x4096_S1x112x4096_1_0_0 _ _ rfl, View.read_writes_cons_put arg18.view f18 inb_S2x112x4096_S1x112x4096_0_0_0 _ _ rfl, View.writes_nil,
      View.readAt_full arg16.view C, hC]
    rfl
  isplitl [H22]; · iexists _; iexact H22
  isplitl [H15]
  · iexists _
    isplitl [H15]; · iexact H15
    ipureintro; exact hZ
  isplitl [HO]; · iexact HO
  ipureintro
  rw [View.readAt_full arg22.view M, hM]

end Cert.Proof.KernelIdeal
-- ==== Proof.IBody21.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBody20
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The second scales -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

set_option maxHeartbeats 4000000 in
/-- Part 21 of the kernel's text: the scales of the activations. -/
theorem b21 [∀ e, Nonempty (Elt F e)] :
    (iprop((∃ f, (arg21.view.loc (c : Thread nD τ) ↦[arg21.view.set]{fullShare} f)) ∗ (∃ f, (arg22.view.loc (c : Thread nD τ) ↦[arg22.view.set]{fullShare} f)) ∗ (∃ f, (arg13.view.loc (c : Thread nD τ) ↦[arg13.view.set]{fullShare} f))) : sProp 𝕄)
      ⊢ wp frame (wpE (defs₀ (F := F)) Variants.none (c : Thread nD τ) none) Set.univ (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 (k0_pay24 (mAll (arg0.view.read (Elt F) H) (arg2.view.read (Elt F) G) (arg3.view.read (Elt F) W3) (arg5.view.read (Elt F) W5) (arg4.view.read (Elt F) X4) (arg6.view.read (Elt F) X6))) k0_pay25)
        (fun r => iprop((∃ f, (arg21.view.loc (c : Thread nD τ) ↦[arg21.view.set]{fullShare} f) ∗ ⌜arg21.view.read (Elt F) f = a2All (arg0.view.read (Elt F) H) (arg2.view.read (Elt F) G) (arg3.view.read (Elt F) W3) (arg5.view.read (Elt F) W5) (arg4.view.read (Elt F) X4) (arg6.view.read (Elt F) X6)⌝) ∗ (∃ f, (arg22.view.loc (c : Thread nD τ) ↦[arg22.view.set]{fullShare} f) ∗ ⌜arg22.view.read (Elt F) f = m2All (arg0.view.read (Elt F) H) (arg2.view.read (Elt F) G) (arg3.view.read (Elt F) W3) (arg5.view.read (Elt F) W5) (arg4.view.read (Elt F) X4) (arg6.view.read (Elt F) X6)⌝) ∗ (∃ f, (arg13.view.loc (c : Thread nD τ) ↦[arg13.view.set]{fullShare} f) ∗ ⌜∃ g : Vec F S2x112 .f32, arg13.view.read (Elt F) f = VecWindow.put g ![0, 0] S1x112.size (a4blk (a2All (arg0.view.read (Elt F) H) (arg2.view.read (Elt F) G) (arg3.view.read (Elt F) W3) (arg5.view.read (Elt F) W5) (arg4.view.read (Elt F) X4) (arg6.view.read (Elt F) X6)) 0)⌝)
      ∗ ⌜r = k0_pay30 (VecWindow.window (a2All (arg0.view.read (Elt F) H) (arg2.view.read (Elt F) G) (arg3.view.read (Elt F) W3) (arg5.view.read (Elt F) W5) (arg4.view.read (Elt F) X4) (arg6.view.read (Elt F) X6)) ![112, 0] S112x128.size inb_S224x128_S112x128_112_0)⌝)) := by
  iintro ⟨⟨%f21, H21⟩, ⟨%f22, H22⟩, ⟨%f13, H13⟩⟩
  rw [k0_part21_eq_skeleton]
  sl_unfold [k0_part21_skel]
  sl_exec
  sl_step
  have e21 : ∀ f, arg21.view.read (Elt F) (arg21.view.writes (Elt F) f (b21.sl.H21_1 arg0 arg2 arg3 arg4 arg5 arg6 W3 W5 H G X4 X6)) = a2All (arg0.view.read (Elt F) H) (arg2.view.read (Elt F) G) (arg3.view.read (Elt F) W3) (arg5.view.read (Elt F) W5) (arg4.view.read (Elt F) X4) (arg6.view.read (Elt F) X6) := by
    intro f
    unfold b21.sl.H21_1
    exact View.read_writes_full _ _ _ _ _
  have e230 : b21.sl.v230 arg0 arg2 arg3 arg4 arg5 arg6 arg21 W3 W5 H G X4 X6 = VecWindow.window (a2All (arg0.view.read (Elt F) H) (arg2.view.read (Elt F) G) (arg3.view.read (Elt F) W3) (arg5.view.read (Elt F) W5) (arg4.view.read (Elt F) X4) (arg6.view.read (Elt F) X6)) ![0, 0] S112x128.size inb_S224x128_S112x128_0_0 := by
    unfold b21.sl.v230 View.readCov
    rw [View.readAt_unit arg21.view _ inb_S224x128_S112x128_0_0 rfl inb_S224x128_S112x128_0_0, e21]
  have e240 : b21.sl.v240 arg0 arg2 arg3 arg4 arg5 arg6 arg21 W3 W5 H G X4 X6 = VecWindow.window (a2All (arg0.view.read (Elt F) H) (arg2.view.read (Elt F) G) (arg3.view.read (Elt F) W3) (arg5.view.read (Elt F) W5) (arg4.view.read (Elt F) X4) (arg6.view.read (Elt F) X6)) ![112, 0] S112x128.size inb_S224x128_S112x128_112_0 := by
    unfold b21.sl.v240 View.readCov
    rw [View.readAt_unit arg21.view _ inb_S224x128_S112x128_112_0 rfl inb_S224x128_S112x128_112_0, e21]
  isplitl [H21]
  · iexists _
    isplitl [H21]; · iexact H21
    ipureintro; exact e21 _
  isplitl [H22]
  · iexists _
    isplitl [H22]; · iexact H22
    ipureintro; exact View.read_writes_full _ _ _ _ _
  isplitl [H13]
  · iexists _
    isplitl [H13]; · iexact H13
    ipureintro
    refine ⟨arg13.view.read (Elt F) f13, ?_⟩
    rw [View.read_writes_cons_put arg13.view f13 inb_S2x112_S1x112_0_0 _ _ rfl, View.writes_nil, e230]
    rfl
  ipureintro
  rw [e240]

end Cert.Proof.KernelIdeal
-- ==== Proof.IBody22.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBody21
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The codes of the activations and the down products -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

/-- The array of attention values, as the passes take its columns. -/
theorem split20 (T : BufTy.Contents (Elt F) arg20.view.ty) : (arg20.view.loc (c : Thread nD τ) ↦[arg20.view.set]{fullShare} T)
    ⊢ (bigSep Finset.univ (fun n : Fin N4 => ((win20 arg20 (k0_off30 n) (k0_off30_inb n)).view.loc (c : Thread nD τ) ↦[(win20 arg20 (k0_off30 n) (k0_off30_inb n)).view.set]{fullShare} T)) : sProp 𝕄) :=
  blk_split c arg20 (1 : Fin 2) 512 k0_off30 S224x512.size k0_off30_inb (fun b => by rw [off30_, off32_]; rfl)
    (fun b a h => by rw [off30_, off32_]; match a, h with | 0, _ => rfl | 1, h => exact absurd rfl h) rfl
    (fun a h => by match a, h with | 0, _ => rfl | 1, h => exact absurd rfl h) (by decide +kernel) _ (fun b => View.set_slice _ _) T
/-- After the last pass of the down loop every slot is free. -/
theorem ring_done : Ring.AtW (σ := fun _ => St) (ringAt (F := F) c arg3 arg5 arg7 arg14 arg23 W3 W5 W7) (tab (77 + 4 * 8)) ⊢ Ring.AtW (σ := fun _ => St) (ringAt (F := F) c arg3 arg5 arg7 arg14 arg23 W3 W5 W7) (fun _ => .free) := by
  rw [Ring.AtW_congr _ (st := fun _ => .free) (st' := tab (77 + 4 * 8)) (fun k => chunk_free _ (by omega))]
/-- Three families over the passes, held together. -/
theorem todo_mk (T : BufTy.Contents (Elt F) arg20.view.ty) : iprop(bigSep Finset.univ (fun n : Fin N4 => iprop(∃ f, (win4 arg12 (k0_off34 n) (k0_off34_inb n)).view.loc (c : Thread nD τ) ↦[(win4 arg12 (k0_off34 n) (k0_off34_inb n)).view.set]{fullShare} f)) ∗ bigSep Finset.univ (fun n : Fin N4 => ((win20 arg20 (k0_off30 n) (k0_off30_inb n)).view.loc (c : Thread nD τ) ↦[(win20 arg20 (k0_off30 n) (k0_off30_inb n)).view.set]{fullShare} T)) ∗ bigSep Finset.univ (fun n : Fin N4 => iprop(∃ f, (win9 arg9 (k0_off32 n) (k0_off32_inb n)).view.loc (c : Thread nD τ) ↦[(win9 arg9 (k0_off32 n) (k0_off32_inb n)).view.set]{fullShare} f)))
    ⊢ (bigSep (Ring.rangeSet N4 0 N4) (ctodo c arg9 arg12 arg20 T) : sProp 𝕄) := by
  rw [← bigSep_sep', ← bigSep_sep']
  refine Entails.of_eq ?_
  rw [show Ring.rangeSet N4 0 N4 = Finset.univ from by decide +kernel]
  rfl
/-- The last pass but one. -/
abbrev p6 : Fin N4 := ⟨6, by decide +kernel⟩
/-- The last pass. -/
abbrev p7 : Fin N4 := ⟨7, by decide +kernel⟩
theorem wait6 : k0_off34 p6 = k0_off40 6#32 ∧ ![8 % 2, 0, 0, 0] = k0_off41 6#32 ∧ ![8 % 2] = k0_off39 6#32 := by decide +kernel
theorem wait7 : k0_off34 p7 = k0_off40 7#32 ∧ ![9 % 2, 0, 0, 0] = k0_off41 7#32 ∧ ![9 % 2] = k0_off39 7#32 := by decide +kernel
theorem cst8 (X : BufTy.Contents (Elt F) arg17.view.ty) : cst c arg12 arg17 arg19 arg26 X 8 ⊢ cfl c arg12 arg19 arg26 (c4val (arg17.view.read (Elt F) X) p6) (k0_off39 6#32) (k0_off39_inb 0) (k0_off41 6#32) (k0_off41_inb 0) (k0_off40 6#32) (k0_off40_inb 0) := by
  rw [cst, dif_pos (⟨by omega, by decide +kernel⟩ : 2 ≤ 8 ∧ 8 - 2 < N4)]
  exact ent_of_eq (cfl_congr c arg12 arg19 arg26 _ wait6.2.2 wait6.2.1 wait6.1 _ _ _ _ _ _)
theorem cst9 (X : BufTy.Contents (Elt F) arg17.view.ty) : cst c arg12 arg17 arg19 arg26 X 9 ⊢ cfl c arg12 arg19 arg26 (c4val (arg17.view.read (Elt F) X) p7) (k0_off39 7#32) (k0_off39_inb 1) (k0_off41 7#32) (k0_off41_inb 1) (k0_off40 7#32) (k0_off40_inb 1) := by
  rw [cst, dif_pos (⟨by omega, by decide +kernel⟩ : 2 ≤ 9 ∧ 9 - 2 < N4)]
  exact ent_of_eq (cfl_congr c arg12 arg19 arg26 _ wait7.2.2 wait7.2.1 wait7.1 _ _ _ _ _ _)
theorem idle_mk (oc : Fin 1 → ℕ) (os : Fin 4 → ℕ) (i : ℕ) (e1 : oc = ![i % 2]) (e2 : os = ![i % 2, 0, 0, 0]) (hc) (hs) :
    cidle (F := F) c arg19 arg26 oc hc os hs ⊢ cidle (F := F) c arg19 arg26 ![i % 2] (par_inb i) ![i % 2, 0, 0, 0] (spar_inb i) :=
  ent_of_eq (cidle_congr c arg19 arg26 e1 e2 _ _ _ _)
theorem cst_idle (X : BufTy.Contents (Elt F) arg17.view.ty) (i : ℕ) (h : i < 2) : cidle (F := F) c arg19 arg26 ![i % 2] (par_inb i) ![i % 2, 0, 0, 0] (spar_inb i) ⊢ cst c arg12 arg17 arg19 arg26 X i := by
  rw [cst, dif_neg (fun h' => by omega)]
/-- The codes of a pass, arrived. -/
theorem done_mk (X : BufTy.Contents (Elt F) arg17.view.ty) (m : Fin N4) (ow : Fin 3 → ℕ) (e : k0_off34 m = ow) (hw) (f)
    (h : (win4 arg12 ow hw).view.read (Elt F) f = c4val (arg17.view.read (Elt F) X) m) :
    ((win4 arg12 ow hw).view.loc (c : Thread nD τ) ↦[(win4 arg12 ow hw).view.set]{fullShare} f : sProp 𝕄) ⊢ cdone c arg12 arg17 X m := by
  subst e
  unfold cdone
  iintro H
  iexists f
  isplitl [H]; · iexact H
  ipureintro; exact h
/-- Before the first pass of the down loop there is no copy of codes under way, and none has arrived. -/
theorem done_none (X : BufTy.Contents (Elt F) arg17.view.ty) : (iprop(emp) : sProp 𝕄) ⊢ bigSep (Ring.rangeSet N4 0 (0 - 2)) (cdone c arg12 arg17 X) := by
  rw [Ring.bigSep_rangeSet_empty (le_refl 0)]
set_option maxHeartbeats 4000000 in
/-- Part 22 of the kernel's text: the codes, the down products, and all the codes' copies but the last waited for. -/
theorem b22 [∀ e, Nonempty (Elt F e)] (v245 : Vec F S112x128 .f32) (hv245 : v245 = k0_pay30 (VecWindow.window (a2All (arg0.view.read (Elt F) H) (arg2.view.read (Elt F) G) (arg3.view.read (Elt F) W3) (arg5.view.read (Elt F) W5) (arg4.view.read (Elt F) X4) (arg6.view.read (Elt F) X6)) ![112, 0] S112x128.size inb_S224x128_S112x128_112_0)) :
    iprop(Ring.AtW (σ := fun _ => St) (ringAt (F := F) c arg3 arg5 arg7 arg14 arg23 W3 W5 W7) (tab (77 + 4 * 0))
      ∗ (arg8.view.loc (c : Thread nD τ) ↦[arg8.view.set]{fullShare} X8) ∗ (∃ f, (arg13.view.loc (c : Thread nD τ) ↦[arg13.view.set]{fullShare} f) ∗ ⌜∃ g : Vec F S2x112 .f32, arg13.view.read (Elt F) f = VecWindow.put g ![0, 0] S1x112.size (a4blk (a2All (arg0.view.read (Elt F) H) (arg2.view.read (Elt F) G) (arg3.view.read (Elt F) W3) (arg5.view.read (Elt F) W5) (arg4.view.read (Elt F) X4) (arg6.view.read (Elt F) X6)) 0)⌝)
      ∗ (∃ g f18, Transfers.Flight (countersEmb (U := UC sig nD τ)) (c : Thread nD τ) (cell24 arg24) () 32768 iprop((arg10.view.loc (c : Thread nD τ) ↦[arg10.view.set]{fullShare} arg10.view.writes (Elt F) g [⟨Rect.whole S2x112x4096, ReadAs.same.apply ((stg18 arg18).view.read (Elt F) f18)⟩]) ∗ ((stg18 arg18).view.loc (c : Thread nD τ) ↦[(stg18 arg18).view.set]{fullShare} f18)) ∗ ⌜arg18.view.read (Elt F) f18 = c3out (arg0.view.read (Elt F) H) (arg2.view.read (Elt F) G)⌝) ∗ (∃ f, (arg15.view.loc (c : Thread nD τ) ↦[arg15.view.set]{fullShare} f) ∗ ⌜arg15.view.read (Elt F) f = zAll (arg0.view.read (Elt F) H) (arg2.view.read (Elt F) G) (arg3.view.read (Elt F) W3) (arg5.view.read (Elt F) W5) (arg4.view.read (Elt F) X4) (arg6.view.read (Elt F) X6)⌝) ∗ (∃ f, (arg17.view.loc (c : Thread nD τ) ↦[arg17.view.set]{fullShare} f)) ∗ (∃ f, (arg20.view.loc (c : Thread nD τ) ↦[arg20.view.set]{fullShare} f) ∗ ⌜arg20.view.read (Elt F) f = k0_pay14 (arg1.view.read (Elt F) T1)⌝)
      ∗ (∃ f, (arg21.view.loc (c : Thread nD τ) ↦[arg21.view.set]{fullShare} f) ∗ ⌜arg21.view.read (Elt F) f = a2All (arg0.view.read (Elt F) H) (arg2.view.read (Elt F) G) (arg3.view.read (Elt F) W3) (arg5.view.read (Elt F) W5) (arg4.view.read (Elt F) X4) (arg6.view.read (Elt F) X6)⌝) ∗ (∃ f, (arg22.view.loc (c : Thread nD τ) ↦[arg22.view.set]{fullShare} f) ∗ ⌜arg22.view.read (Elt F) f = m2All (arg0.view.read (Elt F) H) (arg2.view.read (Elt F) G) (arg3.view.read (Elt F) W3) (arg5.view.read (Elt F) W5) (arg4.view.read (Elt F) X4) (arg6.view.read (Elt F) X6)⌝)
      ∗ bigSep Finset.univ (fun n : Fin N4 => iprop(∃ f, (win9 arg9 (k0_off32 n) (k0_off32_inb n)).view.loc (c : Thread nD τ) ↦[(win9 arg9 (k0_off32 n) (k0_off32_inb n)).view.set]{fullShare} f)) ∗ bigSep Finset.univ (fun n : Fin N4 => iprop(∃ f, (win4 arg12 (k0_off34 n) (k0_off34_inb n)).view.loc (c : Thread nD τ) ↦[(win4 arg12 (k0_off34 n) (k0_off34_inb n)).view.set]{fullShare} f)) ∗ cidle (F := F) c arg19 arg26 ![0] (par_inb 0) ![0, 0, 0, 0] (spar_inb 0) ∗ cidle (F := F) c arg19 arg26 ![1] (par_inb 1) ![1, 0, 0, 0] (spar_inb 1)
      ∗ semVal ((c : Thread nD τ), cell1 arg25) 0 ∗ (∃ W, owes (c : Thread nD τ) 0 W))
      ⊢ wp frame (wpE (defs₀ (F := F)) Variants.none (c : Thread nD τ) none) Set.univ (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245)
        (fun _ => iprop(Ring.AtW (σ := fun _ => St) (ringAt (F := F) c arg3 arg5 arg7 arg14 arg23 W3 W5 W7) (fun _ => .free)
      ∗ (arg8.view.loc (c : Thread nD τ) ↦[arg8.view.set]{fullShare} X8) ∗ (∃ f, (arg13.view.loc (c : Thread nD τ) ↦[arg13.view.set]{fullShare} f) ∗ ⌜arg13.view.read (Elt F) f = a4out (arg0.view.read (Elt F) H) (arg2.view.read (Elt F) G) (arg3.view.read (Elt F) W3) (arg5.view.read (Elt F) W5) (arg4.view.read (Elt F) X4) (arg6.view.read (Elt F) X6)⌝) ∗ (∃ f, (arg10.view.loc (c : Thread nD τ) ↦[arg10.view.set]{fullShare} f) ∗ ⌜arg10.view.read (Elt F) f = c3out (arg0.view.read (Elt F) H) (arg2.view.read (Elt F) G)⌝)
      ∗ (∃ f, ((stg18 arg18).view.loc (c : Thread nD τ) ↦[(stg18 arg18).view.set]{fullShare} f)) ∗ semVal ((c : Thread nD τ), cell24 arg24) 0
      ∗ (∃ f, (arg15.view.loc (c : Thread nD τ) ↦[arg15.view.set]{fullShare} f)) ∗ (∃ f, (arg21.view.loc (c : Thread nD τ) ↦[arg21.view.set]{fullShare} f)) ∗ (∃ f, (arg22.view.loc (c : Thread nD τ) ↦[arg22.view.set]{fullShare} f))
      ∗ (∃ X, (arg17.view.loc (c : Thread nD τ) ↦[arg17.view.set]{fullShare} X) ∗ ⌜arg17.view.read (Elt F) X = xAll (arg0.view.read (Elt F) H) (arg2.view.read (Elt F) G) (arg3.view.read (Elt F) W3) (arg5.view.read (Elt F) W5) (arg4.view.read (Elt F) X4) (arg6.view.read (Elt F) X6)⌝
        ∗ cst c arg12 arg17 arg19 arg26 X 9 ∗ bigSep (Ring.rangeSet N4 0 7) (cdone c arg12 arg17 X))
      ∗ cidle (F := F) c arg19 arg26 ![0] (par_inb 0) ![0, 0, 0, 0] (spar_inb 0)
      ∗ dbatch c arg9 arg20 arg25 (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n) 8 0
      ∗ (∃ W, owes (c : Thread nD τ) 0 W))) := by
  subst hv245
  iintro ⟨HR, H8, ⟨%f13, ⟨H13, %h13⟩⟩, ⟨%f10, ⟨%f18, ⟨Hc, %h18⟩⟩⟩, ⟨%Z, ⟨H15, %hZ⟩⟩, ⟨%f17, H17⟩, ⟨%T, ⟨H20, %hT⟩⟩, ⟨%A, ⟨H21, %hA⟩⟩, ⟨%M, ⟨H22, %hM⟩⟩, H9, H12, HS0, HS1, Hd, ⟨%W, HO⟩⟩
  obtain ⟨g13, h13⟩ := h13
  ihave H9 := held_in _ $$ H9
  ihave H12 := held_in _ $$ H12
  ihave HS0 := held_in _ $$ HS0
  ihave HS1 := held_in _ $$ HS1
  ihave HR := held_in _ $$ HR
  rw [k0_part22_eq_skeleton]
  sl_unfold [k0_part22_skel]
  sl_exec
  sl_for (fun k (_ : Unit) => t3At c arg15 arg17 arg22 Z M k) $$ [H15 H17 H22]
  · intro k acc
    exact t3_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 Z M _ k acc
  · unfold t3At
    isplitl [H15]; · iexact H15
    isplitl [H22]; · iexact H22
    iexists f17
    isplitl [H17]; · iexact H17
    ipureintro
    exact fun q hq => absurd hq (Nat.not_lt_zero _)
  iintro %acc HL
  unfold t3At
  icases HL with ⟨H15, H22, ⟨%X, ⟨H17, %hq⟩⟩⟩
  have hX : arg17.view.read (Elt F) X = xAll (arg0.view.read (Elt F) H) (arg2.view.read (Elt F) G) (arg3.view.read (Elt F) W3) (arg5.view.read (Elt F) W5) (arg4.view.read (Elt F) X4) (arg6.view.read (Elt F) X6) :=
    untile_eq (s := S224x14336) (NB := k0_t3_loop.trips) k0_off18 S224x512.size (fun i : S224x14336.Idx => colBlk3 (i 1)) hq18 _ k0_off18_inb _ (fun q => by
      rw [hq q q.isLt, hZ, hM])
  ihave HR := held_out _ $$ HR
  ihave H9 := held_out _ $$ H9
  ihave H12 := held_out _ $$ H12
  ihave HS0 := held_out _ $$ HS0
  ihave HS1 := held_out _ $$ HS1
  ihave H20 := split20 c arg20 T $$ H20
  ihave HT := todo_mk c arg9 arg12 arg20 T $$ [H9 H12 H20]
  · isplitl [H12]; · iexact H12
    isplitl [H20]; · iexact H20
    iexact H9
  imod (Transfers.batch_alloc' (Lvl := ℕ) (countersEmb (U := UC sig nD τ)) (c : Thread nD τ) () 14336 (ddel c arg9 arg20 (Dval arg7 arg8 arg17 arg20 arg21 W7 X A X8 T)) (sm := cell1 arg25) (E := Set.univ)) $$ Hd with HB
  sl_exec
  sl_for (fun k (_ : Unit) => t4At c arg3 arg5 arg7 arg8 arg9 arg12 arg14 arg17 arg19 arg20 arg21 arg23 arg25 arg26 W3 W5 W7 X A X8 T k) $$ [HR HS0 HS1 HT HB H17 H21 H8 HO]
  · intro k acc
    exact t4_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 X A X8 T _ k acc
  · unfold t4At
    isplitl [HR]; · iexact HR
    isplitl [HS0]; · iapply (cst_idle c arg12 arg17 arg19 arg26 X 0 (by omega)); iexact HS0
    isplitl [HS1]; · iapply (cst_idle c arg12 arg17 arg19 arg26 X 1 (by omega)); iexact HS1
    isplitr; · iapply (done_none c arg12 arg17 X); iempintro
    isplitl [HT]; · iexact HT
    isplitl [HB]; · iexact HB
    isplitr [HO]
    · unfold t4Env
      isplitl [H17]; · iexact H17
      isplitl [H21]; · iexact H21
      iexact H8
    iexists _; iexact HO
  iintro %acc HL
  rw [show Scf.trips k0_t4_loop.lb k0_t4_loop.ub k0_t4_loop.st = 8 by decide +kernel]
  unfold t4At t4Env
  icases HL with ⟨HR, HS0, HS1, HD, -, HB, ⟨H17, H21, H8⟩, ⟨%W', HO⟩⟩
  ihave HR := ring_done c arg3 arg5 arg7 arg14 arg23 W3 W5 W7 $$ HR
  ihave HS0 := cst8 c arg12 arg17 arg19 arg26 X $$ HS0
  icases HS0 with ⟨%f12, HS0⟩
  ihave HS1 := held_in _ $$ HS1
  ihave HR := held_in _ $$ HR
  ihave HB := held_in _ $$ HB
  ihave HD := held_in _ $$ HD
  sl_exec
  sl_step
  ihave HS1 := held_out _ $$ HS1
  ihave HR := held_out _ $$ HR
  ihave HB := held_out _ $$ HB
  ihave HD := held_out _ $$ HD
  isplitl [HR]; · iexact HR
  isplitl [H8]; · iexact H8
  isplitl [H13]
  · iexists _
    isplitl [H13]; · iexact H13
    ipureintro
    refine rows_read _ g13 _ ?_
    rw [View.read_writes_cons_put arg13.view f13 inb_S2x112_S1x112_1_0 _ _ rfl, View.writes_nil, h13]
    rfl
  isplitl [Hc_dst]
  · iexists _
    isplitl [Hc_dst]; · iexact Hc_dst
    ipureintro
    refine (View.read_writes_whole _ _ _).trans ?_
    exact (View.readAt_full arg18.view f18 inb_S2x112x4096_S2x112x4096_0_0_0).trans h18
  isplitl [Hc_src]; · iexists _; iexact Hc_src
  isplitl [Hc]; · iexact Hc
  isplitl [H15]; · iexists _; iexact H15
  isplitl [H21]; · iexists _; iexact H21
  isplitl [H22]; · iexists _; iexact H22
  isplitl [H17 HS1 HD HS0_dst]
  · iexists X
    isplitl [H17]; · iexact H17
    isplitr [HS1 HD HS0_dst]; · ipureintro; exact hX
    isplitl [HS1]; · iexact HS1
    rw [Ring.bigSep_rangeSet_last (lo := 0) (hi := 7) (by omega) (by decide +kernel)]
    isplitl [HS0_dst]
    · iapply (done_mk c arg12 arg17 X p6 (k0_off40 6#32) wait6.1 (k0_off40_inb 0) _ ((View.read_writes_whole _ _ _).trans (View.read_rep _ _)))
      iexact HS0_dst
    iexact HD
  isplitl [HS0 HS0_src]
  · iapply (ent_of_eq (cidle_congr c arg19 arg26 wait6.2.2 wait6.2.1 (par_inb 8) (spar_inb 8) (k0_off39_inb 0) (k0_off41_inb 0)).symm)
    isplitl [HS0]; · iexact HS0
    iexists _; iexact HS0_src
  isplitl [HB]
  · rw [show Dval arg7 arg8 arg17 arg20 arg21 W7 X A X8 T = (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n) from by
      funext n
      simp only [Dval, hX, hA, hT]]
    iexact HB
  iexists _; iexact HO

end Cert.Proof.KernelIdeal
-- ==== Proof.IBody.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBody22
public import proofs.«01_k».proof.Proof.IPro
public import proofs.«01_k».proof.Proof.IT5
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The whole body -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

/-- The sixteen slots, all free, one by one. -/
theorem ring_free : Ring.AtW (σ := fun _ => St) (ringAt (F := F) c arg3 arg5 arg7 arg14 arg23 W3 W5 W7) (fun _ => .free) ⊢ iprop(ringAt (F := F) c arg3 arg5 arg7 arg14 arg23 W3 W5 W7 5 .free ∗ ringAt (F := F) c arg3 arg5 arg7 arg14 arg23 W3 W5 W7 6 .free ∗ ringAt (F := F) c arg3 arg5 arg7 arg14 arg23 W3 W5 W7 7 .free ∗ ringAt (F := F) c arg3 arg5 arg7 arg14 arg23 W3 W5 W7 8 .free ∗ ringAt (F := F) c arg3 arg5 arg7 arg14 arg23 W3 W5 W7 9 .free ∗ ringAt (F := F) c arg3 arg5 arg7 arg14 arg23 W3 W5 W7 10 .free ∗ ringAt (F := F) c arg3 arg5 arg7 arg14 arg23 W3 W5 W7 11 .free ∗ ringAt (F := F) c arg3 arg5 arg7 arg14 arg23 W3 W5 W7 12 .free ∗ ringAt (F := F) c arg3 arg5 arg7 arg14 arg23 W3 W5 W7 13 .free ∗ ringAt (F := F) c arg3 arg5 arg7 arg14 arg23 W3 W5 W7 14 .free ∗ ringAt (F := F) c arg3 arg5 arg7 arg14 arg23 W3 W5 W7 15 .free ∗ ringAt (F := F) c arg3 arg5 arg7 arg14 arg23 W3 W5 W7 0 .free ∗ ringAt (F := F) c arg3 arg5 arg7 arg14 arg23 W3 W5 W7 1 .free ∗ ringAt (F := F) c arg3 arg5 arg7 arg14 arg23 W3 W5 W7 2 .free ∗ ringAt (F := F) c arg3 arg5 arg7 arg14 arg23 W3 W5 W7 3 .free ∗ ringAt (F := F) c arg3 arg5 arg7 arg14 arg23 W3 W5 W7 4 .free) := by
  rw [Ring.AtW_eq_list _ _ ([5, 6, 7, 8, 9, 10, 11, 12, 13, 14, 15, 0, 1, 2, 3, 4] : List (Fin 16)) (by decide) (by decide)]
  exact Entails.refl _
/-- The sixteen first copies are the ring before the loop over the gate and up windows. -/
theorem ring_init : iprop(ringAt (F := F) c arg3 arg5 arg7 arg14 arg23 W3 W5 W7 5 (.gate 0) ∗ ringAt (F := F) c arg3 arg5 arg7 arg14 arg23 W3 W5 W7 6 (.up 0) ∗ ringAt (F := F) c arg3 arg5 arg7 arg14 arg23 W3 W5 W7 7 (.gate 1) ∗ ringAt (F := F) c arg3 arg5 arg7 arg14 arg23 W3 W5 W7 8 (.up 1) ∗ ringAt (F := F) c arg3 arg5 arg7 arg14 arg23 W3 W5 W7 9 (.gate 2) ∗ ringAt (F := F) c arg3 arg5 arg7 arg14 arg23 W3 W5 W7 10 (.up 2) ∗ ringAt (F := F) c arg3 arg5 arg7 arg14 arg23 W3 W5 W7 11 (.gate 3) ∗ ringAt (F := F) c arg3 arg5 arg7 arg14 arg23 W3 W5 W7 12 (.up 3) ∗ ringAt (F := F) c arg3 arg5 arg7 arg14 arg23 W3 W5 W7 13 (.gate 4) ∗ ringAt (F := F) c arg3 arg5 arg7 arg14 arg23 W3 W5 W7 14 (.up 4) ∗ ringAt (F := F) c arg3 arg5 arg7 arg14 arg23 W3 W5 W7 15 (.gate 5) ∗ ringAt (F := F) c arg3 arg5 arg7 arg14 arg23 W3 W5 W7 0 (.up 5) ∗ ringAt (F := F) c arg3 arg5 arg7 arg14 arg23 W3 W5 W7 1 (.gate 6) ∗ ringAt (F := F) c arg3 arg5 arg7 arg14 arg23 W3 W5 W7 2 (.up 6) ∗ ringAt (F := F) c arg3 arg5 arg7 arg14 arg23 W3 W5 W7 3 (.gate 7) ∗ ringAt (F := F) c arg3 arg5 arg7 arg14 arg23 W3 W5 W7 4 (.up 7)) ⊢ Ring.AtW (σ := fun _ => St) (ringAt (F := F) c arg3 arg5 arg7 arg14 arg23 W3 W5 W7) (tab (21 + 2 * 0)) := by
  rw [Ring.AtW_eq_list _ _ ([5, 6, 7, 8, 9, 10, 11, 12, 13, 14, 15, 0, 1, 2, 3, 4] : List (Fin 16)) (by decide) (by decide)]
  exact Entails.refl _

/-- What the body runs from. -/
def bodyPre (W : Waits sig Unit) : sProp 𝕄 :=
    iprop(Ring.AtW (σ := fun _ => St) (ringAt (F := F) c arg3 arg5 arg7 arg14 arg23 W3 W5 W7) (fun _ => .free)
      ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G) ∗ (arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8)
      ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f))
      ∗ bigSep Finset.univ (fun n : Fin N4 => iprop(∃ f, (win9 arg9 (k0_off32 n) (k0_off32_inb n)).view.loc (c : Thread nD τ) ↦[(win9 arg9 (k0_off32 n) (k0_off32_inb n)).view.set]{fullShare} f))
      ∗ bigSep Finset.univ (fun n : Fin N4 => iprop(∃ f, (win4 arg12 (k0_off34 n) (k0_off34_inb n)).view.loc (c : Thread nD τ) ↦[(win4 arg12 (k0_off34 n) (k0_off34_inb n)).view.set]{fullShare} f))
      ∗ cidle (F := F) c arg19 arg26 ![0] (par_inb 0) ![0, 0, 0, 0] (spar_inb 0) ∗ cidle (F := F) c arg19 arg26 ![1] (par_inb 1) ![1, 0, 0, 0] (spar_inb 1)
      ∗ semVal ((c : Thread nD τ), cell24 arg24) 0 ∗ semVal ((c : Thread nD τ), cell1 arg25) 0
      ∗ owes (c : Thread nD τ) 0 W)
/-- What the body leaves. -/
def bodyPost : sProp 𝕄 :=
    iprop(Ring.AtW (σ := fun _ => St) (ringAt (F := F) c arg3 arg5 arg7 arg14 arg23 W3 W5 W7) (fun _ => .free)
      ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G) ∗ (arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8)
      ∗ (∃ f, (arg10.view.loc (c : Thread nD τ) ↦[arg10.view.set]{fullShare} f) ∗ ⌜arg10.view.read (Elt F) f = c3out (arg0.view.read (Elt F) H) (arg2.view.read (Elt F) G)⌝) ∗ (∃ f, (arg11.view.loc (c : Thread nD τ) ↦[arg11.view.set]{fullShare} f) ∗ ⌜arg11.view.read (Elt F) f = a3out (arg0.view.read (Elt F) H) (arg2.view.read (Elt F) G)⌝) ∗ (∃ f, (arg13.view.loc (c : Thread nD τ) ↦[arg13.view.set]{fullShare} f) ∗ ⌜arg13.view.read (Elt F) f = a4out (arg0.view.read (Elt F) H) (arg2.view.read (Elt F) G) (arg3.view.read (Elt F) W3) (arg5.view.read (Elt F) W5) (arg4.view.read (Elt F) X4) (arg6.view.read (Elt F) X6)⌝)
      ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, ((stg18 arg18).view.loc (c : Thread nD τ) ↦[(stg18 arg18).view.set]{fullShare} f)) ∗ (∃ f, (arg21.view.loc (c : Thread nD τ) ↦[arg21.view.set]{fullShare} f)) ∗ (∃ f, (arg22.view.loc (c : Thread nD τ) ↦[arg22.view.set]{fullShare} f))
      ∗ bigSep Finset.univ (ddel c arg9 arg20 (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n))
      ∗ (∃ X, ⌜arg17.view.read (Elt F) X = xAll (arg0.view.read (Elt F) H) (arg2.view.read (Elt F) G) (arg3.view.read (Elt F) W3) (arg5.view.read (Elt F) W5) (arg4.view.read (Elt F) X4) (arg6.view.read (Elt F) X6)⌝ ∗ bigSep (Ring.rangeSet N4 0 8) (cdone c arg12 arg17 X))
      ∗ cidle (F := F) c arg19 arg26 ![0] (par_inb 0) ![0, 0, 0, 0] (spar_inb 0) ∗ cidle (F := F) c arg19 arg26 ![1] (par_inb 1) ![1, 0, 0, 0] (spar_inb 1)
      ∗ semVal ((c : Thread nD τ), cell24 arg24) 0 ∗ semVal ((c : Thread nD τ), cell1 arg25) 0
      ∗ ∃ W, owes (c : Thread nD τ) 0 W)

set_option maxHeartbeats 4000000 in
/-- The body runs from `bodyPre` to `bodyPost`. -/
theorem body_run [∀ e, Nonempty (Elt F e)] (W : Waits sig Unit) :
    bodyPre c arg0 arg1 arg2 arg3 arg4 arg5 arg6 arg7 arg8 arg9 arg10 arg11 arg12 arg13 arg14 arg15 arg16 arg17 arg18 arg19 arg20 arg21 arg22 arg23 arg24 arg25 arg26 W3 W5 W7 H T1 G X4 X6 X8 W
      ⊢ wp frame (wpE (defs₀ (F := F)) Variants.none (c : Thread nD τ) none) Set.univ (cc0_mod_block_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => bodyPost c arg0 arg1 arg2 arg3 arg4 arg5 arg6 arg7 arg8 arg9 arg10 arg11 arg12 arg13 arg14 arg15 arg16 arg17 arg18 arg19 arg20 arg21 arg22 arg23 arg24 arg25 arg26 W3 W5 W7 H T1 G X4 X6 X8) := by
  unfold bodyPre
  iintro ⟨HR, H0, H1, H2, H4, H6, H8, H10, H11, H13, H15, H16, H17, H18, H20, H21, H22, H9, H12, HS0, HS1, Hc24, Hc25, HO⟩
  ihave HR := ring_free c arg3 arg5 arg7 arg14 arg23 W3 W5 W7 $$ HR
  icases HR with ⟨R0, R1, R2, R3, R4, R5, R6, R7, R8, R9, R10, R11, R12, R13, R14, R15⟩
  unfold cc0_mod_block_skel
  rw [wp_bind]
  ihave HW := pro14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R0 R1 R2]
  · isplitl [R0]; · iexact R0
    isplitl [R1]; · iexact R1
    iexact R2
  iapply (wp_wand_r frame (wpE (defs₀ (F := F)) Variants.none (c : Thread nD τ) none) Set.univ)
  isplitl [HW]; · iexact HW
  iintro %_ ⟨R0, R1, R2⟩
  rw [wp_bind]
  ihave HW := pro15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R3 R4 R5]
  · isplitl [R3]; · iexact R3
    isplitl [R4]; · iexact R4
    iexact R5
  iapply (wp_wand_r frame (wpE (defs₀ (F := F)) Variants.none (c : Thread nD τ) none) Set.univ)
  isplitl [HW]; · iexact HW
  iintro %_ ⟨R3, R4, R5⟩
  rw [wp_bind]
  ihave HW := pro16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R6 R7 R8]
  · isplitl [R6]; · iexact R6
    isplitl [R7]; · iexact R7
    iexact R8
  iapply (wp_wand_r frame (wpE (defs₀ (F := F)) Variants.none (c : Thread nD τ) none) Set.univ)
  isplitl [HW]; · iexact HW
  iintro %_ ⟨R6, R7, R8⟩
  rw [wp_bind]
  ihave HW := pro17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R9 R10 R11]
  · isplitl [R9]; · iexact R9
    isplitl [R10]; · iexact R10
    iexact R11
  iapply (wp_wand_r frame (wpE (defs₀ (F := F)) Variants.none (c : Thread nD τ) none) Set.univ)
  isplitl [HW]; · iexact HW
  iintro %_ ⟨R9, R10, R11⟩
  rw [wp_bind]
  ihave HW := pro18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R12 R13 R14]
  · isplitl [R12]; · iexact R12
    isplitl [R13]; · iexact R13
    iexact R14
  iapply (wp_wand_r frame (wpE (defs₀ (F := F)) Variants.none (c : Thread nD τ) none) Set.univ)
  isplitl [HW]; · iexact HW
  iintro %_ ⟨R12, R13, R14⟩
  rw [wp_bind]
  ihave HW := b19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H T1 G $$ [R15 H0 H1 H2 H11 H16 H20 H21]
  · isplitl [R15]; · iexact R15
    isplitl [H0]; · iexact H0
    isplitl [H1]; · iexact H1
    isplitl [H2]; · iexact H2
    isplitl [H11]; · iexact H11
    isplitl [H16]; · iexact H16
    isplitl [H20]; · iexact H20
    iexact H21
  iapply (wp_wand_r frame (wpE (defs₀ (F := F)) Variants.none (c : Thread nD τ) none) Set.univ)
  isplitl [HW]; · iexact HW
  iintro %r19 ⟨R15, H0, H1, H2, H11, H16, H20, H21, %hr19⟩
  subst hr19
  ihave HR := ring_init c arg3 arg5 arg7 arg14 arg23 W3 W5 W7 $$ [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  rw [wp_bind]
  ihave HW := b20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H G X4 X6 W $$ [HR H4 H6 H11 H16 H21 H18 H10 H22 H15 Hc24 HO]
  · isplitl [HR]; · iexact HR
    isplitl [H4]; · iexact H4
    isplitl [H6]; · iexact H6
    isplitl [H11]; · iexact H11
    isplitl [H16]; · iexact H16
    isplitl [H21]; · iexact H21
    isplitl [H18]; · iexact H18
    isplitl [H10]; · iexact H10
    isplitl [H22]; · iexact H22
    isplitl [H15]; · iexact H15
    isplitl [Hc24]; · iexact Hc24
    iexact HO
  iapply (wp_wand_r frame (wpE (defs₀ (F := F)) Variants.none (c : Thread nD τ) none) Set.univ)
  isplitl [HW]; · iexact HW
  iintro %r20 ⟨HR, H4, H6, H11, H16, H21, Hc24, H22, H15, HO, %hr20⟩
  subst hr20
  rw [wp_bind]
  ihave HW := b21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 H G X4 X6 $$ [H21 H22 H13]
  · isplitl [H21]; · iexact H21
    isplitl [H22]; · iexact H22
    iexact H13
  iapply (wp_wand_r frame (wpE (defs₀ (F := F)) Variants.none (c : Thread nD τ) none) Set.univ)
  isplitl [HW]; · iexact HW
  iintro %r21 ⟨H21, H22, H13, %hr21⟩
  rw [wp_bind]
  ihave HW := b22 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H T1 G X4 X6 X8 r21 hr21 $$ [HR H8 H13 Hc24 H15 H17 H20 H21 H22 H9 H12 HS0 HS1 Hc25 HO]
  · isplitl [HR]; · iexact HR
    isplitl [H8]; · iexact H8
    isplitl [H13]; · iexact H13
    isplitl [Hc24]; · iexact Hc24
    isplitl [H15]; · iexact H15
    isplitl [H17]; · iexact H17
    isplitl [H20]; · iexact H20
    isplitl [H21]; · iexact H21
    isplitl [H22]; · iexact H22
    isplitl [H9]; · iexact H9
    isplitl [H12]; · iexact H12
    isplitl [HS0]; · iexact HS0
    isplitl [HS1]; · iexact HS1
    isplitl [Hc25]; · iexact Hc25
    iexact HO
  iapply (wp_wand_r frame (wpE (defs₀ (F := F)) Variants.none (c : Thread nD τ) none) Set.univ)
  isplitl [HW]; · iexact HW
  iintro %_ ⟨HR, H8, H13, H10, H18, Hc24, H15, H21, H22, ⟨%X, ⟨H17, %hX, HS1, HD⟩⟩, HS0, HB, ⟨%W', HO⟩⟩
  ihave HS1 := cst9 c arg12 arg17 arg19 arg26 X $$ HS1
  icases HS1 with ⟨%f12, HS1⟩
  ihave HR := held_in _ $$ HR
  ihave HB := held_in _ $$ HB
  ihave HD := held_in _ $$ HD
  ihave HS0 := held_in _ $$ HS0
  sl_exec
  ihave HB := held_out _ $$ HB
  sl_for (fun k (_ : Unit) => t5At c arg9 arg20 arg25 (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n) k) $$ [HB HO]
  · intro k acc
    exact t5_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 _ k acc
  · unfold t5At
    isplitl [HO]; · iexists _; iexact HO
    rw [if_pos (by omega)]
    iexact HB
  iintro %acc HL
  rw [show Scf.trips k0_t5_loop.lb k0_t5_loop.ub k0_t5_loop.st = 8 by decide +kernel]
  unfold t5At
  rw [if_neg (by omega)]
  icases HL with ⟨HO, Hc25, HDD⟩
  sl_exec
  sl_step
  ihave HR := held_out _ $$ HR
  ihave HD := held_out _ $$ HD
  ihave HS0 := held_out _ $$ HS0
  unfold bodyPost
  isplitl [HR]; · iexact HR
  isplitl [H0]; · iexact H0
  isplitl [H1]; · iexact H1
  isplitl [H2]; · iexact H2
  isplitl [H4]; · iexact H4
  isplitl [H6]; · iexact H6
  isplitl [H8]; · iexact H8
  isplitl [H10]; · iexact H10
  isplitl [H11]; · iexact H11
  isplitl [H13]; · iexact H13
  isplitl [H15]; · iexact H15
  isplitl [H16]; · iexact H16
  isplitl [H17]; · iexists _; iexact H17
  isplitl [H18]; · iexact H18
  isplitl [H21]; · iexact H21
  isplitl [H22]; · iexact H22
  isplitl [HDD]; · iexact HDD
  isplitl [HD HS1_dst]
  · iexists X
    isplitr [HD HS1_dst]; · ipureintro; exact hX
    rw [Ring.bigSep_rangeSet_last (lo := 0) (hi := 8) (by omega) (by decide +kernel)]
    isplitl [HS1_dst]
    · iapply (done_mk c arg12 arg17 X p7 (k0_off40 7#32) wait7.1 (k0_off40_inb 1) _ ((View.read_writes_whole _ _ _).trans (View.read_rep _ _)))
      iexact HS1_dst
    iexact HD
  isplitl [HS0]; · iexact HS0
  isplitl [HS1 HS1_src]
  · iapply (ent_of_eq (cidle_congr c arg19 arg26 wait7.2.2 wait7.2.1 (par_inb 9) (spar_inb 9) (k0_off39_inb 1) (k0_off41_inb 1)).symm)
    isplitl [HS1]; · iexact HS1
    iexists _; iexact HS1_src
  isplitl [Hc24]; · iexact Hc24
  isplitl [Hc25]; · iexact Hc25
  iexact HO

end Cert.Proof.KernelIdeal
-- ==== Proof.ILaunchA.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IBody
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The ends of the body: whole arrays, and the pieces the body runs on -/

/-- Held at some contents. -/
theorem pt_ex (ℓ : Loc nD τ sig) (S : Finset (Idx ℓ)) (f : Buf (Elt F) ℓ) : (ℓ ↦[S]{fullShare} f : sProp 𝕄) ⊢ iprop(∃ f, ℓ ↦[S]{fullShare} f) := by
  iintro H; iexists f; iexact H
/-- Two, one by one. -/
theorem bigSep_two (Φ : Fin 2 → sProp 𝕄) : bigSep Finset.univ Φ = iprop(Φ 0 ∗ Φ 1) :=
  bigSep_univ_eq_bigSepL [(0 : Fin 2), (1 : Fin 2)] (by decide) (by decide) Φ

section Ring
variable (c : Dev nD) (arg3 : Memref sig .tc .hbm S4096x14336 .fp8e4m3) (arg5 : Memref sig .tc .hbm S4096x14336 .fp8e4m3)
  (arg7 : Memref sig .tc .hbm S14336x4096 .fp8e4m3) (arg14 : Memref sig .tc .vmem S16x4096x512 .fp8e4m3) (arg23 : DmaSems sig S16)
  (W3 : BufTy.Contents (Elt F) arg3.view.ty) (W5 : BufTy.Contents (Elt F) arg5.view.ty) (W7 : BufTy.Contents (Elt F) arg7.view.ty)

/-- Where slot `k` sits. -/
abbrev offK (k : Fin 16) : Fin 3 → ℕ := ![k.val, 0, 0]
/-- What is left of a weight once every slot has its reading share. -/
abbrev rem {s : Shape} (a : Memref sig .tc .hbm s .fp8e4m3) (W : BufTy.Contents (Elt F) a.view.ty) : sProp 𝕄 :=
  (a.view.loc (c : Thread nD τ) ↦[a.view.set]{Transfers.shareDrop fullShare 16} W)

/-- The ring's slots, all free, family by family. -/
theorem ring_eq : Ring.AtW (σ := fun _ => St) (ringAt (F := F) c arg3 arg5 arg7 arg14 arg23 W3 W5 W7) (fun _ => .free)
    = iprop(bigSep Finset.univ (fun k : Fin 16 => semVal ((c : Thread nD τ), cellM arg23 ![k.val] (cell_inb k)) 0)
      ∗ bigSep Finset.univ (fun k : Fin 16 => slotP (F := F) c arg14 ![k.val, 0, 0] (slot_inb k))
      ∗ bigSep Finset.univ (fun k : Fin 16 => tok c arg3 W3 k) ∗ bigSep Finset.univ (fun k : Fin 16 => tok c arg5 W5 k)
      ∗ bigSep Finset.univ (fun k : Fin 16 => tok c arg7 W7 k)) := by
  unfold Ring.AtW
  simp only [ringAt]
  rw [bigSep_sep', bigSep_sep', bigSep_sep', bigSep_sep']

/-- The slots' array and the weights held are the ring with every slot free. -/
theorem ring_in : iprop((∃ f, arg14.view.loc (c : Thread nD τ) ↦[arg14.view.set]{fullShare} f) ∗ (arg3.view.loc (c : Thread nD τ) ↦[arg3.view.set]{fullShare} W3)
      ∗ (arg5.view.loc (c : Thread nD τ) ↦[arg5.view.set]{fullShare} W5) ∗ (arg7.view.loc (c : Thread nD τ) ↦[arg7.view.set]{fullShare} W7)
      ∗ bigSep Finset.univ (fun k : Fin 16 => semVal ((c : Thread nD τ), cellM arg23 ![k.val] (cell_inb k)) 0))
    ⊢ iprop(Ring.AtW (σ := fun _ => St) (ringAt (F := F) c arg3 arg5 arg7 arg14 arg23 W3 W5 W7) (fun _ => .free)
      ∗ rem c arg3 W3 ∗ rem c arg5 W5 ∗ rem c arg7 W7) := by
  rw [ring_eq]
  iintro ⟨⟨%f, H14⟩, H3, H5, H7, HS⟩
  ihave H3 := (Transfers.pointsTo_toks fullShare 16).1 $$ H3
  ihave H5 := (Transfers.pointsTo_toks fullShare 16).1 $$ H5
  ihave H7 := (Transfers.pointsTo_toks fullShare 16).1 $$ H7
  icases H3 with ⟨R3, H3⟩
  icases H5 with ⟨R5, H5⟩
  icases H7 with ⟨R7, H7⟩
  ihave H14 := BIBase.Entails.trans (blk_split c arg14 (0 : Fin 3) 1 offK S1x4096x512.size slot_inb (fun b => (Nat.one_mul _).symm)
    (fun b a h => by match a, h with | 0, h => exact absurd rfl h | 1, _ => rfl | 2, _ => rfl) rfl
    (fun a h => by match a, h with | 0, h => exact absurd rfl h | 1, _ => rfl | 2, _ => rfl) (by decide +kernel)
    (fun k => (slotM arg14 ![k.val, 0, 0] (slot_inb k)).view.set) (fun b => (View.set_reshape _ _).trans (View.set_slice _ _)) f)
    (bigSep_mono (s := Finset.univ) (fun k _ => pt_ex _ _ f)) $$ H14
  isplitl [HS H14 H3 H5 H7]
  · isplitl [HS]; · iexact HS
    isplitl [H14]
    · iexact H14
    isplitl [H3]; · iexact H3
    isplitl [H5]; · iexact H5
    iexact H7
  isplitl [R3]; · iexact R3
  isplitl [R5]; · iexact R5
  iexact R7

/-- The ring with every slot free is the slots' array and the weights held. -/
theorem ring_out [∀ e, Nonempty (Elt F e)] : iprop(Ring.AtW (σ := fun _ => St) (ringAt (F := F) c arg3 arg5 arg7 arg14 arg23 W3 W5 W7) (fun _ => .free)
      ∗ rem c arg3 W3 ∗ rem c arg5 W5 ∗ rem c arg7 W7)
    ⊢ iprop((∃ f, arg14.view.loc (c : Thread nD τ) ↦[arg14.view.set]{fullShare} f) ∗ (arg3.view.loc (c : Thread nD τ) ↦[arg3.view.set]{fullShare} W3)
      ∗ (arg5.view.loc (c : Thread nD τ) ↦[arg5.view.set]{fullShare} W5) ∗ (arg7.view.loc (c : Thread nD τ) ↦[arg7.view.set]{fullShare} W7)
      ∗ bigSep Finset.univ (fun k : Fin 16 => semVal ((c : Thread nD τ), cellM arg23 ![k.val] (cell_inb k)) 0)) := by
  rw [ring_eq]
  iintro ⟨⟨HS, H14, H3, H5, H7⟩, R3, R5, R7⟩
  ihave H14 := (blk_join c arg14 (0 : Fin 3) 1 offK S1x4096x512.size slot_inb (fun b => (Nat.one_mul _).symm)
    (fun b a h => by match a, h with | 0, h => exact absurd rfl h | 1, _ => rfl | 2, _ => rfl) rfl
    (fun a h => by match a, h with | 0, h => exact absurd rfl h | 1, _ => rfl | 2, _ => rfl) (by decide +kernel)
    (fun k => (slotM arg14 ![k.val, 0, 0] (slot_inb k)).view.set) (fun b => (View.set_reshape _ _).trans (View.set_slice _ _))) $$ H14
  isplitl [H14]; · iexact H14
  isplitl [H3 R3]; · iapply (Transfers.pointsTo_toks fullShare 16).2; isplitl [R3]; · iexact R3
                     iexact H3
  isplitl [H5 R5]; · iapply (Transfers.pointsTo_toks fullShare 16).2; isplitl [R5]; · iexact R5
                     iexact H5
  isplitl [H7 R7]; · iapply (Transfers.pointsTo_toks fullShare 16).2; isplitl [R7]; · iexact R7
                     iexact H7
  iexact HS
end Ring

section Codes
variable (c : Dev nD) (arg12 : Memref sig .tc .hbm S2x112x14336 .fp8e4m3) (arg17 : Memref sig .tc .vmem S224x14336 .fp8e4m3)
  (arg19 : Memref sig .tc .vmem S2x2x112x1792 .fp8e4m3) (arg26 : DmaSems sig S2)
/-- Where slot `b` of the codes' staging sits. -/
abbrev offS (b : Fin 2) : Fin 4 → ℕ := ![b.val, 0, 0, 0]
theorem offS_inb (b : Fin 2) : ∀ a, offS b a + S1x2x112x1792.size a ≤ S2x2x112x1792.size a := by revert b; decide +kernel

/-- The codes' staging held is its two slots held. -/
theorem split19 (f : BufTy.Contents (Elt F) arg19.view.ty) : (arg19.view.loc (c : Thread nD τ) ↦[arg19.view.set]{fullShare} f)
    ⊢ (bigSep Finset.univ (fun b : Fin 2 => ((slot4 arg19 (offS b) (offS_inb b)).view.loc (c : Thread nD τ) ↦[(slot4 arg19 (offS b) (offS_inb b)).view.set]{fullShare} f)) : sProp 𝕄) :=
  blk_split c arg19 (0 : Fin 4) 1 offS S1x2x112x1792.size offS_inb (fun b => (Nat.one_mul _).symm)
    (fun b a h => by match a, h with | 0, h => exact absurd rfl h | 1, _ => rfl | 2, _ => rfl | 3, _ => rfl) rfl
    (fun a h => by match a, h with | 0, h => exact absurd rfl h | 1, _ => rfl | 2, _ => rfl | 3, _ => rfl) (by decide +kernel)
    _ (fun b => (View.set_reshape _ _).trans (View.set_slice _ _)) f
/-- The two slots held are the codes' staging held. -/
theorem join19 [∀ e, Nonempty (Elt F e)] : (bigSep Finset.univ (fun b : Fin 2 => iprop(∃ f, (slot4 arg19 (offS b) (offS_inb b)).view.loc (c : Thread nD τ) ↦[(slot4 arg19 (offS b) (offS_inb b)).view.set]{fullShare} f)) : sProp 𝕄)
    ⊢ iprop(∃ f, arg19.view.loc (c : Thread nD τ) ↦[arg19.view.set]{fullShare} f) :=
  blk_join c arg19 (0 : Fin 4) 1 offS S1x2x112x1792.size offS_inb (fun b => (Nat.one_mul _).symm)
    (fun b a h => by match a, h with | 0, h => exact absurd rfl h | 1, _ => rfl | 2, _ => rfl | 3, _ => rfl) rfl
    (fun a h => by match a, h with | 0, h => exact absurd rfl h | 1, _ => rfl | 2, _ => rfl | 3, _ => rfl) (by decide +kernel)
    (fun b => (slot4 arg19 (offS b) (offS_inb b)).view.set) (fun b => (View.set_reshape _ _).trans (View.set_slice _ _))

/-- The codes' staging and its semaphores are its two slots, idle. -/
theorem stage_in : iprop((∃ f, arg19.view.loc (c : Thread nD τ) ↦[arg19.view.set]{fullShare} f)
      ∗ semVal ((c : Thread nD τ), cell4 arg26 ![0] (par_inb 0)) 0 ∗ semVal ((c : Thread nD τ), cell4 arg26 ![1] (par_inb 1)) 0)
    ⊢ iprop(cidle (F := F) c arg19 arg26 ![0] (par_inb 0) ![0, 0, 0, 0] (spar_inb 0) ∗ cidle (F := F) c arg19 arg26 ![1] (par_inb 1) ![1, 0, 0, 0] (spar_inb 1)) := by
  iintro ⟨⟨%f, H⟩, S0, S1⟩
  ihave H := BIBase.Entails.trans (split19 c arg19 f) (Entails.of_eq (bigSep_two _)) $$ H
  icases H with ⟨H0, H1⟩
  isplitl [S0 H0]
  · isplitl [S0]; · iexact S0
    iexists f; iexact H0
  · isplitl [S1]; · iexact S1
    iexists f; iexact H1
/-- The two slots, idle, are the codes' staging and its semaphores. -/
theorem stage_out [∀ e, Nonempty (Elt F e)] : iprop(cidle (F := F) c arg19 arg26 ![0] (par_inb 0) ![0, 0, 0, 0] (spar_inb 0) ∗ cidle (F := F) c arg19 arg26 ![1] (par_inb 1) ![1, 0, 0, 0] (spar_inb 1))
    ⊢ iprop((∃ f, arg19.view.loc (c : Thread nD τ) ↦[arg19.view.set]{fullShare} f)
      ∗ semVal ((c : Thread nD τ), cell4 arg26 ![0] (par_inb 0)) 0 ∗ semVal ((c : Thread nD τ), cell4 arg26 ![1] (par_inb 1)) 0) := by
  iintro ⟨⟨S0, H0⟩, S1, H1⟩
  isplitl [H0 H1]
  · iapply (BIBase.Entails.trans (Entails.of_eq (bigSep_two _).symm) (join19 c arg19))
    isplitl [H0]; · iexact H0
    iexact H1
  isplitl [S0]; · iexact S0
  iexact S1

/-- The codes' result held is its column blocks held. -/
theorem split12 (f : BufTy.Contents (Elt F) arg12.view.ty) : (arg12.view.loc (c : Thread nD τ) ↦[arg12.view.set]{fullShare} f)
    ⊢ (bigSep Finset.univ (fun n : Fin N4 => ((win4 arg12 (k0_off34 n) (k0_off34_inb n)).view.loc (c : Thread nD τ) ↦[(win4 arg12 (k0_off34 n) (k0_off34_inb n)).view.set]{fullShare} f)) : sProp 𝕄) :=
  blk_split c arg12 (2 : Fin 3) 1792 k0_off34 S2x112x1792.size k0_off34_inb (fun b => by rw [off34_]; rfl)
    (fun b a h => by rw [off34_]; match a, h with | 0, _ => rfl | 1, _ => rfl | 2, h => exact absurd rfl h) rfl
    (fun a h => by match a, h with | 0, _ => rfl | 1, _ => rfl | 2, h => exact absurd rfl h) (by decide +kernel) _ (fun b => View.set_slice _ _) f
/-- The codes' result held is its column blocks held, each at some contents. -/
theorem codes_in (f : BufTy.Contents (Elt F) arg12.view.ty) : (arg12.view.loc (c : Thread nD τ) ↦[arg12.view.set]{fullShare} f : sProp 𝕄)
    ⊢ bigSep Finset.univ (fun n : Fin N4 => iprop(∃ f, ((win4 arg12 (k0_off34 n) (k0_off34_inb n)).view.loc (c : Thread nD τ) ↦[(win4 arg12 (k0_off34 n) (k0_off34_inb n)).view.set]{fullShare} f))) :=
  (split12 c arg12 f).trans (bigSep_mono (s := Finset.univ) (fun n _ => pt_ex ((win4 arg12 (k0_off34 n) (k0_off34_inb n)).view.loc (c : Thread nD τ)) _ f))
/-- The column blocks, each at what it reads, are the array at what they read together. -/
theorem join12 [∀ e, Nonempty (Elt F e)] (X : Fin N4 → Vec F S2x112x1792 .fp8e4m3) : (bigSep Finset.univ (fun n : Fin N4 => ((win4 arg12 (k0_off34 n) (k0_off34_inb n)).view.loc (c : Thread nD τ) ↦[(win4 arg12 (k0_off34 n) (k0_off34_inb n)).view.set]{fullShare} ((win4 arg12 (k0_off34 n) (k0_off34_inb n)).view.rep (X n)))) : sProp 𝕄)
    ⊢ iprop(∃ g, (arg12.view.loc (c : Thread nD τ) ↦[arg12.view.set]{fullShare} g) ∗ ⌜∀ n, VecWindow.window (arg12.view.read (Elt F) g) (k0_off34 n) S2x112x1792.size (k0_off34_inb n) = X n⌝) :=
  blk_join_rep c arg12 (2 : Fin 3) 1792 k0_off34 S2x112x1792.size k0_off34_inb (fun b => by rw [off34_]; rfl)
    (fun b a h => by rw [off34_]; match a, h with | 0, _ => rfl | 1, _ => rfl | 2, h => exact absurd rfl h) rfl
    (fun a h => by match a, h with | 0, _ => rfl | 1, _ => rfl | 2, h => exact absurd rfl h) (by decide +kernel) X
/-- A column block at its codes. -/
theorem codes_one [∀ e, Nonempty (Elt F e)] (X : BufTy.Contents (Elt F) arg17.view.ty) (n : Fin N4) : cdone c arg12 arg17 X n
    ⊢ ((win4 arg12 (k0_off34 n) (k0_off34_inb n)).view.loc (c : Thread nD τ) ↦[(win4 arg12 (k0_off34 n) (k0_off34_inb n)).view.set]{fullShare} ((win4 arg12 (k0_off34 n) (k0_off34_inb n)).view.rep (c4val (arg17.view.read (Elt F) X) n))) := by
  unfold cdone
  iintro ⟨%f, H, %hf⟩
  iapply (pointsTo_rep_of_read (c : Thread nD τ) (win4 arg12 (k0_off34 n) (k0_off34_inb n)) f fullShare _ hf) $$ H
/-- The column blocks, each at its codes, are the codes' result at the whole array of codes. -/
theorem codes_out [∀ e, Nonempty (Elt F e)] (X : BufTy.Contents (Elt F) arg17.view.ty) :
    bigSep (Ring.rangeSet N4 0 8) (cdone c arg12 arg17 X)
    ⊢ iprop(∃ g, (arg12.view.loc (c : Thread nD τ) ↦[arg12.view.set]{fullShare} g)
      ∗ ⌜arg12.view.read (Elt F) g = untile (s := S2x112x14336) k0_off34 S2x112x1792.size (fun i : S2x112x14336.Idx => codeBlk (i 2)) hq34 (fun n => c4val (arg17.view.read (Elt F) X) n)⌝) := by
  rw [show Ring.rangeSet N4 0 8 = Finset.univ from by decide +kernel]
  refine BIBase.Entails.trans (bigSep_mono (s := Finset.univ) (fun n _ => codes_one c arg12 arg17 X n)) ?_
  refine BIBase.Entails.trans (join12 c arg12 _) ?_
  iintro ⟨%g, H, %hg⟩
  iexists g
  isplitl [H]; · iexact H
  ipureintro
  exact untile_eq (s := S2x112x14336) (NB := N4) k0_off34 _ (fun i : S2x112x14336.Idx => codeBlk (i 2)) hq34 _ k0_off34_inb _ hg
end Codes

section Cols
variable (c : Dev nD) (arg9 : Memref sig .tc .hbm S224x4096 .f32) (arg20 : Memref sig .tc .vmem S224x4096 .f32)
/-- The first result held is its column blocks held. -/
theorem split9 (f : BufTy.Contents (Elt F) arg9.view.ty) : (arg9.view.loc (c : Thread nD τ) ↦[arg9.view.set]{fullShare} f)
    ⊢ (bigSep Finset.univ (fun n : Fin N4 => ((win9 arg9 (k0_off32 n) (k0_off32_inb n)).view.loc (c : Thread nD τ) ↦[(win9 arg9 (k0_off32 n) (k0_off32_inb n)).view.set]{fullShare} f)) : sProp 𝕄) :=
  blk_split c arg9 (1 : Fin 2) 512 k0_off32 S224x512.size k0_off32_inb (fun b => by rw [off32_]; rfl)
    (fun b a h => by rw [off32_]; match a, h with | 0, _ => rfl | 1, h => exact absurd rfl h) rfl
    (fun a h => by match a, h with | 0, _ => rfl | 1, h => exact absurd rfl h) (by decide +kernel) _ (fun b => View.set_slice _ _) f
/-- The first result held is its column blocks held, each at some contents. -/
theorem cols_in (f : BufTy.Contents (Elt F) arg9.view.ty) : (arg9.view.loc (c : Thread nD τ) ↦[arg9.view.set]{fullShare} f : sProp 𝕄)
    ⊢ bigSep Finset.univ (fun n : Fin N4 => iprop(∃ f, ((win9 arg9 (k0_off32 n) (k0_off32_inb n)).view.loc (c : Thread nD τ) ↦[(win9 arg9 (k0_off32 n) (k0_off32_inb n)).view.set]{fullShare} f))) :=
  (split9 c arg9 f).trans (bigSep_mono (s := Finset.univ) (fun n _ => pt_ex ((win9 arg9 (k0_off32 n) (k0_off32_inb n)).view.loc (c : Thread nD τ)) _ f))
/-- The column blocks, each at what it reads, are the array at what they read together. -/
theorem join9 [∀ e, Nonempty (Elt F e)] (X : Fin N4 → Vec F S224x512 .f32) : (bigSep Finset.univ (fun n : Fin N4 => ((win9 arg9 (k0_off32 n) (k0_off32_inb n)).view.loc (c : Thread nD τ) ↦[(win9 arg9 (k0_off32 n) (k0_off32_inb n)).view.set]{fullShare} ((win9 arg9 (k0_off32 n) (k0_off32_inb n)).view.rep (X n)))) : sProp 𝕄)
    ⊢ iprop(∃ g, (arg9.view.loc (c : Thread nD τ) ↦[arg9.view.set]{fullShare} g) ∗ ⌜∀ n, VecWindow.window (arg9.view.read (Elt F) g) (k0_off32 n) S224x512.size (k0_off32_inb n) = X n⌝) :=
  blk_join_rep c arg9 (1 : Fin 2) 512 k0_off32 S224x512.size k0_off32_inb (fun b => by rw [off32_]; rfl)
    (fun b a h => by rw [off32_]; match a, h with | 0, _ => rfl | 1, h => exact absurd rfl h) rfl
    (fun a h => by match a, h with | 0, _ => rfl | 1, h => exact absurd rfl h) (by decide +kernel) X
/-- The staging's column blocks held are the staging held. -/
theorem join20 [∀ e, Nonempty (Elt F e)] : (bigSep Finset.univ (fun n : Fin N4 => iprop(∃ f, ((win20 arg20 (k0_off32 n) (k0_off32_inb n)).view.loc (c : Thread nD τ) ↦[(win20 arg20 (k0_off32 n) (k0_off32_inb n)).view.set]{fullShare} f))) : sProp 𝕄)
    ⊢ iprop(∃ g, arg20.view.loc (c : Thread nD τ) ↦[arg20.view.set]{fullShare} g) :=
  blk_join c arg20 (1 : Fin 2) 512 k0_off32 S224x512.size k0_off32_inb (fun b => by rw [off32_]; rfl)
    (fun b a h => by rw [off32_]; match a, h with | 0, _ => rfl | 1, h => exact absurd rfl h) rfl
    (fun a h => by match a, h with | 0, _ => rfl | 1, h => exact absurd rfl h) (by decide +kernel) (fun n => (win20 arg20 (k0_off32 n) (k0_off32_inb n)).view.set) (fun b => View.set_slice _ _)
/-- A column block delivered. -/
theorem cols_one [∀ e, Nonempty (Elt F e)] (X : Fin N4 → Vec F S224x512 .f32) (n : Fin N4) : ddel c arg9 arg20 X n
    ⊢ iprop(((win9 arg9 (k0_off32 n) (k0_off32_inb n)).view.loc (c : Thread nD τ) ↦[(win9 arg9 (k0_off32 n) (k0_off32_inb n)).view.set]{fullShare} ((win9 arg9 (k0_off32 n) (k0_off32_inb n)).view.rep (X n))) ∗ ∃ f, ((win20 arg20 (k0_off32 n) (k0_off32_inb n)).view.loc (c : Thread nD τ) ↦[(win20 arg20 (k0_off32 n) (k0_off32_inb n)).view.set]{fullShare} f)) := by
  iintro ⟨%f, H, H'⟩
  isplitl [H]
  · iapply (pointsTo_rep_of_read (c : Thread nD τ) (win9 arg9 (k0_off32 n) (k0_off32_inb n)) _ fullShare _
      ((View.read_writes_whole _ _ _).trans (View.read_rep _ _))) $$ H
  · iexists _; iexact H'
/-- The column blocks delivered are the first result at the whole array, and the staging it came from held. -/
theorem cols_out [∀ e, Nonempty (Elt F e)] (X : Fin N4 → Vec F S224x512 .f32) :
    bigSep Finset.univ (ddel c arg9 arg20 X)
    ⊢ iprop((∃ g, (arg9.view.loc (c : Thread nD τ) ↦[arg9.view.set]{fullShare} g)
        ∗ ⌜arg9.view.read (Elt F) g = untile (s := S224x4096) k0_off32 S224x512.size (fun i : S224x4096.Idx => colBlk4 (i 1)) hq32 X⌝)
      ∗ ∃ g, arg20.view.loc (c : Thread nD τ) ↦[arg20.view.set]{fullShare} g) := by
  refine BIBase.Entails.trans (bigSep_mono (s := Finset.univ) (fun n _ => cols_one c arg9 arg20 X n)) ?_
  rw [bigSep_sep']
  show BIBase.Entails _ _
  iintro ⟨H, H'⟩
  isplitl [H]
  · ihave H := (join9 c arg9 X) $$ H
    icases H with ⟨%g, H, %hg⟩
    iexists g
    isplitl [H]; · iexact H
    ipureintro
    exact untile_eq (s := S224x4096) (NB := N4) k0_off32 _ (fun i : S224x4096.Idx => colBlk4 (i 1)) hq32 _ k0_off32_inb _ hg
  · iapply (join20 c arg20) $$ H'
end Cols

end Cert.Proof.KernelIdeal
-- ==== Proof.ILaunchB.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.ILaunchA
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The body, on whole arrays -/

section Whole
variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (hv tv : Vec F S224x4096 .f32) (gv : Vec F S1x4096 .f32) (w3 w5 : Vec F S4096x14336 .fp8e4m3)
  (w7 : Vec F S14336x4096 .fp8e4m3) (x4 x6 : Vec F S1x14336 .f32) (x8 : Vec F S1x4096 .f32)

/-- A view of a whole array held at some contents is the array owned at something. -/
theorem owns_ex {sp : Space} {s : Shape} {e : EltTy} (m : Memref sig .tc sp s e) : iprop(∃ f, m.view.loc (c : Thread nD τ) ↦[m.view.set]{fullShare} f) ⊢ (iprop(∃ X, owns (c : Thread nD τ) m fullShare X) : sProp 𝕄) := by
  iintro ⟨%f, H⟩
  iexists (m.view.read (Elt F) f)
  unfold owns
  iexists f
  isplitr; · ipureintro; rfl
  iexact H
/-- And back. -/
theorem ex_owns {sp : Space} {s : Shape} {e : EltTy} (m : Memref sig .tc sp s e) : (iprop(∃ X, owns (c : Thread nD τ) m fullShare X) : sProp 𝕄) ⊢ iprop(∃ f, m.view.loc (c : Thread nD τ) ↦[m.view.set]{fullShare} f) := by
  unfold owns
  iintro ⟨%X, %f, -, H⟩
  iexists f
  iexact H
/-- Held at contents that read `X`, it is owned at `X`. -/
theorem owns_at {sp : Space} {s : Shape} {e : EltTy} (m : Memref sig .tc sp s e) (X : s.Idx → Elt F e) : iprop(∃ f, (m.view.loc (c : Thread nD τ) ↦[m.view.set]{fullShare} f) ∗ ⌜m.view.read (Elt F) f = X⌝) ⊢ (owns (c : Thread nD τ) m fullShare X : sProp 𝕄) := by
  unfold owns
  iintro ⟨%f, H, %h⟩
  iexists f
  isplitr; · ipureintro; exact h
  iexact H
/-- Held at contents, it is owned at what they read. -/
theorem owns_read {sp : Space} {s : Shape} {e : EltTy} (m : Memref sig .tc sp s e) (f : BufTy.Contents (Elt F) m.view.ty) : (m.view.loc (c : Thread nD τ) ↦[m.view.set]{fullShare} f) ⊢ (owns (c : Thread nD τ) m fullShare (m.view.read (Elt F) f) : sProp 𝕄) := by
  unfold owns
  iintro H
  iexists f
  isplitr; · ipureintro; rfl
  iexact H
/-- The whole of the staging of the first codes, as the copy takes it, is the staging. -/
theorem stg18_set : (stg18 arg18).view.set = arg18.view.set := by
  refine (View.set_slice _ _).trans ?_
  rw [show (Rect.unit (s := S2x112x4096) ![0, 0, 0] S2x112x4096.size inb_S2x112x4096_S2x112x4096_0_0_0).set = Finset.univ from by
    rw [← Rect.set_whole]; congr 1; unfold Rect.unit Rect.whole; dsimp only; congr 1; funext i; fin_cases i <;> rfl]
  rfl

/-- What the body is given. -/
def wholePre : sProp 𝕄 :=
    iprop(owns (c : Thread nD τ) arg0 fullShare hv ∗ owns (c : Thread nD τ) arg1 fullShare tv ∗ owns (c : Thread nD τ) arg2 fullShare gv ∗ owns (c : Thread nD τ) arg3 fullShare w3 ∗ owns (c : Thread nD τ) arg4 fullShare x4 ∗ owns (c : Thread nD τ) arg5 fullShare w5 ∗ owns (c : Thread nD τ) arg6 fullShare x6 ∗ owns (c : Thread nD τ) arg7 fullShare w7 ∗ owns (c : Thread nD τ) arg8 fullShare x8
      ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X)
      ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X)
      ∗ bigSep Finset.univ (fun k : Fin 16 => semVal ((c : Thread nD τ), cellM arg23 ![k.val] (cell_inb k)) 0)
      ∗ semVal ((c : Thread nD τ), cell24 arg24) 0 ∗ semVal ((c : Thread nD τ), cell1 arg25) 0
      ∗ semVal ((c : Thread nD τ), cell4 arg26 ![0] (par_inb 0)) 0 ∗ semVal ((c : Thread nD τ), cell4 arg26 ![1] (par_inb 1)) 0)
/-- What it gives back. -/
def wholePost : sProp 𝕄 :=
    iprop(owns (c : Thread nD τ) arg0 fullShare hv ∗ owns (c : Thread nD τ) arg1 fullShare tv ∗ owns (c : Thread nD τ) arg2 fullShare gv ∗ owns (c : Thread nD τ) arg3 fullShare w3 ∗ owns (c : Thread nD τ) arg4 fullShare x4 ∗ owns (c : Thread nD τ) arg5 fullShare w5 ∗ owns (c : Thread nD τ) arg6 fullShare x6 ∗ owns (c : Thread nD τ) arg7 fullShare w7 ∗ owns (c : Thread nD τ) arg8 fullShare x8
      ∗ owns (c : Thread nD τ) arg9 fullShare (dout hv tv gv w3 w5 w7 x4 x6 x8) ∗ owns (c : Thread nD τ) arg10 fullShare (c3out hv gv) ∗ owns (c : Thread nD τ) arg11 fullShare (a3out hv gv) ∗ owns (c : Thread nD τ) arg12 fullShare (c4out hv gv w3 w5 x4 x6) ∗ owns (c : Thread nD τ) arg13 fullShare (a4out hv gv w3 w5 x4 x6)
      ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X)
      ∗ bigSep Finset.univ (fun k : Fin 16 => semVal ((c : Thread nD τ), cellM arg23 ![k.val] (cell_inb k)) 0)
      ∗ semVal ((c : Thread nD τ), cell24 arg24) 0 ∗ semVal ((c : Thread nD τ), cell1 arg25) 0
      ∗ semVal ((c : Thread nD τ), cell4 arg26 ![0] (par_inb 0)) 0 ∗ semVal ((c : Thread nD τ), cell4 arg26 ![1] (par_inb 1)) 0)

set_option maxHeartbeats 4000000 in
/-- The body, from whole arrays to whole arrays. -/
theorem whole_run [∀ e, Nonempty (Elt F e)] (W : Waits sig Unit) :
    iprop(wholePre c arg0 arg1 arg2 arg3 arg4 arg5 arg6 arg7 arg8 arg9 arg10 arg11 arg12 arg13 arg14 arg15 arg16 arg17 arg18 arg19 arg20 arg21 arg22 arg23 arg24 arg25 arg26 hv tv gv w3 w5 w7 x4 x6 x8 ∗ owes (c : Thread nD τ) 0 W)
      ⊢ wp frame (wpE (defs₀ (F := F)) Variants.none (c : Thread nD τ) none) Set.univ (cc0_mod_block_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(wholePost c arg0 arg1 arg2 arg3 arg4 arg5 arg6 arg7 arg8 arg9 arg10 arg11 arg12 arg13 arg14 arg15 arg16 arg17 arg18 arg19 arg20 arg21 arg22 arg23 arg24 arg25 arg26 hv tv gv w3 w5 w7 x4 x6 x8 ∗ ∃ W, owes (c : Thread nD τ) 0 W)) := by
  unfold wholePre
  iintro ⟨⟨H0, H1, H2, H3, H4, H5, H6, H7, H8, H9, H10, H11, H12, H13, H14, H15, H16, H17, H18, H19, H20, H21, H22, HS, Hc24, Hc25, Hc0, Hc1⟩, HO⟩
  unfold owns
  icases H0 with ⟨%H, %e0, H0⟩
  subst e0
  icases H1 with ⟨%T1, %e1, H1⟩
  subst e1
  icases H2 with ⟨%G, %e2, H2⟩
  subst e2
  icases H3 with ⟨%W3, %e3, H3⟩
  subst e3
  icases H4 with ⟨%X4, %e4, H4⟩
  subst e4
  icases H5 with ⟨%W5, %e5, H5⟩
  subst e5
  icases H6 with ⟨%X6, %e6, H6⟩
  subst e6
  icases H7 with ⟨%W7, %e7, H7⟩
  subst e7
  icases H8 with ⟨%X8, %e8, H8⟩
  subst e8
  icases H9 with ⟨%V9, %f9, -, H9⟩
  icases H10 with ⟨%V10, %f10, -, H10⟩
  icases H11 with ⟨%V11, %f11, -, H11⟩
  icases H12 with ⟨%V12, %f12, -, H12⟩
  icases H13 with ⟨%V13, %f13, -, H13⟩
  icases H14 with ⟨%V14, %f14, -, H14⟩
  icases H15 with ⟨%V15, %f15, -, H15⟩
  icases H16 with ⟨%V16, %f16, -, H16⟩
  icases H17 with ⟨%V17, %f17, -, H17⟩
  icases H18 with ⟨%V18, %f18, -, H18⟩
  icases H19 with ⟨%V19, %f19, -, H19⟩
  icases H20 with ⟨%V20, %f20, -, H20⟩
  icases H21 with ⟨%V21, %f21, -, H21⟩
  icases H22 with ⟨%V22, %f22, -, H22⟩
  ihave HR := (ring_in c arg3 arg5 arg7 arg14 arg23 W3 W5 W7) $$ [H14 H3 H5 H7 HS]
  · isplitl [H14]; · iexists _; iexact H14
    isplitl [H3]; · iexact H3
    isplitl [H5]; · iexact H5
    isplitl [H7]; · iexact H7
    iexact HS
  icases HR with ⟨HR, R3, R5, R7⟩
  ihave H9 := (cols_in c arg9 f9) $$ H9
  ihave H12 := (codes_in c arg12 f12) $$ H12
  ihave HC := (stage_in c arg19 arg26) $$ [H19 Hc0 Hc1]
  · isplitl [H19]; · iexists _; iexact H19
    isplitl [Hc0]; · iexact Hc0
    iexact Hc1
  icases HC with ⟨Hi0, Hi1⟩
  ihave HW := (body_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H T1 G X4 X6 X8 W) $$ [HR H0 H1 H2 H4 H6 H8 H10 H11 H13 H15 H16 H17 H18 H20 H21 H22 H9 H12 Hi0 Hi1 Hc24 Hc25 HO]
  · unfold bodyPre
    isplitl [HR]; · iexact HR
    isplitl [H0]; · iexact H0
    isplitl [H1]; · iexact H1
    isplitl [H2]; · iexact H2
    isplitl [H4]; · iexact H4
    isplitl [H6]; · iexact H6
    isplitl [H8]; · iexact H8
    isplitl [H10]; · iexists _; iexact H10
    isplitl [H11]; · iexists _; iexact H11
    isplitl [H13]; · iexists _; iexact H13
    isplitl [H15]; · iexists _; iexact H15
    isplitl [H16]; · iexists _; iexact H16
    isplitl [H17]; · iexists _; iexact H17
    isplitl [H18]; · iexists _; iexact H18
    isplitl [H20]; · iexists _; iexact H20
    isplitl [H21]; · iexists _; iexact H21
    isplitl [H22]; · iexists _; iexact H22
    isplitl [H9]; · iexact H9
    isplitl [H12]; · iexact H12
    isplitl [Hi0]; · iexact Hi0
    isplitl [Hi1]; · iexact Hi1
    isplitl [Hc24]; · iexact Hc24
    isplitl [Hc25]; · iexact Hc25
    iexact HO
  iapply (wp_wand_r frame (wpE (defs₀ (F := F)) Variants.none (c : Thread nD τ) none) Set.univ)
  isplitl [HW]; · iexact HW
  iintro %_ HP
  unfold bodyPost
  icases HP with ⟨HR, H0, H1, H2, H4, H6, H8, H10, H11, H13, H15, H16, H17, H18, H21, H22, H9, ⟨%X17, %e17, H12⟩, Hi0, Hi1, Hc24, Hc25, HO⟩
  ihave HR := (ring_out c arg3 arg5 arg7 arg14 arg23 W3 W5 W7) $$ [HR R3 R5 R7]
  · isplitl [HR]; · iexact HR
    isplitl [R3]; · iexact R3
    isplitl [R5]; · iexact R5
    iexact R7
  icases HR with ⟨H14, H3, H5, H7, HS⟩
  ihave H9 := (cols_out c arg9 arg20 _) $$ H9
  icases H9 with ⟨H9, H20⟩
  ihave H12 := (codes_out c arg12 arg17 X17) $$ H12
  rw [e17]
  ihave HC := (stage_out c arg19 arg26) $$ [Hi0 Hi1]
  · isplitl [Hi0]; · iexact Hi0
    iexact Hi1
  icases HC with ⟨H19, Hc0, Hc1⟩
  isplitr [HO]
  · unfold wholePost
    isplitl [H0]; · iapply (owns_read c arg0 H) $$ H0
    isplitl [H1]; · iapply (owns_read c arg1 T1) $$ H1
    isplitl [H2]; · iapply (owns_read c arg2 G) $$ H2
    isplitl [H3]; · iapply (owns_read c arg3 W3) $$ H3
    isplitl [H4]; · iapply (owns_read c arg4 X4) $$ H4
    isplitl [H5]; · iapply (owns_read c arg5 W5) $$ H5
    isplitl [H6]; · iapply (owns_read c arg6 X6) $$ H6
    isplitl [H7]; · iapply (owns_read c arg7 W7) $$ H7
    isplitl [H8]; · iapply (owns_read c arg8 X8) $$ H8
    isplitl [H9]; · iapply (owns_at c arg9 _) $$ H9
    isplitl [H10]; · iapply (owns_at c arg10 _) $$ H10
    isplitl [H11]; · iapply (owns_at c arg11 _) $$ H11
    isplitl [H12]; · iapply (owns_at c arg12 _) $$ H12
    isplitl [H13]; · iapply (owns_at c arg13 _) $$ H13
    isplitl [H14]; · iapply (owns_ex c arg14) $$ H14
    isplitl [H15]; · iapply (owns_ex c arg15) $$ H15
    isplitl [H16]; · iapply (owns_ex c arg16) $$ H16
    isplitl [H17]; · iapply (owns_ex c arg17) $$ H17
    isplitl [H18]; · iapply (owns_ex c arg18); icases H18 with ⟨%f, H18⟩; iexists f; rw [← stg18_set arg18]; iexact H18
    isplitl [H19]; · iapply (owns_ex c arg19) $$ H19
    isplitl [H20]; · iapply (owns_ex c arg20) $$ H20
    isplitl [H21]; · iapply (owns_ex c arg21) $$ H21
    isplitl [H22]; · iapply (owns_ex c arg22) $$ H22
    isplitl [HS]; · iexact HS
    isplitl [Hc24]; · iexact Hc24
    isplitl [Hc25]; · iexact Hc25
    isplitl [Hc0]; · iexact Hc0
    iexact Hc1
  · iexact HO
end Whole

end Cert.Proof.KernelIdeal
-- ==== Proof.ILaunch.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.ILaunchB
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The launch -/

section Launch
variable [∀ e, Nonempty (Elt F e)] (m : (ℓ : Loc nD τ sig) → Buf (Elt F) ℓ) (ρ : Dev nD → PrngReg)

/-- The five cells beside the ring's: the loads', the two of the finals' (the first of them never used), the two of the staging of the second codes. -/
abbrev oth5 : Fin 5 → SemLoc sig := ![cell24 cc0_scratch10, .dma 25, cell1 cc0_scratch11, cell4 cc0_scratch12 ![0] (par_inb 0), cell4 cc0_scratch12 ![1] (par_inb 1)]
/-- The kernel's own semaphores: the ring's sixteen and five more. -/
abbrev osem : Fin 16 ⊕ Fin 5 → SemLoc sig := Sum.elim (fun k => cellM cc0_scratch9 ![k.val] (cell_inb k)) oth5
/-- They are scoped, distinct, and none of the pipeline's. -/
theorem osem_facts : Pipeline.OwnSemFacts spec0 osem := by decide +kernel
/-- All of them at zero, one by one. -/
theorem osem_eq (c : Dev nD) :
    (Pipeline.ownSems0 (Ix := Unit) (Name := ℕ) (U := UC sig nD τ) (Lvl := ℕ) (Val := Elt F) (τ := τ) osem c : sProp 𝕄)
      = iprop(bigSep Finset.univ (fun k : Fin 16 => semVal ((c : Thread nD τ), cellM cc0_scratch9 ![k.val] (cell_inb k)) 0)
        ∗ semVal ((c : Thread nD τ), cell24 cc0_scratch10) 0 ∗ semVal ((c : Thread nD τ), .dma 25) 0 ∗ semVal ((c : Thread nD τ), cell1 cc0_scratch11) 0
        ∗ semVal ((c : Thread nD τ), cell4 cc0_scratch12 ![0] (par_inb 0)) 0 ∗ semVal ((c : Thread nD τ), cell4 cc0_scratch12 ![1] (par_inb 1)) 0) := by
  unfold Pipeline.ownSems0
  rw [BI.bigSep_univ_sum, bigSep_univ_eq_bigSepL [0, 1, 2, 3, 4] (by decide) (by decide) (fun k : Fin 5 => semVal ((c : Thread nD τ), osem (Sum.inr k)) 0)]
  rfl

/-- The arrays the body copies from and to by itself. -/
abbrev R0 : Finset (Ref sig .tc) := {main_arg3, main_arg5, main_arg7, main_v4_0, main_v4_1, main_v4_3}
/-- None of them is a window's array. -/
theorem R0_sub : R0 ⊆ Pipeline.restRefs sig spec0 := by decide
/-- Held whole, one by one. -/
theorem routed_eq (c : Dev nD) (W : (b : Ref sig .tc) → Buf (Elt F) ((c.tc : Thread nD τ).loc b)) :
    (Pipeline.routed R0 c W : sProp 𝕄) = iprop((((c : Thread nD τ).loc main_arg3) ↦{fullShare} W main_arg3) ∗ (((c : Thread nD τ).loc main_arg5) ↦{fullShare} W main_arg5)
      ∗ (((c : Thread nD τ).loc main_arg7) ↦{fullShare} W main_arg7) ∗ (((c : Thread nD τ).loc main_v4_0) ↦{fullShare} W main_v4_0)
      ∗ (((c : Thread nD τ).loc main_v4_1) ↦{fullShare} W main_v4_1) ∗ (((c : Thread nD τ).loc main_v4_3) ↦{fullShare} W main_v4_3)) := by
  unfold Pipeline.routed; rw [BI.bigSep_eq_bigSepL_of_eq [main_arg3, main_arg5, main_arg7, main_v4_0, main_v4_1, main_v4_3] (by decide) (by decide)]; rfl

/-- @main up to its region, at this proof's algebra. -/
theorem hmainC (𝒱₀ : Variants) : Pipeline.HMain (Ix := Unit) (Name := ℕ) (U := UC sig nD τ) (Lvl := ℕ) cfgs 0 defs₀ 𝒱₀ m (main (F := F)) (V m) :=
  Pipeline.hmain_prefix cfgs 0 defs₀ 𝒱₀ m main hostOps0 hostOps0_sub hostOps0_fresh main_chain

/-- The first result's value. -/
def Y0 (c : Dev nD) (t : Fin cfg0.N) : Vec F S224x4096 .f32 := dout (iblk m c 0 t) (iblk m c 1 t) (iblk m c 2 t) (V m c main_arg3) (V m c main_arg5) (V m c main_arg7) (iblk m c 3 t) (iblk m c 4 t) (iblk m c 5 t)
/-- The second result's. -/
def Y1 (c : Dev nD) (t : Fin cfg0.N) : Vec F S2x112x4096 .fp8e4m3 := c3out (iblk m c 0 t) (iblk m c 2 t)
/-- The third's. -/
def Y2 (c : Dev nD) (t : Fin cfg0.N) : Vec F S2x112 .f32 := a3out (iblk m c 0 t) (iblk m c 2 t)
/-- The fourth's. -/
def Y3 (c : Dev nD) (t : Fin cfg0.N) : Vec F S2x112x14336 .fp8e4m3 := c4out (iblk m c 0 t) (iblk m c 2 t) (V m c main_arg3) (V m c main_arg5) (iblk m c 3 t) (iblk m c 4 t)
/-- The fifth's. -/
def Y4 (c : Dev nD) (t : Fin cfg0.N) : Vec F S2x112 .f32 := a4out (iblk m c 0 t) (iblk m c 2 t) (V m c main_arg3) (V m c main_arg5) (iblk m c 3 t) (iblk m c 4 t)

/-- What the arrays the body copies by itself hold at the end. -/
def Yend (c : Dev nD) : (b : Ref sig .tc) → Buf (Elt F) ((c.tc : Thread nD τ).loc b) :=
  Function.update (Function.update (Function.update (V m c) main_v4_0 (Y0 m c t0_0)) main_v4_1 (Y1 m c t0_0)) main_v4_3 (Y3 m c t0_0)
omit [∀ e, Nonempty (Elt F e)] in
theorem Yend_arg3 (c : Dev nD) : Yend m c main_arg3 = V m c main_arg3 := by
  unfold Yend; rw [Function.update_of_ne (by decide), Function.update_of_ne (by decide), Function.update_of_ne (by decide)]
omit [∀ e, Nonempty (Elt F e)] in
theorem Yend_arg5 (c : Dev nD) : Yend m c main_arg5 = V m c main_arg5 := by
  unfold Yend; rw [Function.update_of_ne (by decide), Function.update_of_ne (by decide), Function.update_of_ne (by decide)]
omit [∀ e, Nonempty (Elt F e)] in
theorem Yend_arg7 (c : Dev nD) : Yend m c main_arg7 = V m c main_arg7 := by
  unfold Yend; rw [Function.update_of_ne (by decide), Function.update_of_ne (by decide), Function.update_of_ne (by decide)]
omit [∀ e, Nonempty (Elt F e)] in
theorem Yend_0 (c : Dev nD) : Yend m c main_v4_0 = Y0 m c t0_0 := by
  unfold Yend; rw [Function.update_of_ne (by decide), Function.update_of_ne (by decide), Function.update_self]
omit [∀ e, Nonempty (Elt F e)] in
theorem Yend_1 (c : Dev nD) : Yend m c main_v4_1 = Y1 m c t0_0 := by
  unfold Yend; rw [Function.update_of_ne (by decide), Function.update_self]
omit [∀ e, Nonempty (Elt F e)] in
theorem Yend_3 (c : Dev nD) : Yend m c main_v4_3 = Y3 m c t0_0 := by
  unfold Yend; rw [Function.update_self]

/-- What the body's state is before the one point and after it. -/
def ends (c : Dev nD) (W : (b : Ref sig .tc) → Buf (Elt F) ((c.tc : Thread nD τ).loc b)) : sProp 𝕄 := Pipeline.Ends spec0 osem R0 c W

/-- The pipeline's data: each input window keeps its block, the two staged results take theirs. -/
def dats (_ : Fin 1) (c : Dev nD) : Pipeline.Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Y2 m c t
    | ⟨7, _⟩ => Y4 m c t
  Φ t := if t.val = 0 then ends c (V m c) else ends c (Yend m c)
  q _ := fullShare
  owed _ := 0

omit [∀ e, Nonempty (Elt F e)] in
theorem A_eqC (c : Dev nD) (w : Fin cfg0.W) : (dats m 0 c).A w = V m c (Pipeline.arrRef spec0 w) := by dsimp only [dats]
omit [∀ e, Nonempty (Elt F e)] in
theorem after0 (c : Dev nD) (t : Fin cfg0.N) : (dats m 0 c).after 0 t = iblk m c 0 t := by dsimp only [dats]
omit [∀ e, Nonempty (Elt F e)] in
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Pipeline.Dat.blockOf iblk; rw [A_eqC]; try rfl) t d).trans
    (by unfold Pipeline.Dat.fetched Pipeline.Dat.blockOf iblk; rw [A_eqC]; try rfl)
omit [∀ e, Nonempty (Elt F e)] in
theorem after1 (c : Dev nD) (t : Fin cfg0.N) : (dats m 0 c).after 1 t = iblk m c 1 t := by dsimp only [dats]
omit [∀ e, Nonempty (Elt F e)] in
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Pipeline.Dat.blockOf iblk; rw [A_eqC]; try rfl) t d).trans
    (by unfold Pipeline.Dat.fetched Pipeline.Dat.blockOf iblk; rw [A_eqC]; try rfl)
omit [∀ e, Nonempty (Elt F e)] in
theorem after2 (c : Dev nD) (t : Fin cfg0.N) : (dats m 0 c).after 2 t = iblk m c 2 t := by dsimp only [dats]
omit [∀ e, Nonempty (Elt F e)] in
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Pipeline.Dat.blockOf iblk; rw [A_eqC]; try rfl) t d).trans
    (by unfold Pipeline.Dat.fetched Pipeline.Dat.blockOf iblk; rw [A_eqC]; try rfl)
omit [∀ e, Nonempty (Elt F e)] in
theorem after3 (c : Dev nD) (t : Fin cfg0.N) : (dats m 0 c).after 3 t = iblk m c 3 t := by dsimp only [dats]
omit [∀ e, Nonempty (Elt F e)] in
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Pipeline.Dat.blockOf iblk; rw [A_eqC]; try rfl) t d).trans
    (by unfold Pipeline.Dat.fetched Pipeline.Dat.blockOf iblk; rw [A_eqC]; try rfl)
omit [∀ e, Nonempty (Elt F e)] in
theorem after4 (c : Dev nD) (t : Fin cfg0.N) : (dats m 0 c).after 4 t = iblk m c 4 t := by dsimp only [dats]
omit [∀ e, Nonempty (Elt F e)] in
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Pipeline.Dat.blockOf iblk; rw [A_eqC]; try rfl) t d).trans
    (by unfold Pipeline.Dat.fetched Pipeline.Dat.blockOf iblk; rw [A_eqC]; try rfl)
omit [∀ e, Nonempty (Elt F e)] in
theorem after5 (c : Dev nD) (t : Fin cfg0.N) : (dats m 0 c).after 5 t = iblk m c 5 t := by dsimp only [dats]
omit [∀ e, Nonempty (Elt F e)] in
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Pipeline.Dat.blockOf iblk; rw [A_eqC]; try rfl) t d).trans
    (by unfold Pipeline.Dat.fetched Pipeline.Dat.blockOf iblk; rw [A_eqC]; try rfl)
omit [∀ e, Nonempty (Elt F e)] in
theorem after6 (c : Dev nD) (t : Fin cfg0.N) : (dats m 0 c).after 6 t = Y2 m c t := by dsimp only [dats]
omit [∀ e, Nonempty (Elt F e)] in
theorem after7 (c : Dev nD) (t : Fin cfg0.N) : (dats m 0 c).after 7 t = Y4 m c t := by dsimp only [dats]
omit [∀ e, Nonempty (Elt F e)] in
theorem phi0 (c : Dev nD) : (dats m 0 c).Φ 0 = ends c (V m c) := by dsimp only [dats]; exact if_pos rfl
omit [∀ e, Nonempty (Elt F e)] in
theorem phi1 (c : Dev nD) : (dats m 0 c).Φ (Fin.last cfg0.N) = ends c (Yend m c) := by dsimp only [dats]; exact if_neg (by decide)

/-- The body's state taken apart. -/
theorem ends_eq (c : Dev nD) (W : (b : Ref sig .tc) → Buf (Elt F) ((c.tc : Thread nD τ).loc b)) :
    (ends c W : sProp 𝕄) = iprop((owns (c : Thread nD τ) (Memref.whole main_arg3) fullShare (W main_arg3) ∗ owns (c : Thread nD τ) (Memref.whole main_arg5) fullShare (W main_arg5) ∗ owns (c : Thread nD τ) (Memref.whole main_arg7) fullShare (W main_arg7)
      ∗ owns (c : Thread nD τ) (Memref.whole main_v4_0) fullShare (W main_v4_0) ∗ owns (c : Thread nD τ) (Memref.whole main_v4_1) fullShare (W main_v4_1) ∗ owns (c : Thread nD τ) (Memref.whole main_v4_3) fullShare (W main_v4_3))
      ∗ (bigSep Finset.univ (fun k : Fin 16 => semVal ((c : Thread nD τ), cellM cc0_scratch9 ![k.val] (cell_inb k)) 0)
      ∗ semVal ((c : Thread nD τ), cell24 cc0_scratch10) 0 ∗ semVal ((c : Thread nD τ), .dma 25) 0 ∗ semVal ((c : Thread nD τ), cell1 cc0_scratch11) 0
      ∗ semVal ((c : Thread nD τ), cell4 cc0_scratch12 ![0] (par_inb 0)) 0 ∗ semVal ((c : Thread nD τ), cell4 cc0_scratch12 ![1] (par_inb 1)) 0)
      ∗ ((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) )
      ∗ ∃ r, prngReg c r) := by
  unfold ends Pipeline.Ends
  rw [routed_eq, osem_eq, scopedRest0_eq]
  simp only [owns_whole]

/-- What the body is given at the point. -/
def bodyPreL (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- What it gives back. -/
def bodyPostL (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at the point. -/
theorem sound_body (c : Dev nD) (t : Fin cfg0.N) :
    bodyPreL m c t ⊢ wp frame (wpE (defs₀ (F := F)) Variants.none c none) Set.univ (bodyAt0 t) (fun _ => bodyPostL m c t) := by
  obtain rfl : t = t0_0 := fin_N0 t
  unfold bodyPreL bodyPostL bodyAt0
  rw [cc0_mod_block_eq_skeleton]
  simp only [before0, before1, before2, before3, before4, before5]
  rw [show (dats m 0 c).Φ (Fin.castSucc t0_0) = ends c (V m c) from phi0 m c, show (dats m 0 c).Φ (Fin.succ t0_0) = ends c (Yend m c) from phi1 m c,
    after0, after1, after2, after3, after4, after5, after6, after7, ends_eq, ends_eq, Yend_arg3, Yend_arg5, Yend_arg7, Yend_0, Yend_1, Yend_3]
  unfold Pipeline.Dat.owesAt Pipeline.owesWithin
  iintro ⟨⟨⟨A3, A5, A7, B0, B1, B3⟩, ⟨HS, C24, C25, C1, D0, D1⟩, ⟨S0, S1, S2, S3, S4, S5, S6, S7, S8⟩, HP⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave HW := (whole_run c (st0_0 t0_0) (hstage0_0 0) (st0_1 t0_0) (hstage0_1 0) (st0_2 t0_0) (hstage0_2 0) (Memref.whole main_arg3) (Memref.isWhole_whole _) (st0_3 t0_0) (hstage0_3 0) (Memref.whole main_arg5) (Memref.isWhole_whole _) (st0_4 t0_0) (hstage0_4 0) (Memref.whole main_arg7) (Memref.isWhole_whole _) (st0_5 t0_0) (hstage0_5 0) (Memref.whole main_v4_0) (Memref.isWhole_whole _) (Memref.whole main_v4_1) (Memref.isWhole_whole _) (st0_6 t0_0) (hstage0_6 0) (Memref.whole main_v4_3) (Memref.isWhole_whole _) (st0_7 t0_0) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (iblk m c 0 t0_0) (iblk m c 1 t0_0) (iblk m c 2 t0_0) (V m c main_arg3) (V m c main_arg5) (V m c main_arg7) (iblk m c 3 t0_0) (iblk m c 4 t0_0) (iblk m c 5 t0_0) W) $$ [A3 A5 A7 B0 B1 B3 HS C24 C1 D0 D1 S0 S1 S2 S3 S4 S5 S6 S7 S8 HO H0 H1 H2 H3 H4 H5 H6 H7]
  · isplitr [HO]
    · unfold wholePre
      isplitl [H0]; · iexact H0
      isplitl [H1]; · iexact H1
      isplitl [H2]; · iexact H2
      isplitl [A3]; · iexact A3
      isplitl [H3]; · iexact H3
      isplitl [A5]; · iexact A5
      isplitl [H4]; · iexact H4
      isplitl [A7]; · iexact A7
      isplitl [H5]; · iexact H5
      isplitl [B0]; · iexists _; iexact B0
      isplitl [B1]; · iexists _; iexact B1
      isplitl [H6]; · iexists _; iexact H6
      isplitl [B3]; · iexists _; iexact B3
      isplitl [H7]; · iexists _; iexact H7
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [HS]; · iexact HS
      isplitl [C24]; · iexact C24
      isplitl [C1]; · iexact C1
      isplitl [D0]; · iexact D0
      iexact D1
    · iexact HO
  iapply (wp_wand_r frame (wpE (defs₀ (F := F)) Variants.none (c : Thread nD τ) none) Set.univ)
  isplitl [HW]; · iexact HW
  iintro %_ HQ
  unfold wholePost
  icases HQ with ⟨⟨H0, H1, H2, A3, H3, A5, H4, A7, H5, B0, B1, H6, B3, H7, S0, S1, S2, S3, S4, S5, S6, S7, S8, HS, C24, C1, D0, D1⟩, ⟨%W', HO⟩⟩
  isplitl [A3 A5 A7 B0 B1 B3 HS C24 C25 C1 D0 D1 S0 S1 S2 S3 S4 S5 S6 S7 S8 HP]
  · isplitl [A3 A5 A7 B0 B1 B3]
    · isplitl [A3]; · iexact A3
      isplitl [A5]; · iexact A5
      isplitl [A7]; · iexact A7
      isplitl [B0]; · iexact B0
      isplitl [B1]; · iexact B1
      iexact B3
    isplitl [HS C24 C25 C1 D0 D1]
    · isplitl [HS]; · iexact HS
      isplitl [C24]; · iexact C24
      isplitl [C25]; · iexact C25
      isplitl [C1]; · iexact C1
      isplitl [D0]; · iexact D0
      iexact D1
    isplitr [HP]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact HP
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [∀ e, Nonempty (Elt F e)] in
/-- The body table's row is the body. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs to an end where every array holds what the proof's data says, every semaphore at zero. -/
theorem run_main : θ_run defs (onTc (τ := τ) (main (F := F))) (s₀ m ρ) (fun r => Pipeline.RoutedPost cfgs (dats m) 0 R0 (V m) (Yend m) r ∧ r.2.sem = fun _ => 0) :=
  Pipeline.θ_run_frame_routed (Q' := _) cfgs (dats m) (0 : Fin 1) launch0 osem_facts defs₀ Variants.none m ρ main
    (hbody := fun c => (body_obligation m c).loose) (hshare := fun c => (dats m 0 c).share_full fun _ => rfl) (howed := fun _ _ => rfl)
    (V := V m) (hmain := hmainC m Variants.none) (hA := A_eqC m) (R := R0) (hR := R0_sub) (Y := Yend m)
    (hin := fun c => by rw [phi0]; exact .rfl) (hout := fun c => by rw [phi1]; exact .rfl)
end Launch

end Cert.Proof.KernelIdeal
-- ==== Proof.IFin.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.ILaunch
public import Idealize.ShloMosaic.Lib.Pipeline.ValueKit
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## What the run says of the arguments and the results -/

section Fin
variable [∀ e, Nonempty (Elt F e)] (m : (ℓ : Loc nD τ sig) → Buf (Elt F) ℓ) (ρ : Dev nD → PrngReg)

/-- The program runs to an end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans ((A_eqC m c 0).trans (V_main_arg0 m c))),
      ((h.1 c).1 1).trans (((dats m 0 c).arrAt_in 1 rfl _).trans ((A_eqC m c 1).trans (V_main_arg1 m c))),
      ((h.1 c).2.2 main_arg2 (Finset.mem_sdiff.mpr ⟨Pipeline.mem_restRefs_of main_arg2 (by decide) (by decide), by decide⟩)).trans (V_main_arg2 m c),
      ((h.1 c).2.1 main_arg3 (by decide)).trans ((Yend_arg3 m c).trans (V_main_arg3 m c)),
      ((h.1 c).2.2 main_arg4 (Finset.mem_sdiff.mpr ⟨Pipeline.mem_restRefs_of main_arg4 (by decide) (by decide), by decide⟩)).trans (V_main_arg4 m c),
      ((h.1 c).2.1 main_arg5 (by decide)).trans ((Yend_arg5 m c).trans (V_main_arg5 m c)),
      ((h.1 c).2.2 main_arg6 (Finset.mem_sdiff.mpr ⟨Pipeline.mem_restRefs_of main_arg6 (by decide) (by decide), by decide⟩)).trans (V_main_arg6 m c),
      ((h.1 c).2.1 main_arg7 (by decide)).trans ((Yend_arg7 m c).trans (V_main_arg7 m c)),
      ((h.1 c).2.2 main_arg8 (Finset.mem_sdiff.mpr ⟨Pipeline.mem_restRefs_of main_arg8 (by decide) (by decide), by decide⟩)).trans (V_main_arg8 m c)⟩, h.2⟩) (run_main m ρ)

omit [∀ e, Nonempty (Elt F e)] in
/-- The scales of the first codes end at what the body left of them. -/
theorem final6 (c : Dev nD) : (dats m 0 c).arrAt 6 cfg0.N = Y2 m c t0_0 := by
  refine (dats m 0 c).arrAt_eq_of_after_last 6 t0_0 (by decide +kernel) _ fun j => ?_
  blk_simp; rw [after6]

omit [∀ e, Nonempty (Elt F e)] in
/-- The scales of the second codes end at what the body left of them. -/
theorem final7 (c : Dev nD) : (dats m 0 c).arrAt 7 cfg0.N = Y4 m c t0_0 := by
  refine (dats m 0 c).arrAt_eq_of_after_last 7 t0_0 (by decide +kernel) _ fun j => ?_
  blk_simp; rw [after7]

/-- The program runs to an end where its five results are what the body computes and its arguments are unchanged. -/
theorem run_values : θ_run defs (onTc (τ := τ) (main (F := F))) ⟨m, fun _ => 0, ρ⟩ (fun r => ∀ c : Dev nD,
      r.2.mem ((c.tc : Thread nD τ).loc main_v4_0) = Y0 m c t0_0
      ∧ r.2.mem ((c.tc : Thread nD τ).loc main_v4_1) = Y1 m c t0_0
      ∧ r.2.mem ((c.tc : Thread nD τ).loc main_v4_2) = Y2 m c t0_0
      ∧ r.2.mem ((c.tc : Thread nD τ).loc main_v4_3) = Y3 m c t0_0
      ∧ r.2.mem ((c.tc : Thread nD τ).loc main_v4_4) = Y4 m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).2.1 main_v4_0 (by decide)).trans (Yend_0 m c), ((h.1 c).2.1 main_v4_1 (by decide)).trans (Yend_1 m c),
      ((h.1 c).1 6).trans (final6 m c), ((h.1 c).2.1 main_v4_3 (by decide)).trans (Yend_3 m c), ((h.1 c).1 7).trans (final7 m c),
      ((h.1 c).1 0).trans (((dats m 0 c).arrAt_in 0 rfl _).trans ((A_eqC m c 0).trans (V_main_arg0 m c))),
      ((h.1 c).1 1).trans (((dats m 0 c).arrAt_in 1 rfl _).trans ((A_eqC m c 1).trans (V_main_arg1 m c))),
      ((h.1 c).2.2 main_arg2 (Finset.mem_sdiff.mpr ⟨Pipeline.mem_restRefs_of main_arg2 (by decide) (by decide), by decide⟩)).trans (V_main_arg2 m c),
      ((h.1 c).2.1 main_arg3 (by decide)).trans ((Yend_arg3 m c).trans (V_main_arg3 m c)),
      ((h.1 c).2.2 main_arg4 (Finset.mem_sdiff.mpr ⟨Pipeline.mem_restRefs_of main_arg4 (by decide) (by decide), by decide⟩)).trans (V_main_arg4 m c),
      ((h.1 c).2.1 main_arg5 (by decide)).trans ((Yend_arg5 m c).trans (V_main_arg5 m c)),
      ((h.1 c).2.2 main_arg6 (Finset.mem_sdiff.mpr ⟨Pipeline.mem_restRefs_of main_arg6 (by decide) (by decide), by decide⟩)).trans (V_main_arg6 m c),
      ((h.1 c).2.1 main_arg7 (by decide)).trans ((Yend_arg7 m c).trans (V_main_arg7 m c)),
      ((h.1 c).2.2 main_arg8 (Finset.mem_sdiff.mpr ⟨Pipeline.mem_restRefs_of main_arg8 (by decide) (by decide), by decide⟩)).trans (V_main_arg8 m c)⟩) (run_main m ρ)

end Fin

end Cert.Proof.KernelIdeal
-- ==== Proof.IEnt.lean ====
module

public import proofs.«01_k».proof.Proof.Gen.KernelIdeal
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem

variable {F : FTy → Type} [FloatOps F] (m : (ℓ : Loc nD τ sig) → Buf (Elt F) ℓ)

/-! ## The staged operands, over the argument arrays -/

theorem idx : ∀ t : Fin cfg0.N, win0_0.index t = ![0,0] ∧ win0_1.index t = ![0,0] ∧ win0_2.index t = ![0,0] ∧ win0_3.index t = ![0,0]
    ∧ win0_4.index t = ![0,0] ∧ win0_5.index t = ![0,0] :=
  (by decide +kernel : ∀ t : Fin grid0.N, _)

theorem blk0 (c : Dev nD) (t : Fin cfg0.N) : iblk m c 0 t = m ((c : Thread nD τ).loc main_arg0) := by blk_ext! [iblk, V, idx t]
theorem blk1 (c : Dev nD) (t : Fin cfg0.N) : iblk m c 1 t = m ((c : Thread nD τ).loc main_arg1) := by blk_ext! [iblk, V, idx t]
theorem blk2 (c : Dev nD) (t : Fin cfg0.N) : iblk m c 2 t = V m c main_v0 := by blk_ext! [iblk, idx t]
theorem blk3 (c : Dev nD) (t : Fin cfg0.N) : iblk m c 3 t = V m c main_v1 := by blk_ext! [iblk, idx t]
theorem blk4 (c : Dev nD) (t : Fin cfg0.N) : iblk m c 4 t = V m c main_v2 := by blk_ext! [iblk, idx t]
theorem blk5 (c : Dev nD) (t : Fin cfg0.N) : iblk m c 5 t = V m c main_v3 := by blk_ext! [iblk, idx t]
theorem ent0 (c : Dev nD) (h : S4096.ShapeCasts S1x4096) : V m c main_v0 = shapeCast S1x4096 (m ((c : Thread nD τ).loc main_arg2)) h := by entry_read; rfl
theorem ent1 (c : Dev nD) (h : S14336.ShapeCasts S1x14336) : V m c main_v1 = shapeCast S1x14336 (m ((c : Thread nD τ).loc main_arg4)) h := by entry_read; rfl
theorem ent2 (c : Dev nD) (h : S14336.ShapeCasts S1x14336) : V m c main_v2 = shapeCast S1x14336 (m ((c : Thread nD τ).loc main_arg6)) h := by entry_read; rfl
theorem ent3 (c : Dev nD) (h : S4096.ShapeCasts S1x4096) : V m c main_v3 = shapeCast S1x4096 (m ((c : Thread nD τ).loc main_arg8)) h := by entry_read; rfl

end Cert.Proof.KernelIdeal
-- ==== Proof.IValIx.lean ====
module

public import proofs.«01_k».proof.Proof.IVals
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## Reading a window of a matrix at an index -/

/-- A window of a matrix, read at an index of the matrix. -/
theorem window2 {α : Type} {a b : ℕ} (x : (⟨2, ![a, b]⟩ : Shape).Idx → α) (off size : Fin 2 → ℕ)
    (inb : ∀ d, off d + size d ≤ (⟨2, ![a, b]⟩ : Shape).size d) (y : (d : Fin 2) → Fin (size d)) (i : Fin a) (j : Fin b)
    (hi : i.val = off 0 + (y 0).val) (hj : j.val = off 1 + (y 1).val) :
    VecWindow.window (s := ⟨2, ![a, b]⟩) x off size inb y = x (ix2 i j) := by
  refine congrArg x (funext fun d => Fin.ext ?_)
  match d with
  | 0 => show off 0 + 1 * (y 0).val = i.val; omega
  | 1 => show off 1 + 1 * (y 1).val = j.val; omega

theorem t2_lt28 (p : Fin k0_t2_loop.trips) : p.val < 28 := lt_of_lt_of_eq p.isLt (by decide +kernel)

/-- A slot's weights, read at an index of the whole weights. -/
theorem gslab_at (w : Vec Ideal S4096x14336 .fp8e4m3) (p : Fin k0_t2_loop.trips) (k : Fin 4096) (t : Fin 512) (L : Fin 14336) (hL : L.val = 512 * p.val + t.val) :
    gslab (F := Ideal) w p (ix3 0 k t) = w (ix2 k L) := by
  have h : shapeCast S4096x512 (gslab (F := Ideal) w p) shapeCasts_S1x4096x512_S4096x512 (ix2 k t) = gslab (F := Ideal) w p (ix3 0 k t) := by pointwise
  rw [← h]
  unfold shapeCast gslab
  rw [Equiv.symm_apply_apply]
  refine window2 w _ _ _ _ k L ?_ ?_
  · rw [← off8]; show k.val = 0 + k.val; omega
  · rw [← off8]; exact hL

/-- A slot of the last product's weights, read at an index of the whole. -/
theorem dslab_at (w7 : Vec Ideal S14336x4096 .fp8e4m3) (n : Fin N4) (j : Fin 4) (k : Fin 3584) (t : Fin 512) (K : Fin 14336) (L : Fin 4096)
    (hK : K.val = 3584 * j.val + k.val) (hL : L.val = 512 * n.val + t.val) :
    dslab (F := Ideal) w7 n j (ix3 0 k t) = w7 (ix2 K L) := by
  have h : shapeCast S3584x512 (dslab (F := Ideal) w7 n j) shapeCasts_S1x3584x512_S3584x512 (ix2 k t) = dslab (F := Ideal) w7 n j (ix3 0 k t) := by pointwise
  rw [← h]
  unfold shapeCast dslab
  rw [Equiv.symm_apply_apply]
  refine window2 w7 _ _ _ _ K L ?_ ?_
  · rw [off21_]; show K.val = 3584 * ((4 * n.val + j.val) % 4) + k.val; omega
  · rw [off21_]; show L.val = 512 * ((4 * n.val + j.val) / 4) + t.val; omega

end Cert.Proof.KernelIdeal
-- ==== Proof.IValC.lean ====
module

public import proofs.«01_k».proof.Proof.IVals
public import proofs.«01_k».proof.Proof.IValIx
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The scales and codes as the results keep them -/

theorem diag_sum (c : Fin 112) (f : Fin 112 → EReal) : (∑ r : Fin 112, if r = c then f r else 0) = f c := by
  rw [Finset.sum_ite_eq' Finset.univ c f, if_pos (Finset.mem_univ c)]
theorem ofNat_eq (r c : Fin 112) : (BitVec.ofNat 32 r.val = BitVec.ofNat 32 c.val) ↔ r = c := by
  constructor
  · intro h
    have := congrArg BitVec.toNat h
    simp only [BitVec.toNat_ofNat] at this
    exact Fin.ext (by omega)
  · rintro rfl; rfl

theorem sel_eq (r c : Fin 112) (v : EReal) :
    Scalar.select (IntOp.cmpi .eq (BitVec.ofNat 32 r.val) (BitVec.ofNat 32 c.val)) v 0 = if r = c then v else 0 := by
  by_cases h : r = c
  · subst h; simp [Scalar.select, IntOp.cmpi]
  · have h' := mt (ofNat_eq r c).1 h
    rw [if_neg h]
    show (if BitVec.ofBool (BitVec.ofNat 32 r.val == BitVec.ofNat 32 c.val) = 1 then v else 0) = 0
    rw [beq_eq_false_iff_ne.2 h']
    rfl

theorem pay17_at (V : FVec Ideal S112x128 .f32) (c : Fin 112) : k0_pay17 (F := Ideal) V (ix2 0 c) = V (ix2 c ⟨c.val, by omega⟩) := by
  pointwise [k0_pay17]
  refine (Finset.sum_congr rfl fun x _ => ?_).trans (diag_sum c fun x => V (ix2 x ⟨c.val, by omega⟩))
  exact sel_eq x c _
theorem pay20_at (V : FVec Ideal S112x128 .f32) (c : Fin 112) : k0_pay20 (F := Ideal) V k0_pay18 k0_pay19 (ix2 0 c) = V (ix2 c ⟨c.val, by omega⟩) := by
  pointwise [k0_pay20, k0_pay18, k0_pay19]
  refine (Finset.sum_congr rfl fun x _ => ?_).trans (diag_sum c fun x => V (ix2 x ⟨c.val, by omega⟩))
  exact sel_eq x c _
theorem pay21_at (V : FVec Ideal S224x4096 .fp8e4m3) (c : Fin 112) (l : Fin 4096) : k0_pay21 (F := Ideal) V (ix3 0 c l) = V (ix2 ⟨c.val, by omega⟩ l) := by
  pointwise [k0_pay21]
theorem pay22_at (V : FVec Ideal S224x4096 .fp8e4m3) (c : Fin 112) (l : Fin 4096) : k0_pay22 (F := Ideal) V (ix3 0 c l) = V (ix2 ⟨112 + c.val, by omega⟩ l) := by
  pointwise [k0_pay22]
theorem pay10_at (V : FVec Ideal S224x1792 .fp8e4m3) (c : Fin 112) (l : Fin 1792) : k0_pay10 (F := Ideal) V (idx4 c l) = V (ix2 ⟨c.val, by omega⟩ l) := by
  have h : idx4 c l = ix4 (0 : Fin 1) (0 : Fin 1) c l := by
    funext a; match a with | 0 => rfl | 1 => rfl | 2 => rfl | 3 => rfl
  rw [h]
  pointwise [k0_pay10]
theorem pay11_at (V : FVec Ideal S224x1792 .fp8e4m3) (c : Fin 112) (l : Fin 1792) : k0_pay11 (F := Ideal) V (idx4 c l) = V (ix2 ⟨112 + c.val, by omega⟩ l) := by
  have h : idx4 c l = ix4 (0 : Fin 1) (0 : Fin 1) c l := by
    funext a; match a with | 0 => rfl | 1 => rfl | 2 => rfl | 3 => rfl
  rw [h]
  pointwise [k0_pay11]

theorem pay29_at (V : FVec Ideal S112x128 .f32) (c : Fin 112) : k0_pay29 (F := Ideal) V (ix2 0 c) = V (ix2 c ⟨c.val, by omega⟩) :=
  pay17_at V c
theorem pay31_at (V : FVec Ideal S112x128 .f32) (c : Fin 112) : k0_pay31 (F := Ideal) (k0_pay30 V) (ix2 0 c) = V (ix2 c ⟨c.val, by omega⟩) :=
  pay17_at V c

end Cert.Proof.KernelIdeal
-- ==== Proof.IValA.lean ====
module

public import proofs.«01_k».proof.Proof.IVals
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The kernel's blocks against the reference's whole arrays: the first codes -/

section First
variable (x : FVec Ideal S32x4096 .f32) (X : FVec Ideal S224x4096 .f32) (g : FVec Ideal S1x4096 .f32) (r : Fin 32) (R : Fin 224)
  (hx : ∀ l : Fin 4096, x (ix2 r l) = X (ix2 R l))
include hx

/-- A normalised row of a block is that row of the whole. -/
theorem norm_eq (l : Fin 4096) : k0_pay1 (F := Ideal) x g (ix2 r l) = Cert.ReferenceIdeal.Gen.k0_pay4 (F := Ideal) X g (ix2 R l) := by
  pointwise [k0_pay1, Cert.ReferenceIdeal.Gen.k0_pay4, hx]

/-- Its exponent likewise, on every lane. -/
theorem exp_eq (j : Fin 128) : k0_pay2 (F := Ideal) x g (ix2 r j) = Cert.ReferenceIdeal.Gen.k0_pay5 (F := Ideal) X g (ix2 R 0) := by
  have h := norm_eq x X g r R hx
  pointwise [k0_pay2, Cert.ReferenceIdeal.Gen.k0_pay5, h]

/-- Its scale likewise. -/
theorem scale_eq (j : Fin 128) : k0_pay15 (k0_pay3 (F := Ideal) x g) (ix2 r j) = Cert.ReferenceIdeal.Gen.k0_pay7 (F := Ideal) X g (ix2 R 0) := by
  have h := exp_eq x X g r R hx
  pointwise [k0_pay15, k0_pay3, Cert.ReferenceIdeal.Gen.k0_pay7, h]

/-- Its codes likewise. -/
theorem code_eq (l : Fin 4096) : k0_pay16 (k0_pay1 (F := Ideal) x g) (k0_pay2 (F := Ideal) x g) (k0_pay4 (F := Ideal)) (ix2 r l)
    = Cert.ReferenceIdeal.Gen.k0_pay6 (F := Ideal) X g (ix2 R l) := by
  have h := exp_eq x X g r R hx
  have h1 := norm_eq x X g r R hx
  pointwise [k0_pay16, k0_pay4, Cert.ReferenceIdeal.Gen.k0_pay6, h, h1, dite_eq_ite, ite_self]
end First

end Cert.Proof.KernelIdeal
-- ==== Proof.IValB.lean ====
module

public import proofs.«01_k».proof.Proof.IVals
public import proofs.«01_k».proof.Proof.IValIx
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The activations and their running maxima -/

/-- One entry of a pass's activations is that entry of the whole. -/
theorem pay7_eq (Av : FVec Ideal S224x128 .f32) (A1 : FVec Ideal S224x1 .f32) (hA : ∀ (r : Fin 224) (j : Fin 128), Av (ix2 r j) = A1 (ix2 r 0))
    (Cv : FVec Ideal S224x4096 .fp8e4m3) (G3 : FVec Ideal S4096x512 .fp8e4m3) (G5 : FVec Ideal S1x4096x512 .fp8e4m3)
    (w3 w5 : FVec Ideal S4096x14336 .fp8e4m3) (s4 s6 : FVec Ideal S1x512 .f32) (x4 x6 : FVec Ideal S1x14336 .f32)
    (r : Fin 224) (t : Fin 512) (L : Fin 14336) (h3 : ∀ k : Fin 4096, G3 (ix2 k t) = w3 (ix2 k L)) (h5 : ∀ k : Fin 4096, G5 (ix3 0 k t) = w5 (ix2 k L))
    (h4 : s4 (ix2 0 t) = x4 (ix2 0 L)) (h6 : s6 (ix2 0 t) = x6 (ix2 0 L)) :
    k0_pay7 (F := Ideal) (k0_pay5 Av) Cv G3 (constant S224x512 .f32 0#32) s4 Cv G5 s6 (ix2 r t)
      = Cert.ReferenceIdeal.Gen.k0_pay8 (F := Ideal) Cv A1 w3 x4 w5 x6 (ix2 r L) := by
  pointwise [k0_pay7, k0_pay5, Cert.ReferenceIdeal.Gen.k0_pay8, hA, h3, h5, h4, h6, dite_eq_ite, ite_self]

section Pass
variable (Av : FVec Ideal S224x128 .f32) (A1 : FVec Ideal S224x1 .f32) (hA : ∀ (r : Fin 224) (j : Fin 128), Av (ix2 r j) = A1 (ix2 r 0))
    (Cv : FVec Ideal S224x4096 .fp8e4m3) (w3 w5 : FVec Ideal S4096x14336 .fp8e4m3) (x4 x6 : FVec Ideal S1x14336 .f32)
include hA

theorem pass_eq (p : Fin k0_t2_loop.trips) (r : Fin 224) (t : Fin 512) (L : Fin 14336) (hL : L.val = 512 * p.val + t.val) :
    k0_pay7 (F := Ideal) (k0_pay5 Av) Cv (k0_pay6 (gslab w3 p)) (constant S224x512 .f32 0#32)
      (VecWindow.window x4 (k0_off10 p) S1x512.size (k0_off10_inb p)) Cv (gslab w5 p) (VecWindow.window x6 (k0_off10 p) S1x512.size (k0_off10_inb p)) (ix2 r t)
      = Cert.ReferenceIdeal.Gen.k0_pay8 (F := Ideal) Cv A1 w3 x4 w5 x6 (ix2 r L) := by
  have hw (x : FVec Ideal S1x14336 .f32) : VecWindow.window x (k0_off10 p) S1x512.size (k0_off10_inb p) (ix2 (0 : Fin 1) t) = x (ix2 0 L) := by
    refine window2 x _ _ _ _ 0 L ?_ ?_
    · rw [off10]; rfl
    · rw [off10]; exact hL
  refine pay7_eq Av A1 hA Cv _ _ w3 w5 _ _ x4 x6 r t L (fun k => ?_) (fun k => gslab_at w5 p k t L hL) (hw x4) (hw x6)
  pointwise [k0_pay6]
  exact gslab_at w3 p k t L hL

theorem zval_eq (p : Fin k0_t2_loop.trips) (r : Fin 224) (t : Fin 512) (L : Fin 14336) (hL : L.val = 512 * p.val + t.val) :
    zval (F := Ideal) Av Cv w3 w5 x4 x6 p (ix2 r t) = Cert.ReferenceIdeal.Gen.k0_pay8 (F := Ideal) Cv A1 w3 x4 w5 x6 (ix2 r L) := by
  have h := pass_eq Av A1 hA Cv w3 w5 x4 x6 p r t L hL
  pointwise [zval, k0_pay8]
  exact h

theorem mnext_eq (p : Fin k0_t2_loop.trips) (m : FVec Ideal S224x128 .f32) (r : Fin 224) (j : Fin 128) (L0 L1 L2 L3 : Fin 14336)
    (h0 : L0.val = 512 * p.val + j.val) (h1 : L1.val = 512 * p.val + (128 + j.val)) (h2 : L2.val = 512 * p.val + (256 + j.val)) (h3 : L3.val = 512 * p.val + (384 + j.val)) :
    mnext (F := Ideal) Av Cv w3 w5 x4 x6 p m (ix2 r j)
      = max (max (max (max (m (ix2 r j)) (FloatOps.absf (F := Ideal) (φ := .f32) (Cert.ReferenceIdeal.Gen.k0_pay8 (F := Ideal) Cv A1 w3 x4 w5 x6 (ix2 r L0))))
        (FloatOps.absf (F := Ideal) (φ := .f32) (Cert.ReferenceIdeal.Gen.k0_pay8 (F := Ideal) Cv A1 w3 x4 w5 x6 (ix2 r L1))))
        (FloatOps.absf (F := Ideal) (φ := .f32) (Cert.ReferenceIdeal.Gen.k0_pay8 (F := Ideal) Cv A1 w3 x4 w5 x6 (ix2 r L2))))
        (FloatOps.absf (F := Ideal) (φ := .f32) (Cert.ReferenceIdeal.Gen.k0_pay8 (F := Ideal) Cv A1 w3 x4 w5 x6 (ix2 r L3))) := by
  rw [← pass_eq Av A1 hA Cv w3 w5 x4 x6 p r ⟨j.val, by omega⟩ L0 h0, ← pass_eq Av A1 hA Cv w3 w5 x4 x6 p r ⟨128 + j.val, by omega⟩ L1 h1,
    ← pass_eq Av A1 hA Cv w3 w5 x4 x6 p r ⟨256 + j.val, by omega⟩ L2 h2, ← pass_eq Av A1 hA Cv w3 w5 x4 x6 p r ⟨384 + j.val, by omega⟩ L3 h3]
  pointwise [mnext, k0_pay9]
end Pass

end Cert.Proof.KernelIdeal
-- ==== Proof.IValM.lean ====
module

public import proofs.«01_k».proof.Proof.IVals
public import proofs.«01_k».proof.Proof.IValIx
public import proofs.«01_k».proof.Proof.IValB
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The row maxima -/

section Max
variable (Av : FVec Ideal S224x128 .f32) (A1 : FVec Ideal S224x1 .f32) (hA : ∀ (r : Fin 224) (j : Fin 128), Av (ix2 r j) = A1 (ix2 r 0))
    (Cv : FVec Ideal S224x4096 .fp8e4m3) (w3 w5 : FVec Ideal S4096x14336 .fp8e4m3) (x4 x6 : FVec Ideal S1x14336 .f32)

/-- The absolute value of one activation. -/
def zabs (r : Fin 224) (L : Fin 14336) : EReal := FloatOps.absf (F := Ideal) (φ := .f32) (Cert.ReferenceIdeal.Gen.k0_pay8 (F := Ideal) Cv A1 w3 x4 w5 x6 (ix2 r L))

theorem zabs_nonneg (r : Fin 224) (L : Fin 14336) : 0 ≤ zabs A1 Cv w3 w5 x4 x6 r L := by
  unfold zabs
  generalize Cert.ReferenceIdeal.Gen.k0_pay8 (F := Ideal) Cv A1 w3 x4 w5 x6 (ix2 r L) = z
  show (0 : EReal) ≤ max (z : EReal) (-z)
  rcases le_total (0 : EReal) z with h | h
  · exact le_max_of_le_left h
  · refine le_max_of_le_right ?_
    have := EReal.neg_le_neg_iff.2 h
    simpa using this

include hA
/-- What bounds the running maxima: the activations of the passes so far. -/
theorem mval_le (r : Fin 224) (j : Fin 128) (B : EReal) (n : ℕ) (hn : n ≤ 28) :
    (mval (F := Ideal) Av Cv w3 w5 x4 x6 n (ix2 r j) : EReal) ≤ B
      ↔ 0 ≤ B ∧ ∀ L : Fin 14336, L.val < 512 * n → L.val % 128 = j.val → zabs A1 Cv w3 w5 x4 x6 r L ≤ B := by
  induction n with
  | zero =>
    have h : (mval (F := Ideal) Av Cv w3 w5 x4 x6 0 (ix2 r j) : EReal) = 0 := by
      show k0_pay23 (F := Ideal) (ix2 r j) = (0 : EReal)
      pointwise [k0_pay23]
    rw [h]
    exact ⟨fun h => ⟨h, fun L hL => absurd hL (by omega)⟩, fun h => h.1⟩
  | succ n ih =>
    have ht : n < k0_t2_loop.trips := lt_of_lt_of_eq (by omega : n < 28) (by decide +kernel)
    have hm : mval (F := Ideal) Av Cv w3 w5 x4 x6 (n + 1) = mnext (F := Ideal) Av Cv w3 w5 x4 x6 ⟨n, ht⟩ (mval (F := Ideal) Av Cv w3 w5 x4 x6 n) := by
      rw [mval, dif_pos ht]
    rw [hm, mnext_eq Av A1 hA Cv w3 w5 x4 x6 ⟨n, ht⟩ _ r j ⟨512 * n + j.val, by omega⟩ ⟨512 * n + (128 + j.val), by omega⟩
      ⟨512 * n + (256 + j.val), by omega⟩ ⟨512 * n + (384 + j.val), by omega⟩ rfl rfl rfl rfl]
    refine (max_le_iff.trans (and_congr_left' (max_le_iff.trans (and_congr_left' (max_le_iff.trans (and_congr_left' max_le_iff)))))).trans ?_
    rw [ih (by omega)]
    constructor
    · rintro ⟨⟨⟨⟨⟨h0, h⟩, e0⟩, e1⟩, e2⟩, e3⟩
      refine ⟨h0, fun L hL hj => ?_⟩
      by_cases hlt : L.val < 512 * n
      · exact h L hlt hj
      · obtain hq | hq | hq | hq : L.val = 512 * n + j.val ∨ L.val = 512 * n + (128 + j.val) ∨ L.val = 512 * n + (256 + j.val) ∨ L.val = 512 * n + (384 + j.val) := by omega
        · rw [show L = ⟨512 * n + j.val, by omega⟩ from Fin.ext hq]; exact e0
        · rw [show L = ⟨512 * n + (128 + j.val), by omega⟩ from Fin.ext hq]; exact e1
        · rw [show L = ⟨512 * n + (256 + j.val), by omega⟩ from Fin.ext hq]; exact e2
        · rw [show L = ⟨512 * n + (384 + j.val), by omega⟩ from Fin.ext hq]; exact e3
    · rintro ⟨h0, h⟩
      refine ⟨⟨⟨⟨⟨h0, fun L hL => h L (by omega)⟩, ?_⟩, ?_⟩, ?_⟩, ?_⟩ <;>
        exact h _ (by show _ < 512 * (n + 1); simp only []; omega) (by simp only []; omega)

/-- The largest of the lane maxima is the row's. -/
theorem rowmax_eq (r : Fin 224) (b : EReal) :
    Finset.univ.fold max b (fun j : Fin 128 => (mval (F := Ideal) Av Cv w3 w5 x4 x6 28 (ix2 r j) : EReal))
      = Finset.univ.fold max b (fun L : Fin 14336 => zabs A1 Cv w3 w5 x4 x6 r L) := by
  refine eq_of_forall_ge_iff fun B => ?_
  rw [Finset.fold_max_le, Finset.fold_max_le]
  refine and_congr_right fun _ => ?_
  constructor
  · intro h L _
    exact ((mval_le Av A1 hA Cv w3 w5 x4 x6 r ⟨L.val % 128, by omega⟩ B 28 le_rfl).1 (h _ (Finset.mem_univ _))).2 L (by omega) rfl
  · intro h j _
    exact (mval_le Av A1 hA Cv w3 w5 x4 x6 r j B 28 le_rfl).2
      ⟨le_trans (zabs_nonneg A1 Cv w3 w5 x4 x6 r 0) (h 0 (Finset.mem_univ _)), fun L _ _ => h L (Finset.mem_univ _)⟩

end Max

end Cert.Proof.KernelIdeal
-- ==== Proof.IValN.lean ====
module

public import proofs.«01_k».proof.Proof.IValM
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The second exponents, scales and codes -/

theorem ref_max (Z : FVec Ideal Cert.ReferenceIdeal.S224x14336 .f32) (r : Fin 224) :
   (multiReduction .maximumf [1] Cert.ReferenceIdeal.S224 (absf Z) 0xFF800000#32 Cert.ReferenceIdeal.Gen.reduces_S224x14336_S224 (.inl rfl) rfl) (ix1 r)
     = Finset.univ.fold max (Ideal.ofBits .f32 0xFF800000#32 : EReal) (fun L : Fin 14336 => FloatOps.absf (F := Ideal) (φ := .f32) (Z (ix2 r L))) := by
  pointwise

section Max
variable (Av : FVec Ideal S224x128 .f32) (A1 : FVec Ideal S224x1 .f32) (hA : ∀ (r : Fin 224) (j : Fin 128), Av (ix2 r j) = A1 (ix2 r 0))
    (Cv : FVec Ideal S224x4096 .fp8e4m3) (w3 w5 : FVec Ideal S4096x14336 .fp8e4m3) (x4 x6 : FVec Ideal S1x14336 .f32)

/-- The reference's exponent, from the row's largest absolute value. -/
theorem expo_eq (Q : FVec Ideal S224x128 .f32) (r : Fin 224) (j : Fin 128)
    (h : Q (ix2 r j) = Finset.univ.fold max (Ideal.ofBits .f32 0xFF800000#32 : EReal) (fun L : Fin 14336 => zabs A1 Cv w3 w5 x4 x6 r L)) :
    k0_pay26 (F := Ideal) Q k0_pay25 (ix2 r j) = Cert.ReferenceIdeal.Gen.k0_pay9 (F := Ideal) Cv A1 w3 x4 w5 x6 (ix2 r 0) := by
  unfold zabs at h
  unfold Cert.ReferenceIdeal.Gen.k0_pay9
  dsimp only
  generalize Cert.ReferenceIdeal.Gen.k0_pay8 (F := Ideal) Cv A1 w3 x4 w5 x6 = Z at h ⊢
  rw [← ref_max Z r] at h
  obtain ⟨M, hM⟩ : ∃ M, M = (multiReduction .maximumf [1] Cert.ReferenceIdeal.S224 (absf Z) 0xFF800000#32 Cert.ReferenceIdeal.Gen.reduces_S224x14336_S224 (.inl rfl) rfl) := ⟨_, rfl⟩
  rw [← hM] at h ⊢
  clear hM
  pointwise [k0_pay26, k0_pay25, h]

include hA
theorem pay24_eq (r : Fin 224) (j : Fin 128) :
    k0_pay24 (F := Ideal) (mval (F := Ideal) Av Cv w3 w5 x4 x6 28) (ix2 r j)
      = Finset.univ.fold max (Ideal.ofBits .f32 0xFF800000#32 : EReal) (fun L : Fin 14336 => zabs A1 Cv w3 w5 x4 x6 r L) := by
  rw [← rowmax_eq Av A1 hA Cv w3 w5 x4 x6 r _]
  generalize mval (F := Ideal) Av Cv w3 w5 x4 x6 28 = M
  pointwise [k0_pay24]

/-- The second exponents. -/
theorem exp2_eq (r : Fin 224) (j : Fin 128) :
    k0_pay26 (F := Ideal) (k0_pay24 (mval (F := Ideal) Av Cv w3 w5 x4 x6 28)) k0_pay25 (ix2 r j)
      = Cert.ReferenceIdeal.Gen.k0_pay9 (F := Ideal) Cv A1 w3 x4 w5 x6 (ix2 r 0) :=
  expo_eq A1 Cv w3 w5 x4 x6 _ r j (pay24_eq Av A1 hA Cv w3 w5 x4 x6 r j)
end Max

/-- The second scales, from the exponents. -/
theorem scale2_of (Q : FVec Ideal S224x128 .f32) (E : FVec Ideal S224x1 .f32) (r : Fin 224) (j : Fin 128)
    (h : k0_pay26 (F := Ideal) Q k0_pay25 (ix2 r j) = E (ix2 r 0)) :
    k0_pay27 (F := Ideal) Q k0_pay25 (ix2 r j) = Cert.ReferenceIdeal.Gen.k0_pay2 (F := Ideal) E (ix2 r 0) := by
  pointwise [k0_pay27, Cert.ReferenceIdeal.Gen.k0_pay2, h]

/-- The second codes, from the exponents. -/
theorem quant_of (Q : FVec Ideal S224x128 .f32) (E : FVec Ideal S224x1 .f32) (Z : FVec Ideal S224x512 .f32) (Z8 : FVec Ideal S224x14336 .f32)
    (r : Fin 224) (t : Fin 512) (L : Fin 14336) (h : ∀ j : Fin 128, k0_pay26 (F := Ideal) Q k0_pay25 (ix2 r j) = E (ix2 r 0)) (hZ : Z (ix2 r t) = Z8 (ix2 r L)) :
    k0_pay32 (F := Ideal) Z (k0_pay28 Q k0_pay25) (ix2 r t)
      = min (Ideal.ofBits .f32 0x43E00000#32 : EReal) (max (Ideal.ofBits .f32 0xC3E00000#32) (Z8 (ix2 r L) * FloatOps.exp2 (F := Ideal) (φ := .f32) (0 - E (ix2 r 0)))) := by
  pointwise [k0_pay32, k0_pay28, h, hZ, dite_eq_ite, ite_self]

/-- The reference's quantisation, read at an index. -/
theorem ref_quant_of (Z8 : FVec Ideal S224x14336 .f32) (E : FVec Ideal S224x1 .f32) (r : Fin 224) (L : Fin 14336) :
    Cert.ReferenceIdeal.Gen.k0_pay1 (F := Ideal) (maximumf (broadcast Cert.ReferenceIdeal.S224x14336 (Scalar.ofBits (F := Ideal) .f32 0xC3E00000#32))
      (mulf Z8 (broadcastTo Cert.ReferenceIdeal.S224x14336 (exp2 (subf (broadcast Cert.ReferenceIdeal.S224x1 (Scalar.ofBits (F := Ideal) .f32 0x00000000#32)) E)) Cert.ReferenceIdeal.Gen.broadcasts_S224x1_S224x14336)))
      (Cert.ReferenceIdeal.Gen.k0_pay11 (F := Ideal)) (ix2 r L)
      = min (Ideal.ofBits .f32 0x43E00000#32 : EReal) (max (Ideal.ofBits .f32 0xC3E00000#32) (Z8 (ix2 r L) * FloatOps.exp2 (F := Ideal) (φ := .f32) (0 - E (ix2 r 0)))) := by
  pointwise [Cert.ReferenceIdeal.Gen.k0_pay1, Cert.ReferenceIdeal.Gen.k0_pay11]

section Max
variable (Av : FVec Ideal S224x128 .f32) (A1 : FVec Ideal S224x1 .f32) (hA : ∀ (r : Fin 224) (j : Fin 128), Av (ix2 r j) = A1 (ix2 r 0))
    (Cv : FVec Ideal S224x4096 .fp8e4m3) (w3 w5 : FVec Ideal S4096x14336 .fp8e4m3) (x4 x6 : FVec Ideal S1x14336 .f32)

/-- The reference's second codes. -/
theorem ref_quant
    (r : Fin 224) (L : Fin 14336) :
    Cert.ReferenceIdeal.Gen.k0_pay1 (F := Ideal) (Cert.ReferenceIdeal.Gen.k0_pay10 (F := Ideal) Cv A1 w3 x4 w5 x6) (Cert.ReferenceIdeal.Gen.k0_pay11 (F := Ideal)) (ix2 r L)
      = min (Ideal.ofBits .f32 0x43E00000#32 : EReal) (max (Ideal.ofBits .f32 0xC3E00000#32) (Cert.ReferenceIdeal.Gen.k0_pay8 (F := Ideal) Cv A1 w3 x4 w5 x6 (ix2 r L)
        * FloatOps.exp2 (F := Ideal) (φ := .f32) (0 - Cert.ReferenceIdeal.Gen.k0_pay9 (F := Ideal) Cv A1 w3 x4 w5 x6 (ix2 r 0)))) := by
  unfold Cert.ReferenceIdeal.Gen.k0_pay10
  exact ref_quant_of _ _ r L
end Max

end Cert.Proof.KernelIdeal
-- ==== Proof.IValD.lean ====
module

public import proofs.«01_k».proof.Proof.IVals
public import proofs.«01_k».proof.Proof.IValIx
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

theorem off31_ : ∀ n : Fin N4, k0_off31 n = ![0, 512 * n.val] := by decide +kernel

/-! ## The last product, summed over four blocks of its inner axis -/

/-- A sum over the inner axis, block by block. -/
theorem sum4 (f : Fin 14336 → EReal) : ∑ x, f x
    = ∑ x : Fin 3584, f ⟨x.val, by omega⟩ + ∑ x : Fin 3584, f ⟨3584 + x.val, by omega⟩ + ∑ x : Fin 3584, f ⟨7168 + x.val, by omega⟩
      + ∑ x : Fin 3584, f ⟨10752 + x.val, by omega⟩ := by
  rw [Fin.sum_univ_tiles 4 3584 rfl f, Fin.sum_univ_four]
  refine congrArg₂ (· + ·) (congrArg₂ (· + ·) (congrArg₂ (· + ·) ?_ ?_) ?_) ?_ <;>
    exact Finset.sum_congr rfl fun x _ => congrArg f (Fin.ext (by simp))

theorem down_eq (X : FVec Ideal S224x14336 .fp8e4m3) (V83 V84 : FVec Ideal S224x14336 .f32)
    (w7 : FVec Ideal S14336x4096 .fp8e4m3) (x8 : FVec Ideal S1x4096 .f32) (T : FVec Ideal S224x4096 .f32)
    (Av : FVec Ideal S224x128 .f32) (v76 : FVec Ideal S224x1 .f32) (hX : X = Cert.ReferenceIdeal.Gen.k0_pay1 (F := Ideal) V83 V84)
    (hA : ∀ (r : Fin 224) (j : Fin 128), Av (ix2 r j) = Cert.ReferenceIdeal.Gen.k0_pay2 (F := Ideal) v76 (ix2 r 0))
    (n : Fin N4) (r : Fin 224) (t : Fin 512) (L : Fin 4096) (hL : L.val = 512 * n.val + t.val) :
    dval (F := Ideal) X w7 x8 T Av n (ix2 r t) = Cert.ReferenceIdeal.Gen.k0_pay3 (F := Ideal) v76 V83 V84 w7 x8 T (ix2 r L) := by
  have hw0 (k : Fin 3584) : VecWindow.window X ![0, 0] S224x3584.size inb_S224x14336_S224x3584_0_0 (ix2 r k) = X (ix2 r ⟨k.val, by omega⟩) :=
    window2 X _ _ _ _ r _ (by show r.val = 0 + r.val; omega) (by show k.val = 0 + k.val; omega)
  have hw1 (k : Fin 3584) : VecWindow.window X ![0, 3584] S224x3584.size inb_S224x14336_S224x3584_0_3584 (ix2 r k) = X (ix2 r ⟨3584 + k.val, by omega⟩) :=
    window2 X _ _ _ _ r _ (by show r.val = 0 + r.val; omega) rfl
  have hw2 (k : Fin 3584) : VecWindow.window X ![0, 7168] S224x3584.size inb_S224x14336_S224x3584_0_7168 (ix2 r k) = X (ix2 r ⟨7168 + k.val, by omega⟩) :=
    window2 X _ _ _ _ r _ (by show r.val = 0 + r.val; omega) rfl
  have hw3 (k : Fin 3584) : VecWindow.window X ![0, 10752] S224x3584.size inb_S224x14336_S224x3584_0_10752 (ix2 r k) = X (ix2 r ⟨10752 + k.val, by omega⟩) :=
    window2 X _ _ _ _ r _ (by show r.val = 0 + r.val; omega) rfl
  have hd0 (k : Fin 3584) := dslab_at w7 n 0 k t ⟨k.val, by omega⟩ L (by simp) hL
  have hd1 (k : Fin 3584) := dslab_at w7 n 1 k t ⟨3584 + k.val, by omega⟩ L (by simp) hL
  have hd2 (k : Fin 3584) := dslab_at w7 n 2 k t ⟨7168 + k.val, by omega⟩ L (by simp) hL
  have hd3 (k : Fin 3584) := dslab_at w7 n 3 k t ⟨10752 + k.val, by omega⟩ L (by simp) hL
  have hT : VecWindow.window T (k0_off30 n) S224x512.size (k0_off30_inb n) (ix2 r t) = T (ix2 r L) := by
    refine window2 T _ _ _ _ r L ?_ ?_
    · rw [off30_, off32_]; show r.val = 0 + r.val; omega
    · rw [off30_, off32_]; exact hL
  have h8 : VecWindow.window x8 (k0_off31 n) S1x512.size (k0_off31_inb n) (ix2 (0 : Fin 1) t) = x8 (ix2 0 L) := by
    have h31 : k0_off31 n = ![0, 512 * n.val] := off31_ n
    refine window2 x8 _ _ _ _ 0 L ?_ ?_
    · rw [h31]; rfl
    · rw [h31]; exact hL
  pointwise [dval, k0_pay13, dsum, k0_pay12, Cert.ReferenceIdeal.Gen.k0_pay3, ← hX, hw0, hw1, hw2, hw3, hd0, hd1, hd2, hd3, hT, h8, hA, dite_eq_ite, ite_self]
  refine congrArg (fun s : EReal => T (ix2 r L) + s * Cert.ReferenceIdeal.Gen.k0_pay2 (F := Ideal) v76 (ix2 r 0) * x8 (ix2 0 L)) ?_
  rw [sum4 (fun x : Fin 14336 => X (ix2 r x) * w7 (ix2 x L))]

end Cert.Proof.KernelIdeal
-- ==== Proof.IValE.lean ====
module

public import proofs.«01_k».proof.Proof.IVals
public import proofs.«01_k».proof.Proof.IValIx
public import proofs.«01_k».proof.Proof.IValA
public import proofs.«01_k».proof.Proof.IValB
public import proofs.«01_k».proof.Proof.IValM
public import proofs.«01_k».proof.Proof.IValN
public import proofs.«01_k».proof.Proof.IValC
public import proofs.«01_k».proof.Proof.IValD
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## What the whole kernel computes is what the reference computes -/

/-- An array read off its blocks, at an index of a matrix. -/
theorem untile2 {α : Type} {a b c d NB : ℕ} (off : Fin NB → Fin 2 → ℕ) (q : (⟨2, ![a, b]⟩ : Shape).Idx → Fin NB)
    (hq : ∀ i x, off (q i) x ≤ (i x).val ∧ (i x).val < off (q i) x + (![c, d] : Fin 2 → ℕ) x)
    (blk : Fin NB → ((x : Fin 2) → Fin ((![c, d] : Fin 2 → ℕ) x)) → α) (i : Fin a) (j : Fin b) (r : Fin c) (t : Fin d)
    (hr : i.val = off (q (ix2 i j)) 0 + r.val) (ht : j.val = off (q (ix2 i j)) 1 + t.val) :
    untile (s := ⟨2, ![a, b]⟩) off ![c, d] q hq blk (ix2 i j) = blk (q (ix2 i j)) (ix2 r t) := by
  unfold untile
  refine congrArg _ (funext fun x => Fin.ext ?_)
  match x with
  | 0 => show i.val - off _ 0 = r.val; omega
  | 1 => show j.val - off _ 1 = t.val; omega

/-- The same for three axes. -/
theorem untile3 {α : Type} {a b e c d f NB : ℕ} (off : Fin NB → Fin 3 → ℕ) (q : (⟨3, ![a, b, e]⟩ : Shape).Idx → Fin NB)
    (hq : ∀ i x, off (q i) x ≤ (i x).val ∧ (i x).val < off (q i) x + (![c, d, f] : Fin 3 → ℕ) x)
    (blk : Fin NB → ((x : Fin 3) → Fin ((![c, d, f] : Fin 3 → ℕ) x)) → α) (i : Fin a) (j : Fin b) (k : Fin e) (r : Fin c) (t : Fin d) (u : Fin f)
    (hr : i.val = off (q (ix3 i j k)) 0 + r.val) (ht : j.val = off (q (ix3 i j k)) 1 + t.val) (hu : k.val = off (q (ix3 i j k)) 2 + u.val) :
    untile (s := ⟨3, ![a, b, e]⟩) off ![c, d, f] q hq blk (ix3 i j k) = blk (q (ix3 i j k)) (ix3 r t u) := by
  unfold untile
  refine congrArg _ (funext fun x => Fin.ext ?_)
  match x with
  | 0 => show i.val - off _ 0 = r.val; omega
  | 1 => show j.val - off _ 1 = t.val; omega
  | 2 => show k.val - off _ 2 = u.val; omega

section Whole
variable (hv tv : FVec Ideal S224x4096 .f32) (gv : FVec Ideal S1x4096 .f32) (w3 w5 : FVec Ideal S4096x14336 .fp8e4m3)
  (w7 : FVec Ideal S14336x4096 .fp8e4m3) (x4 x6 : FVec Ideal S1x14336 .f32) (x8 : FVec Ideal S1x4096 .f32)

theorem hrow_at (r : Fin 224) (l : Fin 4096) : hrow (F := Ideal) hv (rowBlk r) (ix2 (⟨r.val % 32, by omega⟩ : Fin 32) l) = hv (ix2 r l) := by
  refine window2 hv _ _ _ _ r l ?_ ?_
  · rw [off4]; show r.val = 32 * (r.val / 32) + r.val % 32; omega
  · rw [off4]; show l.val = 0 + l.val; omega

theorem aAll_eq (r : Fin 224) (j : Fin 128) : aAll (F := Ideal) hv gv (ix2 r j) = Cert.ReferenceIdeal.Gen.k0_pay7 (F := Ideal) hv gv (ix2 r 0) := by
  refine (untile2 (a := 224) (b := 128) (c := 32) (d := 128) k0_off5 _ hq5 _ r j (⟨r.val % 32, by omega⟩ : Fin 32) j ?_ ?_).trans
    (scale_eq (hrow (F := Ideal) hv (rowBlk r)) hv gv _ r (hrow_at hv r) j)
  · rw [off5]; show r.val = 32 * (r.val / 32) + r.val % 32; omega
  · rw [off5]; show j.val = 0 + j.val; omega

theorem cAll_eq : cAll (F := Ideal) hv gv = Cert.ReferenceIdeal.Gen.k0_pay6 (F := Ideal) hv gv := by
  funext i
  rw [eq_ix2 i]
  generalize (i 0 : Fin 224) = r
  generalize (i 1 : Fin 4096) = l
  refine (untile2 (a := 224) (b := 4096) (c := 32) (d := 4096) k0_off4 _ hq4 _ r l (⟨r.val % 32, by omega⟩ : Fin 32) l ?_ ?_).trans
    (code_eq (hrow (F := Ideal) hv (rowBlk r)) hv gv _ r (hrow_at hv r) l)
  · rw [off4]; show r.val = 32 * (r.val / 32) + r.val % 32; omega
  · rw [off4]; show l.val = 0 + l.val; omega

/-- The reference's activations, from the kernel's codes. -/
abbrev zR : FVec Ideal S224x14336 .f32 :=
  Cert.ReferenceIdeal.Gen.k0_pay8 (F := Ideal) (cAll (F := Ideal) hv gv) (Cert.ReferenceIdeal.Gen.k0_pay7 (F := Ideal) hv gv) w3 x4 w5 x6
/-- The reference's second exponents, from the kernel's codes. -/
abbrev eR : FVec Ideal S224x1 .f32 :=
  Cert.ReferenceIdeal.Gen.k0_pay9 (F := Ideal) (cAll (F := Ideal) hv gv) (Cert.ReferenceIdeal.Gen.k0_pay7 (F := Ideal) hv gv) w3 x4 w5 x6
/-- The reference's scaled activations, from the kernel's codes. -/
abbrev qR : FVec Ideal S224x14336 .f32 :=
  Cert.ReferenceIdeal.Gen.k0_pay10 (F := Ideal) (cAll (F := Ideal) hv gv) (Cert.ReferenceIdeal.Gen.k0_pay7 (F := Ideal) hv gv) w3 x4 w5 x6

theorem zAll_eq (r : Fin 224) (L : Fin 14336) : zAll (F := Ideal) hv gv w3 w5 x4 x6 (ix2 r L) = zR hv gv w3 w5 x4 x6 (ix2 r L) := by
  refine (untile2 (a := 224) (b := 14336) (c := 224) (d := 512) k0_off11 _ hq11 _ r L r (⟨L.val % 512, by omega⟩ : Fin 512) ?_ ?_).trans
    (zval_eq (aAll (F := Ideal) hv gv) _ (aAll_eq hv gv) (cAll (F := Ideal) hv gv) w3 w5 x4 x6 (colBlk2 L) r (⟨L.val % 512, by omega⟩ : Fin 512) L ?_)
  · rw [off11]; show r.val = 0 + r.val; omega
  · rw [off11]; show L.val = 512 * (L.val / 512) + L.val % 512; omega
  · show L.val = 512 * (L.val / 512) + L.val % 512; omega

theorem expAll_eq (r : Fin 224) (j : Fin 128) :
    k0_pay26 (F := Ideal) (k0_pay24 (mAll (F := Ideal) hv gv w3 w5 x4 x6)) k0_pay25 (ix2 r j) = eR hv gv w3 w5 x4 x6 (ix2 r 0) :=
  exp2_eq (aAll (F := Ideal) hv gv) _ (aAll_eq hv gv) (cAll (F := Ideal) hv gv) w3 w5 x4 x6 r j

theorem a2All_eq (r : Fin 224) (j : Fin 128) :
    a2All (F := Ideal) hv gv w3 w5 x4 x6 (ix2 r j) = Cert.ReferenceIdeal.Gen.k0_pay2 (F := Ideal) (eR hv gv w3 w5 x4 x6) (ix2 r 0) :=
  scale2_of _ _ r j (expAll_eq hv gv w3 w5 x4 x6 r j)

theorem xAll_eq : xAll (F := Ideal) hv gv w3 w5 x4 x6
    = Cert.ReferenceIdeal.Gen.k0_pay1 (F := Ideal) (qR hv gv w3 w5 x4 x6) (Cert.ReferenceIdeal.Gen.k0_pay11 (F := Ideal)) := by
  funext i
  rw [eq_ix2 i]
  generalize (i 0 : Fin 224) = r
  generalize (i 1 : Fin 14336) = L
  refine (untile2 (a := 224) (b := 14336) (c := 224) (d := 512) k0_off18 _ hq18 _ r L r (⟨L.val % 512, by omega⟩ : Fin 512) ?_ ?_).trans
    ((quant_of _ _ _ (zR hv gv w3 w5 x4 x6) r (⟨L.val % 512, by omega⟩ : Fin 512) L (fun j => expAll_eq hv gv w3 w5 x4 x6 r j) ?_).trans
      (ref_quant _ _ w3 w5 x4 x6 r L).symm)
  · rw [off18_]; show r.val = 0 + r.val; omega
  · rw [off18_]; show L.val = 512 * (L.val / 512) + L.val % 512; omega
  · refine (window2 _ _ _ _ _ r L ?_ ?_).trans (zAll_eq hv gv w3 w5 x4 x6 r L)
    · rw [off18_]; show r.val = 0 + r.val; omega
    · rw [off18_]; show L.val = 512 * (L.val / 512) + L.val % 512; omega

theorem pay14_eq : k0_pay14 (F := Ideal) tv = tv := by
  funext i
  rw [eq_ix2 i]
  pointwise [k0_pay14]

/-- The first result. -/
theorem dout_eq : dout (F := Ideal) hv tv gv w3 w5 w7 x4 x6 x8
    = Cert.ReferenceIdeal.Gen.k0_pay3 (F := Ideal) (eR hv gv w3 w5 x4 x6) (qR hv gv w3 w5 x4 x6) (Cert.ReferenceIdeal.Gen.k0_pay11 (F := Ideal)) w7 x8 tv := by
  funext i
  rw [eq_ix2 i]
  generalize (i 0 : Fin 224) = r
  generalize (i 1 : Fin 4096) = L
  unfold dout
  rw [pay14_eq]
  refine (untile2 (a := 224) (b := 4096) (c := 224) (d := 512) k0_off32 _ hq32 _ r L r (⟨L.val % 512, by omega⟩ : Fin 512) ?_ ?_).trans
    (down_eq _ _ _ w7 x8 tv _ _ (xAll_eq hv gv w3 w5 x4 x6) (a2All_eq hv gv w3 w5 x4 x6) (colBlk4 L) r (⟨L.val % 512, by omega⟩ : Fin 512) L ?_)
  · rw [off32_]; show r.val = 0 + r.val; omega
  · rw [off32_]; show L.val = 512 * (L.val / 512) + L.val % 512; omega
  · show L.val = 512 * (L.val / 512) + L.val % 512; omega
end Whole

end Cert.Proof.KernelIdeal
-- ==== Proof.IValF.lean ====
module

public import proofs.«01_k».proof.Proof.IVals
public import proofs.«01_k».proof.Proof.IValIx
public import proofs.«01_k».proof.Proof.IValC
public import proofs.«01_k».proof.Proof.IValE
public import proofs.«01_k».proof.Proof.Gen.ReferenceIdeal
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The smaller results, as the reference's arrays in two halves -/

theorem cast_rows (v : FVec Ideal S224x1 .f32) (h : S224x1.ShapeCasts S2x112) (b : Fin 2) (c : Fin 112) :
    shapeCast S2x112 v h (ix2 b c) = v (ix2 ⟨112 * b.val + c.val, by omega⟩ 0) := by
  pointwise
  exact congrArg v (congrArg₂ ix2 (Fin.ext (by show b.val * 112 + c.val = 112 * b.val + c.val; omega)) rfl)
theorem cast_codes (v : FVec Ideal S224x4096 .fp8e4m3) (h : S224x4096.ShapeCasts S2x112x4096) (b : Fin 2) (c : Fin 112) (l : Fin 4096) :
    shapeCast S2x112x4096 v h (ix3 b c l) = v (ix2 ⟨112 * b.val + c.val, by omega⟩ l) := by
  pointwise
  exact congrArg v (congrArg₂ ix2 (Fin.ext (by show b.val * 112 + c.val = 112 * b.val + c.val; omega)) rfl)
theorem cast_codes2 (v : FVec Ideal S224x14336 .fp8e4m3) (h : S224x14336.ShapeCasts S2x112x14336) (b : Fin 2) (c : Fin 112) (l : Fin 14336) :
    shapeCast S2x112x14336 v h (ix3 b c l) = v (ix2 ⟨112 * b.val + c.val, by omega⟩ l) := by
  pointwise
  exact congrArg v (congrArg₂ ix2 (Fin.ext (by show b.val * 112 + c.val = 112 * b.val + c.val; omega)) rfl)

theorem ext_rows (v w : FVec Ideal S2x112 .f32) (h : ∀ (b : Fin 2) (c : Fin 112), v (ix2 b c) = w (ix2 b c)) : v = w :=
  funext fun i => by
    have e := eq_ix2 i
    exact (congrArg v e).trans ((h (i 0) (i 1)).trans (congrArg w e).symm)
theorem ext_codes (v w : FVec Ideal S2x112x4096 .fp8e4m3) (h : ∀ (b : Fin 2) (c : Fin 112) (l : Fin 4096), v (ix3 b c l) = w (ix3 b c l)) : v = w :=
  funext fun i => by
    have e := eq_ix3 i
    exact (congrArg v e).trans ((h (i 0) (i 1) (i 2)).trans (congrArg w e).symm)
theorem ext_codes2 (v w : FVec Ideal S2x112x14336 .fp8e4m3) (h : ∀ (b : Fin 2) (c : Fin 112) (l : Fin 14336), v (ix3 b c l) = w (ix3 b c l)) : v = w :=
  funext fun i => by
    have e := eq_ix3 i
    exact (congrArg v e).trans ((h (i 0) (i 1) (i 2)).trans (congrArg w e).symm)

theorem a3blk_at (A : FVec Ideal S224x128 .f32) (b : Fin 2) (c : Fin 112) :
    a3blk (F := Ideal) A b (ix2 0 c) = A (ix2 ⟨112 * b.val + c.val, by omega⟩ ⟨c.val, by omega⟩) := by
  match b with
  | 0 => exact (pay17_at _ c).trans (window2 A _ _ _ _ _ _ (by show 112 * 0 + c.val = 0 + c.val; omega) (by show c.val = 0 + c.val; omega))
  | 1 => exact (pay20_at _ c).trans (window2 A _ _ _ _ _ _ (by show 112 * 1 + c.val = 112 + c.val; omega) (by show c.val = 0 + c.val; omega))
theorem a4blk_at (A : FVec Ideal S224x128 .f32) (b : Fin 2) (c : Fin 112) :
    a4blk (F := Ideal) A b (ix2 0 c) = A (ix2 ⟨112 * b.val + c.val, by omega⟩ ⟨c.val, by omega⟩) := by
  match b with
  | 0 => exact (pay29_at _ c).trans (window2 A _ _ _ _ _ _ (by show 112 * 0 + c.val = 0 + c.val; omega) (by show c.val = 0 + c.val; omega))
  | 1 => exact (pay31_at _ c).trans (window2 A _ _ _ _ _ _ (by show 112 * 1 + c.val = 112 + c.val; omega) (by show c.val = 0 + c.val; omega))
theorem c3blk_at (C : FVec Ideal S224x4096 .fp8e4m3) (b : Fin 2) (c : Fin 112) (l : Fin 4096) :
    c3blk (F := Ideal) C b (ix3 0 c l) = C (ix2 ⟨112 * b.val + c.val, by omega⟩ l) := by
  match b with
  | 0 => exact (pay21_at C c l).trans (congrArg C (congrArg₂ ix2 (Fin.ext (by show c.val = 112 * 0 + c.val; omega)) rfl))
  | 1 => exact (pay22_at C c l).trans (congrArg C (congrArg₂ ix2 (Fin.ext (by show 112 + c.val = 112 * 1 + c.val; omega)) rfl))
theorem off25_ : ∀ n : Fin N4, k0_off25 n = ![0, 1792 * n.val] := by decide +kernel
theorem c4val_at (X : FVec Ideal S224x14336 .fp8e4m3) (n : Fin N4) (b : Fin 2) (c : Fin 112) (u : Fin 1792) (L : Fin 14336) (hL : L.val = 1792 * n.val + u.val) :
    c4val (F := Ideal) X n (ix3 b c u) = X (ix2 ⟨112 * b.val + c.val, by omega⟩ L) := by
  have hw (k : Fin 224) : VecWindow.window X (k0_off25 n) S224x1792.size (k0_off25_inb n) (ix2 k u) = X (ix2 k L) := by
    refine window2 X _ _ _ _ k L ?_ ?_
    · rw [off25_]; show k.val = 0 + k.val; omega
    · rw [off25_]; exact hL
  match b with
  | 0 => exact (pay10_at _ c u).trans ((hw _).trans (congrArg X (congrArg₂ ix2 (Fin.ext (by show c.val = 112 * 0 + c.val; omega)) rfl)))
  | 1 => exact (pay11_at _ c u).trans ((hw _).trans (congrArg X (congrArg₂ ix2 (Fin.ext (by show 112 + c.val = 112 * 1 + c.val; omega)) rfl)))

section Whole
variable (hv tv : FVec Ideal S224x4096 .f32) (gv : FVec Ideal S1x4096 .f32) (w3 w5 : FVec Ideal S4096x14336 .fp8e4m3)
  (w7 : FVec Ideal S14336x4096 .fp8e4m3) (x4 x6 : FVec Ideal S1x14336 .f32) (x8 : FVec Ideal S1x4096 .f32)

theorem a3out_eq (h : S224x1.ShapeCasts S2x112) : a3out (F := Ideal) hv gv = shapeCast S2x112 (Cert.ReferenceIdeal.Gen.k0_pay7 (F := Ideal) hv gv) h := by
  refine ext_rows _ _ fun b c => ?_
  rw [cast_rows, ← aAll_eq hv gv _ ⟨c.val, by omega⟩]
  exact (untile2 (a := 2) (b := 112) (c := 1) (d := 112) offR _ hqR _ b c 0 c rfl (by show c.val = 0 + c.val; omega)).trans (a3blk_at _ b c)

theorem a4out_eq (h : S224x1.ShapeCasts S2x112) : a4out (F := Ideal) hv gv w3 w5 x4 x6
    = shapeCast S2x112 (Cert.ReferenceIdeal.Gen.k0_pay2 (F := Ideal) (eR hv gv w3 w5 x4 x6)) h := by
  refine ext_rows _ _ fun b c => ?_
  rw [cast_rows, ← a2All_eq hv gv w3 w5 x4 x6 _ ⟨c.val, by omega⟩]
  exact (untile2 (a := 2) (b := 112) (c := 1) (d := 112) offR _ hqR _ b c 0 c rfl (by show c.val = 0 + c.val; omega)).trans (a4blk_at _ b c)

theorem c3out_eq (h : S224x4096.ShapeCasts S2x112x4096) : c3out (F := Ideal) hv gv = shapeCast S2x112x4096 (cAll (F := Ideal) hv gv) h := by
  refine ext_codes _ _ fun b c l => ?_
  rw [cast_codes]
  exact (untile3 (a := 2) (b := 112) (e := 4096) (c := 1) (d := 112) (f := 4096) offH _ hqH _ b c l 0 c l rfl (by show c.val = 0 + c.val; omega) (by show l.val = 0 + l.val; omega)).trans
    (c3blk_at _ b c l)

theorem c4out_eq (h : S224x14336.ShapeCasts S2x112x14336) : c4out (F := Ideal) hv gv w3 w5 x4 x6
    = shapeCast S2x112x14336 (xAll (F := Ideal) hv gv w3 w5 x4 x6) h := by
  refine ext_codes2 _ _ fun b c l => ?_
  rw [cast_codes2]
  refine (untile3 (a := 2) (b := 112) (e := 14336) (c := 2) (d := 112) (f := 1792) k0_off34 _ hq34 _ b c l b c (⟨l.val % 1792, by omega⟩ : Fin 1792) ?_ ?_ ?_).trans
    (c4val_at _ (codeBlk l) b c _ l ?_)
  · rw [off34_]; show b.val = 0 + b.val; omega
  · rw [off34_]; show c.val = 0 + c.val; omega
  · rw [off34_]; show l.val = 1792 * (l.val / 1792) + l.val % 1792; omega
  · show l.val = 1792 * (l.val / 1792) + l.val % 1792; omega
end Whole

end Cert.Proof.KernelIdeal
-- ==== Proof.IFinV.lean ====
module

public import proofs.«01_k».proof.Proof.IFin
public import proofs.«01_k».proof.Proof.IEnt
public import proofs.«01_k».proof.Proof.IValF

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD) (t : Fin cfg0.N)

/-! ## The five results as the reference's payloads of the same arrays -/

theorem Y1_eq (h : S224x4096.ShapeCasts S2x112x4096) : Y1 m c t
    = shapeCast S2x112x4096 (Cert.ReferenceIdeal.Gen.k0_pay6 (F := Ideal) (m ((c : Thread nD τ).loc main_arg0)) (V m c main_v0)) h := by
  unfold Y1; rw [blk0, blk2]
  exact (c3out_eq _ _ h).trans (congrArg (fun X => shapeCast S2x112x4096 X h) (cAll_eq _ _))

theorem Y2_eq (h : S224x1.ShapeCasts S2x112) : Y2 m c t
    = shapeCast S2x112 (Cert.ReferenceIdeal.Gen.k0_pay7 (F := Ideal) (m ((c : Thread nD τ).loc main_arg0)) (V m c main_v0)) h := by
  unfold Y2; rw [blk0, blk2]
  exact a3out_eq _ _ h

/-- The reference's doubly scaled block over given arrays. -/
abbrev eF (hv : FVec Ideal S224x4096 .f32) (gv : FVec Ideal S1x4096 .f32) (w3 w5 : FVec Ideal S4096x14336 .fp8e4m3) (x4 x6 : FVec Ideal S1x14336 .f32) :=
  Cert.ReferenceIdeal.Gen.k0_pay9 (F := Ideal) (Cert.ReferenceIdeal.Gen.k0_pay6 hv gv) (Cert.ReferenceIdeal.Gen.k0_pay7 hv gv) w3 x4 w5 x6
/-- The reference's quotient over given arrays. -/
abbrev qF (hv : FVec Ideal S224x4096 .f32) (gv : FVec Ideal S1x4096 .f32) (w3 w5 : FVec Ideal S4096x14336 .fp8e4m3) (x4 x6 : FVec Ideal S1x14336 .f32) :=
  Cert.ReferenceIdeal.Gen.k0_pay10 (F := Ideal) (Cert.ReferenceIdeal.Gen.k0_pay6 hv gv) (Cert.ReferenceIdeal.Gen.k0_pay7 hv gv) w3 x4 w5 x6

theorem eR_eq (hv : FVec Ideal S224x4096 .f32) (gv : FVec Ideal S1x4096 .f32) (w3 w5 : FVec Ideal S4096x14336 .fp8e4m3) (x4 x6 : FVec Ideal S1x14336 .f32) :
    eR hv gv w3 w5 x4 x6 = eF hv gv w3 w5 x4 x6 :=
  congrArg (fun C => Cert.ReferenceIdeal.Gen.k0_pay9 (F := Ideal) C (Cert.ReferenceIdeal.Gen.k0_pay7 hv gv) w3 x4 w5 x6) (cAll_eq hv gv)
theorem qR_eq (hv : FVec Ideal S224x4096 .f32) (gv : FVec Ideal S1x4096 .f32) (w3 w5 : FVec Ideal S4096x14336 .fp8e4m3) (x4 x6 : FVec Ideal S1x14336 .f32) :
    qR hv gv w3 w5 x4 x6 = qF hv gv w3 w5 x4 x6 :=
  congrArg (fun C => Cert.ReferenceIdeal.Gen.k0_pay10 (F := Ideal) C (Cert.ReferenceIdeal.Gen.k0_pay7 hv gv) w3 x4 w5 x6) (cAll_eq hv gv)

theorem Y3_eq (h : S224x14336.ShapeCasts S2x112x14336) : Y3 m c t
    = shapeCast S2x112x14336 (Cert.ReferenceIdeal.Gen.k0_pay1 (F := Ideal) (qF (m ((c : Thread nD τ).loc main_arg0)) (V m c main_v0)
        (m ((c : Thread nD τ).loc main_arg3)) (m ((c : Thread nD τ).loc main_arg5)) (V m c main_v1) (V m c main_v2)) Cert.ReferenceIdeal.Gen.k0_pay11) h := by
  unfold Y3; rw [blk0, blk2, blk3, blk4, V_main_arg3, V_main_arg5]
  exact (c4out_eq _ _ _ _ _ _ h).trans (congrArg (fun X => shapeCast S2x112x14336 X h)
    ((xAll_eq _ _ _ _ _ _).trans (congrArg (fun q => Cert.ReferenceIdeal.Gen.k0_pay1 (F := Ideal) q Cert.ReferenceIdeal.Gen.k0_pay11) (qR_eq _ _ _ _ _ _))))

theorem Y4_eq (h : S224x1.ShapeCasts S2x112) : Y4 m c t
    = shapeCast S2x112 (Cert.ReferenceIdeal.Gen.k0_pay2 (F := Ideal) (eF (m ((c : Thread nD τ).loc main_arg0)) (V m c main_v0)
        (m ((c : Thread nD τ).loc main_arg3)) (m ((c : Thread nD τ).loc main_arg5)) (V m c main_v1) (V m c main_v2))) h := by
  unfold Y4; rw [blk0, blk2, blk3, blk4, V_main_arg3, V_main_arg5]
  exact (a4out_eq _ _ _ _ _ _ h).trans (congrArg (fun E => shapeCast S2x112 (Cert.ReferenceIdeal.Gen.k0_pay2 (F := Ideal) E) h) (eR_eq _ _ _ _ _ _))

theorem Y0_eq : Y0 m c t
    = Cert.ReferenceIdeal.Gen.k0_pay3 (F := Ideal) (eF (m ((c : Thread nD τ).loc main_arg0)) (V m c main_v0)
        (m ((c : Thread nD τ).loc main_arg3)) (m ((c : Thread nD τ).loc main_arg5)) (V m c main_v1) (V m c main_v2))
      (qF (m ((c : Thread nD τ).loc main_arg0)) (V m c main_v0)
        (m ((c : Thread nD τ).loc main_arg3)) (m ((c : Thread nD τ).loc main_arg5)) (V m c main_v1) (V m c main_v2))
      Cert.ReferenceIdeal.Gen.k0_pay11 (m ((c : Thread nD τ).loc main_arg7)) (V m c main_v3) (m ((c : Thread nD τ).loc main_arg1)) := by
  unfold Y0; rw [blk0, blk1, blk2, blk3, blk4, blk5, V_main_arg3, V_main_arg5, V_main_arg7]
  exact (dout_eq _ _ _ _ _ _ _ _ _).trans (congrArg₂ (fun E q => Cert.ReferenceIdeal.Gen.k0_pay3 (F := Ideal) E q Cert.ReferenceIdeal.Gen.k0_pay11 _ _ _)
    (eR_eq _ _ _ _ _ _) (qR_eq _ _ _ _ _ _))

end Cert.Proof.KernelIdeal
-- ==== Proof.RFin.lean ====
module

public import proofs.«01_k».proof.Proof.Gen.ReferenceIdeal
public import proofs.«01_k».proof.Proof.Gen.ReferenceIdeal.Frame
public import proofs.«01_k».proof.Proof.Gen.ReferenceIdeal.Run
public import Idealize.ShloMosaic.Lib.Pipeline.ValueKit
public import Idealize.ShloMosaic.Lib.Claim

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic Idealize.SL.Sem

variable {F : FTy → Type} [FloatOps F] (m : (ℓ : Loc nD τ sig) → Buf (Elt F) ℓ)

/-! ## What the reference's region leaves, over its argument arrays -/

theorem idx : ∀ t : Fin cfg0.N, win0_0.index t = ![0,0] ∧ win0_1.index t = ![0,0] ∧ win0_2.index t = ![0,0] ∧ win0_3.index t = ![0,0]
    ∧ win0_4.index t = ![0,0] ∧ win0_5.index t = ![0,0] ∧ win0_6.index t = ![0,0] ∧ win0_7.index t = ![0,0] ∧ win0_8.index t = ![0,0] :=
  (by decide +kernel : ∀ t : Fin grid0.N, _)

theorem blk0 (c : Dev nD) (t : Fin cfg0.N) : iblk m c 0 t = m ((c : Thread nD τ).loc main_arg0) := by blk_ext! [iblk, V, idx t]
theorem blk1 (c : Dev nD) (t : Fin cfg0.N) : iblk m c 1 t = m ((c : Thread nD τ).loc main_arg1) := by blk_ext! [iblk, V, idx t]
theorem blk3 (c : Dev nD) (t : Fin cfg0.N) : iblk m c 3 t = m ((c : Thread nD τ).loc main_arg3) := by blk_ext! [iblk, V, idx t]
theorem blk5 (c : Dev nD) (t : Fin cfg0.N) : iblk m c 5 t = m ((c : Thread nD τ).loc main_arg5) := by blk_ext! [iblk, V, idx t]
theorem blk7 (c : Dev nD) (t : Fin cfg0.N) : iblk m c 7 t = m ((c : Thread nD τ).loc main_arg7) := by blk_ext! [iblk, V, idx t]
theorem blk2 (c : Dev nD) (t : Fin cfg0.N) : iblk m c 2 t = V m c main_v0 := by blk_ext! [iblk, idx t]
theorem blk4 (c : Dev nD) (t : Fin cfg0.N) : iblk m c 4 t = V m c main_v1 := by blk_ext! [iblk, idx t]
theorem blk6 (c : Dev nD) (t : Fin cfg0.N) : iblk m c 6 t = V m c main_v2 := by blk_ext! [iblk, idx t]
theorem blk8 (c : Dev nD) (t : Fin cfg0.N) : iblk m c 8 t = V m c main_v3 := by blk_ext! [iblk, idx t]
theorem ent0 (c : Dev nD) (h : S4096.ShapeCasts S1x4096) : V m c main_v0 = shapeCast S1x4096 (m ((c : Thread nD τ).loc main_arg2)) h := by
  show StableHlo.after (List.flatten [hostOps0]) _ _ = _
  simp only [hostOps0, List.flatten_cons, List.flatten_nil, List.append_nil, List.cons_append, List.nil_append]
  after_results <;> rfl
theorem ent1 (c : Dev nD) (h : S14336.ShapeCasts S1x14336) : V m c main_v1 = shapeCast S1x14336 (m ((c : Thread nD τ).loc main_arg4)) h := by
  show StableHlo.after (List.flatten [hostOps0]) _ _ = _
  simp only [hostOps0, List.flatten_cons, List.flatten_nil, List.append_nil, List.cons_append, List.nil_append]
  after_results <;> rfl
theorem ent2 (c : Dev nD) (h : S14336.ShapeCasts S1x14336) : V m c main_v2 = shapeCast S1x14336 (m ((c : Thread nD τ).loc main_arg6)) h := by
  show StableHlo.after (List.flatten [hostOps0]) _ _ = _
  simp only [hostOps0, List.flatten_cons, List.flatten_nil, List.append_nil, List.cons_append, List.nil_append]
  after_results <;> rfl
theorem ent3 (c : Dev nD) (h : S4096.ShapeCasts S1x4096) : V m c main_v3 = shapeCast S1x4096 (m ((c : Thread nD τ).loc main_arg8)) h := by
  show StableHlo.after (List.flatten [hostOps0]) _ _ = _
  simp only [hostOps0, List.flatten_cons, List.flatten_nil, List.append_nil, List.cons_append, List.nil_append]
  after_results <;> rfl

theorem whole {S : Shape} {e : EltTy} (X : S.Idx → Elt F e) (off : Fin S.rank → Nat) (h : off = fun _ => 0)
    (inb : ∀ a, off a + S.size a ≤ S.size a) : View.ld X (Rect.unit (s := S) off S.size inb) = X :=
  View.ld_unit_zero h inb X

section Pays
variable (x0 : Vec F S224x4096 .f32) (x1 : Vec F S224x4096 .f32) (x2 : Vec F S1x4096 .f32) (x3 : Vec F S4096x14336 .fp8e4m3) (x4 : Vec F S1x14336 .f32)
  (x5 : Vec F S4096x14336 .fp8e4m3) (x6 : Vec F S1x14336 .f32) (x7 : Vec F S14336x4096 .fp8e4m3) (x8 : Vec F S1x4096 .f32)
theorem z2 : (![0, 0] : Fin 2 → Nat) = fun _ => 0 := by funext a; fin_cases a <;> rfl
theorem ldA (x : Vec F S224x4096 .f32) : View.ld x r0_0 = x := whole x _ z2 _
theorem ldB (x : Vec F S1x4096 .f32) : View.ld x r0_1 = x := whole x _ z2 _
theorem ldC (x : Vec F S4096x14336 .fp8e4m3) : View.ld x r0_2 = x := whole x _ z2 _
theorem ldD (x : Vec F S1x14336 .f32) : View.ld x r0_3 = x := whole x _ z2 _
theorem p12 : k0_pay12 x0 x1 x2 x3 x4 x5 x6 x7 x8 = k0_pay6 x0 x2 := by
  unfold k0_pay12; exact congrArg₂ k0_pay6 (ldA x0) (ldB x2)
theorem p13 : k0_pay13 x0 x1 x2 x3 x4 x5 x6 x7 x8 = k0_pay7 x0 x2 := by
  unfold k0_pay13; exact congrArg₂ k0_pay7 (ldA x0) (ldB x2)
theorem p14 : k0_pay14 x0 x1 x2 x3 x4 x5 x6 x7 x8 = k0_pay9 (k0_pay6 x0 x2) (k0_pay7 x0 x2) x3 x4 x5 x6 := by
  unfold k0_pay14; rw [p12, p13, ldC, ldD, ldC, ldD]
theorem p15 : k0_pay15 x0 x1 x2 x3 x4 x5 x6 x7 x8 = k0_pay10 (k0_pay6 x0 x2) (k0_pay7 x0 x2) x3 x4 x5 x6 := by
  unfold k0_pay15; rw [p12, p13, ldC, ldD, ldC, ldD]
theorem p16 : k0_pay16 x0 x1 x2 x3 x4 x5 x6 x7 x8 = k0_pay11 := rfl
end Pays

abbrev C3 (c : Dev nD) : FVec F S224x4096 .fp8e4m3 := k0_pay6 (m ((c : Thread nD τ).loc main_arg0)) (V m c main_v0)
abbrev A3 (c : Dev nD) : FVec F S224x1 .f32 := k0_pay7 (m ((c : Thread nD τ).loc main_arg0)) (V m c main_v0)
abbrev E4 (c : Dev nD) := k0_pay9 (C3 m c) (A3 m c) (m ((c : Thread nD τ).loc main_arg3)) (V m c main_v1) (m ((c : Thread nD τ).loc main_arg5)) (V m c main_v2)
abbrev Q4 (c : Dev nD) := k0_pay10 (C3 m c) (A3 m c) (m ((c : Thread nD τ).loc main_arg3)) (V m c main_v1) (m ((c : Thread nD τ).loc main_arg5)) (V m c main_v2)

theorem reg1 (c : Dev nD) : Value.reg_main_v4_1 m c = C3 m c := by
  refine (dats m 0 c).arrAt_eq_of_after_last 10 t0_0 (by decide +kernel) _ fun j => ?_
  blk_simp; rw [after0_10, blk0, blk1, blk2, blk3, blk4, blk5, blk6, blk7, blk8]
  frame_out
  rw [p12]
theorem reg2 (c : Dev nD) : Value.reg_main_v4_2 m c = A3 m c := by
  refine (dats m 0 c).arrAt_eq_of_after_last 11 t0_0 (by decide +kernel) _ fun j => ?_
  blk_simp; rw [after0_11, blk0, blk1, blk2, blk3, blk4, blk5, blk6, blk7, blk8]
  frame_out
  rw [p13]
theorem reg3 (c : Dev nD) : Value.reg_main_v4_3 m c = k0_pay1 (Q4 m c) k0_pay11 := by
  refine (dats m 0 c).arrAt_eq_of_after_last 12 t0_0 (by decide +kernel) _ fun j => ?_
  blk_simp; rw [after0_12, blk0, blk1, blk2, blk3, blk4, blk5, blk6, blk7, blk8]
  frame_out
  rw [p15, p16]
theorem reg4 (c : Dev nD) : Value.reg_main_v4_4 m c = k0_pay2 (E4 m c) := by
  refine (dats m 0 c).arrAt_eq_of_after_last 13 t0_0 (by decide +kernel) _ fun j => ?_
  blk_simp; rw [after0_13, blk0, blk1, blk2, blk3, blk4, blk5, blk6, blk7, blk8]
  frame_out
  rw [p14]
theorem reg0 (c : Dev nD) : Value.reg_main_v4_0 m c
    = k0_pay3 (E4 m c) (Q4 m c) k0_pay11 (m ((c : Thread nD τ).loc main_arg7)) (V m c main_v3) (m ((c : Thread nD τ).loc main_arg1)) := by
  refine (dats m 0 c).arrAt_eq_of_after_last 9 t0_0 (by decide +kernel) _ fun j => ?_
  blk_simp; rw [after0_9, blk0, blk1, blk2, blk3, blk4, blk5, blk6, blk7, blk8]
  frame_out
  rw [p14, p15, p16]

end Cert.Proof.ReferenceIdeal
-- ==== Proof.Pair.lean ====
module

public import proofs.«01_k».proof.Defs
public import proofs.«01_k».proof.Proof.Gen.Kernel
public import proofs.«01_k».proof.Proof.IFinV
public import proofs.«01_k».proof.Proof.RFin

@[expose] public section

set_option maxRecDepth 16384

noncomputable section

namespace Cert.Proof

open Idealize.ShloMosaic Idealize.ShloMosaic.TcCoe Idealize.SL.Sem
open Cert.ReferenceIdeal (S224x4096 S1x4096 S4096x14336 S14336x4096 S1x14336 S224x1 S2x112 S2x112x4096 S2x112x14336)

/-! ## The two ideal programs end with the same results -/

section Pair
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two launch memories hold the same arguments at a device. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m' c} (H : Agree m m' c)
include H

theorem row0 : (Cert.ReferenceIdeal.Gen.V m' c Cert.ReferenceIdeal.main_v0 : FVec Ideal S1x4096 .f32) = Cert.KernelIdeal.Gen.V m c Cert.KernelIdeal.main_v0 :=
  (ReferenceIdeal.ent0 m' c Cert.ReferenceIdeal.Gen.shapeCasts_S4096_S1x4096).trans
    ((congrArg (fun X => shapeCast S1x4096 X Cert.ReferenceIdeal.Gen.shapeCasts_S4096_S1x4096) H.a2).trans (KernelIdeal.ent0 m c _).symm)
theorem row1 : (Cert.ReferenceIdeal.Gen.V m' c Cert.ReferenceIdeal.main_v1 : FVec Ideal S1x14336 .f32) = Cert.KernelIdeal.Gen.V m c Cert.KernelIdeal.main_v1 :=
  (ReferenceIdeal.ent1 m' c Cert.ReferenceIdeal.Gen.shapeCasts_S14336_S1x14336).trans
    ((congrArg (fun X => shapeCast S1x14336 X Cert.ReferenceIdeal.Gen.shapeCasts_S14336_S1x14336) H.a4).trans (KernelIdeal.ent1 m c _).symm)
theorem row2 : (Cert.ReferenceIdeal.Gen.V m' c Cert.ReferenceIdeal.main_v2 : FVec Ideal S1x14336 .f32) = Cert.KernelIdeal.Gen.V m c Cert.KernelIdeal.main_v2 :=
  (ReferenceIdeal.ent2 m' c Cert.ReferenceIdeal.Gen.shapeCasts_S14336_S1x14336).trans
    ((congrArg (fun X => shapeCast S1x14336 X Cert.ReferenceIdeal.Gen.shapeCasts_S14336_S1x14336) H.a6).trans (KernelIdeal.ent2 m c _).symm)
theorem row3 : (Cert.ReferenceIdeal.Gen.V m' c Cert.ReferenceIdeal.main_v3 : FVec Ideal S1x4096 .f32) = Cert.KernelIdeal.Gen.V m c Cert.KernelIdeal.main_v3 :=
  (ReferenceIdeal.ent3 m' c Cert.ReferenceIdeal.Gen.shapeCasts_S4096_S1x4096).trans
    ((congrArg (fun X => shapeCast S1x4096 X Cert.ReferenceIdeal.Gen.shapeCasts_S4096_S1x4096) H.a8).trans (KernelIdeal.ent3 m c _).symm)

omit H in
theorem codes_congr {a a' : FVec Ideal S224x4096 .f32} {g g' : FVec Ideal S1x4096 .f32} (h0 : a' = a) (h2 : g' = g) (h) :
    shapeCast S2x112x4096 (Cert.ReferenceIdeal.Gen.k0_pay6 (F := Ideal) a' g') h = shapeCast S2x112x4096 (Cert.ReferenceIdeal.Gen.k0_pay6 (F := Ideal) a g) h := by
  subst h0; subst h2; rfl
omit H in
theorem scales_congr {a a' : FVec Ideal S224x4096 .f32} {g g' : FVec Ideal S1x4096 .f32} (h0 : a' = a) (h2 : g' = g) (h) :
    shapeCast S2x112 (Cert.ReferenceIdeal.Gen.k0_pay7 (F := Ideal) a' g') h = shapeCast S2x112 (Cert.ReferenceIdeal.Gen.k0_pay7 (F := Ideal) a g) h := by
  subst h0; subst h2; rfl
omit H in
theorem eF_congr {a a' : FVec Ideal S224x4096 .f32} {g g' : FVec Ideal S1x4096 .f32} {w3 w3' w5 w5' : FVec Ideal S4096x14336 .fp8e4m3} {x4 x4' x6 x6' : FVec Ideal S1x14336 .f32}
    (h0 : a' = a) (h2 : g' = g) (h3 : w3' = w3) (h5 : w5' = w5) (h4 : x4' = x4) (h6 : x6' = x6) :
    KernelIdeal.eF a' g' w3' w5' x4' x6' = KernelIdeal.eF a g w3 w5 x4 x6 := by
  subst h0; subst h2; subst h3; subst h5; subst h4; subst h6; rfl
omit H in
theorem qF_congr {a a' : FVec Ideal S224x4096 .f32} {g g' : FVec Ideal S1x4096 .f32} {w3 w3' w5 w5' : FVec Ideal S4096x14336 .fp8e4m3} {x4 x4' x6 x6' : FVec Ideal S1x14336 .f32}
    (h0 : a' = a) (h2 : g' = g) (h3 : w3' = w3) (h5 : w5' = w5) (h4 : x4' = x4) (h6 : x6' = x6) :
    KernelIdeal.qF a' g' w3' w5' x4' x6' = KernelIdeal.qF a g w3 w5 x4 x6 := by
  subst h0; subst h2; subst h3; subst h5; subst h4; subst h6; rfl
omit H in
theorem down_congr {E E' : FVec Ideal S224x1 .f32} {q q' : FVec Ideal Cert.ReferenceIdeal.S224x14336 .f32} {w w' : FVec Ideal S14336x4096 .fp8e4m3}
    {x x' : FVec Ideal S1x4096 .f32} {t t' : FVec Ideal S224x4096 .f32} (hE : E' = E) (hq : q' = q) (hw : w' = w) (hx : x' = x) (ht : t' = t) :
    Cert.ReferenceIdeal.Gen.k0_pay3 (F := Ideal) E' q' Cert.ReferenceIdeal.Gen.k0_pay11 w' x' t'
    = Cert.ReferenceIdeal.Gen.k0_pay3 (F := Ideal) E q Cert.ReferenceIdeal.Gen.k0_pay11 w x t := by
  subst hE; subst hq; subst hw; subst hx; subst ht; rfl

theorem exps : ReferenceIdeal.E4 m' c = KernelIdeal.eF (m ((c.tc : Thread Cert.KernelIdeal.nD Cert.KernelIdeal.τ).loc Cert.KernelIdeal.main_arg0)) (Cert.KernelIdeal.Gen.V m c Cert.KernelIdeal.main_v0)
        (m ((c.tc : Thread Cert.KernelIdeal.nD Cert.KernelIdeal.τ).loc Cert.KernelIdeal.main_arg3)) (m ((c.tc : Thread Cert.KernelIdeal.nD Cert.KernelIdeal.τ).loc Cert.KernelIdeal.main_arg5))
        (Cert.KernelIdeal.Gen.V m c Cert.KernelIdeal.main_v1) (Cert.KernelIdeal.Gen.V m c Cert.KernelIdeal.main_v2) :=
  eF_congr H.a0 (row0 H) H.a3 H.a5 (row1 H) (row2 H)
theorem quots : ReferenceIdeal.Q4 m' c = KernelIdeal.qF (m ((c.tc : Thread Cert.KernelIdeal.nD Cert.KernelIdeal.τ).loc Cert.KernelIdeal.main_arg0)) (Cert.KernelIdeal.Gen.V m c Cert.KernelIdeal.main_v0)
        (m ((c.tc : Thread Cert.KernelIdeal.nD Cert.KernelIdeal.τ).loc Cert.KernelIdeal.main_arg3)) (m ((c.tc : Thread Cert.KernelIdeal.nD Cert.KernelIdeal.τ).loc Cert.KernelIdeal.main_arg5))
        (Cert.KernelIdeal.Gen.V m c Cert.KernelIdeal.main_v1) (Cert.KernelIdeal.Gen.V m c Cert.KernelIdeal.main_v2) :=
  qF_congr H.a0 (row0 H) H.a3 H.a5 (row1 H) (row2 H)

theorem same0 : Cert.ReferenceIdeal.Value.reg_main_v4_0 m' c = KernelIdeal.Y0 m c Cert.KernelIdeal.Gen.t0_0 :=
  (ReferenceIdeal.reg0 m' c).trans ((down_congr (exps H) (quots H) H.a7 (row3 H) H.a1).trans (KernelIdeal.Y0_eq m c _).symm)
theorem same1 (h) : shapeCast S2x112x4096 (Cert.ReferenceIdeal.Value.reg_main_v4_1 m' c) h = KernelIdeal.Y1 m c Cert.KernelIdeal.Gen.t0_0 :=
  (congrArg (fun X => shapeCast S2x112x4096 X h) (ReferenceIdeal.reg1 m' c)).trans ((codes_congr H.a0 (row0 H) h).trans (KernelIdeal.Y1_eq m c _ h).symm)
theorem same2 (h) : shapeCast S2x112 (Cert.ReferenceIdeal.Value.reg_main_v4_2 m' c) h = KernelIdeal.Y2 m c Cert.KernelIdeal.Gen.t0_0 :=
  (congrArg (fun X => shapeCast S2x112 X h) (ReferenceIdeal.reg2 m' c)).trans ((scales_congr H.a0 (row0 H) h).trans (KernelIdeal.Y2_eq m c _ h).symm)
theorem same3 (h) : shapeCast S2x112x14336 (Cert.ReferenceIdeal.Value.reg_main_v4_3 m' c) h = KernelIdeal.Y3 m c Cert.KernelIdeal.Gen.t0_0 :=
  (congrArg (fun X => shapeCast S2x112x14336 X h) (ReferenceIdeal.reg3 m' c)).trans
    ((congrArg (fun q => shapeCast S2x112x14336 (Cert.ReferenceIdeal.Gen.k0_pay1 (F := Ideal) q Cert.ReferenceIdeal.Gen.k0_pay11) h) (quots H)).trans (KernelIdeal.Y3_eq m c _ h).symm)
theorem same4 (h) : shapeCast S2x112 (Cert.ReferenceIdeal.Value.reg_main_v4_4 m' c) h = KernelIdeal.Y4 m c Cert.KernelIdeal.Gen.t0_0 :=
  (congrArg (fun X => shapeCast S2x112 X h) (ReferenceIdeal.reg4 m' c)).trans
    ((congrArg (fun E => shapeCast S2x112 (Cert.ReferenceIdeal.Gen.k0_pay2 (F := Ideal) E) h) (exps H)).trans (KernelIdeal.Y4_eq m c _ h).symm)
end Pair

/-- Over the extended reals the kernel's five results are the reference's. -/
theorem same_results [hK : Cert.KernelIdeal.Facts] [hR : Cert.ReferenceIdeal.Facts] : Cert.algebraic_KernelIdeal_ReferenceIdeal := by
  intro m g m' g' _ hag
  have H (c : Dev Cert.KernelIdeal.nD) : Agree m m' c :=
    have ⟨h0, h1, h2, h3, h4, h5, h6, h7, h8⟩ := hag c
    ⟨h0, h1, h2, h3, h4, h5, h6, h7, h8⟩
  refine ⟨fun c => KernelIdeal.Y0 m c Cert.KernelIdeal.Gen.t0_0, fun c => KernelIdeal.Y1 m c Cert.KernelIdeal.Gen.t0_0, fun c => KernelIdeal.Y2 m c Cert.KernelIdeal.Gen.t0_0,
    fun c => KernelIdeal.Y3 m c Cert.KernelIdeal.Gen.t0_0, fun c => KernelIdeal.Y4 m c Cert.KernelIdeal.Gen.t0_0, KernelIdeal.run_values m g, ?_⟩
  exact (θ_run _ _ _).mono (fun _ h c => ⟨(h c).1.trans (same0 (H c)), (h c).2.1.trans (same1 (H c) _), (h c).2.2.1.trans (same2 (H c) _),
    (h c).2.2.2.1.trans (same3 (H c) _), (h c).2.2.2.2.1.trans (same4 (H c) _), (h c).2.2.2.2.2⟩) (Cert.ReferenceIdeal.Value.run m' g')

end Cert.Proof

end
-- ==== Proof.Base.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The sixteen-slot weight ring: its slots, its cells, the windows it copies from -/

/-- Slot of the ring at offset `off`, whole: what a gate or an up copy fills. -/
abbrev slotM (arg14 : Memref sig .tc .vmem S16x4096x512 .fp8e4m3) (off : Fin 3 → ℕ) (h : ∀ a, off a + S1x4096x512.size a ≤ S16x4096x512.size a) : Memref sig .tc .vmem S4096x512 .fp8e4m3 :=
  (arg14.slice (Rect.unit (s := S16x4096x512) off S1x4096x512.size h) (fun _ => rfl)).squeeze S4096x512 squeezes_S1x4096x512_S4096x512
/-- The first 3584 rows of the slot at offset `off`: what a down copy fills. -/
abbrev dslotM (arg14 : Memref sig .tc .vmem S16x4096x512 .fp8e4m3) (off : Fin 3 → ℕ) (h : ∀ a, off a + S1x3584x512.size a ≤ S16x4096x512.size a) : Memref sig .tc .vmem S3584x512 .fp8e4m3 :=
  (arg14.slice (Rect.unit (s := S16x4096x512) off S1x3584x512.size h) (fun _ => rfl)).squeeze S3584x512 squeezes_S1x3584x512_S3584x512
/-- The semaphore of the ring at offset `off`. -/
abbrev cellM (arg23 : DmaSems sig S16) (off : Fin 1 → ℕ) (h : ∀ a, off a + S1.size a ≤ S16.size a) : SemLoc sig :=
  .dma ((arg23.slice (Rect.unit (s := S16) off S1.size h)).squeeze S_ squeezes_S1_S_).sem
/-- A window of 512 columns of a gate or an up weight. -/
abbrev gwin (a : Memref sig .tc .hbm S4096x14336 .fp8e4m3) (off : Fin 2 → ℕ) (h : ∀ a, off a + S4096x512.size a ≤ S4096x14336.size a) : Memref sig .tc .hbm S4096x512 .fp8e4m3 :=
  a.slice (Rect.unit (s := S4096x14336) off S4096x512.size h) (fun _ => rfl)
/-- A window of 3584 rows and 512 columns of the down weight. -/
abbrev dwin (a : Memref sig .tc .hbm S14336x4096 .fp8e4m3) (off : Fin 2 → ℕ) (h : ∀ a, off a + S3584x512.size a ≤ S14336x4096.size a) : Memref sig .tc .hbm S3584x512 .fp8e4m3 :=
  a.slice (Rect.unit (s := S14336x4096) off S3584x512.size h) (fun _ => rfl)

section Values

/-- The block of 512 columns of a gate or an up weight that pass `p` reads, as the ring hands it over. -/
def gslab (w : Vec F S4096x14336 .fp8e4m3) (p : Fin k0_t2_loop.trips) : Vec F S1x4096x512 .fp8e4m3 :=
  fun i => VecWindow.window w (k0_off8 p) S4096x512.size (k0_off8_inb p) ((Shape.reshapeEquiv squeezes_S1x4096x512_S4096x512.numel_eq).symm i)

/-- A load of a whole slot after a copy filled it. -/
theorem slot_readAt (arg14 : Memref sig .tc .vmem S16x4096x512 .fp8e4m3) {os od : Fin 3 → ℕ} (e : os = od) (hs : ∀ a, os a + S1x4096x512.size a ≤ S16x4096x512.size a)
    (hd : ∀ a, od a + S1x4096x512.size a ≤ S16x4096x512.size a) (f : BufTy.Contents (Elt F) (slotM arg14 os hs).view.ty) (v : S4096x512.Idx → Elt F .fp8e4m3) :
    arg14.view.readAt (Elt F) (Rect.unit (s := S16x4096x512) od S1x4096x512.size hd).toLoadRect ((slotM arg14 os hs).view.writes (Elt F) f [⟨Rect.whole S4096x512, v⟩])
      = fun i => v ((Shape.reshapeEquiv squeezes_S1x4096x512_S4096x512.numel_eq).symm i) := by
  subst e
  funext i
  have h := congrFun (View.read_writes_whole (slotM arg14 os hs).view f v) ((Shape.reshapeEquiv squeezes_S1x4096x512_S4096x512.numel_eq).symm i)
  rw [← h]
  conv_lhs => rw [← (Shape.reshapeEquiv squeezes_S1x4096x512_S4096x512.numel_eq).apply_symm_apply i]
  rfl
/-- A load of a slot's first rows after a copy filled them. -/
theorem dslot_readAt (arg14 : Memref sig .tc .vmem S16x4096x512 .fp8e4m3) {os od : Fin 3 → ℕ} (e : os = od) (hs : ∀ a, os a + S1x3584x512.size a ≤ S16x4096x512.size a)
    (hd : ∀ a, od a + S1x3584x512.size a ≤ S16x4096x512.size a) (f : BufTy.Contents (Elt F) (dslotM arg14 os hs).view.ty) (v : S3584x512.Idx → Elt F .fp8e4m3) :
    arg14.view.readAt (Elt F) (Rect.unit (s := S16x4096x512) od S1x3584x512.size hd).toLoadRect ((dslotM arg14 os hs).view.writes (Elt F) f [⟨Rect.whole S3584x512, v⟩])
      = fun i => v ((Shape.reshapeEquiv squeezes_S1x3584x512_S3584x512.numel_eq).symm i) := by
  subst e
  funext i
  have h := congrFun (View.read_writes_whole (dslotM arg14 os hs).view f v) ((Shape.reshapeEquiv squeezes_S1x3584x512_S3584x512.numel_eq).symm i)
  rw [← h]
  conv_lhs => rw [← (Shape.reshapeEquiv squeezes_S1x3584x512_S3584x512.numel_eq).apply_symm_apply i]
  rfl

end Values

section Slots
variable (c : Dev nD) (arg14 : Memref sig .tc .vmem S16x4096x512 .fp8e4m3) (arg23 : DmaSems sig S16)

/-- A whole slot of the ring, at some contents. -/
abbrev slotP (os : Fin 3 → ℕ) (hs : ∀ a, os a + S1x4096x512.size a ≤ S16x4096x512.size a) : sProp 𝕄 :=
  iprop(∃ f, (slotM arg14 os hs).view.loc (c : Thread nD τ) ↦[(slotM arg14 os hs).view.set]{fullShare} f)
/-- A slot's first 3584 rows, at some contents. -/
abbrev dslotP (os : Fin 3 → ℕ) (hs : ∀ a, os a + S1x3584x512.size a ≤ S16x4096x512.size a) : sProp 𝕄 :=
  iprop(∃ f, (dslotM arg14 os hs).view.loc (c : Thread nD τ) ↦[(dslotM arg14 os hs).view.set]{fullShare} f)
/-- A slot's last 512 rows, at some contents. -/
abbrev tailP (os : Fin 3 → ℕ) (hs : ∀ a, os a + S1x4096x512.size a ≤ S16x4096x512.size a)
    (hd : ∀ a, os a + S1x3584x512.size a ≤ S16x4096x512.size a) : sProp 𝕄 :=
  iprop(∃ f, (slotM arg14 os hs).view.loc (c : Thread nD τ) ↦[(slotM arg14 os hs).view.set \ (dslotM arg14 os hd).view.set]{fullShare} f)

/-- A copy of a gate or an up window into a slot, in flight, with what stays of the reading share. -/
abbrev gfl (a : Memref sig .tc .hbm S4096x14336 .fp8e4m3) (W : BufTy.Contents (Elt F) a.view.ty) (k : Fin 16)
    (oc : Fin 1 → ℕ) (hc : ∀ a, oc a + S1.size a ≤ S16.size a)
    (os : Fin 3 → ℕ) (hs : ∀ a, os a + S1x4096x512.size a ≤ S16x4096x512.size a) (ow : Fin 2 → ℕ) (hw : ∀ a, ow a + S4096x512.size a ≤ S4096x14336.size a) : sProp 𝕄 :=
  iprop((∃ f, Transfers.Flight (countersEmb (U := UC sig nD τ)) (c : Thread nD τ) (cellM arg23 oc hc) () 65536
      iprop(((slotM arg14 os hs).view.loc (c : Thread nD τ) ↦[(slotM arg14 os hs).view.set]{fullShare}
          (slotM arg14 os hs).view.writes (Elt F) f [⟨Rect.whole S4096x512, ReadAs.same.apply ((gwin a ow hw).view.read (Elt F) W)⟩])
        ∗ (a.view.loc (c : Thread nD τ) ↦[(gwin a ow hw).view.set]{Transfers.shareTok fullShare 16 k} W)))
    ∗ (a.view.loc (c : Thread nD τ) ↦[a.view.set \ (gwin a ow hw).view.set]{Transfers.shareTok fullShare 16 k} W))

/-- A copy of a down window into a slot's first rows, in flight, with what stays of the reading share and of the slot. -/
abbrev dfl (a : Memref sig .tc .hbm S14336x4096 .fp8e4m3) (W : BufTy.Contents (Elt F) a.view.ty) (k : Fin 16)
    (oc : Fin 1 → ℕ) (hc : ∀ a, oc a + S1.size a ≤ S16.size a)
    (os : Fin 3 → ℕ) (hs : ∀ a, os a + S1x4096x512.size a ≤ S16x4096x512.size a)
    (hd : ∀ a, os a + S1x3584x512.size a ≤ S16x4096x512.size a) (ow : Fin 2 → ℕ) (hw : ∀ a, ow a + S3584x512.size a ≤ S14336x4096.size a) : sProp 𝕄 :=
  iprop((∃ f, Transfers.Flight (countersEmb (U := UC sig nD τ)) (c : Thread nD τ) (cellM arg23 oc hc) () 57344
      iprop(((dslotM arg14 os hd).view.loc (c : Thread nD τ) ↦[(dslotM arg14 os hd).view.set]{fullShare}
          (dslotM arg14 os hd).view.writes (Elt F) f [⟨Rect.whole S3584x512, ReadAs.same.apply ((dwin a ow hw).view.read (Elt F) W)⟩])
        ∗ (a.view.loc (c : Thread nD τ) ↦[(dwin a ow hw).view.set]{Transfers.shareTok fullShare 16 k} W)))
    ∗ (a.view.loc (c : Thread nD τ) ↦[a.view.set \ (dwin a ow hw).view.set]{Transfers.shareTok fullShare 16 k} W)
    ∗ tailP (F := F) c arg14 os hs hd)

/-- The copy's assertion depends on the offsets' values alone. -/
theorem gfl_congr (a : Memref sig .tc .hbm S4096x14336 .fp8e4m3) (W : BufTy.Contents (Elt F) a.view.ty) (k : Fin 16)
    {oc oc' : Fin 1 → ℕ} {os os' : Fin 3 → ℕ} {ow ow' : Fin 2 → ℕ} (e1 : oc = oc') (e2 : os = os') (e3 : ow = ow')
    (hc) (hs) (hw) (hc') (hs') (hw') :
    gfl (F := F) c arg14 arg23 a W k oc hc os hs ow hw = gfl c arg14 arg23 a W k oc' hc' os' hs' ow' hw' := by
  subst e1 e2 e3; rfl
/-- As `gfl_congr`, for a down copy. -/
theorem dfl_congr (a : Memref sig .tc .hbm S14336x4096 .fp8e4m3) (W : BufTy.Contents (Elt F) a.view.ty) (k : Fin 16)
    {oc oc' : Fin 1 → ℕ} {os os' : Fin 3 → ℕ} {ow ow' : Fin 2 → ℕ} (e1 : oc = oc') (e2 : os = os') (e3 : ow = ow')
    (hc) (hs) (hd) (hw) (hc') (hs') (hd') (hw') :
    dfl (F := F) c arg14 arg23 a W k oc hc os hs hd ow hw = dfl c arg14 arg23 a W k oc' hc' os' hs' hd' ow' hw' := by
  subst e1 e2 e3; rfl
/-- A slot held at one spelling of its offset is held at another. -/
theorem slotP_congr {os os' : Fin 3 → ℕ} (e : os = os') (hs) (hs') : slotP (F := F) c arg14 os hs = slotP c arg14 os' hs' := by
  subst e; rfl
/-- As `slotP_congr`, for the first rows. -/
theorem dslotP_congr {os os' : Fin 3 → ℕ} (e : os = os') (hs) (hs') : dslotP (F := F) c arg14 os hs = dslotP c arg14 os' hs' := by
  subst e; rfl
/-- As `slotP_congr`, for the last rows. -/
theorem tailP_congr {os os' : Fin 3 → ℕ} (e : os = os') (hs) (hd) (hs') (hd') : tailP (F := F) c arg14 os hs hd = tailP c arg14 os' hs' hd' := by
  subst e; rfl
/-- A semaphore named at one spelling of its offset is the one named at another. -/
theorem cellM_congr {oc oc' : Fin 1 → ℕ} (e : oc = oc') (hc) (hc') : cellM arg23 oc hc = cellM arg23 oc' hc' := by
  subst e; rfl

/-- A semaphore at zero at one spelling of its offset is at zero at another. -/
theorem cell_move {oc oc' : Fin 1 → ℕ} (e : oc = oc') (hc) (hc') :
    (semVal ((c : Thread nD τ), cellM arg23 oc hc) 0 : sProp 𝕄) ⊢ semVal ((c : Thread nD τ), cellM arg23 oc' hc') 0 := by
  subst e; exact .rfl
/-- A slot held at one spelling of its offset is held at another. -/
theorem slot_move {os os' : Fin 3 → ℕ} (e : os = os') (hs) (hs') (f : BufTy.Contents (Elt F) (slotM arg14 os hs).view.ty) :
    ((slotM arg14 os hs).view.loc (c : Thread nD τ) ↦[(slotM arg14 os hs).view.set]{fullShare} f : sProp 𝕄) ⊢ slotP c arg14 os' hs' := by
  subst e; iintro H; iexists f; iexact H
/-- As `slot_move`, for the first rows. -/
theorem dslot_move {os os' : Fin 3 → ℕ} (e : os = os') (hs) (hs') (f : BufTy.Contents (Elt F) (dslotM arg14 os hs).view.ty) :
    ((dslotM arg14 os hs).view.loc (c : Thread nD τ) ↦[(dslotM arg14 os hs).view.set]{fullShare} f : sProp 𝕄) ⊢ dslotP c arg14 os' hs' := by
  subst e; iintro H; iexists f; iexact H

/-- The first rows of a slot lie in the slot. -/
theorem dslot_sub (os : Fin 3 → ℕ) (hs : ∀ a, os a + S1x4096x512.size a ≤ S16x4096x512.size a)
    (hd : ∀ a, os a + S1x3584x512.size a ≤ S16x4096x512.size a) : (dslotM arg14 os hd).view.set ⊆ (slotM arg14 os hs).view.set := by
  have e1 : (dslotM arg14 os hd).view.set = (Rect.unit (s := S16x4096x512) os S1x3584x512.size hd).set.map arg14.view.emb :=
    (View.set_reshape _ _).trans (View.set_slice _ _)
  have e2 : (slotM arg14 os hs).view.set = (Rect.unit (s := S16x4096x512) os S1x4096x512.size hs).set.map arg14.view.emb :=
    (View.set_reshape _ _).trans (View.set_slice _ _)
  rw [e1, e2]
  refine Finset.map_subset_map.mpr fun y hy => ?_
  rw [Rect.mem_set_unit] at hy ⊢
  intro a
  have := hy a
  refine ⟨this.1, lt_of_lt_of_le this.2 (Nat.add_le_add_left ?_ _)⟩
  exact (by decide : ∀ a, S1x3584x512.size a ≤ S1x4096x512.size a) a

/-- A whole slot is its first rows and its last rows. -/
theorem slot_split (os : Fin 3 → ℕ) (hs : ∀ a, os a + S1x4096x512.size a ≤ S16x4096x512.size a)
    (hd : ∀ a, os a + S1x3584x512.size a ≤ S16x4096x512.size a) :
    slotP (F := F) c arg14 os hs ⊢ iprop(dslotP c arg14 os hd ∗ tailP c arg14 os hs hd) := by
  iintro ⟨%f, H⟩
  ihave H' := (pointsTo_split_subset (dslot_sub arg14 os hs hd)).1 $$ H
  icases H' with ⟨H1, H2⟩
  isplitl [H1]
  · iexists f; iexact H1
  · iexists f; iexact H2

/-- The first rows and the last rows of a slot are the whole slot. -/
theorem slot_join (os : Fin 3 → ℕ) (hs : ∀ a, os a + S1x4096x512.size a ≤ S16x4096x512.size a)
    (hd : ∀ a, os a + S1x3584x512.size a ≤ S16x4096x512.size a) :
    iprop(dslotP (F := F) c arg14 os hd ∗ tailP c arg14 os hs hd) ⊢ slotP c arg14 os hs := by
  iintro ⟨⟨%f, H⟩, ⟨%g, H'⟩⟩
  ihave H'' := (pointsTo_join_subset (ℓ := arg14.view.loc (c : Thread nD τ)) (f := g) (g := f) (q := fullShare) (dslot_sub arg14 os hs hd)) $$ [H H']
  · isplitl [H]
    · iexact H
    · iexact H'
  iexists _; iexact H''

end Slots

/-! ## What a slot of the ring is doing -/

/-- A slot's state: waiting for a gate window, an up window, a down window, or free. -/
inductive St where
  | gate (p : Fin 28)
  | up (p : Fin 28)
  | down (d : Fin 32)
  | free

/-- The state a slot is in while copy number `n` (in issue order over the whole kernel) occupies it. -/
def chunkSt (n : ℕ) : St :=
  if h : 21 ≤ n ∧ n < 77 then (if n % 2 = 1 then .gate ⟨(n - 21) / 2, by omega⟩ else .up ⟨(n - 21) / 2, by omega⟩)
  else if h : 77 ≤ n ∧ n < 109 then .down ⟨n - 77, by omega⟩ else .free

/-- The sixteen copies from number `b` on, each at the slot its number says. -/
def tab (b : ℕ) (k : Fin 16) : St := chunkSt (b + (k.val + 16 - b % 16) % 16)

/-- The slot of copy number `n`. -/
def slotOf (n : ℕ) : Fin 16 := ⟨n % 16, Nat.mod_lt _ (by decide)⟩

theorem tab_here (b j : ℕ) (hj : j < 16) : tab b (slotOf (b + j)) = chunkSt (b + j) := by
  unfold tab slotOf; congr 2; simp only; omega
theorem tab_next (b j n : ℕ) (hj : j < n) (hn : n ≤ 16) : tab (b + n) (slotOf (b + j)) = chunkSt (b + j + 16) := by
  unfold tab slotOf; congr 1; simp only; omega
theorem tab_off (b n : ℕ) (hn : n ≤ 16) (k : Fin 16) (h : ∀ j < n, k ≠ slotOf (b + j)) : tab (b + n) k = tab b k := by
  unfold tab; congr 1
  have hk := k.isLt
  have hx : ¬ ((k.val + 16 - b % 16) % 16 < n) := fun hlt => h _ hlt (Fin.ext (by simp only [slotOf]; omega))
  omega

theorem cell_inb (k : Fin 16) : ∀ a, (![k.val] : Fin 1 → ℕ) a + S1.size a ≤ S16.size a := by revert k; decide +kernel
theorem slot_inb (k : Fin 16) : ∀ a, (![k.val, 0, 0] : Fin 3 → ℕ) a + S1x4096x512.size a ≤ S16x4096x512.size a := by revert k; decide +kernel
theorem dslot_inb (k : Fin 16) : ∀ a, (![k.val, 0, 0] : Fin 3 → ℕ) a + S1x3584x512.size a ≤ S16x4096x512.size a := by revert k; decide +kernel
theorem gwin_inb (p : Fin 28) : ∀ a, (![0, 512 * p.val] : Fin 2 → ℕ) a + S4096x512.size a ≤ S4096x14336.size a := by revert p; decide +kernel
theorem dwin_inb (d : Fin 32) : ∀ a, (![3584 * (d.val % 4), 512 * (d.val / 4)] : Fin 2 → ℕ) a + S3584x512.size a ≤ S14336x4096.size a := by revert d; decide +kernel

section Ring
variable (c : Dev nD) (arg3 : Memref sig .tc .hbm S4096x14336 .fp8e4m3) (arg5 : Memref sig .tc .hbm S4096x14336 .fp8e4m3)
  (arg7 : Memref sig .tc .hbm S14336x4096 .fp8e4m3) (arg14 : Memref sig .tc .vmem S16x4096x512 .fp8e4m3) (arg23 : DmaSems sig S16)
  (W3 : BufTy.Contents (Elt F) arg3.view.ty) (W5 : BufTy.Contents (Elt F) arg5.view.ty) (W7 : BufTy.Contents (Elt F) arg7.view.ty)

/-- Slot `k`'s share for reading a weight. -/
abbrev tok {s : Shape} (a : Memref sig .tc .hbm s .fp8e4m3) (W : BufTy.Contents (Elt F) a.view.ty) (k : Fin 16) : sProp 𝕄 :=
  (a.view.loc (c : Thread nD τ) ↦[a.view.set]{Transfers.shareTok fullShare 16 k} W)

/-- Slot `k`, its semaphore and its reading shares, in state `s`. -/
def ringAt (k : Fin 16) (s : St) : sProp 𝕄 := match s with
  | .gate p => iprop(gfl c arg14 arg23 arg3 W3 k ![k.val] (cell_inb k) ![k.val, 0, 0] (slot_inb k) ![0, 512 * p.val] (gwin_inb p)
      ∗ tok c arg5 W5 k ∗ tok c arg7 W7 k)
  | .up p => iprop(gfl c arg14 arg23 arg5 W5 k ![k.val] (cell_inb k) ![k.val, 0, 0] (slot_inb k) ![0, 512 * p.val] (gwin_inb p)
      ∗ tok c arg3 W3 k ∗ tok c arg7 W7 k)
  | .down d => iprop(dfl c arg14 arg23 arg7 W7 k ![k.val] (cell_inb k) ![k.val, 0, 0] (slot_inb k) (dslot_inb k)
      ![3584 * (d.val % 4), 512 * (d.val / 4)] (dwin_inb d) ∗ tok c arg3 W3 k ∗ tok c arg5 W5 k)
  | .free => iprop(semVal ((c : Thread nD τ), cellM arg23 ![k.val] (cell_inb k)) 0 ∗ slotP (F := F) c arg14 ![k.val, 0, 0] (slot_inb k)
      ∗ tok c arg3 W3 k ∗ tok c arg5 W5 k ∗ tok c arg7 W7 k)

end Ring

/-- `P`, put out of the way. -/
def held (P : sProp 𝕄) : sProp 𝕄 := P
omit [FloatOps F] in
theorem held_in (P : sProp 𝕄) : P ⊢ held P := by unfold held; exact Entails.refl _
omit [FloatOps F] in
theorem held_out (P : sProp 𝕄) : held P ⊢ P := by unfold held; exact Entails.refl _

/-! ## The offsets the printed loops compute, in closed form -/

theorem t2_trips : k0_t2_loop.trips = 28 := by decide +kernel
theorem t1_trips : k0_t1_loop.trips = 7 := by decide +kernel
theorem t3_trips : k0_t3_loop.trips = 28 := by decide +kernel
theorem t4_trips : k0_t4_loop.trips = 8 := by decide +kernel
theorem t5_trips : k0_t5_loop.trips = 8 := by decide +kernel

theorem off6_21 : ∀ p : Fin k0_t2_loop.trips, ![(slotOf (21 + 2 * p.val)).val] = k0_off6 p 21#32 := by decide +kernel
theorem off6_22 : ∀ p : Fin k0_t2_loop.trips, ![(slotOf (21 + 2 * p.val + 1)).val] = k0_off6 p 22#32 := by decide +kernel
theorem off7_21 : ∀ p : Fin k0_t2_loop.trips, ![(slotOf (21 + 2 * p.val)).val, 0, 0] = k0_off7 p 21#32 := by decide +kernel
theorem off7_22 : ∀ p : Fin k0_t2_loop.trips, ![(slotOf (21 + 2 * p.val + 1)).val, 0, 0] = k0_off7 p 22#32 := by decide +kernel
theorem off8 : ∀ p : Fin k0_t2_loop.trips, ![0, 512 * p.val] = k0_off8 p := by decide +kernel
theorem off9_21 : ∀ p : Fin k0_t2_loop.trips, k0_off7 p 21#32 = k0_off9 p 21#32 := by decide +kernel
theorem off9_22 : ∀ p : Fin k0_t2_loop.trips, k0_off7 p 22#32 = k0_off9 p 22#32 := by decide +kernel
theorem off10 : ∀ p : Fin k0_t2_loop.trips, k0_off10 p = ![0, 512 * p.val] := by decide +kernel
theorem off11 : ∀ p : Fin k0_t2_loop.trips, k0_off11 p = ![0, 512 * p.val] := by decide +kernel
theorem off12_21 : ∀ p : Fin k0_t2_loop.trips, k0_cond1 p = 1#1 → k0_off6 p 21#32 = k0_off12 p 21#32 := by decide +kernel
theorem off12_22 : ∀ p : Fin k0_t2_loop.trips, k0_cond1 p = 1#1 → k0_off6 p 22#32 = k0_off12 p 22#32 := by decide +kernel
theorem off13_21 : ∀ p : Fin k0_t2_loop.trips, k0_cond1 p = 1#1 → k0_off7 p 21#32 = k0_off13 p 21#32 := by decide +kernel
theorem off13_22 : ∀ p : Fin k0_t2_loop.trips, k0_cond1 p = 1#1 → k0_off7 p 22#32 = k0_off13 p 22#32 := by decide +kernel
theorem off14 : ∀ p : Fin k0_t2_loop.trips, k0_cond1 p = 1#1 → k0_off14 p = ![0, 512 * (p.val + 8)] := by decide +kernel
theorem off15_0 : ∀ p : Fin k0_t2_loop.trips, k0_cond2 p = 1#1 → k0_off6 p 21#32 = k0_off15 p 0#32 := by decide +kernel
theorem off15_1 : ∀ p : Fin k0_t2_loop.trips, k0_cond2 p = 1#1 → k0_off6 p 22#32 = k0_off15 p 1#32 := by decide +kernel
theorem off16_0 : ∀ p : Fin k0_t2_loop.trips, k0_cond2 p = 1#1 → k0_off7 p 21#32 = k0_off16 p 0#32 := by decide +kernel
theorem off16_1 : ∀ p : Fin k0_t2_loop.trips, k0_cond2 p = 1#1 → k0_off7 p 22#32 = k0_off16 p 1#32 := by decide +kernel
theorem off17_0 : ∀ p : Fin k0_t2_loop.trips, k0_cond2 p = 1#1 → k0_off17 p 0#32 = ![3584 * ((2 * p.val - 40) % 4), 512 * ((2 * p.val - 40) / 4)] := by decide +kernel
theorem off17_1 : ∀ p : Fin k0_t2_loop.trips, k0_cond2 p = 1#1 → k0_off17 p 1#32 = ![3584 * ((2 * p.val - 39) % 4), 512 * ((2 * p.val - 39) / 4)] := by decide +kernel
theorem cond1_iff : ∀ p : Fin k0_t2_loop.trips, k0_cond1 p = 1#1 ↔ p.val < 20 := by decide +kernel
theorem cond2_iff : ∀ p : Fin k0_t2_loop.trips, k0_cond2 p = 1#1 ↔ 20 ≤ p.val := by decide +kernel
theorem off18 : ∀ p : Fin k0_t3_loop.trips, k0_off18 p = ![0, 512 * p.val] := by decide +kernel

end Cert.Proof.Kernel
-- ==== Proof.T2.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Base
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The gate/up loop: what one pass computes -/

section Values
variable (Av : Vec F S224x128 .f32) (Cv : Vec F S224x4096 .fp8e4m3) (w3 w5 : Vec F S4096x14336 .fp8e4m3) (x4 x6 : Vec F S1x14336 .f32)

/-- The activations pass `p` stores. -/
def zval (p : Fin k0_t2_loop.trips) : FVec F S224x512 .f32 :=
  k0_pay8 (k0_pay5 Av) Cv (k0_pay6 (gslab w3 p)) (constant S224x512 .f32 0#32)
    (VecWindow.window x4 (k0_off10 p) S1x512.size (k0_off10_inb p)) Cv (gslab w5 p) (VecWindow.window x6 (k0_off10 p) S1x512.size (k0_off10_inb p))
/-- The running lane maxima after pass `p`, from those before it. -/
def mnext (p : Fin k0_t2_loop.trips) (m : Vec F S224x128 .f32) : FVec F S224x128 .f32 :=
  k0_pay9 (k0_pay5 Av) Cv (k0_pay6 (gslab w3 p)) (constant S224x512 .f32 0#32)
    (VecWindow.window x4 (k0_off10 p) S1x512.size (k0_off10_inb p)) Cv (gslab w5 p) (VecWindow.window x6 (k0_off10 p) S1x512.size (k0_off10_inb p)) m
/-- The running lane maxima before pass `p`. -/
def mval : ℕ → Vec F S224x128 .f32
  | 0 => k0_pay23
  | p + 1 => if h : p < k0_t2_loop.trips then mnext Av Cv w3 w5 x4 x6 ⟨p, h⟩ (mval p) else mval p
end Values

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (C : BufTy.Contents (Elt F) arg16.view.ty) (A : BufTy.Contents (Elt F) arg21.view.ty) (X4 : BufTy.Contents (Elt F) arg4.view.ty) (X6 : BufTy.Contents (Elt F) arg6.view.ty)

/-- What the gate/up loop reads and writes besides the ring. -/
abbrev t2Env (M : BufTy.Contents (Elt F) arg22.view.ty) (Z : BufTy.Contents (Elt F) arg15.view.ty) : sProp 𝕄 :=
  iprop((arg16.view.loc (c : Thread nD τ) ↦[arg16.view.set]{fullShare} C)
    ∗ (arg21.view.loc (c : Thread nD τ) ↦[arg21.view.set]{fullShare} A)
    ∗ (arg22.view.loc (c : Thread nD τ) ↦[arg22.view.set]{fullShare} M)
    ∗ (arg15.view.loc (c : Thread nD τ) ↦[arg15.view.set]{fullShare} Z)
    ∗ (arg4.view.loc (c : Thread nD τ) ↦[arg4.view.set]{fullShare} X4)
    ∗ (arg6.view.loc (c : Thread nD τ) ↦[arg6.view.set]{fullShare} X6))

/-- One pass's effect on the activations and the maxima. -/
abbrev t2Next (p : Fin k0_t2_loop.trips) (M : BufTy.Contents (Elt F) arg22.view.ty) (Z : BufTy.Contents (Elt F) arg15.view.ty) : sProp 𝕄 :=
  iprop((∃ (M' : BufTy.Contents (Elt F) arg22.view.ty) (Z' : BufTy.Contents (Elt F) arg15.view.ty), t2Env c arg4 arg6 arg15 arg16 arg21 arg22 C A X4 X6 M' Z'
    ∗ ⌜arg22.view.read (Elt F) M' = mnext (arg21.view.read (Elt F) A) (arg16.view.read (Elt F) C) (arg3.view.read (Elt F) W3) (arg5.view.read (Elt F) W5) (arg4.view.read (Elt F) X4) (arg6.view.read (Elt F) X6) p (arg22.view.read (Elt F) M)
      ∧ arg15.view.read (Elt F) Z' = VecWindow.put (arg15.view.read (Elt F) Z) (k0_off11 p) S224x512.size (zval (arg21.view.read (Elt F) A) (arg16.view.read (Elt F) C) (arg3.view.read (Elt F) W3) (arg5.view.read (Elt F) W5) (arg4.view.read (Elt F) X4) (arg6.view.read (Elt F) X6) p)⌝)
    ∗ ∃ W, owes (c : Thread nD τ) 0 W)

set_option maxHeartbeats 4000000 in
/-- A pass that goes on with gate and up windows. -/
theorem t2_more (M : BufTy.Contents (Elt F) arg22.view.ty) (Z : BufTy.Contents (Elt F) arg15.view.ty) (W : Waits sig Unit) (p : Fin k0_t2_loop.trips)
   (v175 : Vec F S112x128 .f32) (v178 : IVec S112x128 1) (v179 : FVec F S112x128 .f32) (k0 k1 : Fin 16) (hp : k0_cond1 p = 1#1) (hp2 : ¬ k0_cond2 p = 1#1)  :
  iprop(gfl c arg14 arg23 arg3 W3 k0 (k0_off6 p 21#32) (k0_off6_inb p 0) (k0_off7 p 21#32) (k0_off7_inb p 0) (k0_off8 p) (k0_off8_inb p)
    ∗ gfl c arg14 arg23 arg5 W5 k1 (k0_off6 p 22#32) (k0_off6_inb p 1) (k0_off7 p 22#32) (k0_off7_inb p 1) (k0_off8 p) (k0_off8_inb p)
    ∗ t2Env c arg4 arg6 arg15 arg16 arg21 arg22 C A X4 X6 M Z
    ∗ owes (c : Thread nD τ) 0 W)
   ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v175 v178 v179 p ())
    (fun _ => iprop(gfl c arg14 arg23 arg3 W3 k0 (k0_off12 p 21#32) (k0_off12_inb p hp 0) (k0_off13 p 21#32) (k0_off13_inb p hp 0) (k0_off14 p) (k0_off14_inb p hp)
      ∗ gfl c arg14 arg23 arg5 W5 k1 (k0_off12 p 22#32) (k0_off12_inb p hp 1) (k0_off13 p 22#32) (k0_off13_inb p hp 1) (k0_off14 p) (k0_off14_inb p hp)
      ∗ t2Next c arg3 arg4 arg5 arg6 arg15 arg16 arg21 arg22 W3 W5 C A X4 X6 p M Z)) := by
  iintro ⟨⟨⟨%g1, Hf1⟩, Hr1⟩, ⟨⟨%g2, Hf2⟩, Hr2⟩, ⟨HC, HA, HM, HZ, H4, H6⟩, HO⟩
  delta gwin slotM cellM
  unfold k0_t2_body
  sl_exec
  ihave Hd1 := slot_move c arg14 (off13_21 p hp) (k0_off7_inb p 0) (k0_off13_inb p hp 0) _ $$ Hf1_dst
  ihave Hd2 := slot_move c arg14 (off13_22 p hp) (k0_off7_inb p 1) (k0_off13_inb p hp 1) _ $$ Hf2_dst
  ihave Hf1 := cell_move c arg23 (off12_21 p hp) (k0_off6_inb p 0) (k0_off12_inb p hp 0) $$ Hf1
  ihave Hf2 := cell_move c arg23 (off12_22 p hp) (k0_off6_inb p 1) (k0_off12_inb p hp 1) $$ Hf2
  icases Hd1 with ⟨%g3, Hd1⟩
  icases Hd2 with ⟨%g4, Hd2⟩
  delta slotM cellM
  sl_exec
  sl_step
  isplitl [Hf1 Hr1]
  · isplitl [Hf1]
    · iexists g3; iexact Hf1
    · iexact Hr1
  isplitl [Hf2 Hr2]
  · isplitl [Hf2]
    · iexists g4; iexact Hf2
    · iexact Hr2
  isplitr [HO]
  · iexists _; iexists _
    isplitl [HC HA HM HZ H4 H6]
    · isplitl [HC]; · iexact HC
      isplitl [HA]; · iexact HA
      isplitl [HM]; · iexact HM
      isplitl [HZ]; · iexact HZ
      isplitl [H4]; · iexact H4
      iexact H6
    · ipureintro
      constructor
      · refine (View.read_writes_full _ _ _ _ _).trans ?_
        unfold t2_more.sl.r_3 t2_more.sl.r_2 t2_more.sl.r_1 t2_more.sl.r t2_more.sl.v317 t2_more.sl.v303 t2_more.sl.cst_252
        rw [slot_readAt arg14 (off9_21 p), slot_readAt arg14 (off9_22 p)]
        rw [View.readAt_full arg21.view A, View.readAt_full arg16.view C, View.readAt_full arg22.view M]
        rfl
      · refine (View.read_writes_cons_put _ _ _ _ _ rfl).trans ?_
        unfold t2_more.sl.r_2 t2_more.sl.r_1 t2_more.sl.r t2_more.sl.v317 t2_more.sl.v303 t2_more.sl.cst_252
        rw [slot_readAt arg14 (off9_21 p), slot_readAt arg14 (off9_22 p)]
        rw [View.readAt_full arg21.view A, View.readAt_full arg16.view C]
        rfl
  · iexists _; iexact HO

set_option maxHeartbeats 4000000 in
/-- A pass that goes on with windows of the down weights. -/
theorem t2_last (M : BufTy.Contents (Elt F) arg22.view.ty) (Z : BufTy.Contents (Elt F) arg15.view.ty) (W : Waits sig Unit) (p : Fin k0_t2_loop.trips)
   (v175 : Vec F S112x128 .f32) (v178 : IVec S112x128 1) (v179 : FVec F S112x128 .f32) (k0 k1 : Fin 16) (hp : k0_cond2 p = 1#1) (hp1 : ¬ k0_cond1 p = 1#1)  :
  iprop(gfl c arg14 arg23 arg3 W3 k0 (k0_off6 p 21#32) (k0_off6_inb p 0) (k0_off7 p 21#32) (k0_off7_inb p 0) (k0_off8 p) (k0_off8_inb p)
    ∗ gfl c arg14 arg23 arg5 W5 k1 (k0_off6 p 22#32) (k0_off6_inb p 1) (k0_off7 p 22#32) (k0_off7_inb p 1) (k0_off8 p) (k0_off8_inb p)
    ∗ tok c arg7 W7 k0 ∗ tok c arg7 W7 k1
    ∗ t2Env c arg4 arg6 arg15 arg16 arg21 arg22 C A X4 X6 M Z
    ∗ owes (c : Thread nD τ) 0 W)
   ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v175 v178 v179 p ())
    (fun _ => iprop(dfl c arg14 arg23 arg7 W7 k0 (k0_off15 p 0#32) (k0_off15_inb p hp 0) (k0_off16 p 0#32) (off16_0 p hp ▸ k0_off7_inb p 0) (k0_off16_inb p hp 0) (k0_off17 p 0#32) (k0_off17_inb p hp 0)
      ∗ dfl c arg14 arg23 arg7 W7 k1 (k0_off15 p 1#32) (k0_off15_inb p hp 1) (k0_off16 p 1#32) (off16_1 p hp ▸ k0_off7_inb p 1) (k0_off16_inb p hp 1) (k0_off17 p 1#32) (k0_off17_inb p hp 1)
      ∗ tok c arg3 W3 k0 ∗ tok c arg5 W5 k1
      ∗ t2Next c arg3 arg4 arg5 arg6 arg15 arg16 arg21 arg22 W3 W5 C A X4 X6 p M Z)) := by
  iintro ⟨⟨⟨%g1, Hf1⟩, Hr1⟩, ⟨⟨%g2, Hf2⟩, Hr2⟩, HT0, HT1, ⟨HC, HA, HM, HZ, H4, H6⟩, HO⟩
  delta gwin slotM cellM
  unfold k0_t2_body
  ihave HT1 := held_in _ $$ HT1
  sl_exec
  ihave Hd1 := slot_move c arg14 (off16_0 p hp) (k0_off7_inb p 0) (off16_0 p hp ▸ k0_off7_inb p 0) _ $$ Hf1_dst
  ihave Hd2 := slot_move c arg14 (off16_1 p hp) (k0_off7_inb p 1) (off16_1 p hp ▸ k0_off7_inb p 1) _ $$ Hf2_dst
  ihave Hf1 := cell_move c arg23 (off15_0 p hp) (k0_off6_inb p 0) (k0_off15_inb p hp 0) $$ Hf1
  ihave Hf2 := cell_move c arg23 (off15_1 p hp) (k0_off6_inb p 1) (k0_off15_inb p hp 1) $$ Hf2
  ihave Hd1 := slot_split c arg14 (k0_off16 p 0#32) (off16_0 p hp ▸ k0_off7_inb p 0) (k0_off16_inb p hp 0) $$ Hd1
  ihave Hd2 := slot_split c arg14 (k0_off16 p 1#32) (off16_1 p hp ▸ k0_off7_inb p 1) (k0_off16_inb p hp 1) $$ Hd2
  icases Hd1 with ⟨⟨%g3, Hd1⟩, Ht1⟩
  icases Hd2 with ⟨⟨%g4, Hd2⟩, Ht2⟩
  ihave Hd2 := held_in _ $$ Hd2
  delta dslotM slotM cellM
  sl_exec
  ihave HT0 := held_in _ $$ HT0
  ihave HT1 := held_out _ $$ HT1
  ihave Hd2 := held_out _ $$ Hd2
  sl_exec
  ihave HT0 := held_out _ $$ HT0
  sl_step
  isplitl [Hf1 HT0 Ht1]
  · isplitl [Hf1]
    · iexists g3; iexact Hf1
    isplitl [HT0]
    · iexact HT0
    · iexact Ht1
  isplitl [Hf2 HT1 Ht2]
  · isplitl [Hf2]
    · iexists g4; iexact Hf2
    isplitl [HT1]
    · iexact HT1
    · iexact Ht2
  isplitl [Hr1]; · iexact Hr1
  isplitl [Hr2]; · iexact Hr2
  isplitr [HO]
  · iexists _; iexists _
    isplitl [HC HA HM HZ H4 H6]
    · isplitl [HC]; · iexact HC
      isplitl [HA]; · iexact HA
      isplitl [HM]; · iexact HM
      isplitl [HZ]; · iexact HZ
      isplitl [H4]; · iexact H4
      iexact H6
    · ipureintro
      constructor
      · refine (View.read_writes_full _ _ _ _ _).trans ?_
        unfold t2_last.sl.r_3 t2_last.sl.r_2 t2_last.sl.r_1 t2_last.sl.r t2_last.sl.v317 t2_last.sl.v303 t2_last.sl.cst_252
        rw [slot_readAt arg14 (off9_21 p), slot_readAt arg14 (off9_22 p)]
        rw [View.readAt_full arg21.view A, View.readAt_full arg16.view C, View.readAt_full arg22.view M]
        rfl
      · refine (View.read_writes_cons_put _ _ _ _ _ rfl).trans ?_
        unfold t2_last.sl.r_2 t2_last.sl.r_1 t2_last.sl.r t2_last.sl.v317 t2_last.sl.v303 t2_last.sl.cst_252
        rw [slot_readAt arg14 (off9_21 p), slot_readAt arg14 (off9_22 p)]
        rw [View.readAt_full arg21.view A, View.readAt_full arg16.view C]
        rfl
  · iexists _; iexact HO

end Cert.Proof.Kernel
-- ==== Proof.T2Loop.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.T2
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The gate/up loop: its invariant and its step -/

theorem t2_lt (p : Fin k0_t2_loop.trips) : p.val < 28 := lt_of_lt_of_eq p.isLt t2_trips
theorem pair_eq {I : Type} (i j : I) (Φ : I → sProp 𝕄) : bigSepL [i, j] Φ = iprop(Φ i ∗ Φ j) := rfl
theorem chunk_gate (p : Fin 28) : chunkSt (21 + 2 * p.val) = .gate p := by
  have := p.isLt
  unfold chunkSt; rw [dif_pos (by omega), if_pos (by omega)]; congr 1; apply Fin.ext; simp only; omega
theorem chunk_up (p : Fin 28) : chunkSt (21 + 2 * p.val + 1) = .up p := by
  have := p.isLt
  unfold chunkSt; rw [dif_pos (by omega), if_neg (by omega)]; congr 1; apply Fin.ext; simp only; omega
theorem chunk_down (n : ℕ) (h : 77 ≤ n) (h' : n < 109) : chunkSt n = .down ⟨n - 77, by omega⟩ := by
  unfold chunkSt; rw [dif_neg (by omega), dif_pos ⟨h, h'⟩]
theorem chunk_down' (n : ℕ) (d : Fin 32) (h : n = 77 + d.val) : chunkSt n = .down d := by
  subst h; have := d.isLt
  rw [chunk_down _ (by omega) (by omega)]; congr 1; apply Fin.ext; simp only; omega
theorem t2_lt0 (p : Fin k0_t2_loop.trips) : 2 * p.val - 40 < 32 := by have := t2_lt p; omega
theorem t2_lt1 (p : Fin k0_t2_loop.trips) : 2 * p.val - 39 < 32 := by have := t2_lt p; omega
theorem chunk_free (n : ℕ) (h : 109 ≤ n) : chunkSt n = .free := by
  unfold chunkSt; rw [dif_neg (by omega), dif_neg (by omega)]

theorem tab_gate (p : Fin k0_t2_loop.trips) : tab (21 + 2 * p.val) (slotOf (21 + 2 * p.val)) = .gate ⟨p.val, t2_trips ▸ p.isLt⟩ :=
  (tab_here (21 + 2 * p.val) 0 (by omega)).trans (chunk_gate ⟨p.val, t2_trips ▸ p.isLt⟩)
theorem tab_up (p : Fin k0_t2_loop.trips) : tab (21 + 2 * p.val) (slotOf (21 + 2 * p.val + 1)) = .up ⟨p.val, t2_trips ▸ p.isLt⟩ :=
  (tab_here (21 + 2 * p.val) 1 (by omega)).trans (chunk_up ⟨p.val, t2_trips ▸ p.isLt⟩)
theorem tab_gate' (p : Fin k0_t2_loop.trips) (h : p.val < 20) : tab (21 + 2 * (p.val + 1)) (slotOf (21 + 2 * p.val)) = .gate ⟨p.val + 8, by omega⟩ :=
  (tab_next (21 + 2 * p.val) 0 2 (by omega) (by omega)).trans ((congrArg chunkSt (by simp only; omega)).trans (chunk_gate ⟨p.val + 8, by omega⟩))
theorem tab_up' (p : Fin k0_t2_loop.trips) (h : p.val < 20) : tab (21 + 2 * (p.val + 1)) (slotOf (21 + 2 * p.val + 1)) = .up ⟨p.val + 8, by omega⟩ :=
  (tab_next (21 + 2 * p.val) 1 2 (by omega) (by omega)).trans ((congrArg chunkSt (by simp only; omega)).trans (chunk_up ⟨p.val + 8, by omega⟩))
theorem tab_down0 (p : Fin k0_t2_loop.trips) (h : 20 ≤ p.val) : tab (21 + 2 * (p.val + 1)) (slotOf (21 + 2 * p.val))
    = .down ⟨2 * p.val - 40, t2_lt0 p⟩ :=
  (tab_next (21 + 2 * p.val) 0 2 (by omega) (by omega)).trans (chunk_down' _ ⟨2 * p.val - 40, t2_lt0 p⟩ (by show 21 + 2 * p.val + 0 + 16 = 77 + (2 * p.val - 40); omega))
theorem tab_down1 (p : Fin k0_t2_loop.trips) (h : 20 ≤ p.val) : tab (21 + 2 * (p.val + 1)) (slotOf (21 + 2 * p.val + 1))
    = .down ⟨2 * p.val - 39, t2_lt1 p⟩ :=
  (tab_next (21 + 2 * p.val) 1 2 (by omega) (by omega)).trans (chunk_down' _ ⟨2 * p.val - 39, t2_lt1 p⟩ (by show 21 + 2 * p.val + 1 + 16 = 77 + (2 * p.val - 39); omega))
variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (C : BufTy.Contents (Elt F) arg16.view.ty) (A : BufTy.Contents (Elt F) arg21.view.ty) (X4 : BufTy.Contents (Elt F) arg4.view.ty) (X6 : BufTy.Contents (Elt F) arg6.view.ty)

/-- Before pass `p`, the slot of its gate window. -/
theorem ring_gate (p : Fin k0_t2_loop.trips) :
    ringAt c arg3 arg5 arg7 arg14 arg23 W3 W5 W7 (slotOf (21 + 2 * p.val)) (tab (21 + 2 * p.val) (slotOf (21 + 2 * p.val)))
    = iprop(gfl c arg14 arg23 arg3 W3 (slotOf (21 + 2 * p.val)) (k0_off6 p 21#32) (k0_off6_inb p 0) (k0_off7 p 21#32) (k0_off7_inb p 0) (k0_off8 p) (k0_off8_inb p)
      ∗ tok c arg5 W5 (slotOf (21 + 2 * p.val)) ∗ tok c arg7 W7 (slotOf (21 + 2 * p.val))) := by
  rw [tab_gate p]; unfold ringAt; dsimp only
  rw [gfl_congr c arg14 arg23 arg3 W3 _ (off6_21 p) (off7_21 p) (off8 p)]
/-- Before pass `p`, the slot of its up window. -/
theorem ring_up (p : Fin k0_t2_loop.trips) :
    ringAt c arg3 arg5 arg7 arg14 arg23 W3 W5 W7 (slotOf (21 + 2 * p.val + 1)) (tab (21 + 2 * p.val) (slotOf (21 + 2 * p.val + 1)))
    = iprop(gfl c arg14 arg23 arg5 W5 (slotOf (21 + 2 * p.val + 1)) (k0_off6 p 22#32) (k0_off6_inb p 1) (k0_off7 p 22#32) (k0_off7_inb p 1) (k0_off8 p) (k0_off8_inb p)
      ∗ tok c arg3 W3 (slotOf (21 + 2 * p.val + 1)) ∗ tok c arg7 W7 (slotOf (21 + 2 * p.val + 1))) := by
  rw [tab_up p]; unfold ringAt; dsimp only
  rw [gfl_congr c arg14 arg23 arg5 W5 _ (off6_22 p) (off7_22 p) (off8 p)]
/-- After an early pass, the slot of its gate window. -/
theorem ring_gate' (p : Fin k0_t2_loop.trips) (hp : k0_cond1 p = 1#1) :
    ringAt c arg3 arg5 arg7 arg14 arg23 W3 W5 W7 (slotOf (21 + 2 * p.val)) (tab (21 + 2 * (p.val + 1)) (slotOf (21 + 2 * p.val)))
    = iprop(gfl c arg14 arg23 arg3 W3 (slotOf (21 + 2 * p.val)) (k0_off12 p 21#32) (k0_off12_inb p hp 0) (k0_off13 p 21#32) (k0_off13_inb p hp 0) (k0_off14 p) (k0_off14_inb p hp)
      ∗ tok c arg5 W5 (slotOf (21 + 2 * p.val)) ∗ tok c arg7 W7 (slotOf (21 + 2 * p.val))) := by
  rw [tab_gate' p ((cond1_iff p).1 hp)]; unfold ringAt; dsimp only
  rw [gfl_congr c arg14 arg23 arg3 W3 _ ((off6_21 p).trans (off12_21 p hp)) ((off7_21 p).trans (off13_21 p hp)) (off14 p hp).symm]
/-- After an early pass, the slot of its up window. -/
theorem ring_up' (p : Fin k0_t2_loop.trips) (hp : k0_cond1 p = 1#1) :
    ringAt c arg3 arg5 arg7 arg14 arg23 W3 W5 W7 (slotOf (21 + 2 * p.val + 1)) (tab (21 + 2 * (p.val + 1)) (slotOf (21 + 2 * p.val + 1)))
    = iprop(gfl c arg14 arg23 arg5 W5 (slotOf (21 + 2 * p.val + 1)) (k0_off12 p 22#32) (k0_off12_inb p hp 1) (k0_off13 p 22#32) (k0_off13_inb p hp 1) (k0_off14 p) (k0_off14_inb p hp)
      ∗ tok c arg3 W3 (slotOf (21 + 2 * p.val + 1)) ∗ tok c arg7 W7 (slotOf (21 + 2 * p.val + 1))) := by
  rw [tab_up' p ((cond1_iff p).1 hp)]; unfold ringAt; dsimp only
  rw [gfl_congr c arg14 arg23 arg5 W5 _ ((off6_22 p).trans (off12_22 p hp)) ((off7_22 p).trans (off13_22 p hp)) (off14 p hp).symm]
/-- After a late pass, the slot of its gate window. -/
theorem ring_down0 (p : Fin k0_t2_loop.trips) (hp : k0_cond2 p = 1#1) :
    ringAt c arg3 arg5 arg7 arg14 arg23 W3 W5 W7 (slotOf (21 + 2 * p.val)) (tab (21 + 2 * (p.val + 1)) (slotOf (21 + 2 * p.val)))
    = iprop(dfl c arg14 arg23 arg7 W7 (slotOf (21 + 2 * p.val)) (k0_off15 p 0#32) (k0_off15_inb p hp 0) (k0_off16 p 0#32) (off16_0 p hp ▸ k0_off7_inb p 0) (k0_off16_inb p hp 0) (k0_off17 p 0#32) (k0_off17_inb p hp 0)
      ∗ tok c arg3 W3 (slotOf (21 + 2 * p.val)) ∗ tok c arg5 W5 (slotOf (21 + 2 * p.val))) := by
  rw [tab_down0 p ((cond2_iff p).1 hp)]; unfold ringAt; dsimp only
  rw [dfl_congr c arg14 arg23 arg7 W7 _ ((off6_21 p).trans (off15_0 p hp)) ((off7_21 p).trans (off16_0 p hp)) (off17_0 p hp).symm]
/-- After a late pass, the slot of its up window. -/
theorem ring_down1 (p : Fin k0_t2_loop.trips) (hp : k0_cond2 p = 1#1) :
    ringAt c arg3 arg5 arg7 arg14 arg23 W3 W5 W7 (slotOf (21 + 2 * p.val + 1)) (tab (21 + 2 * (p.val + 1)) (slotOf (21 + 2 * p.val + 1)))
    = iprop(dfl c arg14 arg23 arg7 W7 (slotOf (21 + 2 * p.val + 1)) (k0_off15 p 1#32) (k0_off15_inb p hp 1) (k0_off16 p 1#32) (off16_1 p hp ▸ k0_off7_inb p 1) (k0_off16_inb p hp 1) (k0_off17 p 1#32) (k0_off17_inb p hp 1)
      ∗ tok c arg3 W3 (slotOf (21 + 2 * p.val + 1)) ∗ tok c arg5 W5 (slotOf (21 + 2 * p.val + 1))) := by
  rw [tab_down1 p ((cond2_iff p).1 hp)]; unfold ringAt; dsimp only
  rw [dfl_congr c arg14 arg23 arg7 W7 _ ((off6_22 p).trans (off15_1 p hp)) ((off7_22 p).trans (off16_1 p hp)) (off17_1 p hp).symm]

/-- The state before pass `k` of the gate/up loop. -/
def t2At (k : ℕ) : sProp 𝕄 :=
  iprop(Ring.AtW (σ := fun _ => St) (ringAt (F := F) c arg3 arg5 arg7 arg14 arg23 W3 W5 W7) (tab (21 + 2 * k))
    ∗ (∃ (M : BufTy.Contents (Elt F) arg22.view.ty) (Z : BufTy.Contents (Elt F) arg15.view.ty), t2Env c arg4 arg6 arg15 arg16 arg21 arg22 C A X4 X6 M Z
      ∗ ⌜arg22.view.read (Elt F) M = mval (arg21.view.read (Elt F) A) (arg16.view.read (Elt F) C) (arg3.view.read (Elt F) W3) (arg5.view.read (Elt F) W5) (arg4.view.read (Elt F) X4) (arg6.view.read (Elt F) X6) k
        ∧ ∀ q : Fin k0_t2_loop.trips, q.val < k → VecWindow.window (arg15.view.read (Elt F) Z) (k0_off11 q) S224x512.size (k0_off11_inb q) = zval (arg21.view.read (Elt F) A) (arg16.view.read (Elt F) C) (arg3.view.read (Elt F) W3) (arg5.view.read (Elt F) W5) (arg4.view.read (Elt F) X4) (arg6.view.read (Elt F) X6) q⌝)
    ∗ ∃ W, owes (c : Thread nD τ) 0 W)

theorem t2_slots (p : ℕ) : [slotOf (21 + 2 * p), slotOf (21 + 2 * p + 1)].Nodup := by
  have : slotOf (21 + 2 * p) ≠ slotOf (21 + 2 * p + 1) := fun h => by
    have := congrArg Fin.val h; simp only [slotOf] at this; omega
  simp [this]
theorem t2_away (p : ℕ) (k : Fin 16) (hk : k ∉ [slotOf (21 + 2 * p), slotOf (21 + 2 * p + 1)]) : tab (21 + 2 * (p + 1)) k = tab (21 + 2 * p) k := by
  simp only [List.mem_cons, List.not_mem_nil, or_false, not_or] at hk
  refine tab_off (21 + 2 * p) 2 (by omega) k fun j hj => ?_
  obtain rfl | rfl : j = 0 ∨ j = 1 := by omega
  · exact hk.1
  · exact hk.2

omit [FloatOps F] in
/-- Windows of the activations written by different passes do not meet. -/
theorem off11_window {α : Type} (z : S224x14336.Idx → α) (p q : Fin k0_t2_loop.trips) (h : q.val ≠ p.val) (w) :
    VecWindow.window (VecWindow.put z (k0_off11 p) S224x512.size w) (k0_off11 q) S224x512.size (k0_off11_inb q)
      = VecWindow.window z (k0_off11 q) S224x512.size (k0_off11_inb q) := by
  refine VecWindow.window_put_of_disjoint _ _ _ _ _ _ _ (1 : Fin 2) ?_
  rw [off11 p, off11 q]
  show 512 * q.val + 512 ≤ 512 * p.val ∨ 512 * p.val + 512 ≤ 512 * q.val
  omega

/-- One pass's facts make the next pass's. -/
theorem t2_facts (p : Fin k0_t2_loop.trips) (M M' : BufTy.Contents (Elt F) arg22.view.ty) (Z Z' : BufTy.Contents (Elt F) arg15.view.ty)
    (h : arg22.view.read (Elt F) M = mval (arg21.view.read (Elt F) A) (arg16.view.read (Elt F) C) (arg3.view.read (Elt F) W3) (arg5.view.read (Elt F) W5) (arg4.view.read (Elt F) X4) (arg6.view.read (Elt F) X6) p.val
        ∧ ∀ q : Fin k0_t2_loop.trips, q.val < p.val → VecWindow.window (arg15.view.read (Elt F) Z) (k0_off11 q) S224x512.size (k0_off11_inb q) = zval (arg21.view.read (Elt F) A) (arg16.view.read (Elt F) C) (arg3.view.read (Elt F) W3) (arg5.view.read (Elt F) W5) (arg4.view.read (Elt F) X4) (arg6.view.read (Elt F) X6) q)
    (h' : arg22.view.read (Elt F) M' = mnext (arg21.view.read (Elt F) A) (arg16.view.read (Elt F) C) (arg3.view.read (Elt F) W3) (arg5.view.read (Elt F) W5) (arg4.view.read (Elt F) X4) (arg6.view.read (Elt F) X6) p (arg22.view.read (Elt F) M)
      ∧ arg15.view.read (Elt F) Z' = VecWindow.put (arg15.view.read (Elt F) Z) (k0_off11 p) S224x512.size (zval (arg21.view.read (Elt F) A) (arg16.view.read (Elt F) C) (arg3.view.read (Elt F) W3) (arg5.view.read (Elt F) W5) (arg4.view.read (Elt F) X4) (arg6.view.read (Elt F) X6) p)) :
    arg22.view.read (Elt F) M' = mval (arg21.view.read (Elt F) A) (arg16.view.read (Elt F) C) (arg3.view.read (Elt F) W3) (arg5.view.read (Elt F) W5) (arg4.view.read (Elt F) X4) (arg6.view.read (Elt F) X6) (p.val + 1)
      ∧ ∀ q : Fin k0_t2_loop.trips, q.val < p.val + 1 → VecWindow.window (arg15.view.read (Elt F) Z') (k0_off11 q) S224x512.size (k0_off11_inb q) = zval (arg21.view.read (Elt F) A) (arg16.view.read (Elt F) C) (arg3.view.read (Elt F) W3) (arg5.view.read (Elt F) W5) (arg4.view.read (Elt F) X4) (arg6.view.read (Elt F) X6) q := by
  refine ⟨?_, fun q hq => ?_⟩
  · rw [h'.1, h.1]
    show _ = (if h : p.val < k0_t2_loop.trips then _ else _)
    rw [dif_pos p.isLt]
  · rw [h'.2]
    by_cases e : q.val = p.val
    · obtain rfl : q = p := Fin.ext e
      exact VecWindow.window_put_same _ _ _ _ _
    · rw [off11_window _ p q e]; exact h.2 q (by omega)

/-- One pass of the gate/up loop. -/
theorem t2_step (v175 : Vec F S112x128 .f32) (v178 : IVec S112x128 1) (v179 : FVec F S112x128 .f32) (p : Fin k0_t2_loop.trips) (a : Unit) :
    t2At c arg3 arg4 arg5 arg6 arg7 arg14 arg15 arg16 arg21 arg22 arg23 W3 W5 W7 C A X4 X6 p.val
      ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v175 v178 v179 p a)
        (fun _ => t2At c arg3 arg4 arg5 arg6 arg7 arg14 arg15 arg16 arg21 arg22 arg23 W3 W5 W7 C A X4 X6 (p.val + 1)) := by
  unfold t2At
  rw [Ring.AtW_focusL _ _ _ (t2_slots p.val)]
  rw [pair_eq]
  rw [ring_gate, ring_up]
  by_cases hp : k0_cond1 p = 1#1
  · have hp2 : ¬ k0_cond2 p = 1#1 := by rw [cond2_iff]; have := (cond1_iff p).1 hp; omega
    iintro ⟨⟨⟨⟨Hg, Hg5, Hg7⟩, ⟨Hu, Hu3, Hu7⟩⟩, HR⟩, ⟨%M, ⟨%Z, ⟨HE, %hMZ⟩⟩⟩, ⟨%W, HO⟩⟩
    ihave HW := t2_more c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 C A X4 X6 M Z W p v175 v178 v179 _ _ hp hp2 $$ [Hg Hu HE HO]
    · isplitl [Hg]; · iexact Hg
      isplitl [Hu]; · iexact Hu
      isplitl [HE]; · iexact HE
      iexact HO
    iapply (wp_wand_r frame (wpE (defs₀ (F := F)) Variants.none (c : Thread nD τ) none) Set.univ)
    isplitl [HW]; · iexact HW
    iintro %_ ⟨Hg, Hu, ⟨%M', ⟨%Z', ⟨HE, %hMZ'⟩⟩⟩, HO⟩
    isplitr [HE HO]
    · iapply (Ring.AtW_refocusL (ringAt (F := F) c arg3 arg5 arg7 arg14 arg23 W3 W5 W7) (tab (21 + 2 * p.val)) _ _ (t2_slots p.val) (t2_away p.val))
      rw [pair_eq]
      rw [ring_gate' _ _ _ _ _ _ _ _ _ p hp, ring_up' _ _ _ _ _ _ _ _ _ p hp]
      isplitr [HR]
      · isplitl [Hg Hg5 Hg7]
        · isplitl [Hg]; · iexact Hg
          isplitl [Hg5]; · iexact Hg5
          iexact Hg7
        · isplitl [Hu]; · iexact Hu
          isplitl [Hu3]; · iexact Hu3
          iexact Hu7
      · iexact HR
    isplitl [HE]
    · iexists M'; iexists Z'
      isplitl [HE]; · iexact HE
      ipureintro; exact t2_facts arg3 arg4 arg5 arg6 arg15 arg16 arg21 arg22 W3 W5 C A X4 X6 p M M' Z Z' hMZ hMZ'
    · iexact HO
  · have hp2 : k0_cond2 p = 1#1 := by rw [cond2_iff]; rw [cond1_iff] at hp; omega
    iintro ⟨⟨⟨⟨Hg, Hg5, Hg7⟩, ⟨Hu, Hu3, Hu7⟩⟩, HR⟩, ⟨%M, ⟨%Z, ⟨HE, %hMZ⟩⟩⟩, ⟨%W, HO⟩⟩
    ihave HW := t2_last c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 C A X4 X6 M Z W p v175 v178 v179 _ _ hp2 hp $$ [Hg Hu Hg7 Hu7 HE HO]
    · isplitl [Hg]; · iexact Hg
      isplitl [Hu]; · iexact Hu
      isplitl [Hg7]; · iexact Hg7
      isplitl [Hu7]; · iexact Hu7
      isplitl [HE]; · iexact HE
      iexact HO
    iapply (wp_wand_r frame (wpE (defs₀ (F := F)) Variants.none (c : Thread nD τ) none) Set.univ)
    isplitl [HW]; · iexact HW
    iintro %_ ⟨Hg, Hu, Hg3, Hu5, ⟨%M', ⟨%Z', ⟨HE, %hMZ'⟩⟩⟩, HO⟩
    isplitr [HE HO]
    · iapply (Ring.AtW_refocusL (ringAt (F := F) c arg3 arg5 arg7 arg14 arg23 W3 W5 W7) (tab (21 + 2 * p.val)) _ _ (t2_slots p.val) (t2_away p.val))
      rw [pair_eq]
      rw [ring_down0 _ _ _ _ _ _ _ _ _ p hp2, ring_down1 _ _ _ _ _ _ _ _ _ p hp2]
      isplitr [HR]
      · isplitl [Hg Hg5 Hg3]
        · isplitl [Hg]; · iexact Hg
          isplitl [Hg3]; · iexact Hg3
          iexact Hg5
        · isplitl [Hu]; · iexact Hu
          isplitl [Hu3]; · iexact Hu3
          iexact Hu5
      · iexact HR
    isplitl [HE]
    · iexists M'; iexists Z'
      isplitl [HE]; · iexact HE
      ipureintro; exact t2_facts arg3 arg4 arg5 arg6 arg15 arg16 arg21 arg22 W3 W5 C A X4 X6 p M M' Z Z' hMZ hMZ'
    · iexact HO

end Cert.Proof.Kernel
-- ==== Proof.Base4.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Base
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The down loop: offsets, values and what its copies deliver -/

abbrev N4 : ℕ := k0_t4_loop.trips

theorem off19_ (j : Fin 4) : ∀ n : Fin N4, k0_off19 n (BitVec.ofNat 32 j.val) = ![(slotOf (77 + 4 * n.val + j.val)).val] := by revert j; decide +kernel
theorem off20_ (j : Fin 4) : ∀ n : Fin N4, k0_off20 n (BitVec.ofNat 32 j.val) = ![(slotOf (77 + 4 * n.val + j.val)).val, 0, 0] := by revert j; decide +kernel
theorem off21_ (j : Fin 4) : ∀ n : Fin N4, k0_off21 n (BitVec.ofNat 32 j.val) = ![3584 * ((4 * n.val + j.val) % 4), 512 * ((4 * n.val + j.val) / 4)] := by revert j; decide +kernel
theorem off28_ : ∀ n : Fin N4, k0_off20 n 0#32 = k0_off28 n := by decide +kernel
theorem off29_1 : ∀ n : Fin N4, k0_off20 n 1#32 = k0_off29 n 1#32 := by decide +kernel
theorem off29_2 : ∀ n : Fin N4, k0_off20 n 2#32 = k0_off29 n 2#32 := by decide +kernel
theorem off29_3 : ∀ n : Fin N4, k0_off20 n 3#32 = k0_off29 n 3#32 := by decide +kernel
theorem off30_ : ∀ n : Fin N4, k0_off30 n = k0_off32 n := by decide +kernel
theorem off32_ : ∀ n : Fin N4, k0_off32 n = ![0, 512 * n.val] := by decide +kernel
theorem off34_ : ∀ n : Fin N4, k0_off34 n = ![0, 0, 1792 * n.val] := by decide +kernel
theorem off36_ (j : Fin 4) : ∀ n : Fin N4, k0_cond4 n = 1#1 → k0_off19 n (BitVec.ofNat 32 j.val) = k0_off36 n (BitVec.ofNat 32 j.val) := by revert j; decide +kernel
theorem off37_ (j : Fin 4) : ∀ n : Fin N4, k0_cond4 n = 1#1 → k0_off20 n (BitVec.ofNat 32 j.val) = k0_off37 n (BitVec.ofNat 32 j.val) := by revert j; decide +kernel
theorem off38_ (j : Fin 4) : ∀ n : Fin N4, k0_cond4 n = 1#1 → k0_off38 n (BitVec.ofNat 32 j.val) = ![3584 * ((4 * n.val + 16 + j.val) % 4), 512 * ((4 * n.val + 16 + j.val) / 4)] := by revert j; decide +kernel
theorem cond3_iff : ∀ n : Fin N4, k0_cond3 n = 1#1 ↔ 2 ≤ n.val := by decide +kernel
theorem cond4_iff : ∀ n : Fin N4, k0_cond4 n = 1#1 ↔ n.val < 4 := by decide +kernel
theorem t4_lt (n : Fin N4) : n.val < 8 := lt_of_lt_of_eq n.isLt t4_trips
theorem tdslot_inb (j : Fin 4) : ∀ n : Fin N4, ∀ a, k0_off20 n (BitVec.ofNat 32 j.val) a + S1x4096x512.size a ≤ S16x4096x512.size a := by revert j; decide +kernel
theorem off33_ : ∀ n : Fin N4, k0_off33 n = ![n.val % 2] := by decide +kernel
theorem off35_ : ∀ n : Fin N4, k0_off35 n = ![n.val % 2, 0, 0, 0] := by decide +kernel
theorem off22_ : ∀ n : Fin N4, k0_cond3 n = 1#1 → k0_off22 n = ![(n.val - 2) % 2] := by decide +kernel
theorem off24_ : ∀ n : Fin N4, k0_cond3 n = 1#1 → k0_off24 n = ![(n.val - 2) % 2, 0, 0, 0] := by decide +kernel
theorem off23_ : ∀ n : Fin N4, k0_cond3 n = 1#1 → k0_off23 n = ![0, 0, 1792 * (n.val - 2)] := by decide +kernel
theorem off22_33 : ∀ n : Fin N4, k0_cond3 n = 1#1 → k0_off22 n = k0_off33 n := by decide +kernel
theorem off24_35 : ∀ n : Fin N4, k0_cond3 n = 1#1 → k0_off24 n = k0_off35 n := by decide +kernel
theorem off26_ : ∀ n : Fin N4, k0_off26 n = ![n.val % 2, 0, 0, 0] := by decide +kernel
theorem off27_ : ∀ n : Fin N4, k0_off27 n = ![n.val % 2, 1, 0, 0] := by decide +kernel
theorem par_inb (n : ℕ) : ∀ a, (![n % 2] : Fin 1 → ℕ) a + S1.size a ≤ S2.size a := by
  have : ∀ k : Fin 2, ∀ a, (![k.val] : Fin 1 → ℕ) a + S1.size a ≤ S2.size a := by decide +kernel
  exact this ⟨n % 2, Nat.mod_lt _ (by omega)⟩
theorem spar_inb (n : ℕ) : ∀ a, (![n % 2, 0, 0, 0] : Fin 4 → ℕ) a + S1x2x112x1792.size a ≤ S2x2x112x1792.size a := by
  have : ∀ k : Fin 2, ∀ a, (![k.val, 0, 0, 0] : Fin 4 → ℕ) a + S1x2x112x1792.size a ≤ S2x2x112x1792.size a := by decide +kernel
  exact this ⟨n % 2, Nat.mod_lt _ (by omega)⟩

section Values
variable (Xv : Vec F S224x14336 .fp8e4m3) (w7 : Vec F S14336x4096 .fp8e4m3) (x8 : Vec F S1x4096 .f32) (Tv : Vec F S224x4096 .f32) (Av : Vec F S224x128 .f32)

/-- The down weights' block `j` of pass `n`, as a slot holds it. -/
def dslab (n : Fin N4) (j : Fin 4) : Vec F S1x3584x512 .fp8e4m3 := fun i =>
  VecWindow.window w7 (k0_off21 n (BitVec.ofNat 32 j.val)) S3584x512.size (k0_off21_inb n j) ((Shape.reshapeEquiv squeezes_S1x3584x512_S3584x512.numel_eq).symm i)
/-- The sum of the first three partial products of pass `n`. -/
def dsum (n : Fin N4) : FVec F S224x512 .f32 :=
  k0_pay12 (VecWindow.window Xv ![0, 0] S224x3584.size inb_S224x14336_S224x3584_0_0) (dslab w7 n 0)
    (VecWindow.window Xv ![0, 3584] S224x3584.size inb_S224x14336_S224x3584_0_3584) (dslab w7 n 1)
    (VecWindow.window Xv ![0, 7168] S224x3584.size inb_S224x14336_S224x3584_0_7168) (dslab w7 n 2)
/-- The columns of the result pass `n` computes. -/
def dval (n : Fin N4) : FVec F S224x512 .f32 :=
  k0_pay13 (dsum Xv w7 n) (VecWindow.window Xv ![0, 10752] S224x3584.size inb_S224x14336_S224x3584_0_10752) (dslab w7 n 3)
    (VecWindow.window Tv (k0_off30 n) S224x512.size (k0_off30_inb n)) Av (VecWindow.window x8 (k0_off31 n) S1x512.size (k0_off31_inb n))
/-- An index of a 112-row block of codes. -/
def idx4 (r : Fin 112) (k : Fin 1792) : S1x1x112x1792.Idx := fun a => match a with
  | ⟨0, _⟩ => (⟨0, by decide⟩ : Fin 1) | ⟨1, _⟩ => (⟨0, by decide⟩ : Fin 1) | ⟨2, _⟩ => r | ⟨3, _⟩ => k
/-- The codes pass `n` sends out: the first 112 rows, then the others. -/
def c4val (n : Fin N4) : Vec F S2x112x1792 .fp8e4m3 := fun y =>
  if (y 0).val = 0 then k0_pay10 (VecWindow.window Xv (k0_off25 n) S224x1792.size (k0_off25_inb n)) (idx4 (y 1) (y 2))
  else k0_pay11 (VecWindow.window Xv (k0_off25 n) S224x1792.size (k0_off25_inb n)) (idx4 (y 1) (y 2))
end Values

section Slots
variable (c : Dev nD) (arg9 : Memref sig .tc .hbm S224x4096 .f32) (arg12 : Memref sig .tc .hbm S2x112x14336 .fp8e4m3)
  (arg19 : Memref sig .tc .vmem S2x2x112x1792 .fp8e4m3) (arg20 : Memref sig .tc .vmem S224x4096 .f32) (arg25 : DmaSems sig S2) (arg26 : DmaSems sig S2)

abbrev cell4 (oc : Fin 1 → ℕ) (hc : ∀ a, oc a + S1.size a ≤ S2.size a) : SemLoc sig :=
  .dma ((arg26.slice (Rect.unit (s := S2) oc S1.size hc)).squeeze S_ squeezes_S1_S_).sem
abbrev slot4 (os : Fin 4 → ℕ) (hs : ∀ a, os a + S1x2x112x1792.size a ≤ S2x2x112x1792.size a) : Memref sig .tc .vmem S2x112x1792 .fp8e4m3 :=
  (arg19.slice (Rect.unit (s := S2x2x112x1792) os S1x2x112x1792.size hs) (fun _ => rfl)).squeeze S2x112x1792 squeezes_S1x2x112x1792_S2x112x1792
abbrev win4 (ow : Fin 3 → ℕ) (hw : ∀ a, ow a + S2x112x1792.size a ≤ S2x112x14336.size a) : Memref sig .tc .hbm S2x112x1792 .fp8e4m3 :=
  arg12.slice (Rect.unit (s := S2x112x14336) ow S2x112x1792.size hw) (fun _ => rfl)
abbrev win20 (ow : Fin 2 → ℕ) (hw : ∀ a, ow a + S224x512.size a ≤ S224x4096.size a) : Memref sig .tc .vmem S224x512 .f32 :=
  arg20.slice (Rect.unit (s := S224x4096) ow S224x512.size hw) (fun _ => rfl)
abbrev win9 (ow : Fin 2 → ℕ) (hw : ∀ a, ow a + S224x512.size a ≤ S224x4096.size a) : Memref sig .tc .hbm S224x512 .f32 :=
  arg9.slice (Rect.unit (s := S224x4096) ow S224x512.size hw) (fun _ => rfl)
abbrev cell1 : SemLoc sig := .dma ((arg25.slice (Rect.unit (s := S2) ![1] S1.size inb_S2_S1_1)).squeeze S_ squeezes_S1_S_).sem

/-- A copy of codes out, in flight. -/
abbrev cfl (X : Vec F S2x112x1792 .fp8e4m3) (oc : Fin 1 → ℕ) (hc : ∀ a, oc a + S1.size a ≤ S2.size a) (os : Fin 4 → ℕ) (hs : ∀ a, os a + S1x2x112x1792.size a ≤ S2x2x112x1792.size a)
    (ow : Fin 3 → ℕ) (hw : ∀ a, ow a + S2x112x1792.size a ≤ S2x112x14336.size a) : sProp 𝕄 :=
  iprop(∃ f, Transfers.Flight (countersEmb (U := UC sig nD τ)) (c : Thread nD τ) (cell4 arg26 oc hc) () 14336
    iprop(((win4 arg12 ow hw).view.loc (c : Thread nD τ) ↦[(win4 arg12 ow hw).view.set]{fullShare}
        (win4 arg12 ow hw).view.writes (Elt F) f [⟨Rect.whole S2x112x1792, ReadAs.same.apply ((slot4 arg19 os hs).view.read (Elt F) ((slot4 arg19 os hs).view.rep X))⟩])
      ∗ ((slot4 arg19 os hs).view.loc (c : Thread nD τ) ↦[(slot4 arg19 os hs).view.set]{fullShare} (slot4 arg19 os hs).view.rep X)))
/-- A staging buffer of codes and its semaphore, at rest. -/
abbrev cidle (oc : Fin 1 → ℕ) (hc : ∀ a, oc a + S1.size a ≤ S2.size a) (os : Fin 4 → ℕ) (hs : ∀ a, os a + S1x2x112x1792.size a ≤ S2x2x112x1792.size a) : sProp 𝕄 :=
  iprop(semVal ((c : Thread nD τ), cell4 arg26 oc hc) 0
    ∗ ∃ f, (slot4 arg19 os hs).view.loc (c : Thread nD τ) ↦[(slot4 arg19 os hs).view.set]{fullShare} f)
theorem cfl_congr (X : Vec F S2x112x1792 .fp8e4m3) {oc oc' : Fin 1 → ℕ} {os os' : Fin 4 → ℕ} {ow ow' : Fin 3 → ℕ} (e1 : oc = oc') (e2 : os = os') (e3 : ow = ow')
    (hc) (hs) (hw) (hc') (hs') (hw') :
    cfl c arg12 arg19 arg26 X oc hc os hs ow hw = cfl c arg12 arg19 arg26 X oc' hc' os' hs' ow' hw' := by
  subst e1 e2 e3; rfl
theorem cidle_congr {oc oc' : Fin 1 → ℕ} {os os' : Fin 4 → ℕ} (e1 : oc = oc') (e2 : os = os') (hc) (hs) (hc') (hs') :
    cidle (F := F) c arg19 arg26 oc hc os hs = cidle c arg19 arg26 oc' hc' os' hs' := by
  subst e1 e2; rfl
theorem cell4_move {oc oc' : Fin 1 → ℕ} (e : oc = oc') (hc) (hc') :
    (semVal ((c : Thread nD τ), cell4 arg26 oc hc) 0 : sProp 𝕄) ⊢ semVal ((c : Thread nD τ), cell4 arg26 oc' hc') 0 := by
  subst e; exact Entails.refl _
theorem slot4_move {os os' : Fin 4 → ℕ} (e : os = os') (hs) (hs') (f : BufTy.Contents (Elt F) (slot4 arg19 os hs).view.ty) :
    ((slot4 arg19 os hs).view.loc (c : Thread nD τ) ↦[(slot4 arg19 os hs).view.set]{fullShare} f : sProp 𝕄)
      ⊢ iprop(∃ f, (slot4 arg19 os' hs').view.loc (c : Thread nD τ) ↦[(slot4 arg19 os' hs').view.set]{fullShare} f) := by
  subst e; iintro H; iexists f; iexact H

/-- What the copy of pass `n`'s columns delivers. -/
abbrev ddel (X : Fin N4 → Vec F S224x512 .f32) (n : Fin N4) : sProp 𝕄 :=
  iprop(∃ f, ((win9 arg9 (k0_off32 n) (k0_off32_inb n)).view.loc (c : Thread nD τ) ↦[(win9 arg9 (k0_off32 n) (k0_off32_inb n)).view.set]{fullShare}
        (win9 arg9 (k0_off32 n) (k0_off32_inb n)).view.writes (Elt F) f
          [⟨Rect.whole S224x512, ReadAs.same.apply ((win20 arg20 (k0_off32 n) (k0_off32_inb n)).view.read (Elt F) ((win20 arg20 (k0_off32 n) (k0_off32_inb n)).view.rep (X n)))⟩])
      ∗ ((win20 arg20 (k0_off32 n) (k0_off32_inb n)).view.loc (c : Thread nD τ) ↦[(win20 arg20 (k0_off32 n) (k0_off32_inb n)).view.set]{fullShare}
          (win20 arg20 (k0_off32 n) (k0_off32_inb n)).view.rep (X n)))
/-- The copies of the result's columns: the first `k` issued, `u` units waited for. -/
abbrev dbatch (X : Fin N4 → Vec F S224x512 .f32) (k u : ℕ) : sProp 𝕄 :=
  Transfers.Batch (countersEmb (U := UC sig nD τ)) (c : Thread nD τ) (cell1 arg25) () 14336 (ddel c arg9 arg20 X) k u
end Slots

end Cert.Proof.Kernel
-- ==== Proof.T4V.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Base4
public import Idealize.ShloMosaic.Lib.ValueLayout
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

open Idealize.ShloMosaic.ValueIdx
/-! ## What one pass of the down loop leaves in its buffers -/

variable (c : Dev nD) (arg7 : Memref sig .tc .hbm S14336x4096 .fp8e4m3) (arg8 : Memref sig .tc .vmem S1x4096 .f32) (arg14 : Memref sig .tc .vmem S16x4096x512 .fp8e4m3)
  (arg17 : Memref sig .tc .vmem S224x14336 .fp8e4m3) (arg19 : Memref sig .tc .vmem S2x2x112x1792 .fp8e4m3) (arg20 : Memref sig .tc .vmem S224x4096 .f32) (arg21 : Memref sig .tc .vmem S224x128 .f32)
  (W7 : BufTy.Contents (Elt F) arg7.view.ty) (X : BufTy.Contents (Elt F) arg17.view.ty) (A : BufTy.Contents (Elt F) arg21.view.ty) (X8 : BufTy.Contents (Elt F) arg8.view.ty)
  (T : BufTy.Contents (Elt F) arg20.view.ty)

/-- The two stores of a pass into its staging buffer. -/
theorem w4_read (p : ℕ) {o35 o26 o27 : Fin 4 → ℕ} (e35 : o35 = ![p, 0, 0, 0]) (e26 : o26 = ![p, 0, 0, 0]) (e27 : o27 = ![p, 1, 0, 0])
    (h35 : ∀ a, o35 a + S1x2x112x1792.size a ≤ S2x2x112x1792.size a) (h26 : ∀ a, o26 a + S1x1x112x1792.size a ≤ S2x2x112x1792.size a)
    (h27 : ∀ a, o27 a + S1x1x112x1792.size a ≤ S2x2x112x1792.size a)
    (g : BufTy.Contents (Elt F) arg19.view.ty) (w0 w1 : Vec F S1x1x112x1792 .fp8e4m3) :
    (slot4 arg19 o35 h35).view.read (Elt F) (arg19.view.writes (Elt F) g [⟨Rect.unit (s := S2x2x112x1792) o27 S1x1x112x1792.size h27, w1⟩, ⟨Rect.unit (s := S2x2x112x1792) o26 S1x1x112x1792.size h26, w0⟩])
      = fun y => if (y 0).val = 0 then w0 (idx4 (y 1) (y 2)) else w1 (idx4 (y 1) (y 2)) := by
  subst e35
  funext y
  have hy : y = ix3 (y 0) (y 1) (y 2) := by funext a; fin_cases a <;> rfl
  have hr : Shape.reshapeEquiv squeezes_S1x2x112x1792_S2x112x1792.numel_eq y = ix4 (⟨0, Nat.one_pos⟩ : Fin 1) (y 0) (y 1) (y 2) := by
    conv_lhs => rw [hy]
    exact reshapeEquiv_ix3_1abc _ _ _ _
  have h0 : (slot4 arg19 ![p, 0, 0, 0] h35).view.read (Elt F) (arg19.view.writes (Elt F) g [⟨Rect.unit (s := S2x2x112x1792) o27 S1x1x112x1792.size h27, w1⟩, ⟨Rect.unit (s := S2x2x112x1792) o26 S1x1x112x1792.size h26, w0⟩]) y
      = arg19.view.read (Elt F) (arg19.view.writes (Elt F) g [⟨Rect.unit (s := S2x2x112x1792) o27 S1x1x112x1792.size h27, w1⟩, ⟨Rect.unit (s := S2x2x112x1792) o26 S1x1x112x1792.size h26, w0⟩])
          ((Rect.unit (s := S2x2x112x1792) ![p, 0, 0, 0] S1x2x112x1792.size h35).emb (Shape.reshapeEquiv squeezes_S1x2x112x1792_S2x112x1792.numel_eq y)) := rfl
  obtain ⟨z, hz⟩ : ∃ z : S2x2x112x1792.Idx, z = (Rect.unit (s := S2x2x112x1792) ![p, 0, 0, 0] S1x2x112x1792.size h35).emb (Shape.reshapeEquiv squeezes_S1x2x112x1792_S2x112x1792.numel_eq y) := ⟨_, rfl⟩
  rw [h0, ← hz]
  rw [hr] at hz
  have z0 : (z 0).val = p := by rw [hz]; rfl
  have z1 : (z 1).val = (y 0).val := by rw [hz]; show 0 + 1 * (y 0).val = _; omega
  have z2 : (z 2).val = (y 1).val := by rw [hz]; show 0 + 1 * (y 1).val = _; omega
  have z3 : (z 3).val = (y 2).val := by rw [hz]; show 0 + 1 * (y 2).val = _; omega
  have hy0 : (y 0).val < 2 := (y 0).isLt
  by_cases h : (y 0).val = 0
  · rw [if_pos h]
    refine (View.read_writes_cons_unit_of_not_mem (s := S2x2x112x1792) arg19.view g h27 w1 _ z e27 1 (Or.inl ?_)).trans ?_
    · show (z 1).val < 1
      omega
    refine View.read_writes_cons_unit_of_mem (s := S2x2x112x1792) arg19.view g h26 w0 [] z (idx4 (y 1) (y 2)) e26 ?_
    intro a
    fin_cases a
    · exact z0
    · exact z1.trans h
    · exact z2.trans (Nat.zero_add _).symm
    · exact z3.trans (Nat.zero_add _).symm
  · rw [if_neg h]
    refine View.read_writes_cons_unit_of_mem (s := S2x2x112x1792) arg19.view g h27 w1 _ z (idx4 (y 1) (y 2)) e27 ?_
    intro a
    fin_cases a
    · exact z0
    · exact z1.trans (by show (y 0).val = 1 + 0; omega)
    · exact z2.trans (Nat.zero_add _).symm
    · exact z3.trans (Nat.zero_add _).symm

/-- What a staging buffer holds when a pass sends it out. -/
theorem c4_read (n : Fin N4) (g : BufTy.Contents (Elt F) arg19.view.ty) :
    (slot4 arg19 (k0_off35 n) (k0_off35_inb n)).view.read (Elt F) (arg19.view.writes (Elt F) g
      [⟨Rect.unit (s := S2x2x112x1792) (k0_off27 n) S1x1x112x1792.size (k0_off27_inb n), k0_pay11 (arg17.view.readAt (Elt F) (Rect.unit (s := S224x14336) (k0_off25 n) S224x1792.size (k0_off25_inb n)).toLoadRect X)⟩,
       ⟨Rect.unit (s := S2x2x112x1792) (k0_off26 n) S1x1x112x1792.size (k0_off26_inb n), k0_pay10 (arg17.view.readAt (Elt F) (Rect.unit (s := S224x14336) (k0_off25 n) S224x1792.size (k0_off25_inb n)).toLoadRect X)⟩])
      = c4val (arg17.view.read (Elt F) X) n := by
  rw [w4_read arg19 (n.val % 2) (off35_ n) (off26_ n) (off27_ n)]
  rfl

/-- A load of a slot's block of the down weights. -/
theorem dslab_readAt (n : Fin N4) (j : Fin 4) {od : Fin 3 → ℕ} (e : k0_off20 n (BitVec.ofNat 32 j.val) = od) (hd : ∀ a, od a + S1x3584x512.size a ≤ S16x4096x512.size a)
    (f : BufTy.Contents (Elt F) (dslotM arg14 (k0_off20 n (BitVec.ofNat 32 j.val)) (k0_off20_inb n j)).view.ty) :
    arg14.view.readAt (Elt F) (Rect.unit (s := S16x4096x512) od S1x3584x512.size hd).toLoadRect ((dslotM arg14 (k0_off20 n (BitVec.ofNat 32 j.val)) (k0_off20_inb n j)).view.writes (Elt F) f
        [⟨Rect.whole S3584x512, ReadAs.same.apply ((dwin arg7 (k0_off21 n (BitVec.ofNat 32 j.val)) (k0_off21_inb n j)).view.read (Elt F) W7)⟩])
      = dslab (arg7.view.read (Elt F) W7) n j := by
  rw [dslot_readAt arg14 e]
  rfl

/-- What the columns of the result hold when a pass sends them out. -/
theorem d_read (n : Fin N4) (f0 f1 f2 f3) :
    (win20 arg20 (k0_off30 n) (k0_off30_inb n)).view.read (Elt F) ((arg20.access (Rect.unit (s := S224x4096) (k0_off30 n) S224x512.size (k0_off30_inb n))).write (Elt F) T
      (k0_pay13
        (k0_pay12
          (arg17.view.readAt (Elt F) (Rect.unit (s := S224x14336) ![0, 0] S224x3584.size inb_S224x14336_S224x3584_0_0).toLoadRect X)
          (arg14.view.readAt (Elt F) (Rect.unit (s := S16x4096x512) (k0_off28 n) S1x3584x512.size (k0_off28_inb n)).toLoadRect ((dslotM arg14 (k0_off20 n 0#32) (k0_off20_inb n 0)).view.writes (Elt F) f0
            [⟨Rect.whole S3584x512, ReadAs.same.apply ((dwin arg7 (k0_off21 n 0#32) (k0_off21_inb n 0)).view.read (Elt F) W7)⟩]))
          (arg17.view.readAt (Elt F) (Rect.unit (s := S224x14336) ![0, 3584] S224x3584.size inb_S224x14336_S224x3584_0_3584).toLoadRect X)
          (arg14.view.readAt (Elt F) (Rect.unit (s := S16x4096x512) (k0_off29 n 1#32) S1x3584x512.size (k0_off29_inb n 0)).toLoadRect ((dslotM arg14 (k0_off20 n 1#32) (k0_off20_inb n 1)).view.writes (Elt F) f1
            [⟨Rect.whole S3584x512, ReadAs.same.apply ((dwin arg7 (k0_off21 n 1#32) (k0_off21_inb n 1)).view.read (Elt F) W7)⟩]))
          (arg17.view.readAt (Elt F) (Rect.unit (s := S224x14336) ![0, 7168] S224x3584.size inb_S224x14336_S224x3584_0_7168).toLoadRect X)
          (arg14.view.readAt (Elt F) (Rect.unit (s := S16x4096x512) (k0_off29 n 2#32) S1x3584x512.size (k0_off29_inb n 1)).toLoadRect ((dslotM arg14 (k0_off20 n 2#32) (k0_off20_inb n 2)).view.writes (Elt F) f2
            [⟨Rect.whole S3584x512, ReadAs.same.apply ((dwin arg7 (k0_off21 n 2#32) (k0_off21_inb n 2)).view.read (Elt F) W7)⟩])))
        (arg17.view.readAt (Elt F) (Rect.unit (s := S224x14336) ![0, 10752] S224x3584.size inb_S224x14336_S224x3584_0_10752).toLoadRect X)
        (arg14.view.readAt (Elt F) (Rect.unit (s := S16x4096x512) (k0_off29 n 3#32) S1x3584x512.size (k0_off29_inb n 2)).toLoadRect ((dslotM arg14 (k0_off20 n 3#32) (k0_off20_inb n 3)).view.writes (Elt F) f3
            [⟨Rect.whole S3584x512, ReadAs.same.apply ((dwin arg7 (k0_off21 n 3#32) (k0_off21_inb n 3)).view.read (Elt F) W7)⟩]))
        (arg20.view.readAt (Elt F) (Rect.unit (s := S224x4096) (k0_off30 n) S224x512.size (k0_off30_inb n)).toLoadRect T)
        (arg21.view.readAt (Elt F) (Rect.unit (s := S224x128) ![0, 0] S224x128.size inb_S224x128_S224x128_0_0).toLoadRect A)
        (arg8.view.readAt (Elt F) (Rect.unit (s := S1x4096) (k0_off31 n) S1x512.size (k0_off31_inb n)).toLoadRect X8)) Finset.univ)
      = dval (arg17.view.read (Elt F) X) (arg7.view.read (Elt F) W7) (arg8.view.read (Elt F) X8) (arg20.view.read (Elt F) T) (arg21.view.read (Elt F) A) n := by
  refine (Memref.read_slice_write arg20 _ rfl _ _ _).trans ?_
  have e0 := dslab_readAt arg7 arg14 W7 n 0 (off28_ n) (k0_off28_inb n) f0
  have e1 := dslab_readAt arg7 arg14 W7 n 1 (off29_1 n) (k0_off29_inb n 0) f1
  have e2 := dslab_readAt arg7 arg14 W7 n 2 (off29_2 n) (k0_off29_inb n 1) f2
  have e3 := dslab_readAt arg7 arg14 W7 n 3 (off29_3 n) (k0_off29_inb n 2) f3
  have e4 := View.readAt_full arg21.view A inb_S224x128_S224x128_0_0
  unfold dval dsum
  exact congr (congr (congrFun (congr (congr (congrArg k0_pay13 (congr (congrFun (congr (congrFun (congrArg _ e0) _) e1) _) e2)) rfl) e3) _) e4) rfl

/-- The result's columns, named by what they hold and respelt. -/
theorem w20_out [∀ e, Nonempty (Elt F e)] (n : Fin N4) (g : BufTy.Contents (Elt F) arg20.view.ty) :
    ((win20 arg20 (k0_off30 n) (k0_off30_inb n)).view.loc (c : Thread nD τ) ↦[(win20 arg20 (k0_off30 n) (k0_off30_inb n)).view.set]{fullShare} g : sProp 𝕄)
      ⊢ iprop(∃ x, ⌜x = (win20 arg20 (k0_off30 n) (k0_off30_inb n)).view.read (Elt F) g⌝
        ∗ ((win20 arg20 (k0_off32 n) (k0_off32_inb n)).view.loc (c : Thread nD τ) ↦[(win20 arg20 (k0_off32 n) (k0_off32_inb n)).view.set]{fullShare} (win20 arg20 (k0_off32 n) (k0_off32_inb n)).view.rep x)) := by
  have key : ∀ (o o' : Fin 2 → ℕ) (e : o = o') (h) (h'), ((win20 arg20 o h).view.loc (c : Thread nD τ) ↦[(win20 arg20 o h).view.set]{fullShare} g : sProp 𝕄)
      ⊢ iprop(∃ x, ⌜x = (win20 arg20 o h).view.read (Elt F) g⌝
        ∗ ((win20 arg20 o' h').view.loc (c : Thread nD τ) ↦[(win20 arg20 o' h').view.set]{fullShare} (win20 arg20 o' h').view.rep x)) := by
    intro o o' e h h'
    subst e
    iintro H
    iexists _
    isplitr [H]
    · ipureintro; rfl
    · iapply (pointsTo_rep_of_read (c : Thread nD τ) (win20 arg20 o h) g fullShare _ rfl) $$ H
  exact key _ _ (off30_ n) _ _
/-- A staging buffer, named by what it holds. -/
theorem slot4_out [∀ e, Nonempty (Elt F e)] (n : Fin N4) (g : BufTy.Contents (Elt F) arg19.view.ty) :
    ((slot4 arg19 (k0_off35 n) (k0_off35_inb n)).view.loc (c : Thread nD τ) ↦[(slot4 arg19 (k0_off35 n) (k0_off35_inb n)).view.set]{fullShare} g : sProp 𝕄)
      ⊢ iprop(∃ x, ⌜x = (slot4 arg19 (k0_off35 n) (k0_off35_inb n)).view.read (Elt F) g⌝
        ∗ ((slot4 arg19 (k0_off35 n) (k0_off35_inb n)).view.loc (c : Thread nD τ) ↦[(slot4 arg19 (k0_off35 n) (k0_off35_inb n)).view.set]{fullShare} (slot4 arg19 (k0_off35 n) (k0_off35_inb n)).view.rep x)) := by
  iintro H
  iexists _
  isplitr [H]
  · ipureintro; rfl
  · iapply (pointsTo_rep_of_read (c : Thread nD τ) (slot4 arg19 (k0_off35 n) (k0_off35_inb n)) g fullShare _ rfl) $$ H

end Cert.Proof.Kernel
-- ==== Proof.T4.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.T4V
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The down loop: one pass -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W7 : BufTy.Contents (Elt F) arg7.view.ty) (X : BufTy.Contents (Elt F) arg17.view.ty) (A : BufTy.Contents (Elt F) arg21.view.ty) (X8 : BufTy.Contents (Elt F) arg8.view.ty)
  (T : BufTy.Contents (Elt F) arg20.view.ty)

/-- What the down loop reads besides the ring. -/
abbrev t4Env : sProp 𝕄 :=
  iprop((arg17.view.loc (c : Thread nD τ) ↦[arg17.view.set]{fullShare} X)
    ∗ (arg21.view.loc (c : Thread nD τ) ↦[arg21.view.set]{fullShare} A)
    ∗ (arg8.view.loc (c : Thread nD τ) ↦[arg8.view.set]{fullShare} X8))

/-- A slot after pass `n`, when copies go on and when they do not. -/
def t4Slot (k : Fin 16) (n : Fin N4) (j : Fin 4) : sProp 𝕄 :=
  if h : k0_cond4 n = 1#1 then
    dfl c arg14 arg23 arg7 W7 k (k0_off36 n (BitVec.ofNat 32 j.val)) (k0_off36_inb n h j) (k0_off37 n (BitVec.ofNat 32 j.val)) (off37_ j n h ▸ tdslot_inb j n) (k0_off37_inb n h j)
      (k0_off38 n (BitVec.ofNat 32 j.val)) (k0_off38_inb n h j)
  else iprop(semVal ((c : Thread nD τ), cellM arg23 (k0_off19 n (BitVec.ofNat 32 j.val)) (k0_off19_inb n j)) 0
    ∗ slotP (F := F) c arg14 (k0_off20 n (BitVec.ofNat 32 j.val)) (tdslot_inb j n) ∗ tok c arg7 W7 k)

/-- The staging buffer of pass `n` before it. -/
abbrev t4Pre (Y : Vec F S2x112x1792 .fp8e4m3) (n : Fin N4) : sProp 𝕄 :=
  if h : k0_cond3 n = 1#1 then cfl c arg12 arg19 arg26 Y (k0_off22 n) (k0_off22_inb n h) (k0_off24 n) (k0_off24_inb n h) (k0_off23 n) (k0_off23_inb n h)
  else cidle (F := F) c arg19 arg26 (k0_off33 n) (k0_off33_inb n) (k0_off35 n) (k0_off35_inb n)
/-- The codes that pass `n` saw arrive. -/
def t4Got (Y : Vec F S2x112x1792 .fp8e4m3) (n : Fin N4) : sProp 𝕄 :=
  if h : k0_cond3 n = 1#1 then iprop(∃ f, ((win4 arg12 (k0_off23 n) (k0_off23_inb n h)).view.loc (c : Thread nD τ) ↦[(win4 arg12 (k0_off23 n) (k0_off23_inb n h)).view.set]{fullShare} f)
    ∗ ⌜(win4 arg12 (k0_off23 n) (k0_off23_inb n h)).view.read (Elt F) f = Y⌝)
  else iprop(emp)

theorem pre_pos (Y : Vec F S2x112x1792 .fp8e4m3) (n : Fin N4) (h : k0_cond3 n = 1#1) :
    t4Pre c arg12 arg19 arg26 Y n ⊢ cfl c arg12 arg19 arg26 Y (k0_off22 n) (k0_off22_inb n h) (k0_off24 n) (k0_off24_inb n h) (k0_off23 n) (k0_off23_inb n h) := by
  rw [t4Pre, dif_pos h]
theorem pre_neg (Y : Vec F S2x112x1792 .fp8e4m3) (n : Fin N4) (h : ¬ k0_cond3 n = 1#1) :
    t4Pre c arg12 arg19 arg26 Y n ⊢ cidle (F := F) c arg19 arg26 (k0_off33 n) (k0_off33_inb n) (k0_off35 n) (k0_off35_inb n) := by
  rw [t4Pre, dif_neg h]

theorem got_pos [∀ e, Nonempty (Elt F e)] (Y : Vec F S2x112x1792 .fp8e4m3) (n : Fin N4) (h : k0_cond3 n = 1#1) (g : BufTy.Contents (Elt F) (win4 arg12 (k0_off23 n) (k0_off23_inb n h)).view.ty) (v : Vec F S2x112x1792 .fp8e4m3) (hv : v = Y) :
    iprop((win4 arg12 (k0_off23 n) (k0_off23_inb n h)).view.loc (c : Thread nD τ) ↦[(win4 arg12 (k0_off23 n) (k0_off23_inb n h)).view.set]{fullShare}
        (win4 arg12 (k0_off23 n) (k0_off23_inb n h)).view.writes (Elt F) g [⟨Rect.whole S2x112x1792, v⟩]) ⊢ t4Got c arg12 Y n := by
  rw [t4Got, dif_pos h]
  iintro H
  iexists _
  isplitl [H]
  · iexact H
  ipureintro
  rw [View.read_writes_whole, hv]
theorem got_neg (Y : Vec F S2x112x1792 .fp8e4m3) (n : Fin N4) (h : ¬ k0_cond3 n = 1#1) :
    ⊢ t4Got (F := F) c arg12 Y n := by
  rw [t4Got, dif_neg h]
  exact Entails.refl _

theorem tslot_pos (k : Fin 16) (n : Fin N4) (j : Fin 4) (o : BitVec 32) (ho : BitVec.ofNat 32 j.val = o) (h : k0_cond4 n = 1#1)
    (hc : ∀ a, k0_off36 n o a + S1.size a ≤ S16.size a) (hd : ∀ a, k0_off37 n o a + S1x3584x512.size a ≤ S16x4096x512.size a) (hw : ∀ a, k0_off38 n o a + S3584x512.size a ≤ S14336x4096.size a)
    (hs : ∀ a, k0_off20 n o a + S1x4096x512.size a ≤ S16x4096x512.size a) (hd' : ∀ a, k0_off20 n o a + S1x3584x512.size a ≤ S16x4096x512.size a) (f) :
    iprop(Transfers.Flight (countersEmb (U := UC sig nD τ)) (c : Thread nD τ) (cellM arg23 (k0_off36 n o) hc) () 57344
      iprop(((dslotM arg14 (k0_off37 n o) hd).view.loc (c : Thread nD τ) ↦[(dslotM arg14 (k0_off37 n o) hd).view.set]{fullShare}
          (dslotM arg14 (k0_off37 n o) hd).view.writes (Elt F) f [⟨Rect.whole S3584x512, ReadAs.same.apply ((dwin arg7 (k0_off38 n o) hw).view.read (Elt F) W7)⟩])
        ∗ (arg7.view.loc (c : Thread nD τ) ↦[(dwin arg7 (k0_off38 n o) hw).view.set]{Transfers.shareTok fullShare 16 k} W7))
      ∗ (arg7.view.loc (c : Thread nD τ) ↦[arg7.view.set \ (dwin arg7 (k0_off38 n o) hw).view.set]{Transfers.shareTok fullShare 16 k} W7)
      ∗ tailP (F := F) c arg14 (k0_off20 n o) hs hd') ⊢ t4Slot c arg7 arg14 arg23 W7 k n j := by
  subst ho
  rw [t4Slot, dif_pos h, tailP_congr c arg14 (off37_ j n h) (tdslot_inb j n) (k0_off20_inb n j) (off37_ j n h ▸ tdslot_inb j n) (k0_off37_inb n h j)]
  iintro ⟨H, Hr, Ht⟩
  isplitl [H]; · iexists f; iexact H
  isplitl [Hr]; · iexact Hr
  iexact Ht
theorem tslot_neg (k : Fin 16) (n : Fin N4) (j : Fin 4) (o : BitVec 32) (ho : BitVec.ofNat 32 j.val = o) (h : ¬ k0_cond4 n = 1#1)
    (hc : ∀ a, k0_off19 n o a + S1.size a ≤ S16.size a)
    (hs : ∀ a, k0_off20 n o a + S1x4096x512.size a ≤ S16x4096x512.size a) (hd' : ∀ a, k0_off20 n o a + S1x3584x512.size a ≤ S16x4096x512.size a) (f) :
    iprop(semVal ((c : Thread nD τ), cellM arg23 (k0_off19 n o) hc) 0
      ∗ ((dslotM arg14 (k0_off20 n o) hd').view.loc (c : Thread nD τ) ↦[(dslotM arg14 (k0_off20 n o) hd').view.set]{fullShare} f)
      ∗ tok c arg7 W7 k
      ∗ tailP (F := F) c arg14 (k0_off20 n o) hs hd') ⊢ t4Slot c arg7 arg14 arg23 W7 k n j := by
  subst ho
  rw [t4Slot, dif_neg h]
  iintro ⟨H, Hd, Hr, Ht⟩
  isplitl [H]; · iexact H
  isplitr [Hr]
  · iapply (slot_join c arg14 (k0_off20 n (BitVec.ofNat 32 j.val)) (tdslot_inb j n) (k0_off20_inb n j))
    isplitl [Hd]
    · iexists f; iexact Hd
    · iexact Ht
  iexact Hr

set_option maxHeartbeats 8000000 in
/-- One pass of the down loop. -/
theorem t4_core [∀ e, Nonempty (Elt F e)] (Dv : Fin N4 → Vec F S224x512 .f32) (Y : Vec F S2x112x1792 .fp8e4m3) (W : Waits sig Unit) (n : Fin N4) (v245 : Vec F S112x128 .f32) (k0 k1 k2 k3 : Fin 16)
    (hD : Dv n = dval (arg17.view.read (Elt F) X) (arg7.view.read (Elt F) W7) (arg8.view.read (Elt F) X8) (arg20.view.read (Elt F) T) (arg21.view.read (Elt F) A) n) :
  iprop(dfl c arg14 arg23 arg7 W7 k0 (k0_off19 n 0#32) (k0_off19_inb n 0) (k0_off20 n 0#32) (tdslot_inb 0 n) (k0_off20_inb n 0) (k0_off21 n 0#32) (k0_off21_inb n 0) ∗ dfl c arg14 arg23 arg7 W7 k1 (k0_off19 n 1#32) (k0_off19_inb n 1) (k0_off20 n 1#32) (tdslot_inb 1 n) (k0_off20_inb n 1) (k0_off21 n 1#32) (k0_off21_inb n 1) ∗ dfl c arg14 arg23 arg7 W7 k2 (k0_off19 n 2#32) (k0_off19_inb n 2) (k0_off20 n 2#32) (tdslot_inb 2 n) (k0_off20_inb n 2) (k0_off21 n 2#32) (k0_off21_inb n 2) ∗ dfl c arg14 arg23 arg7 W7 k3 (k0_off19 n 3#32) (k0_off19_inb n 3) (k0_off20 n 3#32) (tdslot_inb 3 n) (k0_off20_inb n 3) (k0_off21 n 3#32) (k0_off21_inb n 3)
    ∗ t4Pre c arg12 arg19 arg26 Y n
    ∗ (∃ f, (win4 arg12 (k0_off34 n) (k0_off34_inb n)).view.loc (c : Thread nD τ) ↦[(win4 arg12 (k0_off34 n) (k0_off34_inb n)).view.set]{fullShare} f)
    ∗ ((win20 arg20 (k0_off30 n) (k0_off30_inb n)).view.loc (c : Thread nD τ) ↦[(win20 arg20 (k0_off30 n) (k0_off30_inb n)).view.set]{fullShare} T)
    ∗ (∃ f, (win9 arg9 (k0_off32 n) (k0_off32_inb n)).view.loc (c : Thread nD τ) ↦[(win9 arg9 (k0_off32 n) (k0_off32_inb n)).view.set]{fullShare} f)
    ∗ dbatch c arg9 arg20 arg25 Dv n.val 0
    ∗ t4Env c arg8 arg17 arg21 X A X8
    ∗ owes (c : Thread nD τ) 0 W)
   ⊢ wp frame (wpE (defs₀ (F := F)) Variants.none (c : Thread nD τ) none) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245 n ())
    (fun _ => iprop(t4Slot c arg7 arg14 arg23 W7 k0 n 0 ∗ t4Slot c arg7 arg14 arg23 W7 k1 n 1 ∗ t4Slot c arg7 arg14 arg23 W7 k2 n 2 ∗ t4Slot c arg7 arg14 arg23 W7 k3 n 3
      ∗ cfl c arg12 arg19 arg26 (c4val (arg17.view.read (Elt F) X) n) (k0_off33 n) (k0_off33_inb n) (k0_off35 n) (k0_off35_inb n) (k0_off34 n) (k0_off34_inb n)
      ∗ t4Got c arg12 Y n
      ∗ dbatch c arg9 arg20 arg25 Dv (n.val + 1) 0
      ∗ t4Env c arg8 arg17 arg21 X A X8
      ∗ ∃ W, owes (c : Thread nD τ) 0 W)) := by
  iintro ⟨⟨⟨%g0, Hf0⟩, Hr0, Ht0⟩, ⟨⟨%g1, Hf1⟩, Hr1, Ht1⟩, ⟨⟨%g2, Hf2⟩, Hr2, Ht2⟩, ⟨⟨%g3, Hf3⟩, Hr3, Ht3⟩, HP, ⟨%g12, H12⟩, H20, ⟨%g9, H9⟩, HB, ⟨HX, HA, H8⟩, HO⟩
  delta dwin dslotM cellM
  unfold k0_t4_body
  by_cases h3 : k0_cond3 n = 1#1
  on_goal 1 =>
    ihave HP := pre_pos _ _ _ _ _ n h3 $$ HP
    icases HP with ⟨%g4, HP⟩
    sl_exec
    ihave HG := got_pos _ _ _ n h3 _ _ (View.read_rep _ _) $$ HP_dst
    ihave HC := cell4_move c arg26 (off22_33 n h3) _ (k0_off33_inb n) $$ HP
    ihave H19 := slot4_move c arg19 (off24_35 n h3) _ (k0_off35_inb n) _ $$ HP_src
    icases H19 with ⟨%g19, H19⟩
    sl_exec
  on_goal 2 =>
    ihave HC := pre_neg _ _ _ _ _ n h3 $$ HP
    icases HC with ⟨HC, %g19, H19⟩
    sl_exec
    ihave HG := got_neg c arg12 Y n h3
  all_goals
    ihave H20 := w20_out c arg20 n _ $$ H20
    icases H20 with ⟨%x20, %hx20, H20⟩
    ihave H19 := slot4_out c arg19 n _ $$ H19
    icases H19 with ⟨%x19, %hx19, H19⟩
    have e20 : x20 = Dv n := (hx20.trans (d_read arg7 arg8 arg14 arg17 arg20 arg21 W7 X A X8 T n _ _ _ _)).trans hD.symm
    have e19 : x19 = c4val (arg17.view.read (Elt F) X) n := hx19.trans (c4_read arg17 arg19 X n _)
    clear hx20 hx19
    subst e20 e19
    by_cases h4 : k0_cond4 n = 1#1
    · sl_exec
      ihave Hd0 := dslot_move c arg14 (os := k0_off20 n 0#32) (os' := k0_off37 n 0#32) (off37_ 0 n h4) (k0_off20_inb n 0) (k0_off37_inb n h4 0) _ $$ Hf0_dst
      ihave Hf0 := cell_move c arg23 (oc := k0_off19 n 0#32) (oc' := k0_off36 n 0#32) (off36_ 0 n h4) (k0_off19_inb n 0) (k0_off36_inb n h4 0) $$ Hf0
      icases Hd0 with ⟨%d0, Hd0⟩
      ihave Hd1 := dslot_move c arg14 (os := k0_off20 n 1#32) (os' := k0_off37 n 1#32) (off37_ 1 n h4) (k0_off20_inb n 1) (k0_off37_inb n h4 1) _ $$ Hf1_dst
      ihave Hf1 := cell_move c arg23 (oc := k0_off19 n 1#32) (oc' := k0_off36 n 1#32) (off36_ 1 n h4) (k0_off19_inb n 1) (k0_off36_inb n h4 1) $$ Hf1
      icases Hd1 with ⟨%d1, Hd1⟩
      ihave Hd2 := dslot_move c arg14 (os := k0_off20 n 2#32) (os' := k0_off37 n 2#32) (off37_ 2 n h4) (k0_off20_inb n 2) (k0_off37_inb n h4 2) _ $$ Hf2_dst
      ihave Hf2 := cell_move c arg23 (oc := k0_off19 n 2#32) (oc' := k0_off36 n 2#32) (off36_ 2 n h4) (k0_off19_inb n 2) (k0_off36_inb n h4 2) $$ Hf2
      icases Hd2 with ⟨%d2, Hd2⟩
      ihave Hd3 := dslot_move c arg14 (os := k0_off20 n 3#32) (os' := k0_off37 n 3#32) (off37_ 3 n h4) (k0_off20_inb n 3) (k0_off37_inb n h4 3) _ $$ Hf3_dst
      ihave Hf3 := cell_move c arg23 (oc := k0_off19 n 3#32) (oc' := k0_off36 n 3#32) (off36_ 3 n h4) (k0_off19_inb n 3) (k0_off36_inb n h4 3) $$ Hf3
      icases Hd3 with ⟨%d3, Hd3⟩
      delta dslotM slotM cellM
      ihave Hd1 := held_in _ $$ Hd1
      ihave Hr1 := held_in _ $$ Hr1
      ihave Hd2 := held_in _ $$ Hd2
      ihave Hr2 := held_in _ $$ Hr2
      ihave Hd3 := held_in _ $$ Hd3
      ihave Hr3 := held_in _ $$ Hr3
      sl_exec
      ihave Hr0 := held_in _ $$ Hr0
      ihave Hd1 := held_out _ $$ Hd1
      ihave Hr1 := held_out _ $$ Hr1
      sl_exec
      ihave Hr1 := held_in _ $$ Hr1
      ihave Hd2 := held_out _ $$ Hd2
      ihave Hr2 := held_out _ $$ Hr2
      sl_exec
      ihave Hr2 := held_in _ $$ Hr2
      ihave Hd3 := held_out _ $$ Hd3
      ihave Hr3 := held_out _ $$ Hr3
      sl_exec
      ihave Hr0 := held_out _ $$ Hr0
      ihave Hr1 := held_out _ $$ Hr1
      ihave Hr2 := held_out _ $$ Hr2
      sl_step
      isplitl [Hf0 Hr0 Ht0]
      · iapply (tslot_pos c arg7 arg14 arg23 W7 k0 n 0 0#32 rfl h4 (k0_off36_inb n h4 0) (k0_off37_inb n h4 0) (k0_off38_inb n h4 0) (tdslot_inb 0 n) (k0_off20_inb n 0) d0)
        isplitl [Hf0]; · iexact Hf0
        isplitl [Hr0]; · iexact Hr0
        iexact Ht0
      isplitl [Hf1 Hr1 Ht1]
      · iapply (tslot_pos c arg7 arg14 arg23 W7 k1 n 1 1#32 rfl h4 (k0_off36_inb n h4 1) (k0_off37_inb n h4 1) (k0_off38_inb n h4 1) (tdslot_inb 1 n) (k0_off20_inb n 1) d1)
        isplitl [Hf1]; · iexact Hf1
        isplitl [Hr1]; · iexact Hr1
        iexact Ht1
      isplitl [Hf2 Hr2 Ht2]
      · iapply (tslot_pos c arg7 arg14 arg23 W7 k2 n 2 2#32 rfl h4 (k0_off36_inb n h4 2) (k0_off37_inb n h4 2) (k0_off38_inb n h4 2) (tdslot_inb 2 n) (k0_off20_inb n 2) d2)
        isplitl [Hf2]; · iexact Hf2
        isplitl [Hr2]; · iexact Hr2
        iexact Ht2
      isplitl [Hf3 Hr3 Ht3]
      · iapply (tslot_pos c arg7 arg14 arg23 W7 k3 n 3 3#32 rfl h4 (k0_off36_inb n h4 3) (k0_off37_inb n h4 3) (k0_off38_inb n h4 3) (tdslot_inb 3 n) (k0_off20_inb n 3) d3)
        isplitl [Hf3]; · iexact Hf3
        isplitl [Hr3]; · iexact Hr3
        iexact Ht3
      isplitl [HC]; · iexists g12; iexact HC
      isplitl [HG]; · iexact HG
      isplitl [HB]; · iexact HB
      isplitr [HO]
      · isplitl [HX]; · iexact HX
        isplitl [HA]; · iexact HA
        iexact H8
      · iexists _; iexact HO
    · sl_exec
      sl_step
      isplitl [Hf0 Hf0_dst Hr0 Ht0]
      · iapply (tslot_neg c arg7 arg14 arg23 W7 k0 n 0 0#32 rfl h4 (k0_off19_inb n 0) (tdslot_inb 0 n) (k0_off20_inb n 0) _)
        isplitl [Hf0]; · iexact Hf0
        isplitl [Hf0_dst]; · iexact Hf0_dst
        isplitl [Hr0]; · iexact Hr0
        iexact Ht0
      isplitl [Hf1 Hf1_dst Hr1 Ht1]
      · iapply (tslot_neg c arg7 arg14 arg23 W7 k1 n 1 1#32 rfl h4 (k0_off19_inb n 1) (tdslot_inb 1 n) (k0_off20_inb n 1) _)
        isplitl [Hf1]; · iexact Hf1
        isplitl [Hf1_dst]; · iexact Hf1_dst
        isplitl [Hr1]; · iexact Hr1
        iexact Ht1
      isplitl [Hf2 Hf2_dst Hr2 Ht2]
      · iapply (tslot_neg c arg7 arg14 arg23 W7 k2 n 2 2#32 rfl h4 (k0_off19_inb n 2) (tdslot_inb 2 n) (k0_off20_inb n 2) _)
        isplitl [Hf2]; · iexact Hf2
        isplitl [Hf2_dst]; · iexact Hf2_dst
        isplitl [Hr2]; · iexact Hr2
        iexact Ht2
      isplitl [Hf3 Hf3_dst Hr3 Ht3]
      · iapply (tslot_neg c arg7 arg14 arg23 W7 k3 n 3 3#32 rfl h4 (k0_off19_inb n 3) (tdslot_inb 3 n) (k0_off20_inb n 3) _)
        isplitl [Hf3]; · iexact Hf3
        isplitl [Hf3_dst]; · iexact Hf3_dst
        isplitl [Hr3]; · iexact Hr3
        iexact Ht3
      isplitl [HC]; · iexists g12; iexact HC
      isplitl [HG]; · iexact HG
      isplitl [HB]; · iexact HB
      isplitr [HO]
      · isplitl [HX]; · iexact HX
        isplitl [HA]; · iexact HA
        iexact H8
      · iexists _; iexact HO

end Cert.Proof.Kernel
-- ==== Proof.T4Loop.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.T2Loop
public import proofs.«01_k».proof.Proof.T4
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The down loop -/

theorem quad_eq {I : Type} (i j k l : I) (Φ : I → sProp 𝕄) : bigSepL [i, j, k, l] Φ = iprop(Φ i ∗ Φ j ∗ Φ k ∗ Φ l) := rfl

theorem ent_of_eq {P Q : sProp 𝕄} (h : P = Q) : P ⊢ Q := h ▸ Entails.refl _

theorem t4_slots (n : ℕ) : [slotOf (77 + 4 * n + (0 : Fin 4).val), slotOf (77 + 4 * n + (1 : Fin 4).val), slotOf (77 + 4 * n + (2 : Fin 4).val), slotOf (77 + 4 * n + (3 : Fin 4).val)].Nodup := by
  have key : ∀ i j : Fin 4, i ≠ j → slotOf (77 + 4 * n + i.val) ≠ slotOf (77 + 4 * n + j.val) := fun i j hij h => by
    have := congrArg Fin.val h; simp only [slotOf] at this
    exact hij (Fin.ext (by omega))
  simp only [List.nodup_cons, List.mem_cons, List.not_mem_nil, or_false, not_or, List.nodup_nil, and_true, not_false_eq_true]
  exact ⟨⟨key 0 1 (by decide), key 0 2 (by decide), key 0 3 (by decide)⟩, ⟨key 1 2 (by decide), key 1 3 (by decide)⟩, key 2 3 (by decide)⟩
theorem t4_away (n : ℕ) (k : Fin 16) (hk : k ∉ [slotOf (77 + 4 * n + (0 : Fin 4).val), slotOf (77 + 4 * n + (1 : Fin 4).val), slotOf (77 + 4 * n + (2 : Fin 4).val), slotOf (77 + 4 * n + (3 : Fin 4).val)]) :
    tab (77 + 4 * (n + 1)) k = tab (77 + 4 * n) k := by
  simp only [List.mem_cons, List.not_mem_nil, or_false, not_or] at hk
  refine tab_off (77 + 4 * n) 4 (by omega) k fun j hj => ?_
  obtain rfl | rfl | rfl | rfl : j = 0 ∨ j = 1 ∨ j = 2 ∨ j = 3 := by omega
  · exact hk.1
  · exact hk.2.1
  · exact hk.2.2.1
  · exact hk.2.2.2

theorem t4_d (n : Fin N4) (j : Fin 4) : 4 * n.val + j.val < 32 := by have := t4_lt n; have := j.isLt; omega
theorem tab_t4 (n : Fin N4) (j : Fin 4) : tab (77 + 4 * n.val) (slotOf (77 + 4 * n.val + j.val)) = .down ⟨4 * n.val + j.val, t4_d n j⟩ :=
  (tab_here (77 + 4 * n.val) j.val (by have := j.isLt; omega)).trans (chunk_down' _ ⟨4 * n.val + j.val, t4_d n j⟩ (by show _ = 77 + (4 * n.val + j.val); omega))
theorem tab_t4' (n : Fin N4) (j : Fin 4) (h : n.val < 4) : tab (77 + 4 * (n.val + 1)) (slotOf (77 + 4 * n.val + j.val)) = .down ⟨4 * n.val + 16 + j.val, by have := j.isLt; omega⟩ :=
  (tab_next (77 + 4 * n.val) j.val 4 j.isLt (by omega)).trans (chunk_down' _ ⟨4 * n.val + 16 + j.val, by have := j.isLt; omega⟩ (by show _ = 77 + (4 * n.val + 16 + j.val); omega))
theorem tab_t4f (n : Fin N4) (j : Fin 4) (h : ¬ n.val < 4) : tab (77 + 4 * (n.val + 1)) (slotOf (77 + 4 * n.val + j.val)) = .free :=
  (tab_next (77 + 4 * n.val) j.val 4 j.isLt (by omega)).trans (chunk_free _ (by omega))

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (X : BufTy.Contents (Elt F) arg17.view.ty) (A : BufTy.Contents (Elt F) arg21.view.ty) (X8 : BufTy.Contents (Elt F) arg8.view.ty)
  (T : BufTy.Contents (Elt F) arg20.view.ty)

/-- Before pass `n`, the slot of its block `j`. -/
theorem ring_t4 (n : Fin N4) (j : Fin 4) (o : BitVec 32) (ho : BitVec.ofNat 32 j.val = o)
    (hc : ∀ a, k0_off19 n o a + S1.size a ≤ S16.size a) (hs : ∀ a, k0_off20 n o a + S1x4096x512.size a ≤ S16x4096x512.size a)
    (hd : ∀ a, k0_off20 n o a + S1x3584x512.size a ≤ S16x4096x512.size a) (hw : ∀ a, k0_off21 n o a + S3584x512.size a ≤ S14336x4096.size a) :
    ringAt c arg3 arg5 arg7 arg14 arg23 W3 W5 W7 (slotOf (77 + 4 * n.val + j.val)) (tab (77 + 4 * n.val) (slotOf (77 + 4 * n.val + j.val)))
    ⊢ iprop(dfl c arg14 arg23 arg7 W7 (slotOf (77 + 4 * n.val + j.val)) (k0_off19 n o) hc (k0_off20 n o) hs hd (k0_off21 n o) hw
      ∗ tok c arg3 W3 (slotOf (77 + 4 * n.val + j.val)) ∗ tok c arg5 W5 (slotOf (77 + 4 * n.val + j.val))) := by
  subst ho
  rw [tab_t4 n j]; unfold ringAt; dsimp only
  refine ent_of_eq (congrArg (fun z : sProp 𝕄 => iprop(z ∗ _)) (dfl_congr c arg14 arg23 arg7 W7 _ (off19_ j n).symm (off20_ j n).symm (off21_ j n).symm _ _ _ _ _ _ _ _))
/-- After pass `n`, the slot of its block `j`. -/
theorem ring_t4' (n : Fin N4) (j : Fin 4) :
    iprop(t4Slot c arg7 arg14 arg23 W7 (slotOf (77 + 4 * n.val + j.val)) n j
      ∗ tok c arg3 W3 (slotOf (77 + 4 * n.val + j.val)) ∗ tok c arg5 W5 (slotOf (77 + 4 * n.val + j.val)))
    ⊢ ringAt c arg3 arg5 arg7 arg14 arg23 W3 W5 W7 (slotOf (77 + 4 * n.val + j.val)) (tab (77 + 4 * (n.val + 1)) (slotOf (77 + 4 * n.val + j.val))) := by
  by_cases h : k0_cond4 n = 1#1
  · rw [t4Slot, dif_pos h, tab_t4' n j ((cond4_iff n).1 h)]; unfold ringAt; dsimp only
    refine ent_of_eq (congrArg (fun z : sProp 𝕄 => iprop(z ∗ _)) (dfl_congr c arg14 arg23 arg7 W7 _ ((off36_ j n h).symm.trans (off19_ j n)) ((off37_ j n h).symm.trans (off20_ j n)) (off38_ j n h) _ _ _ _ _ _ _ _))
  · rw [t4Slot, dif_neg h, tab_t4f n j (fun h' => h ((cond4_iff n).2 h'))]; unfold ringAt; dsimp only
    iintro ⟨⟨Hc, Hs, H7⟩, H3, H5⟩
    isplitl [Hc]
    · iapply (cell_move c arg23 (off19_ j n)) $$ Hc
    isplitl [Hs]
    · icases Hs with ⟨%f, Hs⟩
      iapply (slot_move c arg14 (off20_ j n)) $$ Hs
    isplitl [H3]; · iexact H3
    isplitl [H5]; · iexact H5
    iexact H7

/-- A staging buffer before pass `i`: carrying the codes of two passes before, or at rest. -/
def cst (i : ℕ) : sProp 𝕄 :=
  if h : 2 ≤ i ∧ i - 2 < N4 then cfl c arg12 arg19 arg26 (c4val (arg17.view.read (Elt F) X) ⟨i - 2, h.2⟩) ![i % 2] (par_inb i) ![i % 2, 0, 0, 0] (spar_inb i) (k0_off34 ⟨i - 2, h.2⟩) (k0_off34_inb ⟨i - 2, h.2⟩)
  else cidle (F := F) c arg19 arg26 ![i % 2] (par_inb i) ![i % 2, 0, 0, 0] (spar_inb i)
/-- The codes of pass `m`, arrived. -/
def cdone (m : Fin N4) : sProp 𝕄 :=
  iprop(∃ f, ((win4 arg12 (k0_off34 m) (k0_off34_inb m)).view.loc (c : Thread nD τ) ↦[(win4 arg12 (k0_off34 m) (k0_off34_inb m)).view.set]{fullShare} f)
    ∗ ⌜(win4 arg12 (k0_off34 m) (k0_off34_inb m)).view.read (Elt F) f = c4val (arg17.view.read (Elt F) X) m⌝)
/-- What pass `n` has still to take. -/
def ctodo (n : Fin N4) : sProp 𝕄 :=
  iprop((∃ f, (win4 arg12 (k0_off34 n) (k0_off34_inb n)).view.loc (c : Thread nD τ) ↦[(win4 arg12 (k0_off34 n) (k0_off34_inb n)).view.set]{fullShare} f)
    ∗ ((win20 arg20 (k0_off30 n) (k0_off30_inb n)).view.loc (c : Thread nD τ) ↦[(win20 arg20 (k0_off30 n) (k0_off30_inb n)).view.set]{fullShare} T)
    ∗ (∃ f, (win9 arg9 (k0_off32 n) (k0_off32_inb n)).view.loc (c : Thread nD τ) ↦[(win9 arg9 (k0_off32 n) (k0_off32_inb n)).view.set]{fullShare} f))
/-- The columns the passes compute. -/
abbrev Dval (n : Fin N4) : Vec F S224x512 .f32 := dval (arg17.view.read (Elt F) X) (arg7.view.read (Elt F) W7) (arg8.view.read (Elt F) X8) (arg20.view.read (Elt F) T) (arg21.view.read (Elt F) A) n
theorem t4_lt2 (n : Fin N4) : n.val - 2 < N4 := lt_of_le_of_lt (Nat.sub_le _ _) n.isLt

theorem cst_pre (n : Fin N4) : cst c arg12 arg17 arg19 arg26 X n.val ⊢ t4Pre c arg12 arg19 arg26 (c4val (arg17.view.read (Elt F) X) ⟨n.val - 2, t4_lt2 n⟩) n := by
  by_cases h : k0_cond3 n = 1#1
  · have h2 := (cond3_iff n).1 h
    rw [t4Pre, dif_pos h, cst, dif_pos ⟨h2, t4_lt2 n⟩]
    exact ent_of_eq (cfl_congr c arg12 arg19 arg26 _ ((off22_33 n h).trans (off33_ n)).symm ((off24_35 n h).trans (off35_ n)).symm ((off23_ n h).trans (off34_ ⟨n.val - 2, t4_lt2 n⟩).symm).symm _ _ _ _ _ _)
  · rw [t4Pre, dif_neg h, cst, dif_neg (fun h' => h ((cond3_iff n).2 h'.1))]
    exact ent_of_eq (cidle_congr c arg19 arg26 (off33_ n).symm (off35_ n).symm _ _ _ _)
theorem cst_post (n : Fin N4) : cfl c arg12 arg19 arg26 (c4val (arg17.view.read (Elt F) X) n) (k0_off33 n) (k0_off33_inb n) (k0_off35 n) (k0_off35_inb n) (k0_off34 n) (k0_off34_inb n)
    ⊢ cst c arg12 arg17 arg19 arg26 X (n.val + 1 + 1) := by
  have hm : n.val % 2 = (n.val + 1 + 1) % 2 := by omega
  have key : ∀ (i : ℕ) (hi : 2 ≤ i ∧ i - 2 < N4) (m : Fin N4) (_ : m = ⟨i - 2, hi.2⟩) (_ : k0_off33 n = ![i % 2]) (_ : k0_off35 n = ![i % 2, 0, 0, 0]),
      cfl c arg12 arg19 arg26 (c4val (arg17.view.read (Elt F) X) m) (k0_off33 n) (k0_off33_inb n) (k0_off35 n) (k0_off35_inb n) (k0_off34 m) (k0_off34_inb m)
        ⊢ cst c arg12 arg17 arg19 arg26 X i := by
    intro i hi m e e1 e2
    subst e
    rw [cst, dif_pos hi]
    exact ent_of_eq (cfl_congr c arg12 arg19 arg26 _ e1 e2 rfl _ _ _ _ _ _)
  have h8 := n.isLt
  exact key (n.val + 1 + 1) ⟨by omega, by omega⟩ n (Fin.ext (by show n.val = n.val + 1 + 1 - 2; omega))
    ((off33_ n).trans (congrArg (fun x => ![x]) hm)) ((off35_ n).trans (congrArg (fun x => ![x, 0, 0, 0]) hm))
theorem cdone_post (n : Fin N4) :
    iprop(t4Got c arg12 (c4val (arg17.view.read (Elt F) X) ⟨n.val - 2, t4_lt2 n⟩) n ∗ bigSep (Ring.rangeSet N4 0 (n.val - 2)) (cdone c arg12 arg17 X))
      ⊢ bigSep (Ring.rangeSet N4 0 (n.val + 1 - 2)) (cdone c arg12 arg17 X) := by
  by_cases h : k0_cond3 n = 1#1
  · have h2 := (cond3_iff n).1 h
    have h8 := t4_lt n
    rw [Ring.bigSep_rangeSet_last (lo := 0) (hi := n.val + 1 - 2) (by omega) (by have := n.isLt; omega)]
    have e : n.val + 1 - 2 - 1 = n.val - 2 := by omega
    have key : ∀ (i : ℕ) (hi : i < N4) (e : i = n.val - 2), t4Got c arg12 (c4val (arg17.view.read (Elt F) X) ⟨n.val - 2, t4_lt2 n⟩) n ⊢ cdone c arg12 arg17 X ⟨i, hi⟩ := by
      intro i hi e
      subst e
      rw [t4Got, dif_pos h, cdone]
      have key' : ∀ (o o' : Fin 3 → ℕ) (e : o = o') (h) (h'),
          iprop(∃ f, ((win4 arg12 o h).view.loc (c : Thread nD τ) ↦[(win4 arg12 o h).view.set]{fullShare} f)
            ∗ ⌜(win4 arg12 o h).view.read (Elt F) f = c4val (arg17.view.read (Elt F) X) ⟨n.val - 2, hi⟩⌝)
          ⊢ (iprop(∃ f, ((win4 arg12 o' h').view.loc (c : Thread nD τ) ↦[(win4 arg12 o' h').view.set]{fullShare} f)
            ∗ ⌜(win4 arg12 o' h').view.read (Elt F) f = c4val (arg17.view.read (Elt F) X) ⟨n.val - 2, hi⟩⌝) : sProp 𝕄) := by
        intro o o' e h h'; subst e; exact Entails.refl _
      exact key' _ _ ((off23_ n h).trans (off34_ ⟨n.val - 2, hi⟩).symm) _ _
    iintro ⟨HG, HD⟩
    isplitl [HG]
    · iapply (key _ _ e) $$ HG
    · rw [e]; iexact HD
  · have h2 : ¬ 2 ≤ n.val := fun h' => h ((cond3_iff n).2 h')
    rw [t4Got, dif_neg h, show n.val + 1 - 2 = n.val - 2 by omega]
    iintro ⟨_, HD⟩
    iexact HD

/-- The state before pass `k` of the down loop. -/
def t4At (k : ℕ) : sProp 𝕄 :=
  iprop(Ring.AtW (σ := fun _ => St) (ringAt (F := F) c arg3 arg5 arg7 arg14 arg23 W3 W5 W7) (tab (77 + 4 * k))
    ∗ cst c arg12 arg17 arg19 arg26 X k ∗ cst c arg12 arg17 arg19 arg26 X (k + 1)
    ∗ bigSep (Ring.rangeSet N4 0 (k - 2)) (cdone c arg12 arg17 X)
    ∗ bigSep (Ring.rangeSet N4 k N4) (ctodo c arg9 arg12 arg20 T)
    ∗ dbatch c arg9 arg20 arg25 (Dval arg7 arg8 arg17 arg20 arg21 W7 X A X8 T) k 0
    ∗ t4Env c arg8 arg17 arg21 X A X8
    ∗ ∃ W, owes (c : Thread nD τ) 0 W)

/-- One pass of the down loop. -/
theorem t4_step [∀ e, Nonempty (Elt F e)] (v245 : Vec F S112x128 .f32) (n : Fin N4) (a : Unit) :
    t4At c arg3 arg5 arg7 arg8 arg9 arg12 arg14 arg17 arg19 arg20 arg21 arg23 arg25 arg26 W3 W5 W7 X A X8 T n.val
      ⊢ wp frame (wpE (defs₀ (F := F)) Variants.none (c : Thread nD τ) none) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245 n a)
        (fun _ => t4At c arg3 arg5 arg7 arg8 arg9 arg12 arg14 arg17 arg19 arg20 arg21 arg23 arg25 arg26 W3 W5 W7 X A X8 T (n.val + 1)) := by
  unfold t4At
  rw [Ring.AtW_focusL _ _ _ (t4_slots n.val), quad_eq]
  rw [Ring.bigSep_rangeSet_head (lo := n.val) (hi := N4) n.isLt n.isLt]
  iintro ⟨⟨⟨R0, R1, R2, R3⟩, HR⟩, C0, C1, HD, ⟨HT, HTs⟩, HB, HE, ⟨%W, HO⟩⟩
  ihave R0 := ring_t4 c arg3 arg5 arg7 arg14 arg23 W3 W5 W7 n 0 0#32 rfl (k0_off19_inb n 0) (tdslot_inb 0 n) (k0_off20_inb n 0) (k0_off21_inb n 0) $$ R0
  icases R0 with ⟨R0, A0, B0⟩
  ihave R1 := ring_t4 c arg3 arg5 arg7 arg14 arg23 W3 W5 W7 n 1 1#32 rfl (k0_off19_inb n 1) (tdslot_inb 1 n) (k0_off20_inb n 1) (k0_off21_inb n 1) $$ R1
  icases R1 with ⟨R1, A1, B1⟩
  ihave R2 := ring_t4 c arg3 arg5 arg7 arg14 arg23 W3 W5 W7 n 2 2#32 rfl (k0_off19_inb n 2) (tdslot_inb 2 n) (k0_off20_inb n 2) (k0_off21_inb n 2) $$ R2
  icases R2 with ⟨R2, A2, B2⟩
  ihave R3 := ring_t4 c arg3 arg5 arg7 arg14 arg23 W3 W5 W7 n 3 3#32 rfl (k0_off19_inb n 3) (tdslot_inb 3 n) (k0_off20_inb n 3) (k0_off21_inb n 3) $$ R3
  icases R3 with ⟨R3, A3, B3⟩
  ihave C0 := cst_pre c arg12 arg17 arg19 arg26 X n $$ C0
  unfold ctodo
  icases HT with ⟨H12, H20, H9⟩
  ihave HW := t4_core c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W7 X A X8 T (Dval arg7 arg8 arg17 arg20 arg21 W7 X A X8 T) _ W n v245 _ _ _ _ rfl $$ [R0 R1 R2 R3 C0 H12 H20 H9 HB HE HO]
  · isplitl [R0]; · iexact R0
    isplitl [R1]; · iexact R1
    isplitl [R2]; · iexact R2
    isplitl [R3]; · iexact R3
    isplitl [C0]; · iexact C0
    isplitl [H12]; · iexact H12
    isplitl [H20]; · iexact H20
    isplitl [H9]; · iexact H9
    isplitl [HB]; · iexact HB
    isplitl [HE]; · iexact HE
    iexact HO
  iapply (wp_wand_r frame (wpE (defs₀ (F := F)) Variants.none (c : Thread nD τ) none) Set.univ)
  isplitl [HW]; · iexact HW
  iintro %_ ⟨R0, R1, R2, R3, C0, HG, HB, HE, HO⟩
  isplitl [R0 R1 R2 R3 A0 A1 A2 A3 B0 B1 B2 B3 HR]
  · iapply (Ring.AtW_refocusL (ringAt (F := F) c arg3 arg5 arg7 arg14 arg23 W3 W5 W7) (tab (77 + 4 * n.val)) _ _ (t4_slots n.val) (t4_away n.val))
    rw [quad_eq]
    isplitr [HR]
    · isplitl [R0 A0 B0]
      · iapply (ring_t4' c arg3 arg5 arg7 arg14 arg23 W3 W5 W7 n 0)
        isplitl [R0]; · iexact R0
        isplitl [A0]; · iexact A0
        iexact B0
      isplitl [R1 A1 B1]
      · iapply (ring_t4' c arg3 arg5 arg7 arg14 arg23 W3 W5 W7 n 1)
        isplitl [R1]; · iexact R1
        isplitl [A1]; · iexact A1
        iexact B1
      isplitl [R2 A2 B2]
      · iapply (ring_t4' c arg3 arg5 arg7 arg14 arg23 W3 W5 W7 n 2)
        isplitl [R2]; · iexact R2
        isplitl [A2]; · iexact A2
        iexact B2
      · iapply (ring_t4' c arg3 arg5 arg7 arg14 arg23 W3 W5 W7 n 3)
        isplitl [R3]; · iexact R3
        isplitl [A3]; · iexact A3
        iexact B3
    · iexact HR
  isplitl [C1]; · iexact C1
  isplitl [C0]
  · iapply (cst_post c arg12 arg17 arg19 arg26 X n) $$ C0
  isplitl [HG HD]
  · iapply (cdone_post c arg12 arg17 X n)
    isplitl [HG]; · iexact HG
    iexact HD
  isplitl [HTs]; · iexact HTs
  isplitl [HB]; · iexact HB
  isplitl [HE]; · iexact HE
  iexact HO

end Cert.Proof.Kernel
-- ==== Proof.T5.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.T4Loop
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The wait for the result's columns -/

theorem t5_lt (k : Fin k0_t5_loop.trips) : k.val < 8 := lt_of_lt_of_eq k.isLt (by decide +kernel)
variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (D : Fin N4 → Vec F S224x512 .f32)

/-- Before pass `k` of the last loop: `k` copies waited for; after the last, the columns delivered. -/
def t5At (k : ℕ) : sProp 𝕄 :=
  iprop((∃ W, owes (c : Thread nD τ) 0 W)
    ∗ (if k < 8 then dbatch c arg9 arg20 arg25 D 8 (k * 14336)
       else iprop(semVal ((c : Thread nD τ), cell1 arg25) 0 ∗ bigSep Finset.univ (ddel c arg9 arg20 D))))

/-- One pass of the last loop. -/
theorem t5_step [∀ e, Nonempty (Elt F e)] (k : Fin k0_t5_loop.trips) (a : Unit) :
    t5At c arg9 arg20 arg25 D k.val
      ⊢ wp frame (wpE (defs₀ (F := F)) Variants.none (c : Thread nD τ) none) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 k a)
        (fun _ => t5At c arg9 arg20 arg25 D (k.val + 1)) := by
  have hk := t5_lt k
  unfold t5At
  rw [if_pos hk]
  rcases Nat.lt_or_ge (k.val + 1) 8 with h1 | h1
  · rw [if_pos h1]
    iintro ⟨⟨%W, HO⟩, HB⟩
    sl_unfold [k0_t5_body]
    sl_exec
    sl_step
    isplitl [HO]; · iexists _; iexact HO
    rw [show (k.val + 1) * 14336 = k.val * 14336 + 14336 by omega]
    iexact HB
  · rw [if_neg (Nat.not_lt.mpr h1)]
    iintro ⟨⟨%W, HO⟩, HB⟩
    sl_unfold [k0_t5_body]
    sl_exec
    sl_step
    isplitl [HO]; · iexists _; iexact HO
    isplitl [HB]; · iexact HB
    iexact HB_all

end Cert.Proof.Kernel
-- ==== Proof.T13.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Base
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The two plain loops: norm and quantise the rows; quantise the activations -/

section Values
variable (hv : Vec F S224x4096 .f32) (gv : Vec F S1x4096 .f32) (zv : Vec F S224x14336 .f32) (mv : Vec F S224x128 .f32)

/-- Rows of block `i`. -/
def hrow (i : Fin k0_t1_loop.trips) : Vec F S32x4096 .f32 := VecWindow.window hv (k0_off4 i) S32x4096.size (k0_off4_inb i)
/-- The scales block `i` stores, each along a row of lanes. -/
def sblk (i : Fin k0_t1_loop.trips) : FVec F S32x128 .f32 := k0_pay15 (k0_pay3 (hrow hv i) gv)
/-- The codes block `i` stores. -/
def cblk (i : Fin k0_t1_loop.trips) : FVec F S32x4096 .fp8e4m3 := k0_pay16 (k0_pay1 (hrow hv i) gv) (k0_pay2 (hrow hv i) gv) k0_pay4
/-- The codes pass `p` makes of the activations. -/
def qblk (p : Fin k0_t3_loop.trips) : FVec F S224x512 .fp8e4m3 := k0_pay32 (VecWindow.window zv (k0_off18 p) S224x512.size (k0_off18_inb p)) mv
end Values

theorem off4 : ∀ p : Fin k0_t1_loop.trips, k0_off4 p = ![32 * p.val, 0] := by decide +kernel
theorem off5 : ∀ p : Fin k0_t1_loop.trips, k0_off5 p = ![32 * p.val, 0] := by decide +kernel

omit [FloatOps F] in
theorem off4_window {α : Type} (z : S224x4096.Idx → α) (p q : Fin k0_t1_loop.trips) (h : q.val ≠ p.val) (w) :
    VecWindow.window (VecWindow.put z (k0_off4 p) S32x4096.size w) (k0_off4 q) S32x4096.size (k0_off4_inb q)
      = VecWindow.window z (k0_off4 q) S32x4096.size (k0_off4_inb q) := by
  refine VecWindow.window_put_of_disjoint _ _ _ _ _ _ _ (0 : Fin 2) ?_
  rw [off4 p, off4 q]
  show 32 * q.val + 32 ≤ 32 * p.val ∨ 32 * p.val + 32 ≤ 32 * q.val
  omega
omit [FloatOps F] in
theorem off5_window {α : Type} (z : S224x128.Idx → α) (p q : Fin k0_t1_loop.trips) (h : q.val ≠ p.val) (w) :
    VecWindow.window (VecWindow.put z (k0_off5 p) S32x128.size w) (k0_off5 q) S32x128.size (k0_off5_inb q)
      = VecWindow.window z (k0_off5 q) S32x128.size (k0_off5_inb q) := by
  refine VecWindow.window_put_of_disjoint _ _ _ _ _ _ _ (0 : Fin 2) ?_
  rw [off5 p, off5 q]
  show 32 * q.val + 32 ≤ 32 * p.val ∨ 32 * p.val + 32 ≤ 32 * q.val
  omega
omit [FloatOps F] in
theorem off18_window {α : Type} (z : S224x14336.Idx → α) (p q : Fin k0_t3_loop.trips) (h : q.val ≠ p.val) (w) :
    VecWindow.window (VecWindow.put z (k0_off18 p) S224x512.size w) (k0_off18 q) S224x512.size (k0_off18_inb q)
      = VecWindow.window z (k0_off18 q) S224x512.size (k0_off18_inb q) := by
  refine VecWindow.window_put_of_disjoint _ _ _ _ _ _ _ (1 : Fin 2) ?_
  rw [off18 p, off18 q]
  show 512 * q.val + 512 ≤ 512 * p.val ∨ 512 * p.val + 512 ≤ 512 * q.val
  omega

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (H : BufTy.Contents (Elt F) arg0.view.ty) (G : BufTy.Contents (Elt F) arg2.view.ty) (Z : BufTy.Contents (Elt F) arg15.view.ty) (M : BufTy.Contents (Elt F) arg22.view.ty)

/-- The state before pass `k` of the loop over the rows. -/
def t1At (k : ℕ) : sProp 𝕄 :=
  iprop((arg0.view.loc (c : Thread nD τ) ↦[arg0.view.set]{fullShare} H)
    ∗ (arg2.view.loc (c : Thread nD τ) ↦[arg2.view.set]{fullShare} G)
    ∗ ∃ (A : BufTy.Contents (Elt F) arg21.view.ty) (C : BufTy.Contents (Elt F) arg16.view.ty),
      ((arg21.view.loc (c : Thread nD τ) ↦[arg21.view.set]{fullShare} A)
      ∗ (arg16.view.loc (c : Thread nD τ) ↦[arg16.view.set]{fullShare} C))
      ∗ ⌜∀ q : Fin k0_t1_loop.trips, q.val < k →
          VecWindow.window (arg21.view.read (Elt F) A) (k0_off5 q) S32x128.size (k0_off5_inb q) = sblk (arg0.view.read (Elt F) H) (arg2.view.read (Elt F) G) q
          ∧ VecWindow.window (arg16.view.read (Elt F) C) (k0_off4 q) S32x4096.size (k0_off4_inb q) = cblk (arg0.view.read (Elt F) H) (arg2.view.read (Elt F) G) q⌝)

/-- One pass of the loop over the rows. -/
theorem t1_step (i : Fin k0_t1_loop.trips) (a : Unit) :
    t1At c arg0 arg2 arg16 arg21 H G i.val
      ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 i a)
        (fun _ => t1At c arg0 arg2 arg16 arg21 H G (i.val + 1)) := by
  unfold t1At
  iintro ⟨HH, HG, ⟨%A, ⟨%C, ⟨⟨HA, HC⟩, %hq⟩⟩⟩⟩
  unfold k0_t1_body
  sl_exec
  sl_step
  isplitl [HH]; · iexact HH
  isplitl [HG]; · iexact HG
  iexists _; iexists _
  isplitl [HA HC]
  · isplitl [HA]; · iexact HA
    iexact HC
  ipureintro
  intro q hlt
  rw [View.read_writes_cons_put arg21.view A (k0_off5_inb i) _ _ rfl, View.read_writes_cons_put arg16.view C (k0_off4_inb i) _ _ rfl]
  rw [View.writes_nil, View.writes_nil]
  by_cases e : q.val = i.val
  · obtain rfl : q = i := Fin.ext e
    rw [VecWindow.window_put_same, VecWindow.window_put_same]
    unfold t1_step.sl.r t1_step.sl.r_1 t1_step.sl.r_2
    rw [View.readAt_full arg2.view G]
    exact ⟨rfl, rfl⟩
  · rw [off5_window _ i q e, off4_window _ i q e]; exact hq q (by omega)

/-- The state before pass `k` of the loop that quantises the activations. -/
def t3At (k : ℕ) : sProp 𝕄 :=
  iprop((arg15.view.loc (c : Thread nD τ) ↦[arg15.view.set]{fullShare} Z)
    ∗ (arg22.view.loc (c : Thread nD τ) ↦[arg22.view.set]{fullShare} M)
    ∗ ∃ (X : BufTy.Contents (Elt F) arg17.view.ty),
      (arg17.view.loc (c : Thread nD τ) ↦[arg17.view.set]{fullShare} X)
      ∗ ⌜∀ q : Fin k0_t3_loop.trips, q.val < k →
          VecWindow.window (arg17.view.read (Elt F) X) (k0_off18 q) S224x512.size (k0_off18_inb q) = qblk (arg15.view.read (Elt F) Z) (arg22.view.read (Elt F) M) q⌝)

/-- One pass of the loop that quantises the activations. -/
theorem t3_step (v245 : Vec F S112x128 .f32) (i : Fin k0_t3_loop.trips) (a : Unit) :
    t3At c arg15 arg17 arg22 Z M i.val
      ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245 i a)
        (fun _ => t3At c arg15 arg17 arg22 Z M (i.val + 1)) := by
  unfold t3At
  iintro ⟨HZ, HM, ⟨%X, ⟨HX, %hq⟩⟩⟩
  unfold k0_t3_body
  sl_exec
  sl_step
  isplitl [HZ]; · iexact HZ
  isplitl [HM]; · iexact HM
  iexists _
  isplitl [HX]; · iexact HX
  ipureintro
  intro q hlt
  rw [View.read_writes_cons_put arg17.view X (k0_off18_inb i) _ _ rfl]
  rw [View.writes_nil]
  by_cases e : q.val = i.val
  · obtain rfl : q = i := Fin.ext e
    rw [VecWindow.window_put_same]
    rw [View.readAt_full arg22.view M]
    rfl
  · rw [off18_window _ i q e]; exact hq q (by omega)

end Cert.Proof.Kernel
-- ==== Proof.Pro.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.T5
public import proofs.«01_k».proof.Proof.T13
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The first sixteen copies -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)

/-- The copies of part 14 of the kernel's text. -/
theorem pro14 [∀ e, Nonempty (Elt F e)] :
    iprop(ringAt (F := F) c arg3 arg5 arg7 arg14 arg23 W3 W5 W7 5 .free ∗ ringAt (F := F) c arg3 arg5 arg7 arg14 arg23 W3 W5 W7 6 .free ∗ ringAt (F := F) c arg3 arg5 arg7 arg14 arg23 W3 W5 W7 7 .free)
      ⊢ wp frame (wpE (defs₀ (F := F)) Variants.none (c : Thread nD τ) none) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 5 (.gate 0) ∗ ringAt (F := F) c arg3 arg5 arg7 arg14 arg23 W3 W5 W7 6 (.up 0) ∗ ringAt (F := F) c arg3 arg5 arg7 arg14 arg23 W3 W5 W7 7 (.gate 1))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Hb0 := held_in _ $$ Hb0
  ihave Ha1 := held_in _ $$ Ha1
  ihave Hb2 := held_in _ $$ Hb2
  rw [k0_part14_eq_skeleton]
  sl_unfold [k0_part14_skel]
  sl_exec
  sl_step
  ihave Hb0 := held_out _ $$ Hb0
  isplitl [Hc0 Ha0 Hb0 Hd0]
  · isplitl [Hc0 Ha0]
    · isplitl [Hc0]
      · iexists f0
        iexact Hc0
      · iexact Ha0
    isplitl [Hb0]; · iexact Hb0
    iexact Hd0
  ihave Ha1 := held_out _ $$ Ha1
  isplitl [Hc1 Ha1 Hb1 Hd1]
  · isplitl [Hc1 Hb1]
    · isplitl [Hc1]
      · iexists f1
        iexact Hc1
      · iexact Hb1
    isplitl [Ha1]; · iexact Ha1
    iexact Hd1
  ihave Hb2 := held_out _ $$ Hb2
  isplitl [Hc2 Ha2]
  · isplitl [Hc2]
    · iexists f2
      iexact Hc2
    · iexact Ha2
  isplitl [Hb2]; · iexact Hb2
  iexact Hd2

/-- The copies of part 15 of the kernel's text. -/
theorem pro15 [∀ e, Nonempty (Elt F e)] :
    iprop(ringAt (F := F) c arg3 arg5 arg7 arg14 arg23 W3 W5 W7 8 .free ∗ ringAt (F := F) c arg3 arg5 arg7 arg14 arg23 W3 W5 W7 9 .free ∗ ringAt (F := F) c arg3 arg5 arg7 arg14 arg23 W3 W5 W7 10 .free)
      ⊢ wp frame (wpE (defs₀ (F := F)) Variants.none (c : Thread nD τ) none) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 8 (.up 1) ∗ ringAt (F := F) c arg3 arg5 arg7 arg14 arg23 W3 W5 W7 9 (.gate 2) ∗ ringAt (F := F) c arg3 arg5 arg7 arg14 arg23 W3 W5 W7 10 (.up 2))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Ha0 := held_in _ $$ Ha0
  ihave Hb1 := held_in _ $$ Hb1
  ihave Ha2 := held_in _ $$ Ha2
  rw [k0_part15_eq_skeleton]
  sl_unfold [k0_part15_skel]
  sl_exec
  sl_step
  ihave Ha0 := held_out _ $$ Ha0
  isplitl [Hc0 Ha0 Hb0 Hd0]
  · isplitl [Hc0 Hb0]
    · isplitl [Hc0]
      · iexists f0
        iexact Hc0
      · iexact Hb0
    isplitl [Ha0]; · iexact Ha0
    iexact Hd0
  ihave Hb1 := held_out _ $$ Hb1
  isplitl [Hc1 Ha1 Hb1 Hd1]
  · isplitl [Hc1 Ha1]
    · isplitl [Hc1]
      · iexists f1
        iexact Hc1
      · iexact Ha1
    isplitl [Hb1]; · iexact Hb1
    iexact Hd1
  ihave Ha2 := held_out _ $$ Ha2
  isplitl [Hc2 Hb2]
  · isplitl [Hc2]
    · iexists f2
      iexact Hc2
    · iexact Hb2
  isplitl [Ha2]; · iexact Ha2
  iexact Hd2

/-- The copies of part 16 of the kernel's text. -/
theorem pro16 [∀ e, Nonempty (Elt F e)] :
    iprop(ringAt (F := F) c arg3 arg5 arg7 arg14 arg23 W3 W5 W7 11 .free ∗ ringAt (F := F) c arg3 arg5 arg7 arg14 arg23 W3 W5 W7 12 .free ∗ ringAt (F := F) c arg3 arg5 arg7 arg14 arg23 W3 W5 W7 13 .free)
      ⊢ wp frame (wpE (defs₀ (F := F)) Variants.none (c : Thread nD τ) none) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 11 (.gate 3) ∗ ringAt (F := F) c arg3 arg5 arg7 arg14 arg23 W3 W5 W7 12 (.up 3) ∗ ringAt (F := F) c arg3 arg5 arg7 arg14 arg23 W3 W5 W7 13 (.gate 4))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Hb0 := held_in _ $$ Hb0
  ihave Ha1 := held_in _ $$ Ha1
  ihave Hb2 := held_in _ $$ Hb2
  rw [k0_part16_eq_skeleton]
  sl_unfold [k0_part16_skel]
  sl_exec
  sl_step
  ihave Hb0 := held_out _ $$ Hb0
  isplitl [Hc0 Ha0 Hb0 Hd0]
  · isplitl [Hc0 Ha0]
    · isplitl [Hc0]
      · iexists f0
        iexact Hc0
      · iexact Ha0
    isplitl [Hb0]; · iexact Hb0
    iexact Hd0
  ihave Ha1 := held_out _ $$ Ha1
  isplitl [Hc1 Ha1 Hb1 Hd1]
  · isplitl [Hc1 Hb1]
    · isplitl [Hc1]
      · iexists f1
        iexact Hc1
      · iexact Hb1
    isplitl [Ha1]; · iexact Ha1
    iexact Hd1
  ihave Hb2 := held_out _ $$ Hb2
  isplitl [Hc2 Ha2]
  · isplitl [Hc2]
    · iexists f2
      iexact Hc2
    · iexact Ha2
  isplitl [Hb2]; · iexact Hb2
  iexact Hd2

/-- The copies of part 17 of the kernel's text. -/
theorem pro17 [∀ e, Nonempty (Elt F e)] :
    iprop(ringAt (F := F) c arg3 arg5 arg7 arg14 arg23 W3 W5 W7 14 .free ∗ ringAt (F := F) c arg3 arg5 arg7 arg14 arg23 W3 W5 W7 15 .free ∗ ringAt (F := F) c arg3 arg5 arg7 arg14 arg23 W3 W5 W7 0 .free)
      ⊢ wp frame (wpE (defs₀ (F := F)) Variants.none (c : Thread nD τ) none) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 14 (.up 4) ∗ ringAt (F := F) c arg3 arg5 arg7 arg14 arg23 W3 W5 W7 15 (.gate 5) ∗ ringAt (F := F) c arg3 arg5 arg7 arg14 arg23 W3 W5 W7 0 (.up 5))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Ha0 := held_in _ $$ Ha0
  ihave Hb1 := held_in _ $$ Hb1
  ihave Ha2 := held_in _ $$ Ha2
  rw [k0_part17_eq_skeleton]
  sl_unfold [k0_part17_skel]
  sl_exec
  sl_step
  ihave Ha0 := held_out _ $$ Ha0
  isplitl [Hc0 Ha0 Hb0 Hd0]
  · isplitl [Hc0 Hb0]
    · isplitl [Hc0]
      · iexists f0
        iexact Hc0
      · iexact Hb0
    isplitl [Ha0]; · iexact Ha0
    iexact Hd0
  ihave Hb1 := held_out _ $$ Hb1
  isplitl [Hc1 Ha1 Hb1 Hd1]
  · isplitl [Hc1 Ha1]
    · isplitl [Hc1]
      · iexists f1
        iexact Hc1
      · iexact Ha1
    isplitl [Hb1]; · iexact Hb1
    iexact Hd1
  ihave Ha2 := held_out _ $$ Ha2
  isplitl [Hc2 Hb2]
  · isplitl [Hc2]
    · iexists f2
      iexact Hc2
    · iexact Hb2
  isplitl [Ha2]; · iexact Ha2
  iexact Hd2

/-- The copies of part 18 of the kernel's text. -/
theorem pro18 [∀ e, Nonempty (Elt F e)] :
    iprop(ringAt (F := F) c arg3 arg5 arg7 arg14 arg23 W3 W5 W7 1 .free ∗ ringAt (F := F) c arg3 arg5 arg7 arg14 arg23 W3 W5 W7 2 .free ∗ ringAt (F := F) c arg3 arg5 arg7 arg14 arg23 W3 W5 W7 3 .free)
      ⊢ wp frame (wpE (defs₀ (F := F)) Variants.none (c : Thread nD τ) none) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(ringAt (F := F) c arg3 arg5 arg7 arg14 arg23 W3 W5 W7 1 (.gate 6) ∗ ringAt (F := F) c arg3 arg5 arg7 arg14 arg23 W3 W5 W7 2 (.up 6) ∗ ringAt (F := F) c arg3 arg5 arg7 arg14 arg23 W3 W5 W7 3 (.gate 7))) := by
  unfold ringAt; dsimp only
  iintro ⟨⟨Hc0, ⟨%f0, Hs0⟩, Ha0, Hb0, Hd0⟩, ⟨Hc1, ⟨%f1, Hs1⟩, Ha1, Hb1, Hd1⟩, ⟨Hc2, ⟨%f2, Hs2⟩, Ha2, Hb2, Hd2⟩⟩
  ihave Hb0 := held_in _ $$ Hb0
  ihave Ha1 := held_in _ $$ Ha1
  ihave Hb2 := held_in _ $$ Hb2
  rw [k0_part18_eq_skeleton]
  sl_unfold [k0_part18_skel]
  sl_exec
  sl_step
  ihave Hb0 := held_out _ $$ Hb0
  isplitl [Hc0 Ha0 Hb0 Hd0]
  · isplitl [Hc0 Ha0]
    · isplitl [Hc0]
      · iexists f0
        iexact Hc0
      · iexact Ha0
    isplitl [Hb0]; · iexact Hb0
    iexact Hd0
  ihave Ha1 := held_out _ $$ Ha1
  isplitl [Hc1 Ha1 Hb1 Hd1]
  · isplitl [Hc1 Hb1]
    · isplitl [Hc1]
      · iexists f1
        iexact Hc1
      · iexact Hb1
    isplitl [Ha1]; · iexact Ha1
    iexact Hd1
  ihave Hb2 := held_out _ $$ Hb2
  isplitl [Hc2 Ha2]
  · isplitl [Hc2]
    · iexists f2
      iexact Hc2
    · iexact Ha2
  isplitl [Hb2]; · iexact Hb2
  iexact Hd2

end Cert.Proof.Kernel
-- ==== Proof.Blocks.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Pro
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## Arrays laid out in blocks along one axis -/

/-- An array read off its blocks: `q i` is the block that holds index `i`. -/
def untile {α : Type} {s : Shape} {NB : ℕ} (off : Fin NB → Fin s.rank → ℕ) (size : Fin s.rank → ℕ) (q : s.Idx → Fin NB)
    (hq : ∀ i a, off (q i) a ≤ (i a).val ∧ (i a).val < off (q i) a + size a) (blk : Fin NB → ((a : Fin s.rank) → Fin (size a)) → α) : s.Idx → α :=
  fun i => blk (q i) (fun a => ⟨(i a).val - off (q i) a, by have := hq i a; omega⟩)

omit [FloatOps F] in
/-- An array whose every window is the block named is the array read off those blocks. -/
theorem untile_eq {α : Type} {s : Shape} {NB : ℕ} (off : Fin NB → Fin s.rank → ℕ) (size : Fin s.rank → ℕ) (q : s.Idx → Fin NB)
    (hq : ∀ i a, off (q i) a ≤ (i a).val ∧ (i a).val < off (q i) a + size a) (blk : Fin NB → ((a : Fin s.rank) → Fin (size a)) → α)
    (inb : ∀ b a, off b a + size a ≤ s.size a) (V : s.Idx → α)
    (h : ∀ b, VecWindow.window V (off b) size (inb b) = blk b) : V = untile off size q hq blk := by
  funext i
  unfold untile
  rw [← h (q i)]
  unfold VecWindow.window
  refine congrArg V (funext fun a => Fin.ext ?_)
  show (i a).val = off (q i) a + 1 * ((i a).val - off (q i) a)
  have := hq i a
  omega

section Blocks
variable {sp : Space} {s : Shape} {e : EltTy} {NB : ℕ} (c : Dev nD) (m : Memref sig .tc sp s e) (a₀ : Fin s.rank) (R : ℕ)
  (off : Fin NB → Fin s.rank → ℕ) (size : Fin s.rank → ℕ) (inb : ∀ b a, off b a + size a ≤ s.size a)
  (hoff₀ : ∀ b, off b a₀ = R * b.val) (hoff : ∀ b a, a ≠ a₀ → off b a = 0)
  (hsz₀ : size a₀ = R) (hsz : ∀ a, a ≠ a₀ → size a = s.size a) (hN : NB * R = s.size a₀)
  (I : Fin NB → Finset (Idx (m.view.loc (c : Thread nD τ)))) (hI : ∀ b, I b = (Rect.unit (off b) size (inb b)).set.map m.view.emb)

include hI hoff₀ hsz₀ in
theorem blk_disj (b b' : Fin NB) (h : b ≠ b') : Disjoint (I b) (I b') := by
  rw [hI b, hI b']
  exact (Finset.disjoint_map _).2 (Ring.lead_disjoint a₀ R off size inb hoff₀ hsz₀ b b' h)
include hI hoff₀ hoff hsz₀ hsz hN in
theorem blk_cover : Finset.univ.biUnion I = m.view.set := by
  have h := Ring.lead_cover a₀ R off size inb hoff₀ hoff hsz₀ hsz hN
  ext i
  simp only [Finset.mem_biUnion, Finset.mem_univ, true_and]
  constructor
  · rintro ⟨b, hb⟩
    rw [hI b, Finset.mem_map] at hb
    obtain ⟨y, -, rfl⟩ := hb
    exact Finset.mem_map_of_mem _ (Finset.mem_univ y)
  · intro hi
    obtain ⟨y, -, rfl⟩ := Finset.mem_map.1 hi
    have hy : y ∈ Finset.univ.biUnion (fun b => (Rect.unit (off b) size (inb b)).set) := by rw [h]; exact Finset.mem_univ y
    obtain ⟨b, -, hb⟩ := Finset.mem_biUnion.1 hy
    exact ⟨b, by rw [hI b]; exact Finset.mem_map_of_mem _ hb⟩
include hI hoff₀ hoff hsz₀ hsz hN in
/-- An array held is its blocks held. -/
theorem blk_split (f : BufTy.Contents (Elt F) m.view.ty) :
    (m.view.loc (c : Thread nD τ) ↦[m.view.set]{fullShare} f : sProp 𝕄) ⊢ bigSep Finset.univ fun b => (m.view.loc (c : Thread nD τ) ↦[I b]{fullShare} f : sProp 𝕄) :=
  Entails.of_eq (Ring.pointsTo_sub_blocks I (blk_disj c m a₀ R off size inb hoff₀ hsz₀ I hI) m.view.set
    (blk_cover c m a₀ R off size inb hoff₀ hoff hsz₀ hsz hN I hI) f)
include hI hoff₀ hoff hsz₀ hsz hN in
/-- The blocks held, each at some contents, are the array held. -/
theorem blk_join [∀ e, Nonempty (Elt F e)] :
    (bigSep Finset.univ fun b => iprop(∃ f, m.view.loc (c : Thread nD τ) ↦[I b]{fullShare} f)) ⊢ (iprop(∃ g, m.view.loc (c : Thread nD τ) ↦[m.view.set]{fullShare} g) : sProp 𝕄) :=
  Ring.pointsTo_sub_blocks_join_exists I (blk_disj c m a₀ R off size inb hoff₀ hsz₀ I hI) m.view.set
    (blk_cover c m a₀ R off size inb hoff₀ hoff hsz₀ hsz hN I hI) (m.view.rep (fun _ => Classical.choice inferInstance))
include hoff₀ hoff hsz₀ hsz hN in
/-- The blocks held, each at the contents that read `X`, are the array held at contents whose windows are `X`. -/
theorem blk_join_rep [∀ e, Nonempty (Elt F e)] (X : Fin NB → ((a : Fin s.rank) → Fin (size a)) → Elt F e) :
    (bigSep Finset.univ fun b => ((m.slice (Rect.unit (off b) size (inb b)) (fun _ => rfl)).view.loc (c : Thread nD τ) ↦[(m.slice (Rect.unit (off b) size (inb b)) (fun _ => rfl)).view.set]{fullShare}
        (m.slice (Rect.unit (off b) size (inb b)) (fun _ => rfl)).view.rep (X b) : sProp 𝕄))
      ⊢ iprop(∃ g, (m.view.loc (c : Thread nD τ) ↦[m.view.set]{fullShare} g) ∗ ⌜∀ b, VecWindow.window (m.view.read (Elt F) g) (off b) size (inb b) = X b⌝) := by
  have hI : ∀ b, (m.slice (Rect.unit (off b) size (inb b)) (fun _ => rfl)).view.set = (Rect.unit (off b) size (inb b)).set.map m.view.emb := fun b => View.set_slice _ _
  have hd := blk_disj c m a₀ R off size inb hoff₀ hsz₀ _ hI
  have hc := blk_cover c m a₀ R off size inb hoff₀ hoff hsz₀ hsz hN _ hI
  refine (pointsTo_biUnion_join (ℓ := m.view.loc (c : Thread nD τ)) Finset.univ _ _ (m.view.rep (fun _ => Classical.choice inferInstance)) (fun b _ b' _ h => hd b b' h)).trans ?_
  iintro ⟨%g, %hg, H⟩
  iexists g
  rw [hc]
  isplitl [H]
  · iexact H
  · ipureintro
    intro b
    have := View.read_congr (v := (m.slice (Rect.unit (off b) size (inb b)) (fun _ => rfl)).view) (hg b (Finset.mem_univ b))
    exact this.trans (View.read_rep _ _)
end Blocks

end Cert.Proof.Kernel
-- ==== Proof.Vals.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Blocks
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## What the whole kernel computes, from what its operands hold -/

theorem t1_lt (q : Fin k0_t1_loop.trips) : q.val < 7 := lt_of_lt_of_eq q.isLt (by decide +kernel)
theorem t3_lt (q : Fin k0_t3_loop.trips) : q.val < 28 := lt_of_lt_of_eq q.isLt (by decide +kernel)

/-- The block of 32 rows that holds a row. -/
def rowBlk (i : Fin 224) : Fin k0_t1_loop.trips := ⟨i.val / 32, lt_of_lt_of_eq (by omega : i.val / 32 < 7) (by decide +kernel)⟩
/-- The block of 512 columns that holds a column. -/
def colBlk2 (i : Fin 14336) : Fin k0_t2_loop.trips := ⟨i.val / 512, lt_of_lt_of_eq (by omega : i.val / 512 < 28) (by decide +kernel)⟩
/-- The block of 512 columns that holds a column. -/
def colBlk3 (i : Fin 14336) : Fin k0_t3_loop.trips := ⟨i.val / 512, lt_of_lt_of_eq (by omega : i.val / 512 < 28) (by decide +kernel)⟩
/-- The block of 512 columns that holds a column of the result. -/
def colBlk4 (i : Fin 4096) : Fin N4 := ⟨i.val / 512, lt_of_lt_of_eq (by omega : i.val / 512 < 8) (by decide +kernel)⟩
/-- The block of 1792 columns that holds a column of the codes. -/
def codeBlk (i : Fin 14336) : Fin N4 := ⟨i.val / 1792, lt_of_lt_of_eq (by omega : i.val / 1792 < 8) (by decide +kernel)⟩

omit [FloatOps F] in
theorem hq4 (i : S224x4096.Idx) (a : Fin 2) : k0_off4 (rowBlk (i 0)) a ≤ (i a).val ∧ (i a).val < k0_off4 (rowBlk (i 0)) a + S32x4096.size a := by
  rw [off4]
  match a with
  | 0 => have h : (i 0).val < 224 := (i 0).isLt
         show 32 * ((i 0).val / 32) ≤ (i 0).val ∧ (i 0).val < 32 * ((i 0).val / 32) + 32; omega
  | 1 => have h : (i 1).val < 4096 := (i 1).isLt
         show 0 ≤ (i 1).val ∧ (i 1).val < 0 + 4096; omega
omit [FloatOps F] in
theorem hq5 (i : S224x128.Idx) (a : Fin 2) : k0_off5 (rowBlk (i 0)) a ≤ (i a).val ∧ (i a).val < k0_off5 (rowBlk (i 0)) a + S32x128.size a := by
  rw [off5]
  match a with
  | 0 => have h : (i 0).val < 224 := (i 0).isLt
         show 32 * ((i 0).val / 32) ≤ (i 0).val ∧ (i 0).val < 32 * ((i 0).val / 32) + 32; omega
  | 1 => have h : (i 1).val < 128 := (i 1).isLt
         show 0 ≤ (i 1).val ∧ (i 1).val < 0 + 128; omega
omit [FloatOps F] in
theorem hq11 (i : S224x14336.Idx) (a : Fin 2) : k0_off11 (colBlk2 (i 1)) a ≤ (i a).val ∧ (i a).val < k0_off11 (colBlk2 (i 1)) a + S224x512.size a := by
  rw [off11]
  match a with
  | 0 => have h : (i 0).val < 224 := (i 0).isLt
         show 0 ≤ (i 0).val ∧ (i 0).val < 0 + 224; omega
  | 1 => have h : (i 1).val < 14336 := (i 1).isLt
         show 512 * ((i 1).val / 512) ≤ (i 1).val ∧ (i 1).val < 512 * ((i 1).val / 512) + 512; omega
theorem off18_ : ∀ q : Fin k0_t3_loop.trips, k0_off18 q = ![0, 512 * q.val] := by decide +kernel
omit [FloatOps F] in
theorem hq18 (i : S224x14336.Idx) (a : Fin 2) : k0_off18 (colBlk3 (i 1)) a ≤ (i a).val ∧ (i a).val < k0_off18 (colBlk3 (i 1)) a + S224x512.size a := by
  rw [off18_]
  match a with
  | 0 => have h : (i 0).val < 224 := (i 0).isLt
         show 0 ≤ (i 0).val ∧ (i 0).val < 0 + 224; omega
  | 1 => have h : (i 1).val < 14336 := (i 1).isLt
         show 512 * ((i 1).val / 512) ≤ (i 1).val ∧ (i 1).val < 512 * ((i 1).val / 512) + 512; omega
omit [FloatOps F] in
theorem hq32 (i : S224x4096.Idx) (a : Fin 2) : k0_off32 (colBlk4 (i 1)) a ≤ (i a).val ∧ (i a).val < k0_off32 (colBlk4 (i 1)) a + S224x512.size a := by
  rw [off32_]
  match a with
  | 0 => have h : (i 0).val < 224 := (i 0).isLt
         show 0 ≤ (i 0).val ∧ (i 0).val < 0 + 224; omega
  | 1 => have h : (i 1).val < 4096 := (i 1).isLt
         show 512 * ((i 1).val / 512) ≤ (i 1).val ∧ (i 1).val < 512 * ((i 1).val / 512) + 512; omega
omit [FloatOps F] in
theorem hq34 (i : S2x112x14336.Idx) (a : Fin 3) : k0_off34 (codeBlk (i 2)) a ≤ (i a).val ∧ (i a).val < k0_off34 (codeBlk (i 2)) a + S2x112x1792.size a := by
  rw [off34_]
  match a with
  | 0 => have h : (i 0).val < 2 := (i 0).isLt
         show 0 ≤ (i 0).val ∧ (i 0).val < 0 + 2; omega
  | 1 => have h : (i 1).val < 112 := (i 1).isLt
         show 0 ≤ (i 1).val ∧ (i 1).val < 0 + 112; omega
  | 2 => have h : (i 2).val < 14336 := (i 2).isLt
         show 1792 * ((i 2).val / 1792) ≤ (i 2).val ∧ (i 2).val < 1792 * ((i 2).val / 1792) + 1792; omega
/-- Where row `b` of a pair of rows sits. -/
abbrev offR (b : Fin 2) : Fin 2 → ℕ := ![b.val, 0]
theorem offR_inb : ∀ (b : Fin 2) a, offR b a + S1x112.size a ≤ S2x112.size a := by decide
omit [FloatOps F] in
theorem hqR (i : S2x112.Idx) (a : Fin 2) : offR (i 0) a ≤ (i a).val ∧ (i a).val < offR (i 0) a + S1x112.size a := by
  match a with
  | 0 => show (i 0).val ≤ (i 0).val ∧ (i 0).val < (i 0).val + 1; omega
  | 1 => have h : (i 1).val < 112 := (i 1).isLt
         show 0 ≤ (i 1).val ∧ (i 1).val < 0 + 112; omega
/-- Where half `b` of a pair of halves sits. -/
abbrev offH (b : Fin 2) : Fin 3 → ℕ := ![b.val, 0, 0]
theorem offH_inb : ∀ (b : Fin 2) a, offH b a + S1x112x4096.size a ≤ S2x112x4096.size a := by decide
omit [FloatOps F] in
theorem hqH (i : S2x112x4096.Idx) (a : Fin 3) : offH (i 0) a ≤ (i a).val ∧ (i a).val < offH (i 0) a + S1x112x4096.size a := by
  match a with
  | 0 => show (i 0).val ≤ (i 0).val ∧ (i 0).val < (i 0).val + 1; omega
  | 1 => have h : (i 1).val < 112 := (i 1).isLt
         show 0 ≤ (i 1).val ∧ (i 1).val < 0 + 112; omega
  | 2 => have h : (i 2).val < 4096 := (i 2).isLt
         show 0 ≤ (i 2).val ∧ (i 2).val < 0 + 4096; omega

section Values
variable (hv : Vec F S224x4096 .f32) (tv : Vec F S224x4096 .f32) (gv : Vec F S1x4096 .f32) (w3 w5 : Vec F S4096x14336 .fp8e4m3)
  (w7 : Vec F S14336x4096 .fp8e4m3) (x4 x6 : Vec F S1x14336 .f32) (x8 : Vec F S1x4096 .f32)

/-- The scales of the normalised rows. -/
def aAll : Vec F S224x128 .f32 := untile k0_off5 S32x128.size (fun i : S224x128.Idx => rowBlk (i 0)) hq5 (fun q => sblk hv gv q)
/-- The codes of the normalised rows. -/
def cAll : Vec F S224x4096 .fp8e4m3 := untile k0_off4 S32x4096.size (fun i : S224x4096.Idx => rowBlk (i 0)) hq4 (fun q => cblk hv gv q)
/-- The activations. -/
def zAll : Vec F S224x14336 .f32 := untile k0_off11 S224x512.size (fun i : S224x14336.Idx => colBlk2 (i 1)) hq11
  (fun q => zval (aAll hv gv) (cAll hv gv) w3 w5 x4 x6 q)
/-- Their lane maxima. -/
def mAll : Vec F S224x128 .f32 := mval (aAll hv gv) (cAll hv gv) w3 w5 x4 x6 28
/-- Their scales. -/
def a2All : FVec F S224x128 .f32 := k0_pay27 (k0_pay24 (mAll hv gv w3 w5 x4 x6)) k0_pay25
/-- The inverses of their scales. -/
def m2All : FVec F S224x128 .f32 := k0_pay28 (k0_pay24 (mAll hv gv w3 w5 x4 x6)) k0_pay25
/-- Their codes. -/
def xAll : Vec F S224x14336 .fp8e4m3 := untile k0_off18 S224x512.size (fun i : S224x14336.Idx => colBlk3 (i 1)) hq18
  (fun q => qblk (zAll hv gv w3 w5 x4 x6) (m2All hv gv w3 w5 x4 x6) q)
/-- A pair of rows of scales, the rows' first lanes. -/
def a3blk (A : Vec F S224x128 .f32) (b : Fin 2) : Vec F S1x112 .f32 :=
  if b.val = 0 then k0_pay17 (VecWindow.window A ![0, 0] S112x128.size inb_S224x128_S112x128_0_0)
  else k0_pay20 (VecWindow.window A ![112, 0] S112x128.size inb_S224x128_S112x128_112_0) k0_pay18 (k0_pay19 (F := F))
/-- The first scales, as the result keeps them. -/
def a3out : Vec F S2x112 .f32 := untile offR S1x112.size (fun i : S2x112.Idx => i 0) hqR (a3blk (aAll hv gv))
/-- A pair of rows of scales. -/
def a4blk (A : Vec F S224x128 .f32) (b : Fin 2) : Vec F S1x112 .f32 :=
  if b.val = 0 then k0_pay29 (VecWindow.window A ![0, 0] S112x128.size inb_S224x128_S112x128_0_0)
  else k0_pay31 (k0_pay30 (VecWindow.window A ![112, 0] S112x128.size inb_S224x128_S112x128_112_0))
/-- The second scales, as the result keeps them. -/
def a4out : Vec F S2x112 .f32 := untile offR S1x112.size (fun i : S2x112.Idx => i 0) hqR (a4blk (a2All hv gv w3 w5 x4 x6))
/-- A half of the first codes. -/
def c3blk (C : Vec F S224x4096 .fp8e4m3) (b : Fin 2) : FVec F S1x112x4096 .fp8e4m3 := if b.val = 0 then k0_pay21 C else k0_pay22 C
/-- The first codes, as the result keeps them. -/
def c3out : Vec F S2x112x4096 .fp8e4m3 := untile offH S1x112x4096.size (fun i : S2x112x4096.Idx => i 0) hqH (c3blk (cAll hv gv))
/-- The second codes, as the result keeps them. -/
def c4out : Vec F S2x112x14336 .fp8e4m3 := untile k0_off34 S2x112x1792.size (fun i : S2x112x14336.Idx => codeBlk (i 2)) hq34
  (fun n => c4val (xAll hv gv w3 w5 x4 x6) n)
/-- The first result. -/
def dout : Vec F S224x4096 .f32 := untile k0_off32 S224x512.size (fun i : S224x4096.Idx => colBlk4 (i 1)) hq32
  (fun n => dval (xAll hv gv w3 w5 x4 x6) w7 x8 (k0_pay14 tv) (a2All hv gv w3 w5 x4 x6) n)
end Values

/-- The first rows of scales are stored: then the others. -/
theorem rows_read (P : Vec F S2x112 .f32) (f : Vec F S2x112 .f32) (b : Fin 2 → Vec F S1x112 .f32)
    (h : P = VecWindow.put (VecWindow.put f ![0, 0] S1x112.size (b 0)) ![1, 0] S1x112.size (b 1)) :
    P = untile (s := S2x112) (NB := 2) offR S1x112.size (fun i : S2x112.Idx => i 0) hqR b := by
  refine untile_eq (s := S2x112) (NB := 2) offR _ _ _ _ offR_inb _ (fun q => ?_)
  subst h
  match q with
  | 0 =>
    refine (VecWindow.window_put_of_disjoint _ _ _ _ _ _ _ (0 : Fin 2) ?_).trans (VecWindow.window_put_same _ _ _ _ _)
    left; show 0 + 1 ≤ 1; omega
  | 1 => exact VecWindow.window_put_same _ _ _ _ _
/-- The two halves of the codes are stored. -/
theorem halves_read (P : Vec F S2x112x4096 .fp8e4m3) (f : Vec F S2x112x4096 .fp8e4m3) (b : Fin 2 → Vec F S1x112x4096 .fp8e4m3)
    (h : P = VecWindow.put (VecWindow.put f ![0, 0, 0] S1x112x4096.size (b 0)) ![1, 0, 0] S1x112x4096.size (b 1)) :
    P = untile (s := S2x112x4096) (NB := 2) offH S1x112x4096.size (fun i : S2x112x4096.Idx => i 0) hqH b := by
  refine untile_eq (s := S2x112x4096) (NB := 2) offH _ _ _ _ offH_inb _ (fun q => ?_)
  subst h
  match q with
  | 0 =>
    refine (VecWindow.window_put_of_disjoint _ _ _ _ _ _ _ (0 : Fin 3) ?_).trans (VecWindow.window_put_same _ _ _ _ _)
    left; show 0 + 1 ≤ 1; omega
  | 1 => exact VecWindow.window_put_same _ _ _ _ _

end Cert.Proof.Kernel
-- ==== Proof.Body19.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Vals
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The rows -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

set_option maxHeartbeats 4000000 in
/-- Part 19 of the kernel's text: the last of the first copies, and the loop over the rows. -/
theorem b19 [∀ e, Nonempty (Elt F e)] :
    iprop(ringAt (F := F) c arg3 arg5 arg7 arg14 arg23 W3 W5 W7 4 .free ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G) ∗ (∃ f, (arg11.view.loc (c : Thread nD τ) ↦[arg11.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
      ⊢ wp frame (wpE (defs₀ (F := F)) Variants.none (c : Thread nD τ) none) Set.univ (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun r => iprop(ringAt (F := F) c arg3 arg5 arg7 arg14 arg23 W3 W5 W7 4 (.up 7) ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G)
      ∗ (∃ f, (arg11.view.loc (c : Thread nD τ) ↦[arg11.view.set]{fullShare} f) ∗ ⌜∃ g : Vec F S2x112 .f32, arg11.view.read (Elt F) f = VecWindow.put g ![0, 0] S1x112.size (a3blk (aAll (arg0.view.read (Elt F) H) (arg2.view.read (Elt F) G)) 0)⌝)
      ∗ (∃ f, (arg16.view.loc (c : Thread nD τ) ↦[arg16.view.set]{fullShare} f) ∗ ⌜arg16.view.read (Elt F) f = cAll (arg0.view.read (Elt F) H) (arg2.view.read (Elt F) G)⌝)
      ∗ (∃ f, (arg20.view.loc (c : Thread nD τ) ↦[arg20.view.set]{fullShare} f) ∗ ⌜arg20.view.read (Elt F) f = k0_pay14 (arg1.view.read (Elt F) T1)⌝)
      ∗ (∃ f, (arg21.view.loc (c : Thread nD τ) ↦[arg21.view.set]{fullShare} f) ∗ ⌜arg21.view.read (Elt F) f = aAll (arg0.view.read (Elt F) H) (arg2.view.read (Elt F) G)⌝)
      ∗ ⌜r = ⟨VecWindow.window (aAll (arg0.view.read (Elt F) H) (arg2.view.read (Elt F) G)) ![112, 0] S112x128.size inb_S224x128_S112x128_112_0, k0_pay18, k0_pay19 (F := F)⟩⌝)) := by
  unfold ringAt; dsimp only
  iintro ⟨⟨Rc, ⟨%fr, Rs⟩, Ra, Rb, Rd⟩, H0, H1, H2, ⟨%f11, H11⟩, ⟨%f16, H16⟩, ⟨%f20, H20⟩, ⟨%f21, H21⟩⟩
  ihave Ra := held_in _ $$ Ra
  ihave Rd := held_in _ $$ Rd
  rw [k0_part19_eq_skeleton]
  sl_unfold [k0_part19_skel]
  sl_exec
  sl_for (fun k (_ : Unit) => t1At c arg0 arg2 arg16 arg21 H G k) $$ [H0 H2 H16 H21]
  · intro k acc
    exact t1_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 H G k acc
  · unfold t1At
    isplitl [H0]; · iexact H0
    isplitl [H2]; · iexact H2
    iexists f21; iexists f16
    isplitl [H16 H21]
    · isplitl [H21]; · iexact H21
      iexact H16
    ipureintro
    intro q hq
    exact absurd hq (Nat.not_lt_zero _)
  iintro %acc HL
  unfold t1At
  icases HL with ⟨H0, H2, ⟨%A, ⟨%C, ⟨⟨H21, H16⟩, %hq⟩⟩⟩⟩
  have hA : arg21.view.read (Elt F) A = aAll (arg0.view.read (Elt F) H) (arg2.view.read (Elt F) G) :=
    untile_eq (s := S224x128) (NB := k0_t1_loop.trips) k0_off5 S32x128.size (fun i : S224x128.Idx => rowBlk (i 0)) hq5 _ k0_off5_inb _ (fun q => (hq q q.isLt).1)
  have hC : arg16.view.read (Elt F) C = cAll (arg0.view.read (Elt F) H) (arg2.view.read (Elt F) G) :=
    untile_eq (s := S224x4096) (NB := k0_t1_loop.trips) k0_off4 S32x4096.size (fun i : S224x4096.Idx => rowBlk (i 0)) hq4 _ k0_off4_inb _ (fun q => (hq q q.isLt).2)
  sl_exec
  sl_step
  ihave Ra := held_out _ $$ Ra
  ihave Rd := held_out _ $$ Rd
  isplitl [Rc Rb Ra Rd]
  · isplitl [Rc Rb]
    · isplitl [Rc]
      · iexists fr; iexact Rc
      · iexact Rb
    isplitl [Ra]; · iexact Ra
    iexact Rd
  isplitl [H0]; · iexact H0
  isplitl [H1]; · iexact H1
  isplitl [H2]; · iexact H2
  isplitl [H11]
  · iexists _
    isplitl [H11]; · iexact H11
    ipureintro
    refine ⟨arg11.view.read (Elt F) f11, ?_⟩
    rw [View.read_writes_cons_put arg11.view f11 inb_S2x112_S1x112_0_0 _ _ rfl, View.writes_nil, View.readAt_unit arg21.view A inb_S224x128_S112x128_0_0 rfl inb_S224x128_S112x128_0_0, hA]
    rfl
  isplitl [H16]
  · iexists _
    isplitl [H16]; · iexact H16
    ipureintro; exact hC
  isplitl [H20]
  · iexists _
    isplitl [H20]; · iexact H20
    ipureintro
    unfold b19.sl.H20_1
    refine (View.read_writes_full _ _ _ _ _).trans ?_
    rw [View.readAt_full arg1.view T1]
  isplitl [H21]
  · iexists _
    isplitl [H21]; · iexact H21
    ipureintro; exact hA
  ipureintro
  rw [View.readAt_unit arg21.view A inb_S224x128_S112x128_112_0 rfl inb_S224x128_S112x128_112_0, hA]

end Cert.Proof.Kernel
-- ==== Proof.Body20.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Body19
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The gate and up products -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

/-- The semaphore of the copy of the first codes. -/
abbrev cell24 : SemLoc sig := .dma ((arg24.slice (Rect.unit (s := S1) ![0] S1.size inb_S1_S1_0)).squeeze S_ squeezes_S1_S_).sem
/-- The staging buffer of the first codes, as the copy takes it. -/
abbrev stg18 : Memref sig .tc .vmem S2x112x4096 .fp8e4m3 := arg18.slice (Rect.unit (s := S2x112x4096) ![0, 0, 0] S2x112x4096.size inb_S2x112x4096_S2x112x4096_0_0_0) (fun _ => rfl)

set_option maxHeartbeats 4000000 in
/-- Part 20 of the kernel's text: the first codes go out, and the loop over the gate and up windows. -/
theorem b20 [∀ e, Nonempty (Elt F e)] (W : Waits sig Unit) :
    iprop(Ring.AtW (σ := fun _ => St) (ringAt (F := F) c arg3 arg5 arg7 arg14 arg23 W3 W5 W7) (tab (21 + 2 * 0))
      ∗ (arg4.view.loc (c : Thread nD τ) ↦[arg4.view.set]{fullShare} X4) ∗ (arg6.view.loc (c : Thread nD τ) ↦[arg6.view.set]{fullShare} X6)
      ∗ (∃ f, (arg11.view.loc (c : Thread nD τ) ↦[arg11.view.set]{fullShare} f) ∗ ⌜∃ g : Vec F S2x112 .f32, arg11.view.read (Elt F) f = VecWindow.put g ![0, 0] S1x112.size (a3blk (aAll (arg0.view.read (Elt F) H) (arg2.view.read (Elt F) G)) 0)⌝)
      ∗ (∃ f, (arg16.view.loc (c : Thread nD τ) ↦[arg16.view.set]{fullShare} f) ∗ ⌜arg16.view.read (Elt F) f = cAll (arg0.view.read (Elt F) H) (arg2.view.read (Elt F) G)⌝)
      ∗ (∃ f, (arg21.view.loc (c : Thread nD τ) ↦[arg21.view.set]{fullShare} f) ∗ ⌜arg21.view.read (Elt F) f = aAll (arg0.view.read (Elt F) H) (arg2.view.read (Elt F) G)⌝)
      ∗ (∃ f, (arg18.view.loc (c : Thread nD τ) ↦[arg18.view.set]{fullShare} f)) ∗ (∃ f, (arg10.view.loc (c : Thread nD τ) ↦[arg10.view.set]{fullShare} f)) ∗ (∃ f, (arg22.view.loc (c : Thread nD τ) ↦[arg22.view.set]{fullShare} f)) ∗ (∃ f, (arg15.view.loc (c : Thread nD τ) ↦[arg15.view.set]{fullShare} f)) ∗ semVal ((c : Thread nD τ), cell24 arg24) 0 ∗ owes (c : Thread nD τ) 0 W)
      ⊢ wp frame (wpE (defs₀ (F := F)) Variants.none (c : Thread nD τ) none) Set.univ (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 (VecWindow.window (aAll (arg0.view.read (Elt F) H) (arg2.view.read (Elt F) G)) ![112, 0] S112x128.size inb_S224x128_S112x128_112_0) k0_pay18 (k0_pay19 (F := F)))
        (fun r => iprop(Ring.AtW (σ := fun _ => St) (ringAt (F := F) c arg3 arg5 arg7 arg14 arg23 W3 W5 W7) (tab (77 + 4 * 0))
      ∗ (arg4.view.loc (c : Thread nD τ) ↦[arg4.view.set]{fullShare} X4) ∗ (arg6.view.loc (c : Thread nD τ) ↦[arg6.view.set]{fullShare} X6)
      ∗ (∃ f, (arg11.view.loc (c : Thread nD τ) ↦[arg11.view.set]{fullShare} f) ∗ ⌜arg11.view.read (Elt F) f = a3out (arg0.view.read (Elt F) H) (arg2.view.read (Elt F) G)⌝)
      ∗ (∃ f, (arg16.view.loc (c : Thread nD τ) ↦[arg16.view.set]{fullShare} f)) ∗ (∃ f, (arg21.view.loc (c : Thread nD τ) ↦[arg21.view.set]{fullShare} f))
      ∗ (∃ g f18, Transfers.Flight (countersEmb (U := UC sig nD τ)) (c : Thread nD τ) (cell24 arg24) () 32768 iprop((arg10.view.loc (c : Thread nD τ) ↦[arg10.view.set]{fullShare} arg10.view.writes (Elt F) g [⟨Rect.whole S2x112x4096, ReadAs.same.apply ((stg18 arg18).view.read (Elt F) f18)⟩]) ∗ ((stg18 arg18).view.loc (c : Thread nD τ) ↦[(stg18 arg18).view.set]{fullShare} f18)) ∗ ⌜arg18.view.read (Elt F) f18 = c3out (arg0.view.read (Elt F) H) (arg2.view.read (Elt F) G)⌝)
      ∗ (∃ f, (arg22.view.loc (c : Thread nD τ) ↦[arg22.view.set]{fullShare} f)) ∗ (∃ f, (arg15.view.loc (c : Thread nD τ) ↦[arg15.view.set]{fullShare} f) ∗ ⌜arg15.view.read (Elt F) f = zAll (arg0.view.read (Elt F) H) (arg2.view.read (Elt F) G) (arg3.view.read (Elt F) W3) (arg5.view.read (Elt F) W5) (arg4.view.read (Elt F) X4) (arg6.view.read (Elt F) X6)⌝) ∗ (∃ W, owes (c : Thread nD τ) 0 W) ∗ ⌜r = ⟨k0_pay24 (mAll (arg0.view.read (Elt F) H) (arg2.view.read (Elt F) G) (arg3.view.read (Elt F) W3) (arg5.view.read (Elt F) W5) (arg4.view.read (Elt F) X4) (arg6.view.read (Elt F) X6)), k0_pay25 (F := F)⟩⌝)) := by
  iintro ⟨HR, H4, H6, ⟨%f11, ⟨H11, %h11⟩⟩, ⟨%C, ⟨H16, %hC⟩⟩, ⟨%A, ⟨H21, %hA⟩⟩, ⟨%f18, H18⟩, ⟨%f10, H10⟩, ⟨%f22, H22⟩, ⟨%f15, H15⟩, Hc, HO⟩
  obtain ⟨g11, h11⟩ := h11
  rw [k0_part20_eq_skeleton]
  sl_unfold [k0_part20_skel]
  sl_exec
  sl_for (fun k (_ : Unit) => t2At c arg3 arg4 arg5 arg6 arg7 arg14 arg15 arg16 arg21 arg22 arg23 W3 W5 W7 C A X4 X6 k) $$ [HR H4 H6 H15 H16 H21 H22 HO]
  · intro k acc
    exact t2_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 C A X4 X6 _ _ _ k acc
  · unfold t2At t2Env
    isplitl [HR]; · iexact HR
    isplitr [HO]
    · iexists _; iexists f15
      isplitl [H4 H6 H15 H16 H21 H22]
      · isplitl [H16]; · iexact H16
        isplitl [H21]; · iexact H21
        isplitl [H22]; · iexact H22
        isplitl [H15]; · iexact H15
        isplitl [H4]; · iexact H4
        iexact H6
      ipureintro
      refine ⟨?_, fun q hq => absurd hq (Nat.not_lt_zero _)⟩
      first | unfold b20.sl.H22_1 | skip
      exact View.read_writes_full _ _ _ _ _
    iexists _; iexact HO
  iintro %acc HL
  unfold t2At
  icases HL with ⟨HR, ⟨%M, ⟨%Z, ⟨HE, %hq⟩⟩⟩, HO⟩
  unfold t2Env
  icases HE with ⟨H16, H21, H22, H15, H4, H6⟩
  have e28 : Scf.trips k0_t2_loop.lb k0_t2_loop.ub k0_t2_loop.st = 28 := t2_trips
  have hM : arg22.view.read (Elt F) M = mAll (arg0.view.read (Elt F) H) (arg2.view.read (Elt F) G) (arg3.view.read (Elt F) W3) (arg5.view.read (Elt F) W5) (arg4.view.read (Elt F) X4) (arg6.view.read (Elt F) X6) := by
    rw [hq.1, hA, hC, e28]; rfl
  have hZ : arg15.view.read (Elt F) Z = zAll (arg0.view.read (Elt F) H) (arg2.view.read (Elt F) G) (arg3.view.read (Elt F) W3) (arg5.view.read (Elt F) W5) (arg4.view.read (Elt F) X4) (arg6.view.read (Elt F) X6) :=
    untile_eq (s := S224x14336) (NB := k0_t2_loop.trips) k0_off11 S224x512.size (fun i : S224x14336.Idx => colBlk2 (i 1)) hq11 _ k0_off11_inb _ (fun q => by
      rw [hq.2 q q.isLt, hA, hC])
  sl_exec
  sl_step
  rw [show tab (21 + 2 * Scf.trips k0_t2_loop.lb k0_t2_loop.ub k0_t2_loop.st) = tab (77 + 4 * 0) by rw [e28]]
  isplitl [HR]; · iexact HR
  isplitl [H4]; · iexact H4
  isplitl [H6]; · iexact H6
  isplitl [H11]
  · iexists _
    isplitl [H11]; · iexact H11
    ipureintro
    refine rows_read _ g11 _ ?_
    rw [View.read_writes_cons_put arg11.view f11 inb_S2x112_S1x112_1_0 _ _ rfl, View.writes_nil, h11]
    rfl
  isplitl [H16]; · iexists _; iexact H16
  isplitl [H21]; · iexists _; iexact H21
  isplitl [Hc]
  · iexists f10; iexists (arg18.view.writes (Elt F) f18 (b20.sl.H18_2 c arg16 C))
    isplitl [Hc]; · iexact Hc
    ipureintro
    refine halves_read _ (arg18.view.read (Elt F) f18) _ ?_
    unfold b20.sl.H18_2
    rw [View.read_writes_cons_put arg18.view f18 inb_S2x112x4096_S1x112x4096_1_0_0 _ _ rfl, View.read_writes_cons_put arg18.view f18 inb_S2x112x4096_S1x112x4096_0_0_0 _ _ rfl, View.writes_nil,
      View.readAt_full arg16.view C, hC]
    rfl
  isplitl [H22]; · iexists _; iexact H22
  isplitl [H15]
  · iexists _
    isplitl [H15]; · iexact H15
    ipureintro; exact hZ
  isplitl [HO]; · iexact HO
  ipureintro
  rw [View.readAt_full arg22.view M, hM]

end Cert.Proof.Kernel
-- ==== Proof.Body21.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Body20
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The second scales -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

set_option maxHeartbeats 4000000 in
/-- Part 21 of the kernel's text: the scales of the activations. -/
theorem b21 [∀ e, Nonempty (Elt F e)] :
    (iprop((∃ f, (arg21.view.loc (c : Thread nD τ) ↦[arg21.view.set]{fullShare} f)) ∗ (∃ f, (arg22.view.loc (c : Thread nD τ) ↦[arg22.view.set]{fullShare} f)) ∗ (∃ f, (arg13.view.loc (c : Thread nD τ) ↦[arg13.view.set]{fullShare} f))) : sProp 𝕄)
      ⊢ wp frame (wpE (defs₀ (F := F)) Variants.none (c : Thread nD τ) none) Set.univ (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 (k0_pay24 (mAll (arg0.view.read (Elt F) H) (arg2.view.read (Elt F) G) (arg3.view.read (Elt F) W3) (arg5.view.read (Elt F) W5) (arg4.view.read (Elt F) X4) (arg6.view.read (Elt F) X6))) k0_pay25)
        (fun r => iprop((∃ f, (arg21.view.loc (c : Thread nD τ) ↦[arg21.view.set]{fullShare} f) ∗ ⌜arg21.view.read (Elt F) f = a2All (arg0.view.read (Elt F) H) (arg2.view.read (Elt F) G) (arg3.view.read (Elt F) W3) (arg5.view.read (Elt F) W5) (arg4.view.read (Elt F) X4) (arg6.view.read (Elt F) X6)⌝) ∗ (∃ f, (arg22.view.loc (c : Thread nD τ) ↦[arg22.view.set]{fullShare} f) ∗ ⌜arg22.view.read (Elt F) f = m2All (arg0.view.read (Elt F) H) (arg2.view.read (Elt F) G) (arg3.view.read (Elt F) W3) (arg5.view.read (Elt F) W5) (arg4.view.read (Elt F) X4) (arg6.view.read (Elt F) X6)⌝) ∗ (∃ f, (arg13.view.loc (c : Thread nD τ) ↦[arg13.view.set]{fullShare} f) ∗ ⌜∃ g : Vec F S2x112 .f32, arg13.view.read (Elt F) f = VecWindow.put g ![0, 0] S1x112.size (a4blk (a2All (arg0.view.read (Elt F) H) (arg2.view.read (Elt F) G) (arg3.view.read (Elt F) W3) (arg5.view.read (Elt F) W5) (arg4.view.read (Elt F) X4) (arg6.view.read (Elt F) X6)) 0)⌝)
      ∗ ⌜r = k0_pay30 (VecWindow.window (a2All (arg0.view.read (Elt F) H) (arg2.view.read (Elt F) G) (arg3.view.read (Elt F) W3) (arg5.view.read (Elt F) W5) (arg4.view.read (Elt F) X4) (arg6.view.read (Elt F) X6)) ![112, 0] S112x128.size inb_S224x128_S112x128_112_0)⌝)) := by
  iintro ⟨⟨%f21, H21⟩, ⟨%f22, H22⟩, ⟨%f13, H13⟩⟩
  rw [k0_part21_eq_skeleton]
  sl_unfold [k0_part21_skel]
  sl_exec
  sl_step
  have e21 : ∀ f, arg21.view.read (Elt F) (arg21.view.writes (Elt F) f (b21.sl.H21_1 arg0 arg2 arg3 arg4 arg5 arg6 W3 W5 H G X4 X6)) = a2All (arg0.view.read (Elt F) H) (arg2.view.read (Elt F) G) (arg3.view.read (Elt F) W3) (arg5.view.read (Elt F) W5) (arg4.view.read (Elt F) X4) (arg6.view.read (Elt F) X6) := by
    intro f
    unfold b21.sl.H21_1
    exact View.read_writes_full _ _ _ _ _
  have e230 : b21.sl.v230 arg0 arg2 arg3 arg4 arg5 arg6 arg21 W3 W5 H G X4 X6 = VecWindow.window (a2All (arg0.view.read (Elt F) H) (arg2.view.read (Elt F) G) (arg3.view.read (Elt F) W3) (arg5.view.read (Elt F) W5) (arg4.view.read (Elt F) X4) (arg6.view.read (Elt F) X6)) ![0, 0] S112x128.size inb_S224x128_S112x128_0_0 := by
    unfold b21.sl.v230 View.readCov
    rw [View.readAt_unit arg21.view _ inb_S224x128_S112x128_0_0 rfl inb_S224x128_S112x128_0_0, e21]
  have e240 : b21.sl.v240 arg0 arg2 arg3 arg4 arg5 arg6 arg21 W3 W5 H G X4 X6 = VecWindow.window (a2All (arg0.view.read (Elt F) H) (arg2.view.read (Elt F) G) (arg3.view.read (Elt F) W3) (arg5.view.read (Elt F) W5) (arg4.view.read (Elt F) X4) (arg6.view.read (Elt F) X6)) ![112, 0] S112x128.size inb_S224x128_S112x128_112_0 := by
    unfold b21.sl.v240 View.readCov
    rw [View.readAt_unit arg21.view _ inb_S224x128_S112x128_112_0 rfl inb_S224x128_S112x128_112_0, e21]
  isplitl [H21]
  · iexists _
    isplitl [H21]; · iexact H21
    ipureintro; exact e21 _
  isplitl [H22]
  · iexists _
    isplitl [H22]; · iexact H22
    ipureintro; exact View.read_writes_full _ _ _ _ _
  isplitl [H13]
  · iexists _
    isplitl [H13]; · iexact H13
    ipureintro
    refine ⟨arg13.view.read (Elt F) f13, ?_⟩
    rw [View.read_writes_cons_put arg13.view f13 inb_S2x112_S1x112_0_0 _ _ rfl, View.writes_nil, e230]
    rfl
  ipureintro
  rw [e240]

end Cert.Proof.Kernel
-- ==== Proof.Body22.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Body21
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The codes of the activations and the down products -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

/-- The array of attention values, as the passes take its columns. -/
theorem split20 (T : BufTy.Contents (Elt F) arg20.view.ty) : (arg20.view.loc (c : Thread nD τ) ↦[arg20.view.set]{fullShare} T)
    ⊢ (bigSep Finset.univ (fun n : Fin N4 => ((win20 arg20 (k0_off30 n) (k0_off30_inb n)).view.loc (c : Thread nD τ) ↦[(win20 arg20 (k0_off30 n) (k0_off30_inb n)).view.set]{fullShare} T)) : sProp 𝕄) :=
  blk_split c arg20 (1 : Fin 2) 512 k0_off30 S224x512.size k0_off30_inb (fun b => by rw [off30_, off32_]; rfl)
    (fun b a h => by rw [off30_, off32_]; match a, h with | 0, _ => rfl | 1, h => exact absurd rfl h) rfl
    (fun a h => by match a, h with | 0, _ => rfl | 1, h => exact absurd rfl h) (by decide +kernel) _ (fun b => View.set_slice _ _) T
/-- After the last pass of the down loop every slot is free. -/
theorem ring_done : Ring.AtW (σ := fun _ => St) (ringAt (F := F) c arg3 arg5 arg7 arg14 arg23 W3 W5 W7) (tab (77 + 4 * 8)) ⊢ Ring.AtW (σ := fun _ => St) (ringAt (F := F) c arg3 arg5 arg7 arg14 arg23 W3 W5 W7) (fun _ => .free) := by
  rw [Ring.AtW_congr _ (st := fun _ => .free) (st' := tab (77 + 4 * 8)) (fun k => chunk_free _ (by omega))]
/-- Three families over the passes, held together. -/
theorem todo_mk (T : BufTy.Contents (Elt F) arg20.view.ty) : iprop(bigSep Finset.univ (fun n : Fin N4 => iprop(∃ f, (win4 arg12 (k0_off34 n) (k0_off34_inb n)).view.loc (c : Thread nD τ) ↦[(win4 arg12 (k0_off34 n) (k0_off34_inb n)).view.set]{fullShare} f)) ∗ bigSep Finset.univ (fun n : Fin N4 => ((win20 arg20 (k0_off30 n) (k0_off30_inb n)).view.loc (c : Thread nD τ) ↦[(win20 arg20 (k0_off30 n) (k0_off30_inb n)).view.set]{fullShare} T)) ∗ bigSep Finset.univ (fun n : Fin N4 => iprop(∃ f, (win9 arg9 (k0_off32 n) (k0_off32_inb n)).view.loc (c : Thread nD τ) ↦[(win9 arg9 (k0_off32 n) (k0_off32_inb n)).view.set]{fullShare} f)))
    ⊢ (bigSep (Ring.rangeSet N4 0 N4) (ctodo c arg9 arg12 arg20 T) : sProp 𝕄) := by
  rw [← bigSep_sep', ← bigSep_sep']
  refine Entails.of_eq ?_
  rw [show Ring.rangeSet N4 0 N4 = Finset.univ from by decide +kernel]
  rfl
/-- The last pass but one. -/
abbrev p6 : Fin N4 := ⟨6, by decide +kernel⟩
/-- The last pass. -/
abbrev p7 : Fin N4 := ⟨7, by decide +kernel⟩
theorem wait6 : k0_off34 p6 = k0_off40 6#32 ∧ ![8 % 2, 0, 0, 0] = k0_off41 6#32 ∧ ![8 % 2] = k0_off39 6#32 := by decide +kernel
theorem wait7 : k0_off34 p7 = k0_off40 7#32 ∧ ![9 % 2, 0, 0, 0] = k0_off41 7#32 ∧ ![9 % 2] = k0_off39 7#32 := by decide +kernel
theorem cst8 (X : BufTy.Contents (Elt F) arg17.view.ty) : cst c arg12 arg17 arg19 arg26 X 8 ⊢ cfl c arg12 arg19 arg26 (c4val (arg17.view.read (Elt F) X) p6) (k0_off39 6#32) (k0_off39_inb 0) (k0_off41 6#32) (k0_off41_inb 0) (k0_off40 6#32) (k0_off40_inb 0) := by
  rw [cst, dif_pos (⟨by omega, by decide +kernel⟩ : 2 ≤ 8 ∧ 8 - 2 < N4)]
  exact ent_of_eq (cfl_congr c arg12 arg19 arg26 _ wait6.2.2 wait6.2.1 wait6.1 _ _ _ _ _ _)
theorem cst9 (X : BufTy.Contents (Elt F) arg17.view.ty) : cst c arg12 arg17 arg19 arg26 X 9 ⊢ cfl c arg12 arg19 arg26 (c4val (arg17.view.read (Elt F) X) p7) (k0_off39 7#32) (k0_off39_inb 1) (k0_off41 7#32) (k0_off41_inb 1) (k0_off40 7#32) (k0_off40_inb 1) := by
  rw [cst, dif_pos (⟨by omega, by decide +kernel⟩ : 2 ≤ 9 ∧ 9 - 2 < N4)]
  exact ent_of_eq (cfl_congr c arg12 arg19 arg26 _ wait7.2.2 wait7.2.1 wait7.1 _ _ _ _ _ _)
theorem idle_mk (oc : Fin 1 → ℕ) (os : Fin 4 → ℕ) (i : ℕ) (e1 : oc = ![i % 2]) (e2 : os = ![i % 2, 0, 0, 0]) (hc) (hs) :
    cidle (F := F) c arg19 arg26 oc hc os hs ⊢ cidle (F := F) c arg19 arg26 ![i % 2] (par_inb i) ![i % 2, 0, 0, 0] (spar_inb i) :=
  ent_of_eq (cidle_congr c arg19 arg26 e1 e2 _ _ _ _)
theorem cst_idle (X : BufTy.Contents (Elt F) arg17.view.ty) (i : ℕ) (h : i < 2) : cidle (F := F) c arg19 arg26 ![i % 2] (par_inb i) ![i % 2, 0, 0, 0] (spar_inb i) ⊢ cst c arg12 arg17 arg19 arg26 X i := by
  rw [cst, dif_neg (fun h' => by omega)]
/-- The codes of a pass, arrived. -/
theorem done_mk (X : BufTy.Contents (Elt F) arg17.view.ty) (m : Fin N4) (ow : Fin 3 → ℕ) (e : k0_off34 m = ow) (hw) (f)
    (h : (win4 arg12 ow hw).view.read (Elt F) f = c4val (arg17.view.read (Elt F) X) m) :
    ((win4 arg12 ow hw).view.loc (c : Thread nD τ) ↦[(win4 arg12 ow hw).view.set]{fullShare} f : sProp 𝕄) ⊢ cdone c arg12 arg17 X m := by
  subst e
  unfold cdone
  iintro H
  iexists f
  isplitl [H]; · iexact H
  ipureintro; exact h
/-- Before the first pass of the down loop there is no copy of codes under way, and none has arrived. -/
theorem done_none (X : BufTy.Contents (Elt F) arg17.view.ty) : (iprop(emp) : sProp 𝕄) ⊢ bigSep (Ring.rangeSet N4 0 (0 - 2)) (cdone c arg12 arg17 X) := by
  rw [Ring.bigSep_rangeSet_empty (le_refl 0)]
set_option maxHeartbeats 4000000 in
/-- Part 22 of the kernel's text: the codes, the down products, and all the codes' copies but the last waited for. -/
theorem b22 [∀ e, Nonempty (Elt F e)] (v245 : Vec F S112x128 .f32) (hv245 : v245 = k0_pay30 (VecWindow.window (a2All (arg0.view.read (Elt F) H) (arg2.view.read (Elt F) G) (arg3.view.read (Elt F) W3) (arg5.view.read (Elt F) W5) (arg4.view.read (Elt F) X4) (arg6.view.read (Elt F) X6)) ![112, 0] S112x128.size inb_S224x128_S112x128_112_0)) :
    iprop(Ring.AtW (σ := fun _ => St) (ringAt (F := F) c arg3 arg5 arg7 arg14 arg23 W3 W5 W7) (tab (77 + 4 * 0))
      ∗ (arg8.view.loc (c : Thread nD τ) ↦[arg8.view.set]{fullShare} X8) ∗ (∃ f, (arg13.view.loc (c : Thread nD τ) ↦[arg13.view.set]{fullShare} f) ∗ ⌜∃ g : Vec F S2x112 .f32, arg13.view.read (Elt F) f = VecWindow.put g ![0, 0] S1x112.size (a4blk (a2All (arg0.view.read (Elt F) H) (arg2.view.read (Elt F) G) (arg3.view.read (Elt F) W3) (arg5.view.read (Elt F) W5) (arg4.view.read (Elt F) X4) (arg6.view.read (Elt F) X6)) 0)⌝)
      ∗ (∃ g f18, Transfers.Flight (countersEmb (U := UC sig nD τ)) (c : Thread nD τ) (cell24 arg24) () 32768 iprop((arg10.view.loc (c : Thread nD τ) ↦[arg10.view.set]{fullShare} arg10.view.writes (Elt F) g [⟨Rect.whole S2x112x4096, ReadAs.same.apply ((stg18 arg18).view.read (Elt F) f18)⟩]) ∗ ((stg18 arg18).view.loc (c : Thread nD τ) ↦[(stg18 arg18).view.set]{fullShare} f18)) ∗ ⌜arg18.view.read (Elt F) f18 = c3out (arg0.view.read (Elt F) H) (arg2.view.read (Elt F) G)⌝) ∗ (∃ f, (arg15.view.loc (c : Thread nD τ) ↦[arg15.view.set]{fullShare} f) ∗ ⌜arg15.view.read (Elt F) f = zAll (arg0.view.read (Elt F) H) (arg2.view.read (Elt F) G) (arg3.view.read (Elt F) W3) (arg5.view.read (Elt F) W5) (arg4.view.read (Elt F) X4) (arg6.view.read (Elt F) X6)⌝) ∗ (∃ f, (arg17.view.loc (c : Thread nD τ) ↦[arg17.view.set]{fullShare} f)) ∗ (∃ f, (arg20.view.loc (c : Thread nD τ) ↦[arg20.view.set]{fullShare} f) ∗ ⌜arg20.view.read (Elt F) f = k0_pay14 (arg1.view.read (Elt F) T1)⌝)
      ∗ (∃ f, (arg21.view.loc (c : Thread nD τ) ↦[arg21.view.set]{fullShare} f) ∗ ⌜arg21.view.read (Elt F) f = a2All (arg0.view.read (Elt F) H) (arg2.view.read (Elt F) G) (arg3.view.read (Elt F) W3) (arg5.view.read (Elt F) W5) (arg4.view.read (Elt F) X4) (arg6.view.read (Elt F) X6)⌝) ∗ (∃ f, (arg22.view.loc (c : Thread nD τ) ↦[arg22.view.set]{fullShare} f) ∗ ⌜arg22.view.read (Elt F) f = m2All (arg0.view.read (Elt F) H) (arg2.view.read (Elt F) G) (arg3.view.read (Elt F) W3) (arg5.view.read (Elt F) W5) (arg4.view.read (Elt F) X4) (arg6.view.read (Elt F) X6)⌝)
      ∗ bigSep Finset.univ (fun n : Fin N4 => iprop(∃ f, (win9 arg9 (k0_off32 n) (k0_off32_inb n)).view.loc (c : Thread nD τ) ↦[(win9 arg9 (k0_off32 n) (k0_off32_inb n)).view.set]{fullShare} f)) ∗ bigSep Finset.univ (fun n : Fin N4 => iprop(∃ f, (win4 arg12 (k0_off34 n) (k0_off34_inb n)).view.loc (c : Thread nD τ) ↦[(win4 arg12 (k0_off34 n) (k0_off34_inb n)).view.set]{fullShare} f)) ∗ cidle (F := F) c arg19 arg26 ![0] (par_inb 0) ![0, 0, 0, 0] (spar_inb 0) ∗ cidle (F := F) c arg19 arg26 ![1] (par_inb 1) ![1, 0, 0, 0] (spar_inb 1)
      ∗ semVal ((c : Thread nD τ), cell1 arg25) 0 ∗ (∃ W, owes (c : Thread nD τ) 0 W))
      ⊢ wp frame (wpE (defs₀ (F := F)) Variants.none (c : Thread nD τ) none) Set.univ (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 v245)
        (fun _ => iprop(Ring.AtW (σ := fun _ => St) (ringAt (F := F) c arg3 arg5 arg7 arg14 arg23 W3 W5 W7) (fun _ => .free)
      ∗ (arg8.view.loc (c : Thread nD τ) ↦[arg8.view.set]{fullShare} X8) ∗ (∃ f, (arg13.view.loc (c : Thread nD τ) ↦[arg13.view.set]{fullShare} f) ∗ ⌜arg13.view.read (Elt F) f = a4out (arg0.view.read (Elt F) H) (arg2.view.read (Elt F) G) (arg3.view.read (Elt F) W3) (arg5.view.read (Elt F) W5) (arg4.view.read (Elt F) X4) (arg6.view.read (Elt F) X6)⌝) ∗ (∃ f, (arg10.view.loc (c : Thread nD τ) ↦[arg10.view.set]{fullShare} f) ∗ ⌜arg10.view.read (Elt F) f = c3out (arg0.view.read (Elt F) H) (arg2.view.read (Elt F) G)⌝)
      ∗ (∃ f, ((stg18 arg18).view.loc (c : Thread nD τ) ↦[(stg18 arg18).view.set]{fullShare} f)) ∗ semVal ((c : Thread nD τ), cell24 arg24) 0
      ∗ (∃ f, (arg15.view.loc (c : Thread nD τ) ↦[arg15.view.set]{fullShare} f)) ∗ (∃ f, (arg21.view.loc (c : Thread nD τ) ↦[arg21.view.set]{fullShare} f)) ∗ (∃ f, (arg22.view.loc (c : Thread nD τ) ↦[arg22.view.set]{fullShare} f))
      ∗ (∃ X, (arg17.view.loc (c : Thread nD τ) ↦[arg17.view.set]{fullShare} X) ∗ ⌜arg17.view.read (Elt F) X = xAll (arg0.view.read (Elt F) H) (arg2.view.read (Elt F) G) (arg3.view.read (Elt F) W3) (arg5.view.read (Elt F) W5) (arg4.view.read (Elt F) X4) (arg6.view.read (Elt F) X6)⌝
        ∗ cst c arg12 arg17 arg19 arg26 X 9 ∗ bigSep (Ring.rangeSet N4 0 7) (cdone c arg12 arg17 X))
      ∗ cidle (F := F) c arg19 arg26 ![0] (par_inb 0) ![0, 0, 0, 0] (spar_inb 0)
      ∗ dbatch c arg9 arg20 arg25 (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n) 8 0
      ∗ (∃ W, owes (c : Thread nD τ) 0 W))) := by
  subst hv245
  iintro ⟨HR, H8, ⟨%f13, ⟨H13, %h13⟩⟩, ⟨%f10, ⟨%f18, ⟨Hc, %h18⟩⟩⟩, ⟨%Z, ⟨H15, %hZ⟩⟩, ⟨%f17, H17⟩, ⟨%T, ⟨H20, %hT⟩⟩, ⟨%A, ⟨H21, %hA⟩⟩, ⟨%M, ⟨H22, %hM⟩⟩, H9, H12, HS0, HS1, Hd, ⟨%W, HO⟩⟩
  obtain ⟨g13, h13⟩ := h13
  ihave H9 := held_in _ $$ H9
  ihave H12 := held_in _ $$ H12
  ihave HS0 := held_in _ $$ HS0
  ihave HS1 := held_in _ $$ HS1
  ihave HR := held_in _ $$ HR
  rw [k0_part22_eq_skeleton]
  sl_unfold [k0_part22_skel]
  sl_exec
  sl_for (fun k (_ : Unit) => t3At c arg15 arg17 arg22 Z M k) $$ [H15 H17 H22]
  · intro k acc
    exact t3_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 Z M _ k acc
  · unfold t3At
    isplitl [H15]; · iexact H15
    isplitl [H22]; · iexact H22
    iexists f17
    isplitl [H17]; · iexact H17
    ipureintro
    exact fun q hq => absurd hq (Nat.not_lt_zero _)
  iintro %acc HL
  unfold t3At
  icases HL with ⟨H15, H22, ⟨%X, ⟨H17, %hq⟩⟩⟩
  have hX : arg17.view.read (Elt F) X = xAll (arg0.view.read (Elt F) H) (arg2.view.read (Elt F) G) (arg3.view.read (Elt F) W3) (arg5.view.read (Elt F) W5) (arg4.view.read (Elt F) X4) (arg6.view.read (Elt F) X6) :=
    untile_eq (s := S224x14336) (NB := k0_t3_loop.trips) k0_off18 S224x512.size (fun i : S224x14336.Idx => colBlk3 (i 1)) hq18 _ k0_off18_inb _ (fun q => by
      rw [hq q q.isLt, hZ, hM])
  ihave HR := held_out _ $$ HR
  ihave H9 := held_out _ $$ H9
  ihave H12 := held_out _ $$ H12
  ihave HS0 := held_out _ $$ HS0
  ihave HS1 := held_out _ $$ HS1
  ihave H20 := split20 c arg20 T $$ H20
  ihave HT := todo_mk c arg9 arg12 arg20 T $$ [H9 H12 H20]
  · isplitl [H12]; · iexact H12
    isplitl [H20]; · iexact H20
    iexact H9
  imod (Transfers.batch_alloc' (Lvl := ℕ) (countersEmb (U := UC sig nD τ)) (c : Thread nD τ) () 14336 (ddel c arg9 arg20 (Dval arg7 arg8 arg17 arg20 arg21 W7 X A X8 T)) (sm := cell1 arg25) (E := Set.univ)) $$ Hd with HB
  sl_exec
  sl_for (fun k (_ : Unit) => t4At c arg3 arg5 arg7 arg8 arg9 arg12 arg14 arg17 arg19 arg20 arg21 arg23 arg25 arg26 W3 W5 W7 X A X8 T k) $$ [HR HS0 HS1 HT HB H17 H21 H8 HO]
  · intro k acc
    exact t4_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 X A X8 T _ k acc
  · unfold t4At
    isplitl [HR]; · iexact HR
    isplitl [HS0]; · iapply (cst_idle c arg12 arg17 arg19 arg26 X 0 (by omega)); iexact HS0
    isplitl [HS1]; · iapply (cst_idle c arg12 arg17 arg19 arg26 X 1 (by omega)); iexact HS1
    isplitr; · iapply (done_none c arg12 arg17 X); iempintro
    isplitl [HT]; · iexact HT
    isplitl [HB]; · iexact HB
    isplitr [HO]
    · unfold t4Env
      isplitl [H17]; · iexact H17
      isplitl [H21]; · iexact H21
      iexact H8
    iexists _; iexact HO
  iintro %acc HL
  rw [show Scf.trips k0_t4_loop.lb k0_t4_loop.ub k0_t4_loop.st = 8 by decide +kernel]
  unfold t4At t4Env
  icases HL with ⟨HR, HS0, HS1, HD, -, HB, ⟨H17, H21, H8⟩, ⟨%W', HO⟩⟩
  ihave HR := ring_done c arg3 arg5 arg7 arg14 arg23 W3 W5 W7 $$ HR
  ihave HS0 := cst8 c arg12 arg17 arg19 arg26 X $$ HS0
  icases HS0 with ⟨%f12, HS0⟩
  ihave HS1 := held_in _ $$ HS1
  ihave HR := held_in _ $$ HR
  ihave HB := held_in _ $$ HB
  ihave HD := held_in _ $$ HD
  sl_exec
  sl_step
  ihave HS1 := held_out _ $$ HS1
  ihave HR := held_out _ $$ HR
  ihave HB := held_out _ $$ HB
  ihave HD := held_out _ $$ HD
  isplitl [HR]; · iexact HR
  isplitl [H8]; · iexact H8
  isplitl [H13]
  · iexists _
    isplitl [H13]; · iexact H13
    ipureintro
    refine rows_read _ g13 _ ?_
    rw [View.read_writes_cons_put arg13.view f13 inb_S2x112_S1x112_1_0 _ _ rfl, View.writes_nil, h13]
    rfl
  isplitl [Hc_dst]
  · iexists _
    isplitl [Hc_dst]; · iexact Hc_dst
    ipureintro
    refine (View.read_writes_whole _ _ _).trans ?_
    exact (View.readAt_full arg18.view f18 inb_S2x112x4096_S2x112x4096_0_0_0).trans h18
  isplitl [Hc_src]; · iexists _; iexact Hc_src
  isplitl [Hc]; · iexact Hc
  isplitl [H15]; · iexists _; iexact H15
  isplitl [H21]; · iexists _; iexact H21
  isplitl [H22]; · iexists _; iexact H22
  isplitl [H17 HS1 HD HS0_dst]
  · iexists X
    isplitl [H17]; · iexact H17
    isplitr [HS1 HD HS0_dst]; · ipureintro; exact hX
    isplitl [HS1]; · iexact HS1
    rw [Ring.bigSep_rangeSet_last (lo := 0) (hi := 7) (by omega) (by decide +kernel)]
    isplitl [HS0_dst]
    · iapply (done_mk c arg12 arg17 X p6 (k0_off40 6#32) wait6.1 (k0_off40_inb 0) _ ((View.read_writes_whole _ _ _).trans (View.read_rep _ _)))
      iexact HS0_dst
    iexact HD
  isplitl [HS0 HS0_src]
  · iapply (ent_of_eq (cidle_congr c arg19 arg26 wait6.2.2 wait6.2.1 (par_inb 8) (spar_inb 8) (k0_off39_inb 0) (k0_off41_inb 0)).symm)
    isplitl [HS0]; · iexact HS0
    iexists _; iexact HS0_src
  isplitl [HB]
  · rw [show Dval arg7 arg8 arg17 arg20 arg21 W7 X A X8 T = (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n) from by
      funext n
      simp only [Dval, hX, hA, hT]]
    iexact HB
  iexists _; iexact HO

end Cert.Proof.Kernel
-- ==== Proof.Body.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Body22
public import proofs.«01_k».proof.Proof.Pro
public import proofs.«01_k».proof.Proof.T5
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The whole body -/

variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (W3 : BufTy.Contents (Elt F) arg3.view.ty) (W5 : BufTy.Contents (Elt F) arg5.view.ty) (W7 : BufTy.Contents (Elt F) arg7.view.ty)
  (H : BufTy.Contents (Elt F) arg0.view.ty) (T1 : BufTy.Contents (Elt F) arg1.view.ty) (G : BufTy.Contents (Elt F) arg2.view.ty)
  (X4 : BufTy.Contents (Elt F) arg4.view.ty) (X6 : BufTy.Contents (Elt F) arg6.view.ty) (X8 : BufTy.Contents (Elt F) arg8.view.ty)

/-- The sixteen slots, all free, one by one. -/
theorem ring_free : Ring.AtW (σ := fun _ => St) (ringAt (F := F) c arg3 arg5 arg7 arg14 arg23 W3 W5 W7) (fun _ => .free) ⊢ iprop(ringAt (F := F) c arg3 arg5 arg7 arg14 arg23 W3 W5 W7 5 .free ∗ ringAt (F := F) c arg3 arg5 arg7 arg14 arg23 W3 W5 W7 6 .free ∗ ringAt (F := F) c arg3 arg5 arg7 arg14 arg23 W3 W5 W7 7 .free ∗ ringAt (F := F) c arg3 arg5 arg7 arg14 arg23 W3 W5 W7 8 .free ∗ ringAt (F := F) c arg3 arg5 arg7 arg14 arg23 W3 W5 W7 9 .free ∗ ringAt (F := F) c arg3 arg5 arg7 arg14 arg23 W3 W5 W7 10 .free ∗ ringAt (F := F) c arg3 arg5 arg7 arg14 arg23 W3 W5 W7 11 .free ∗ ringAt (F := F) c arg3 arg5 arg7 arg14 arg23 W3 W5 W7 12 .free ∗ ringAt (F := F) c arg3 arg5 arg7 arg14 arg23 W3 W5 W7 13 .free ∗ ringAt (F := F) c arg3 arg5 arg7 arg14 arg23 W3 W5 W7 14 .free ∗ ringAt (F := F) c arg3 arg5 arg7 arg14 arg23 W3 W5 W7 15 .free ∗ ringAt (F := F) c arg3 arg5 arg7 arg14 arg23 W3 W5 W7 0 .free ∗ ringAt (F := F) c arg3 arg5 arg7 arg14 arg23 W3 W5 W7 1 .free ∗ ringAt (F := F) c arg3 arg5 arg7 arg14 arg23 W3 W5 W7 2 .free ∗ ringAt (F := F) c arg3 arg5 arg7 arg14 arg23 W3 W5 W7 3 .free ∗ ringAt (F := F) c arg3 arg5 arg7 arg14 arg23 W3 W5 W7 4 .free) := by
  rw [Ring.AtW_eq_list _ _ ([5, 6, 7, 8, 9, 10, 11, 12, 13, 14, 15, 0, 1, 2, 3, 4] : List (Fin 16)) (by decide) (by decide)]
  exact Entails.refl _
/-- The sixteen first copies are the ring before the loop over the gate and up windows. -/
theorem ring_init : iprop(ringAt (F := F) c arg3 arg5 arg7 arg14 arg23 W3 W5 W7 5 (.gate 0) ∗ ringAt (F := F) c arg3 arg5 arg7 arg14 arg23 W3 W5 W7 6 (.up 0) ∗ ringAt (F := F) c arg3 arg5 arg7 arg14 arg23 W3 W5 W7 7 (.gate 1) ∗ ringAt (F := F) c arg3 arg5 arg7 arg14 arg23 W3 W5 W7 8 (.up 1) ∗ ringAt (F := F) c arg3 arg5 arg7 arg14 arg23 W3 W5 W7 9 (.gate 2) ∗ ringAt (F := F) c arg3 arg5 arg7 arg14 arg23 W3 W5 W7 10 (.up 2) ∗ ringAt (F := F) c arg3 arg5 arg7 arg14 arg23 W3 W5 W7 11 (.gate 3) ∗ ringAt (F := F) c arg3 arg5 arg7 arg14 arg23 W3 W5 W7 12 (.up 3) ∗ ringAt (F := F) c arg3 arg5 arg7 arg14 arg23 W3 W5 W7 13 (.gate 4) ∗ ringAt (F := F) c arg3 arg5 arg7 arg14 arg23 W3 W5 W7 14 (.up 4) ∗ ringAt (F := F) c arg3 arg5 arg7 arg14 arg23 W3 W5 W7 15 (.gate 5) ∗ ringAt (F := F) c arg3 arg5 arg7 arg14 arg23 W3 W5 W7 0 (.up 5) ∗ ringAt (F := F) c arg3 arg5 arg7 arg14 arg23 W3 W5 W7 1 (.gate 6) ∗ ringAt (F := F) c arg3 arg5 arg7 arg14 arg23 W3 W5 W7 2 (.up 6) ∗ ringAt (F := F) c arg3 arg5 arg7 arg14 arg23 W3 W5 W7 3 (.gate 7) ∗ ringAt (F := F) c arg3 arg5 arg7 arg14 arg23 W3 W5 W7 4 (.up 7)) ⊢ Ring.AtW (σ := fun _ => St) (ringAt (F := F) c arg3 arg5 arg7 arg14 arg23 W3 W5 W7) (tab (21 + 2 * 0)) := by
  rw [Ring.AtW_eq_list _ _ ([5, 6, 7, 8, 9, 10, 11, 12, 13, 14, 15, 0, 1, 2, 3, 4] : List (Fin 16)) (by decide) (by decide)]
  exact Entails.refl _

/-- What the body runs from. -/
def bodyPre (W : Waits sig Unit) : sProp 𝕄 :=
    iprop(Ring.AtW (σ := fun _ => St) (ringAt (F := F) c arg3 arg5 arg7 arg14 arg23 W3 W5 W7) (fun _ => .free)
      ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G) ∗ (arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8)
      ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f))
      ∗ bigSep Finset.univ (fun n : Fin N4 => iprop(∃ f, (win9 arg9 (k0_off32 n) (k0_off32_inb n)).view.loc (c : Thread nD τ) ↦[(win9 arg9 (k0_off32 n) (k0_off32_inb n)).view.set]{fullShare} f))
      ∗ bigSep Finset.univ (fun n : Fin N4 => iprop(∃ f, (win4 arg12 (k0_off34 n) (k0_off34_inb n)).view.loc (c : Thread nD τ) ↦[(win4 arg12 (k0_off34 n) (k0_off34_inb n)).view.set]{fullShare} f))
      ∗ cidle (F := F) c arg19 arg26 ![0] (par_inb 0) ![0, 0, 0, 0] (spar_inb 0) ∗ cidle (F := F) c arg19 arg26 ![1] (par_inb 1) ![1, 0, 0, 0] (spar_inb 1)
      ∗ semVal ((c : Thread nD τ), cell24 arg24) 0 ∗ semVal ((c : Thread nD τ), cell1 arg25) 0
      ∗ owes (c : Thread nD τ) 0 W)
/-- What the body leaves. -/
def bodyPost : sProp 𝕄 :=
    iprop(Ring.AtW (σ := fun _ => St) (ringAt (F := F) c arg3 arg5 arg7 arg14 arg23 W3 W5 W7) (fun _ => .free)
      ∗ (arg0.view.loc (c : Thread nD τ) ↦[arg0.view.set]{fullShare} H) ∗ (arg1.view.loc (c : Thread nD τ) ↦[arg1.view.set]{fullShare} T1) ∗ (arg2.view.loc (c : Thread nD τ) ↦[arg2.view.set]{fullShare} G) ∗ (arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8)
      ∗ (∃ f, (arg10.view.loc (c : Thread nD τ) ↦[arg10.view.set]{fullShare} f) ∗ ⌜arg10.view.read (Elt F) f = c3out (arg0.view.read (Elt F) H) (arg2.view.read (Elt F) G)⌝) ∗ (∃ f, (arg11.view.loc (c : Thread nD τ) ↦[arg11.view.set]{fullShare} f) ∗ ⌜arg11.view.read (Elt F) f = a3out (arg0.view.read (Elt F) H) (arg2.view.read (Elt F) G)⌝) ∗ (∃ f, (arg13.view.loc (c : Thread nD τ) ↦[arg13.view.set]{fullShare} f) ∗ ⌜arg13.view.read (Elt F) f = a4out (arg0.view.read (Elt F) H) (arg2.view.read (Elt F) G) (arg3.view.read (Elt F) W3) (arg5.view.read (Elt F) W5) (arg4.view.read (Elt F) X4) (arg6.view.read (Elt F) X6)⌝)
      ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, ((stg18 arg18).view.loc (c : Thread nD τ) ↦[(stg18 arg18).view.set]{fullShare} f)) ∗ (∃ f, (arg21.view.loc (c : Thread nD τ) ↦[arg21.view.set]{fullShare} f)) ∗ (∃ f, (arg22.view.loc (c : Thread nD τ) ↦[arg22.view.set]{fullShare} f))
      ∗ bigSep Finset.univ (ddel c arg9 arg20 (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n))
      ∗ (∃ X, ⌜arg17.view.read (Elt F) X = xAll (arg0.view.read (Elt F) H) (arg2.view.read (Elt F) G) (arg3.view.read (Elt F) W3) (arg5.view.read (Elt F) W5) (arg4.view.read (Elt F) X4) (arg6.view.read (Elt F) X6)⌝ ∗ bigSep (Ring.rangeSet N4 0 8) (cdone c arg12 arg17 X))
      ∗ cidle (F := F) c arg19 arg26 ![0] (par_inb 0) ![0, 0, 0, 0] (spar_inb 0) ∗ cidle (F := F) c arg19 arg26 ![1] (par_inb 1) ![1, 0, 0, 0] (spar_inb 1)
      ∗ semVal ((c : Thread nD τ), cell24 arg24) 0 ∗ semVal ((c : Thread nD τ), cell1 arg25) 0
      ∗ ∃ W, owes (c : Thread nD τ) 0 W)

set_option maxHeartbeats 4000000 in
/-- The body runs from `bodyPre` to `bodyPost`. -/
theorem body_run [∀ e, Nonempty (Elt F e)] (W : Waits sig Unit) :
    bodyPre c arg0 arg1 arg2 arg3 arg4 arg5 arg6 arg7 arg8 arg9 arg10 arg11 arg12 arg13 arg14 arg15 arg16 arg17 arg18 arg19 arg20 arg21 arg22 arg23 arg24 arg25 arg26 W3 W5 W7 H T1 G X4 X6 X8 W
      ⊢ wp frame (wpE (defs₀ (F := F)) Variants.none (c : Thread nD τ) none) Set.univ (cc0_mod_block_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => bodyPost c arg0 arg1 arg2 arg3 arg4 arg5 arg6 arg7 arg8 arg9 arg10 arg11 arg12 arg13 arg14 arg15 arg16 arg17 arg18 arg19 arg20 arg21 arg22 arg23 arg24 arg25 arg26 W3 W5 W7 H T1 G X4 X6 X8) := by
  unfold bodyPre
  iintro ⟨HR, H0, H1, H2, H4, H6, H8, H10, H11, H13, H15, H16, H17, H18, H20, H21, H22, H9, H12, HS0, HS1, Hc24, Hc25, HO⟩
  ihave HR := ring_free c arg3 arg5 arg7 arg14 arg23 W3 W5 W7 $$ HR
  icases HR with ⟨R0, R1, R2, R3, R4, R5, R6, R7, R8, R9, R10, R11, R12, R13, R14, R15⟩
  unfold cc0_mod_block_skel
  rw [wp_bind]
  ihave HW := pro14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R0 R1 R2]
  · isplitl [R0]; · iexact R0
    isplitl [R1]; · iexact R1
    iexact R2
  iapply (wp_wand_r frame (wpE (defs₀ (F := F)) Variants.none (c : Thread nD τ) none) Set.univ)
  isplitl [HW]; · iexact HW
  iintro %_ ⟨R0, R1, R2⟩
  rw [wp_bind]
  ihave HW := pro15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R3 R4 R5]
  · isplitl [R3]; · iexact R3
    isplitl [R4]; · iexact R4
    iexact R5
  iapply (wp_wand_r frame (wpE (defs₀ (F := F)) Variants.none (c : Thread nD τ) none) Set.univ)
  isplitl [HW]; · iexact HW
  iintro %_ ⟨R3, R4, R5⟩
  rw [wp_bind]
  ihave HW := pro16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R6 R7 R8]
  · isplitl [R6]; · iexact R6
    isplitl [R7]; · iexact R7
    iexact R8
  iapply (wp_wand_r frame (wpE (defs₀ (F := F)) Variants.none (c : Thread nD τ) none) Set.univ)
  isplitl [HW]; · iexact HW
  iintro %_ ⟨R6, R7, R8⟩
  rw [wp_bind]
  ihave HW := pro17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R9 R10 R11]
  · isplitl [R9]; · iexact R9
    isplitl [R10]; · iexact R10
    iexact R11
  iapply (wp_wand_r frame (wpE (defs₀ (F := F)) Variants.none (c : Thread nD τ) none) Set.univ)
  isplitl [HW]; · iexact HW
  iintro %_ ⟨R9, R10, R11⟩
  rw [wp_bind]
  ihave HW := pro18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 $$ [R12 R13 R14]
  · isplitl [R12]; · iexact R12
    isplitl [R13]; · iexact R13
    iexact R14
  iapply (wp_wand_r frame (wpE (defs₀ (F := F)) Variants.none (c : Thread nD τ) none) Set.univ)
  isplitl [HW]; · iexact HW
  iintro %_ ⟨R12, R13, R14⟩
  rw [wp_bind]
  ihave HW := b19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H T1 G $$ [R15 H0 H1 H2 H11 H16 H20 H21]
  · isplitl [R15]; · iexact R15
    isplitl [H0]; · iexact H0
    isplitl [H1]; · iexact H1
    isplitl [H2]; · iexact H2
    isplitl [H11]; · iexact H11
    isplitl [H16]; · iexact H16
    isplitl [H20]; · iexact H20
    iexact H21
  iapply (wp_wand_r frame (wpE (defs₀ (F := F)) Variants.none (c : Thread nD τ) none) Set.univ)
  isplitl [HW]; · iexact HW
  iintro %r19 ⟨R15, H0, H1, H2, H11, H16, H20, H21, %hr19⟩
  subst hr19
  ihave HR := ring_init c arg3 arg5 arg7 arg14 arg23 W3 W5 W7 $$ [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  rw [wp_bind]
  ihave HW := b20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H G X4 X6 W $$ [HR H4 H6 H11 H16 H21 H18 H10 H22 H15 Hc24 HO]
  · isplitl [HR]; · iexact HR
    isplitl [H4]; · iexact H4
    isplitl [H6]; · iexact H6
    isplitl [H11]; · iexact H11
    isplitl [H16]; · iexact H16
    isplitl [H21]; · iexact H21
    isplitl [H18]; · iexact H18
    isplitl [H10]; · iexact H10
    isplitl [H22]; · iexact H22
    isplitl [H15]; · iexact H15
    isplitl [Hc24]; · iexact Hc24
    iexact HO
  iapply (wp_wand_r frame (wpE (defs₀ (F := F)) Variants.none (c : Thread nD τ) none) Set.univ)
  isplitl [HW]; · iexact HW
  iintro %r20 ⟨HR, H4, H6, H11, H16, H21, Hc24, H22, H15, HO, %hr20⟩
  subst hr20
  rw [wp_bind]
  ihave HW := b21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 H G X4 X6 $$ [H21 H22 H13]
  · isplitl [H21]; · iexact H21
    isplitl [H22]; · iexact H22
    iexact H13
  iapply (wp_wand_r frame (wpE (defs₀ (F := F)) Variants.none (c : Thread nD τ) none) Set.univ)
  isplitl [HW]; · iexact HW
  iintro %r21 ⟨H21, H22, H13, %hr21⟩
  rw [wp_bind]
  ihave HW := b22 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H T1 G X4 X6 X8 r21 hr21 $$ [HR H8 H13 Hc24 H15 H17 H20 H21 H22 H9 H12 HS0 HS1 Hc25 HO]
  · isplitl [HR]; · iexact HR
    isplitl [H8]; · iexact H8
    isplitl [H13]; · iexact H13
    isplitl [Hc24]; · iexact Hc24
    isplitl [H15]; · iexact H15
    isplitl [H17]; · iexact H17
    isplitl [H20]; · iexact H20
    isplitl [H21]; · iexact H21
    isplitl [H22]; · iexact H22
    isplitl [H9]; · iexact H9
    isplitl [H12]; · iexact H12
    isplitl [HS0]; · iexact HS0
    isplitl [HS1]; · iexact HS1
    isplitl [Hc25]; · iexact Hc25
    iexact HO
  iapply (wp_wand_r frame (wpE (defs₀ (F := F)) Variants.none (c : Thread nD τ) none) Set.univ)
  isplitl [HW]; · iexact HW
  iintro %_ ⟨HR, H8, H13, H10, H18, Hc24, H15, H21, H22, ⟨%X, ⟨H17, %hX, HS1, HD⟩⟩, HS0, HB, ⟨%W', HO⟩⟩
  ihave HS1 := cst9 c arg12 arg17 arg19 arg26 X $$ HS1
  icases HS1 with ⟨%f12, HS1⟩
  ihave HR := held_in _ $$ HR
  ihave HB := held_in _ $$ HB
  ihave HD := held_in _ $$ HD
  ihave HS0 := held_in _ $$ HS0
  sl_exec
  ihave HB := held_out _ $$ HB
  sl_for (fun k (_ : Unit) => t5At c arg9 arg20 arg25 (fun n => dval (xAll (arg0.view.read (Elt F) H) (arg2.view.read (Elt F) G) (arg3.view.read (Elt F) W3) (arg5.view.read (Elt F) W5) (arg4.view.read (Elt F) X4) (arg6.view.read (Elt F) X6)) (arg7.view.read (Elt F) W7) (arg8.view.read (Elt F) X8) (k0_pay14 (arg1.view.read (Elt F) T1)) (a2All (arg0.view.read (Elt F) H) (arg2.view.read (Elt F) G) (arg3.view.read (Elt F) W3) (arg5.view.read (Elt F) W5) (arg4.view.read (Elt F) X4) (arg6.view.read (Elt F) X6)) n) k) $$ [HB HO]
  · intro k acc
    exact t5_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 _ k acc
  · unfold t5At
    isplitl [HO]; · iexists _; iexact HO
    rw [if_pos (by omega)]
    iexact HB
  iintro %acc HL
  rw [show Scf.trips k0_t5_loop.lb k0_t5_loop.ub k0_t5_loop.st = 8 by decide +kernel]
  unfold t5At
  rw [if_neg (by omega)]
  icases HL with ⟨HO, Hc25, HDD⟩
  sl_exec
  sl_step
  ihave HR := held_out _ $$ HR
  ihave HD := held_out _ $$ HD
  ihave HS0 := held_out _ $$ HS0
  unfold bodyPost
  isplitl [HR]; · iexact HR
  isplitl [H0]; · iexact H0
  isplitl [H1]; · iexact H1
  isplitl [H2]; · iexact H2
  isplitl [H4]; · iexact H4
  isplitl [H6]; · iexact H6
  isplitl [H8]; · iexact H8
  isplitl [H10]; · iexact H10
  isplitl [H11]; · iexact H11
  isplitl [H13]; · iexact H13
  isplitl [H15]; · iexact H15
  isplitl [H16]; · iexact H16
  isplitl [H17]; · iexists _; iexact H17
  isplitl [H18]; · iexact H18
  isplitl [H21]; · iexact H21
  isplitl [H22]; · iexact H22
  isplitl [HDD]; · iexact HDD
  isplitl [HD HS1_dst]
  · iexists X
    isplitr [HD HS1_dst]; · ipureintro; exact hX
    rw [Ring.bigSep_rangeSet_last (lo := 0) (hi := 8) (by omega) (by decide +kernel)]
    isplitl [HS1_dst]
    · iapply (done_mk c arg12 arg17 X p7 (k0_off40 7#32) wait7.1 (k0_off40_inb 1) _ ((View.read_writes_whole _ _ _).trans (View.read_rep _ _)))
      iexact HS1_dst
    iexact HD
  isplitl [HS0]; · iexact HS0
  isplitl [HS1 HS1_src]
  · iapply (ent_of_eq (cidle_congr c arg19 arg26 wait7.2.2 wait7.2.1 (par_inb 9) (spar_inb 9) (k0_off39_inb 1) (k0_off41_inb 1)).symm)
    isplitl [HS1]; · iexact HS1
    iexists _; iexact HS1_src
  isplitl [Hc24]; · iexact Hc24
  isplitl [Hc25]; · iexact Hc25
  iexact HO

end Cert.Proof.Kernel
-- ==== Proof.LaunchA.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Body
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The ends of the body: whole arrays, and the pieces the body runs on -/

/-- Held at some contents. -/
theorem pt_ex (ℓ : Loc nD τ sig) (S : Finset (Idx ℓ)) (f : Buf (Elt F) ℓ) : (ℓ ↦[S]{fullShare} f : sProp 𝕄) ⊢ iprop(∃ f, ℓ ↦[S]{fullShare} f) := by
  iintro H; iexists f; iexact H
/-- Two, one by one. -/
theorem bigSep_two (Φ : Fin 2 → sProp 𝕄) : bigSep Finset.univ Φ = iprop(Φ 0 ∗ Φ 1) :=
  bigSep_univ_eq_bigSepL [(0 : Fin 2), (1 : Fin 2)] (by decide) (by decide) Φ

section Ring
variable (c : Dev nD) (arg3 : Memref sig .tc .hbm S4096x14336 .fp8e4m3) (arg5 : Memref sig .tc .hbm S4096x14336 .fp8e4m3)
  (arg7 : Memref sig .tc .hbm S14336x4096 .fp8e4m3) (arg14 : Memref sig .tc .vmem S16x4096x512 .fp8e4m3) (arg23 : DmaSems sig S16)
  (W3 : BufTy.Contents (Elt F) arg3.view.ty) (W5 : BufTy.Contents (Elt F) arg5.view.ty) (W7 : BufTy.Contents (Elt F) arg7.view.ty)

/-- Where slot `k` sits. -/
abbrev offK (k : Fin 16) : Fin 3 → ℕ := ![k.val, 0, 0]
/-- What is left of a weight once every slot has its reading share. -/
abbrev rem {s : Shape} (a : Memref sig .tc .hbm s .fp8e4m3) (W : BufTy.Contents (Elt F) a.view.ty) : sProp 𝕄 :=
  (a.view.loc (c : Thread nD τ) ↦[a.view.set]{Transfers.shareDrop fullShare 16} W)

/-- The ring's slots, all free, family by family. -/
theorem ring_eq : Ring.AtW (σ := fun _ => St) (ringAt (F := F) c arg3 arg5 arg7 arg14 arg23 W3 W5 W7) (fun _ => .free)
    = iprop(bigSep Finset.univ (fun k : Fin 16 => semVal ((c : Thread nD τ), cellM arg23 ![k.val] (cell_inb k)) 0)
      ∗ bigSep Finset.univ (fun k : Fin 16 => slotP (F := F) c arg14 ![k.val, 0, 0] (slot_inb k))
      ∗ bigSep Finset.univ (fun k : Fin 16 => tok c arg3 W3 k) ∗ bigSep Finset.univ (fun k : Fin 16 => tok c arg5 W5 k)
      ∗ bigSep Finset.univ (fun k : Fin 16 => tok c arg7 W7 k)) := by
  unfold Ring.AtW
  simp only [ringAt]
  rw [bigSep_sep', bigSep_sep', bigSep_sep', bigSep_sep']

/-- The slots' array and the weights held are the ring with every slot free. -/
theorem ring_in : iprop((∃ f, arg14.view.loc (c : Thread nD τ) ↦[arg14.view.set]{fullShare} f) ∗ (arg3.view.loc (c : Thread nD τ) ↦[arg3.view.set]{fullShare} W3)
      ∗ (arg5.view.loc (c : Thread nD τ) ↦[arg5.view.set]{fullShare} W5) ∗ (arg7.view.loc (c : Thread nD τ) ↦[arg7.view.set]{fullShare} W7)
      ∗ bigSep Finset.univ (fun k : Fin 16 => semVal ((c : Thread nD τ), cellM arg23 ![k.val] (cell_inb k)) 0))
    ⊢ iprop(Ring.AtW (σ := fun _ => St) (ringAt (F := F) c arg3 arg5 arg7 arg14 arg23 W3 W5 W7) (fun _ => .free)
      ∗ rem c arg3 W3 ∗ rem c arg5 W5 ∗ rem c arg7 W7) := by
  rw [ring_eq]
  iintro ⟨⟨%f, H14⟩, H3, H5, H7, HS⟩
  ihave H3 := (Transfers.pointsTo_toks fullShare 16).1 $$ H3
  ihave H5 := (Transfers.pointsTo_toks fullShare 16).1 $$ H5
  ihave H7 := (Transfers.pointsTo_toks fullShare 16).1 $$ H7
  icases H3 with ⟨R3, H3⟩
  icases H5 with ⟨R5, H5⟩
  icases H7 with ⟨R7, H7⟩
  ihave H14 := BIBase.Entails.trans (blk_split c arg14 (0 : Fin 3) 1 offK S1x4096x512.size slot_inb (fun b => (Nat.one_mul _).symm)
    (fun b a h => by match a, h with | 0, h => exact absurd rfl h | 1, _ => rfl | 2, _ => rfl) rfl
    (fun a h => by match a, h with | 0, h => exact absurd rfl h | 1, _ => rfl | 2, _ => rfl) (by decide +kernel)
    (fun k => (slotM arg14 ![k.val, 0, 0] (slot_inb k)).view.set) (fun b => (View.set_reshape _ _).trans (View.set_slice _ _)) f)
    (bigSep_mono (s := Finset.univ) (fun k _ => pt_ex _ _ f)) $$ H14
  isplitl [HS H14 H3 H5 H7]
  · isplitl [HS]; · iexact HS
    isplitl [H14]
    · iexact H14
    isplitl [H3]; · iexact H3
    isplitl [H5]; · iexact H5
    iexact H7
  isplitl [R3]; · iexact R3
  isplitl [R5]; · iexact R5
  iexact R7

/-- The ring with every slot free is the slots' array and the weights held. -/
theorem ring_out [∀ e, Nonempty (Elt F e)] : iprop(Ring.AtW (σ := fun _ => St) (ringAt (F := F) c arg3 arg5 arg7 arg14 arg23 W3 W5 W7) (fun _ => .free)
      ∗ rem c arg3 W3 ∗ rem c arg5 W5 ∗ rem c arg7 W7)
    ⊢ iprop((∃ f, arg14.view.loc (c : Thread nD τ) ↦[arg14.view.set]{fullShare} f) ∗ (arg3.view.loc (c : Thread nD τ) ↦[arg3.view.set]{fullShare} W3)
      ∗ (arg5.view.loc (c : Thread nD τ) ↦[arg5.view.set]{fullShare} W5) ∗ (arg7.view.loc (c : Thread nD τ) ↦[arg7.view.set]{fullShare} W7)
      ∗ bigSep Finset.univ (fun k : Fin 16 => semVal ((c : Thread nD τ), cellM arg23 ![k.val] (cell_inb k)) 0)) := by
  rw [ring_eq]
  iintro ⟨⟨HS, H14, H3, H5, H7⟩, R3, R5, R7⟩
  ihave H14 := (blk_join c arg14 (0 : Fin 3) 1 offK S1x4096x512.size slot_inb (fun b => (Nat.one_mul _).symm)
    (fun b a h => by match a, h with | 0, h => exact absurd rfl h | 1, _ => rfl | 2, _ => rfl) rfl
    (fun a h => by match a, h with | 0, h => exact absurd rfl h | 1, _ => rfl | 2, _ => rfl) (by decide +kernel)
    (fun k => (slotM arg14 ![k.val, 0, 0] (slot_inb k)).view.set) (fun b => (View.set_reshape _ _).trans (View.set_slice _ _))) $$ H14
  isplitl [H14]; · iexact H14
  isplitl [H3 R3]; · iapply (Transfers.pointsTo_toks fullShare 16).2; isplitl [R3]; · iexact R3
                     iexact H3
  isplitl [H5 R5]; · iapply (Transfers.pointsTo_toks fullShare 16).2; isplitl [R5]; · iexact R5
                     iexact H5
  isplitl [H7 R7]; · iapply (Transfers.pointsTo_toks fullShare 16).2; isplitl [R7]; · iexact R7
                     iexact H7
  iexact HS
end Ring

section Codes
variable (c : Dev nD) (arg12 : Memref sig .tc .hbm S2x112x14336 .fp8e4m3) (arg17 : Memref sig .tc .vmem S224x14336 .fp8e4m3)
  (arg19 : Memref sig .tc .vmem S2x2x112x1792 .fp8e4m3) (arg26 : DmaSems sig S2)
/-- Where slot `b` of the codes' staging sits. -/
abbrev offS (b : Fin 2) : Fin 4 → ℕ := ![b.val, 0, 0, 0]
theorem offS_inb (b : Fin 2) : ∀ a, offS b a + S1x2x112x1792.size a ≤ S2x2x112x1792.size a := by revert b; decide +kernel

/-- The codes' staging held is its two slots held. -/
theorem split19 (f : BufTy.Contents (Elt F) arg19.view.ty) : (arg19.view.loc (c : Thread nD τ) ↦[arg19.view.set]{fullShare} f)
    ⊢ (bigSep Finset.univ (fun b : Fin 2 => ((slot4 arg19 (offS b) (offS_inb b)).view.loc (c : Thread nD τ) ↦[(slot4 arg19 (offS b) (offS_inb b)).view.set]{fullShare} f)) : sProp 𝕄) :=
  blk_split c arg19 (0 : Fin 4) 1 offS S1x2x112x1792.size offS_inb (fun b => (Nat.one_mul _).symm)
    (fun b a h => by match a, h with | 0, h => exact absurd rfl h | 1, _ => rfl | 2, _ => rfl | 3, _ => rfl) rfl
    (fun a h => by match a, h with | 0, h => exact absurd rfl h | 1, _ => rfl | 2, _ => rfl | 3, _ => rfl) (by decide +kernel)
    _ (fun b => (View.set_reshape _ _).trans (View.set_slice _ _)) f
/-- The two slots held are the codes' staging held. -/
theorem join19 [∀ e, Nonempty (Elt F e)] : (bigSep Finset.univ (fun b : Fin 2 => iprop(∃ f, (slot4 arg19 (offS b) (offS_inb b)).view.loc (c : Thread nD τ) ↦[(slot4 arg19 (offS b) (offS_inb b)).view.set]{fullShare} f)) : sProp 𝕄)
    ⊢ iprop(∃ f, arg19.view.loc (c : Thread nD τ) ↦[arg19.view.set]{fullShare} f) :=
  blk_join c arg19 (0 : Fin 4) 1 offS S1x2x112x1792.size offS_inb (fun b => (Nat.one_mul _).symm)
    (fun b a h => by match a, h with | 0, h => exact absurd rfl h | 1, _ => rfl | 2, _ => rfl | 3, _ => rfl) rfl
    (fun a h => by match a, h with | 0, h => exact absurd rfl h | 1, _ => rfl | 2, _ => rfl | 3, _ => rfl) (by decide +kernel)
    (fun b => (slot4 arg19 (offS b) (offS_inb b)).view.set) (fun b => (View.set_reshape _ _).trans (View.set_slice _ _))

/-- The codes' staging and its semaphores are its two slots, idle. -/
theorem stage_in : iprop((∃ f, arg19.view.loc (c : Thread nD τ) ↦[arg19.view.set]{fullShare} f)
      ∗ semVal ((c : Thread nD τ), cell4 arg26 ![0] (par_inb 0)) 0 ∗ semVal ((c : Thread nD τ), cell4 arg26 ![1] (par_inb 1)) 0)
    ⊢ iprop(cidle (F := F) c arg19 arg26 ![0] (par_inb 0) ![0, 0, 0, 0] (spar_inb 0) ∗ cidle (F := F) c arg19 arg26 ![1] (par_inb 1) ![1, 0, 0, 0] (spar_inb 1)) := by
  iintro ⟨⟨%f, H⟩, S0, S1⟩
  ihave H := BIBase.Entails.trans (split19 c arg19 f) (Entails.of_eq (bigSep_two _)) $$ H
  icases H with ⟨H0, H1⟩
  isplitl [S0 H0]
  · isplitl [S0]; · iexact S0
    iexists f; iexact H0
  · isplitl [S1]; · iexact S1
    iexists f; iexact H1
/-- The two slots, idle, are the codes' staging and its semaphores. -/
theorem stage_out [∀ e, Nonempty (Elt F e)] : iprop(cidle (F := F) c arg19 arg26 ![0] (par_inb 0) ![0, 0, 0, 0] (spar_inb 0) ∗ cidle (F := F) c arg19 arg26 ![1] (par_inb 1) ![1, 0, 0, 0] (spar_inb 1))
    ⊢ iprop((∃ f, arg19.view.loc (c : Thread nD τ) ↦[arg19.view.set]{fullShare} f)
      ∗ semVal ((c : Thread nD τ), cell4 arg26 ![0] (par_inb 0)) 0 ∗ semVal ((c : Thread nD τ), cell4 arg26 ![1] (par_inb 1)) 0) := by
  iintro ⟨⟨S0, H0⟩, S1, H1⟩
  isplitl [H0 H1]
  · iapply (BIBase.Entails.trans (Entails.of_eq (bigSep_two _).symm) (join19 c arg19))
    isplitl [H0]; · iexact H0
    iexact H1
  isplitl [S0]; · iexact S0
  iexact S1

/-- The codes' result held is its column blocks held. -/
theorem split12 (f : BufTy.Contents (Elt F) arg12.view.ty) : (arg12.view.loc (c : Thread nD τ) ↦[arg12.view.set]{fullShare} f)
    ⊢ (bigSep Finset.univ (fun n : Fin N4 => ((win4 arg12 (k0_off34 n) (k0_off34_inb n)).view.loc (c : Thread nD τ) ↦[(win4 arg12 (k0_off34 n) (k0_off34_inb n)).view.set]{fullShare} f)) : sProp 𝕄) :=
  blk_split c arg12 (2 : Fin 3) 1792 k0_off34 S2x112x1792.size k0_off34_inb (fun b => by rw [off34_]; rfl)
    (fun b a h => by rw [off34_]; match a, h with | 0, _ => rfl | 1, _ => rfl | 2, h => exact absurd rfl h) rfl
    (fun a h => by match a, h with | 0, _ => rfl | 1, _ => rfl | 2, h => exact absurd rfl h) (by decide +kernel) _ (fun b => View.set_slice _ _) f
/-- The codes' result held is its column blocks held, each at some contents. -/
theorem codes_in (f : BufTy.Contents (Elt F) arg12.view.ty) : (arg12.view.loc (c : Thread nD τ) ↦[arg12.view.set]{fullShare} f : sProp 𝕄)
    ⊢ bigSep Finset.univ (fun n : Fin N4 => iprop(∃ f, ((win4 arg12 (k0_off34 n) (k0_off34_inb n)).view.loc (c : Thread nD τ) ↦[(win4 arg12 (k0_off34 n) (k0_off34_inb n)).view.set]{fullShare} f))) :=
  (split12 c arg12 f).trans (bigSep_mono (s := Finset.univ) (fun n _ => pt_ex ((win4 arg12 (k0_off34 n) (k0_off34_inb n)).view.loc (c : Thread nD τ)) _ f))
/-- The column blocks, each at what it reads, are the array at what they read together. -/
theorem join12 [∀ e, Nonempty (Elt F e)] (X : Fin N4 → Vec F S2x112x1792 .fp8e4m3) : (bigSep Finset.univ (fun n : Fin N4 => ((win4 arg12 (k0_off34 n) (k0_off34_inb n)).view.loc (c : Thread nD τ) ↦[(win4 arg12 (k0_off34 n) (k0_off34_inb n)).view.set]{fullShare} ((win4 arg12 (k0_off34 n) (k0_off34_inb n)).view.rep (X n)))) : sProp 𝕄)
    ⊢ iprop(∃ g, (arg12.view.loc (c : Thread nD τ) ↦[arg12.view.set]{fullShare} g) ∗ ⌜∀ n, VecWindow.window (arg12.view.read (Elt F) g) (k0_off34 n) S2x112x1792.size (k0_off34_inb n) = X n⌝) :=
  blk_join_rep c arg12 (2 : Fin 3) 1792 k0_off34 S2x112x1792.size k0_off34_inb (fun b => by rw [off34_]; rfl)
    (fun b a h => by rw [off34_]; match a, h with | 0, _ => rfl | 1, _ => rfl | 2, h => exact absurd rfl h) rfl
    (fun a h => by match a, h with | 0, _ => rfl | 1, _ => rfl | 2, h => exact absurd rfl h) (by decide +kernel) X
/-- A column block at its codes. -/
theorem codes_one [∀ e, Nonempty (Elt F e)] (X : BufTy.Contents (Elt F) arg17.view.ty) (n : Fin N4) : cdone c arg12 arg17 X n
    ⊢ ((win4 arg12 (k0_off34 n) (k0_off34_inb n)).view.loc (c : Thread nD τ) ↦[(win4 arg12 (k0_off34 n) (k0_off34_inb n)).view.set]{fullShare} ((win4 arg12 (k0_off34 n) (k0_off34_inb n)).view.rep (c4val (arg17.view.read (Elt F) X) n))) := by
  unfold cdone
  iintro ⟨%f, H, %hf⟩
  iapply (pointsTo_rep_of_read (c : Thread nD τ) (win4 arg12 (k0_off34 n) (k0_off34_inb n)) f fullShare _ hf) $$ H
/-- The column blocks, each at its codes, are the codes' result at the whole array of codes. -/
theorem codes_out [∀ e, Nonempty (Elt F e)] (X : BufTy.Contents (Elt F) arg17.view.ty) :
    bigSep (Ring.rangeSet N4 0 8) (cdone c arg12 arg17 X)
    ⊢ iprop(∃ g, (arg12.view.loc (c : Thread nD τ) ↦[arg12.view.set]{fullShare} g)
      ∗ ⌜arg12.view.read (Elt F) g = untile (s := S2x112x14336) k0_off34 S2x112x1792.size (fun i : S2x112x14336.Idx => codeBlk (i 2)) hq34 (fun n => c4val (arg17.view.read (Elt F) X) n)⌝) := by
  rw [show Ring.rangeSet N4 0 8 = Finset.univ from by decide +kernel]
  refine BIBase.Entails.trans (bigSep_mono (s := Finset.univ) (fun n _ => codes_one c arg12 arg17 X n)) ?_
  refine BIBase.Entails.trans (join12 c arg12 _) ?_
  iintro ⟨%g, H, %hg⟩
  iexists g
  isplitl [H]; · iexact H
  ipureintro
  exact untile_eq (s := S2x112x14336) (NB := N4) k0_off34 _ (fun i : S2x112x14336.Idx => codeBlk (i 2)) hq34 _ k0_off34_inb _ hg
end Codes

section Cols
variable (c : Dev nD) (arg9 : Memref sig .tc .hbm S224x4096 .f32) (arg20 : Memref sig .tc .vmem S224x4096 .f32)
/-- The first result held is its column blocks held. -/
theorem split9 (f : BufTy.Contents (Elt F) arg9.view.ty) : (arg9.view.loc (c : Thread nD τ) ↦[arg9.view.set]{fullShare} f)
    ⊢ (bigSep Finset.univ (fun n : Fin N4 => ((win9 arg9 (k0_off32 n) (k0_off32_inb n)).view.loc (c : Thread nD τ) ↦[(win9 arg9 (k0_off32 n) (k0_off32_inb n)).view.set]{fullShare} f)) : sProp 𝕄) :=
  blk_split c arg9 (1 : Fin 2) 512 k0_off32 S224x512.size k0_off32_inb (fun b => by rw [off32_]; rfl)
    (fun b a h => by rw [off32_]; match a, h with | 0, _ => rfl | 1, h => exact absurd rfl h) rfl
    (fun a h => by match a, h with | 0, _ => rfl | 1, h => exact absurd rfl h) (by decide +kernel) _ (fun b => View.set_slice _ _) f
/-- The first result held is its column blocks held, each at some contents. -/
theorem cols_in (f : BufTy.Contents (Elt F) arg9.view.ty) : (arg9.view.loc (c : Thread nD τ) ↦[arg9.view.set]{fullShare} f : sProp 𝕄)
    ⊢ bigSep Finset.univ (fun n : Fin N4 => iprop(∃ f, ((win9 arg9 (k0_off32 n) (k0_off32_inb n)).view.loc (c : Thread nD τ) ↦[(win9 arg9 (k0_off32 n) (k0_off32_inb n)).view.set]{fullShare} f))) :=
  (split9 c arg9 f).trans (bigSep_mono (s := Finset.univ) (fun n _ => pt_ex ((win9 arg9 (k0_off32 n) (k0_off32_inb n)).view.loc (c : Thread nD τ)) _ f))
/-- The column blocks, each at what it reads, are the array at what they read together. -/
theorem join9 [∀ e, Nonempty (Elt F e)] (X : Fin N4 → Vec F S224x512 .f32) : (bigSep Finset.univ (fun n : Fin N4 => ((win9 arg9 (k0_off32 n) (k0_off32_inb n)).view.loc (c : Thread nD τ) ↦[(win9 arg9 (k0_off32 n) (k0_off32_inb n)).view.set]{fullShare} ((win9 arg9 (k0_off32 n) (k0_off32_inb n)).view.rep (X n)))) : sProp 𝕄)
    ⊢ iprop(∃ g, (arg9.view.loc (c : Thread nD τ) ↦[arg9.view.set]{fullShare} g) ∗ ⌜∀ n, VecWindow.window (arg9.view.read (Elt F) g) (k0_off32 n) S224x512.size (k0_off32_inb n) = X n⌝) :=
  blk_join_rep c arg9 (1 : Fin 2) 512 k0_off32 S224x512.size k0_off32_inb (fun b => by rw [off32_]; rfl)
    (fun b a h => by rw [off32_]; match a, h with | 0, _ => rfl | 1, h => exact absurd rfl h) rfl
    (fun a h => by match a, h with | 0, _ => rfl | 1, h => exact absurd rfl h) (by decide +kernel) X
/-- The staging's column blocks held are the staging held. -/
theorem join20 [∀ e, Nonempty (Elt F e)] : (bigSep Finset.univ (fun n : Fin N4 => iprop(∃ f, ((win20 arg20 (k0_off32 n) (k0_off32_inb n)).view.loc (c : Thread nD τ) ↦[(win20 arg20 (k0_off32 n) (k0_off32_inb n)).view.set]{fullShare} f))) : sProp 𝕄)
    ⊢ iprop(∃ g, arg20.view.loc (c : Thread nD τ) ↦[arg20.view.set]{fullShare} g) :=
  blk_join c arg20 (1 : Fin 2) 512 k0_off32 S224x512.size k0_off32_inb (fun b => by rw [off32_]; rfl)
    (fun b a h => by rw [off32_]; match a, h with | 0, _ => rfl | 1, h => exact absurd rfl h) rfl
    (fun a h => by match a, h with | 0, _ => rfl | 1, h => exact absurd rfl h) (by decide +kernel) (fun n => (win20 arg20 (k0_off32 n) (k0_off32_inb n)).view.set) (fun b => View.set_slice _ _)
/-- A column block delivered. -/
theorem cols_one [∀ e, Nonempty (Elt F e)] (X : Fin N4 → Vec F S224x512 .f32) (n : Fin N4) : ddel c arg9 arg20 X n
    ⊢ iprop(((win9 arg9 (k0_off32 n) (k0_off32_inb n)).view.loc (c : Thread nD τ) ↦[(win9 arg9 (k0_off32 n) (k0_off32_inb n)).view.set]{fullShare} ((win9 arg9 (k0_off32 n) (k0_off32_inb n)).view.rep (X n))) ∗ ∃ f, ((win20 arg20 (k0_off32 n) (k0_off32_inb n)).view.loc (c : Thread nD τ) ↦[(win20 arg20 (k0_off32 n) (k0_off32_inb n)).view.set]{fullShare} f)) := by
  iintro ⟨%f, H, H'⟩
  isplitl [H]
  · iapply (pointsTo_rep_of_read (c : Thread nD τ) (win9 arg9 (k0_off32 n) (k0_off32_inb n)) _ fullShare _
      ((View.read_writes_whole _ _ _).trans (View.read_rep _ _))) $$ H
  · iexists _; iexact H'
/-- The column blocks delivered are the first result at the whole array, and the staging it came from held. -/
theorem cols_out [∀ e, Nonempty (Elt F e)] (X : Fin N4 → Vec F S224x512 .f32) :
    bigSep Finset.univ (ddel c arg9 arg20 X)
    ⊢ iprop((∃ g, (arg9.view.loc (c : Thread nD τ) ↦[arg9.view.set]{fullShare} g)
        ∗ ⌜arg9.view.read (Elt F) g = untile (s := S224x4096) k0_off32 S224x512.size (fun i : S224x4096.Idx => colBlk4 (i 1)) hq32 X⌝)
      ∗ ∃ g, arg20.view.loc (c : Thread nD τ) ↦[arg20.view.set]{fullShare} g) := by
  refine BIBase.Entails.trans (bigSep_mono (s := Finset.univ) (fun n _ => cols_one c arg9 arg20 X n)) ?_
  rw [bigSep_sep']
  show BIBase.Entails _ _
  iintro ⟨H, H'⟩
  isplitl [H]
  · ihave H := (join9 c arg9 X) $$ H
    icases H with ⟨%g, H, %hg⟩
    iexists g
    isplitl [H]; · iexact H
    ipureintro
    exact untile_eq (s := S224x4096) (NB := N4) k0_off32 _ (fun i : S224x4096.Idx => colBlk4 (i 1)) hq32 _ k0_off32_inb _ hg
  · iapply (join20 c arg20) $$ H'
end Cols

end Cert.Proof.Kernel
-- ==== Proof.LaunchB.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.LaunchA
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The body, on whole arrays -/

section Whole
variable (c : Dev nD) (arg0 : Memref sig .tc .vmem S224x4096 .f32) (harg0 : arg0.IsWhole) (arg1 : Memref sig .tc .vmem S224x4096 .f32) (harg1 : arg1.IsWhole) (arg2 : Memref sig .tc .vmem S1x4096 .f32) (harg2 : arg2.IsWhole) (arg3 : Memref sig .tc .hbm S4096x14336 .fp8e4m3) (harg3 : arg3.IsWhole) (arg4 : Memref sig .tc .vmem S1x14336 .f32) (harg4 : arg4.IsWhole) (arg5 : Memref sig .tc .hbm S4096x14336 .fp8e4m3) (harg5 : arg5.IsWhole) (arg6 : Memref sig .tc .vmem S1x14336 .f32) (harg6 : arg6.IsWhole) (arg7 : Memref sig .tc .hbm S14336x4096 .fp8e4m3) (harg7 : arg7.IsWhole) (arg8 : Memref sig .tc .vmem S1x4096 .f32) (harg8 : arg8.IsWhole) (arg9 : Memref sig .tc .hbm S224x4096 .f32) (harg9 : arg9.IsWhole) (arg10 : Memref sig .tc .hbm S2x112x4096 .fp8e4m3) (harg10 : arg10.IsWhole) (arg11 : Memref sig .tc .vmem S2x112 .f32) (harg11 : arg11.IsWhole) (arg12 : Memref sig .tc .hbm S2x112x14336 .fp8e4m3) (harg12 : arg12.IsWhole) (arg13 : Memref sig .tc .vmem S2x112 .f32) (harg13 : arg13.IsWhole) (arg14 : Memref sig .tc .vmem S16x4096x512 .fp8e4m3) (harg14 : arg14.IsWhole) (arg15 : Memref sig .tc .vmem S224x14336 .f32) (harg15 : arg15.IsWhole) (arg16 : Memref sig .tc .vmem S224x4096 .fp8e4m3) (harg16 : arg16.IsWhole) (arg17 : Memref sig .tc .vmem S224x14336 .fp8e4m3) (harg17 : arg17.IsWhole) (arg18 : Memref sig .tc .vmem S2x112x4096 .fp8e4m3) (harg18 : arg18.IsWhole) (arg19 : Memref sig .tc .vmem S2x2x112x1792 .fp8e4m3) (harg19 : arg19.IsWhole) (arg20 : Memref sig .tc .vmem S224x4096 .f32) (harg20 : arg20.IsWhole) (arg21 : Memref sig .tc .vmem S224x128 .f32) (harg21 : arg21.IsWhole) (arg22 : Memref sig .tc .vmem S224x128 .f32) (harg22 : arg22.IsWhole) (arg23 : DmaSems sig S16) (arg24 : DmaSems sig S1) (arg25 : DmaSems sig S2) (arg26 : DmaSems sig S2)
  (hv tv : Vec F S224x4096 .f32) (gv : Vec F S1x4096 .f32) (w3 w5 : Vec F S4096x14336 .fp8e4m3)
  (w7 : Vec F S14336x4096 .fp8e4m3) (x4 x6 : Vec F S1x14336 .f32) (x8 : Vec F S1x4096 .f32)

/-- A view of a whole array held at some contents is the array owned at something. -/
theorem owns_ex {sp : Space} {s : Shape} {e : EltTy} (m : Memref sig .tc sp s e) : iprop(∃ f, m.view.loc (c : Thread nD τ) ↦[m.view.set]{fullShare} f) ⊢ (iprop(∃ X, owns (c : Thread nD τ) m fullShare X) : sProp 𝕄) := by
  iintro ⟨%f, H⟩
  iexists (m.view.read (Elt F) f)
  unfold owns
  iexists f
  isplitr; · ipureintro; rfl
  iexact H
/-- And back. -/
theorem ex_owns {sp : Space} {s : Shape} {e : EltTy} (m : Memref sig .tc sp s e) : (iprop(∃ X, owns (c : Thread nD τ) m fullShare X) : sProp 𝕄) ⊢ iprop(∃ f, m.view.loc (c : Thread nD τ) ↦[m.view.set]{fullShare} f) := by
  unfold owns
  iintro ⟨%X, %f, -, H⟩
  iexists f
  iexact H
/-- Held at contents that read `X`, it is owned at `X`. -/
theorem owns_at {sp : Space} {s : Shape} {e : EltTy} (m : Memref sig .tc sp s e) (X : s.Idx → Elt F e) : iprop(∃ f, (m.view.loc (c : Thread nD τ) ↦[m.view.set]{fullShare} f) ∗ ⌜m.view.read (Elt F) f = X⌝) ⊢ (owns (c : Thread nD τ) m fullShare X : sProp 𝕄) := by
  unfold owns
  iintro ⟨%f, H, %h⟩
  iexists f
  isplitr; · ipureintro; exact h
  iexact H
/-- Held at contents, it is owned at what they read. -/
theorem owns_read {sp : Space} {s : Shape} {e : EltTy} (m : Memref sig .tc sp s e) (f : BufTy.Contents (Elt F) m.view.ty) : (m.view.loc (c : Thread nD τ) ↦[m.view.set]{fullShare} f) ⊢ (owns (c : Thread nD τ) m fullShare (m.view.read (Elt F) f) : sProp 𝕄) := by
  unfold owns
  iintro H
  iexists f
  isplitr; · ipureintro; rfl
  iexact H
/-- The whole of the staging of the first codes, as the copy takes it, is the staging. -/
theorem stg18_set : (stg18 arg18).view.set = arg18.view.set := by
  refine (View.set_slice _ _).trans ?_
  rw [show (Rect.unit (s := S2x112x4096) ![0, 0, 0] S2x112x4096.size inb_S2x112x4096_S2x112x4096_0_0_0).set = Finset.univ from by
    rw [← Rect.set_whole]; congr 1; unfold Rect.unit Rect.whole; dsimp only; congr 1; funext i; fin_cases i <;> rfl]
  rfl

/-- What the body is given. -/
def wholePre : sProp 𝕄 :=
    iprop(owns (c : Thread nD τ) arg0 fullShare hv ∗ owns (c : Thread nD τ) arg1 fullShare tv ∗ owns (c : Thread nD τ) arg2 fullShare gv ∗ owns (c : Thread nD τ) arg3 fullShare w3 ∗ owns (c : Thread nD τ) arg4 fullShare x4 ∗ owns (c : Thread nD τ) arg5 fullShare w5 ∗ owns (c : Thread nD τ) arg6 fullShare x6 ∗ owns (c : Thread nD τ) arg7 fullShare w7 ∗ owns (c : Thread nD τ) arg8 fullShare x8
      ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X)
      ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X)
      ∗ bigSep Finset.univ (fun k : Fin 16 => semVal ((c : Thread nD τ), cellM arg23 ![k.val] (cell_inb k)) 0)
      ∗ semVal ((c : Thread nD τ), cell24 arg24) 0 ∗ semVal ((c : Thread nD τ), cell1 arg25) 0
      ∗ semVal ((c : Thread nD τ), cell4 arg26 ![0] (par_inb 0)) 0 ∗ semVal ((c : Thread nD τ), cell4 arg26 ![1] (par_inb 1)) 0)
/-- What it gives back. -/
def wholePost : sProp 𝕄 :=
    iprop(owns (c : Thread nD τ) arg0 fullShare hv ∗ owns (c : Thread nD τ) arg1 fullShare tv ∗ owns (c : Thread nD τ) arg2 fullShare gv ∗ owns (c : Thread nD τ) arg3 fullShare w3 ∗ owns (c : Thread nD τ) arg4 fullShare x4 ∗ owns (c : Thread nD τ) arg5 fullShare w5 ∗ owns (c : Thread nD τ) arg6 fullShare x6 ∗ owns (c : Thread nD τ) arg7 fullShare w7 ∗ owns (c : Thread nD τ) arg8 fullShare x8
      ∗ owns (c : Thread nD τ) arg9 fullShare (dout hv tv gv w3 w5 w7 x4 x6 x8) ∗ owns (c : Thread nD τ) arg10 fullShare (c3out hv gv) ∗ owns (c : Thread nD τ) arg11 fullShare (a3out hv gv) ∗ owns (c : Thread nD τ) arg12 fullShare (c4out hv gv w3 w5 x4 x6) ∗ owns (c : Thread nD τ) arg13 fullShare (a4out hv gv w3 w5 x4 x6)
      ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X)
      ∗ bigSep Finset.univ (fun k : Fin 16 => semVal ((c : Thread nD τ), cellM arg23 ![k.val] (cell_inb k)) 0)
      ∗ semVal ((c : Thread nD τ), cell24 arg24) 0 ∗ semVal ((c : Thread nD τ), cell1 arg25) 0
      ∗ semVal ((c : Thread nD τ), cell4 arg26 ![0] (par_inb 0)) 0 ∗ semVal ((c : Thread nD τ), cell4 arg26 ![1] (par_inb 1)) 0)

set_option maxHeartbeats 4000000 in
/-- The body, from whole arrays to whole arrays. -/
theorem whole_run [∀ e, Nonempty (Elt F e)] (W : Waits sig Unit) :
    iprop(wholePre c arg0 arg1 arg2 arg3 arg4 arg5 arg6 arg7 arg8 arg9 arg10 arg11 arg12 arg13 arg14 arg15 arg16 arg17 arg18 arg19 arg20 arg21 arg22 arg23 arg24 arg25 arg26 hv tv gv w3 w5 w7 x4 x6 x8 ∗ owes (c : Thread nD τ) 0 W)
      ⊢ wp frame (wpE (defs₀ (F := F)) Variants.none (c : Thread nD τ) none) Set.univ (cc0_mod_block_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26)
        (fun _ => iprop(wholePost c arg0 arg1 arg2 arg3 arg4 arg5 arg6 arg7 arg8 arg9 arg10 arg11 arg12 arg13 arg14 arg15 arg16 arg17 arg18 arg19 arg20 arg21 arg22 arg23 arg24 arg25 arg26 hv tv gv w3 w5 w7 x4 x6 x8 ∗ ∃ W, owes (c : Thread nD τ) 0 W)) := by
  unfold wholePre
  iintro ⟨⟨H0, H1, H2, H3, H4, H5, H6, H7, H8, H9, H10, H11, H12, H13, H14, H15, H16, H17, H18, H19, H20, H21, H22, HS, Hc24, Hc25, Hc0, Hc1⟩, HO⟩
  unfold owns
  icases H0 with ⟨%H, %e0, H0⟩
  subst e0
  icases H1 with ⟨%T1, %e1, H1⟩
  subst e1
  icases H2 with ⟨%G, %e2, H2⟩
  subst e2
  icases H3 with ⟨%W3, %e3, H3⟩
  subst e3
  icases H4 with ⟨%X4, %e4, H4⟩
  subst e4
  icases H5 with ⟨%W5, %e5, H5⟩
  subst e5
  icases H6 with ⟨%X6, %e6, H6⟩
  subst e6
  icases H7 with ⟨%W7, %e7, H7⟩
  subst e7
  icases H8 with ⟨%X8, %e8, H8⟩
  subst e8
  icases H9 with ⟨%V9, %f9, -, H9⟩
  icases H10 with ⟨%V10, %f10, -, H10⟩
  icases H11 with ⟨%V11, %f11, -, H11⟩
  icases H12 with ⟨%V12, %f12, -, H12⟩
  icases H13 with ⟨%V13, %f13, -, H13⟩
  icases H14 with ⟨%V14, %f14, -, H14⟩
  icases H15 with ⟨%V15, %f15, -, H15⟩
  icases H16 with ⟨%V16, %f16, -, H16⟩
  icases H17 with ⟨%V17, %f17, -, H17⟩
  icases H18 with ⟨%V18, %f18, -, H18⟩
  icases H19 with ⟨%V19, %f19, -, H19⟩
  icases H20 with ⟨%V20, %f20, -, H20⟩
  icases H21 with ⟨%V21, %f21, -, H21⟩
  icases H22 with ⟨%V22, %f22, -, H22⟩
  ihave HR := (ring_in c arg3 arg5 arg7 arg14 arg23 W3 W5 W7) $$ [H14 H3 H5 H7 HS]
  · isplitl [H14]; · iexists _; iexact H14
    isplitl [H3]; · iexact H3
    isplitl [H5]; · iexact H5
    isplitl [H7]; · iexact H7
    iexact HS
  icases HR with ⟨HR, R3, R5, R7⟩
  ihave H9 := (cols_in c arg9 f9) $$ H9
  ihave H12 := (codes_in c arg12 f12) $$ H12
  ihave HC := (stage_in c arg19 arg26) $$ [H19 Hc0 Hc1]
  · isplitl [H19]; · iexists _; iexact H19
    isplitl [Hc0]; · iexact Hc0
    iexact Hc1
  icases HC with ⟨Hi0, Hi1⟩
  ihave HW := (body_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 W3 W5 W7 H T1 G X4 X6 X8 W) $$ [HR H0 H1 H2 H4 H6 H8 H10 H11 H13 H15 H16 H17 H18 H20 H21 H22 H9 H12 Hi0 Hi1 Hc24 Hc25 HO]
  · unfold bodyPre
    isplitl [HR]; · iexact HR
    isplitl [H0]; · iexact H0
    isplitl [H1]; · iexact H1
    isplitl [H2]; · iexact H2
    isplitl [H4]; · iexact H4
    isplitl [H6]; · iexact H6
    isplitl [H8]; · iexact H8
    isplitl [H10]; · iexists _; iexact H10
    isplitl [H11]; · iexists _; iexact H11
    isplitl [H13]; · iexists _; iexact H13
    isplitl [H15]; · iexists _; iexact H15
    isplitl [H16]; · iexists _; iexact H16
    isplitl [H17]; · iexists _; iexact H17
    isplitl [H18]; · iexists _; iexact H18
    isplitl [H20]; · iexists _; iexact H20
    isplitl [H21]; · iexists _; iexact H21
    isplitl [H22]; · iexists _; iexact H22
    isplitl [H9]; · iexact H9
    isplitl [H12]; · iexact H12
    isplitl [Hi0]; · iexact Hi0
    isplitl [Hi1]; · iexact Hi1
    isplitl [Hc24]; · iexact Hc24
    isplitl [Hc25]; · iexact Hc25
    iexact HO
  iapply (wp_wand_r frame (wpE (defs₀ (F := F)) Variants.none (c : Thread nD τ) none) Set.univ)
  isplitl [HW]; · iexact HW
  iintro %_ HP
  unfold bodyPost
  icases HP with ⟨HR, H0, H1, H2, H4, H6, H8, H10, H11, H13, H15, H16, H17, H18, H21, H22, H9, ⟨%X17, %e17, H12⟩, Hi0, Hi1, Hc24, Hc25, HO⟩
  ihave HR := (ring_out c arg3 arg5 arg7 arg14 arg23 W3 W5 W7) $$ [HR R3 R5 R7]
  · isplitl [HR]; · iexact HR
    isplitl [R3]; · iexact R3
    isplitl [R5]; · iexact R5
    iexact R7
  icases HR with ⟨H14, H3, H5, H7, HS⟩
  ihave H9 := (cols_out c arg9 arg20 _) $$ H9
  icases H9 with ⟨H9, H20⟩
  ihave H12 := (codes_out c arg12 arg17 X17) $$ H12
  rw [e17]
  ihave HC := (stage_out c arg19 arg26) $$ [Hi0 Hi1]
  · isplitl [Hi0]; · iexact Hi0
    iexact Hi1
  icases HC with ⟨H19, Hc0, Hc1⟩
  isplitr [HO]
  · unfold wholePost
    isplitl [H0]; · iapply (owns_read c arg0 H) $$ H0
    isplitl [H1]; · iapply (owns_read c arg1 T1) $$ H1
    isplitl [H2]; · iapply (owns_read c arg2 G) $$ H2
    isplitl [H3]; · iapply (owns_read c arg3 W3) $$ H3
    isplitl [H4]; · iapply (owns_read c arg4 X4) $$ H4
    isplitl [H5]; · iapply (owns_read c arg5 W5) $$ H5
    isplitl [H6]; · iapply (owns_read c arg6 X6) $$ H6
    isplitl [H7]; · iapply (owns_read c arg7 W7) $$ H7
    isplitl [H8]; · iapply (owns_read c arg8 X8) $$ H8
    isplitl [H9]; · iapply (owns_at c arg9 _) $$ H9
    isplitl [H10]; · iapply (owns_at c arg10 _) $$ H10
    isplitl [H11]; · iapply (owns_at c arg11 _) $$ H11
    isplitl [H12]; · iapply (owns_at c arg12 _) $$ H12
    isplitl [H13]; · iapply (owns_at c arg13 _) $$ H13
    isplitl [H14]; · iapply (owns_ex c arg14) $$ H14
    isplitl [H15]; · iapply (owns_ex c arg15) $$ H15
    isplitl [H16]; · iapply (owns_ex c arg16) $$ H16
    isplitl [H17]; · iapply (owns_ex c arg17) $$ H17
    isplitl [H18]; · iapply (owns_ex c arg18); icases H18 with ⟨%f, H18⟩; iexists f; rw [← stg18_set arg18]; iexact H18
    isplitl [H19]; · iapply (owns_ex c arg19) $$ H19
    isplitl [H20]; · iapply (owns_ex c arg20) $$ H20
    isplitl [H21]; · iapply (owns_ex c arg21) $$ H21
    isplitl [H22]; · iapply (owns_ex c arg22) $$ H22
    isplitl [HS]; · iexact HS
    isplitl [Hc24]; · iexact Hc24
    isplitl [Hc25]; · iexact Hc25
    isplitl [Hc0]; · iexact Hc0
    iexact Hc1
  · iexact HO
end Whole

end Cert.Proof.Kernel
-- ==== Proof.Launch.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.LaunchB
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The launch -/

section Launch
variable [∀ e, Nonempty (Elt F e)] (m : (ℓ : Loc nD τ sig) → Buf (Elt F) ℓ) (ρ : Dev nD → PrngReg)

/-- The five cells beside the ring's: the loads', the two of the finals' (the first of them never used), the two of the staging of the second codes. -/
abbrev oth5 : Fin 5 → SemLoc sig := ![cell24 cc0_scratch10, .dma 25, cell1 cc0_scratch11, cell4 cc0_scratch12 ![0] (par_inb 0), cell4 cc0_scratch12 ![1] (par_inb 1)]
/-- The kernel's own semaphores: the ring's sixteen and five more. -/
abbrev osem : Fin 16 ⊕ Fin 5 → SemLoc sig := Sum.elim (fun k => cellM cc0_scratch9 ![k.val] (cell_inb k)) oth5
/-- They are scoped, distinct, and none of the pipeline's. -/
theorem osem_facts : Pipeline.OwnSemFacts spec0 osem := by decide +kernel
/-- All of them at zero, one by one. -/
theorem osem_eq (c : Dev nD) :
    (Pipeline.ownSems0 (Ix := Unit) (Name := ℕ) (U := UC sig nD τ) (Lvl := ℕ) (Val := Elt F) (τ := τ) osem c : sProp 𝕄)
      = iprop(bigSep Finset.univ (fun k : Fin 16 => semVal ((c : Thread nD τ), cellM cc0_scratch9 ![k.val] (cell_inb k)) 0)
        ∗ semVal ((c : Thread nD τ), cell24 cc0_scratch10) 0 ∗ semVal ((c : Thread nD τ), .dma 25) 0 ∗ semVal ((c : Thread nD τ), cell1 cc0_scratch11) 0
        ∗ semVal ((c : Thread nD τ), cell4 cc0_scratch12 ![0] (par_inb 0)) 0 ∗ semVal ((c : Thread nD τ), cell4 cc0_scratch12 ![1] (par_inb 1)) 0) := by
  unfold Pipeline.ownSems0
  rw [BI.bigSep_univ_sum, bigSep_univ_eq_bigSepL [0, 1, 2, 3, 4] (by decide) (by decide) (fun k : Fin 5 => semVal ((c : Thread nD τ), osem (Sum.inr k)) 0)]
  rfl

/-- The arrays the body copies from and to by itself. -/
abbrev R0 : Finset (Ref sig .tc) := {main_arg3, main_arg5, main_arg7, main_v4_0, main_v4_1, main_v4_3}
/-- None of them is a window's array. -/
theorem R0_sub : R0 ⊆ Pipeline.restRefs sig spec0 := by decide
/-- Held whole, one by one. -/
theorem routed_eq (c : Dev nD) (W : (b : Ref sig .tc) → Buf (Elt F) ((c.tc : Thread nD τ).loc b)) :
    (Pipeline.routed R0 c W : sProp 𝕄) = iprop((((c : Thread nD τ).loc main_arg3) ↦{fullShare} W main_arg3) ∗ (((c : Thread nD τ).loc main_arg5) ↦{fullShare} W main_arg5)
      ∗ (((c : Thread nD τ).loc main_arg7) ↦{fullShare} W main_arg7) ∗ (((c : Thread nD τ).loc main_v4_0) ↦{fullShare} W main_v4_0)
      ∗ (((c : Thread nD τ).loc main_v4_1) ↦{fullShare} W main_v4_1) ∗ (((c : Thread nD τ).loc main_v4_3) ↦{fullShare} W main_v4_3)) := by
  unfold Pipeline.routed; rw [BI.bigSep_eq_bigSepL_of_eq [main_arg3, main_arg5, main_arg7, main_v4_0, main_v4_1, main_v4_3] (by decide) (by decide)]; rfl

/-- @main up to its region, at this proof's algebra. -/
theorem hmainC (𝒱₀ : Variants) : Pipeline.HMain (Ix := Unit) (Name := ℕ) (U := UC sig nD τ) (Lvl := ℕ) cfgs 0 defs₀ 𝒱₀ m (main (F := F)) (V m) :=
  Pipeline.hmain_prefix cfgs 0 defs₀ 𝒱₀ m main hostOps0 hostOps0_sub hostOps0_fresh main_chain

/-- The first result's value. -/
def Y0 (c : Dev nD) (t : Fin cfg0.N) : Vec F S224x4096 .f32 := dout (iblk m c 0 t) (iblk m c 1 t) (iblk m c 2 t) (V m c main_arg3) (V m c main_arg5) (V m c main_arg7) (iblk m c 3 t) (iblk m c 4 t) (iblk m c 5 t)
/-- The second result's. -/
def Y1 (c : Dev nD) (t : Fin cfg0.N) : Vec F S2x112x4096 .fp8e4m3 := c3out (iblk m c 0 t) (iblk m c 2 t)
/-- The third's. -/
def Y2 (c : Dev nD) (t : Fin cfg0.N) : Vec F S2x112 .f32 := a3out (iblk m c 0 t) (iblk m c 2 t)
/-- The fourth's. -/
def Y3 (c : Dev nD) (t : Fin cfg0.N) : Vec F S2x112x14336 .fp8e4m3 := c4out (iblk m c 0 t) (iblk m c 2 t) (V m c main_arg3) (V m c main_arg5) (iblk m c 3 t) (iblk m c 4 t)
/-- The fifth's. -/
def Y4 (c : Dev nD) (t : Fin cfg0.N) : Vec F S2x112 .f32 := a4out (iblk m c 0 t) (iblk m c 2 t) (V m c main_arg3) (V m c main_arg5) (iblk m c 3 t) (iblk m c 4 t)

/-- What the arrays the body copies by itself hold at the end. -/
def Yend (c : Dev nD) : (b : Ref sig .tc) → Buf (Elt F) ((c.tc : Thread nD τ).loc b) :=
  Function.update (Function.update (Function.update (V m c) main_v4_0 (Y0 m c t0_0)) main_v4_1 (Y1 m c t0_0)) main_v4_3 (Y3 m c t0_0)
omit [∀ e, Nonempty (Elt F e)] in
theorem Yend_arg3 (c : Dev nD) : Yend m c main_arg3 = V m c main_arg3 := by
  unfold Yend; rw [Function.update_of_ne (by decide), Function.update_of_ne (by decide), Function.update_of_ne (by decide)]
omit [∀ e, Nonempty (Elt F e)] in
theorem Yend_arg5 (c : Dev nD) : Yend m c main_arg5 = V m c main_arg5 := by
  unfold Yend; rw [Function.update_of_ne (by decide), Function.update_of_ne (by decide), Function.update_of_ne (by decide)]
omit [∀ e, Nonempty (Elt F e)] in
theorem Yend_arg7 (c : Dev nD) : Yend m c main_arg7 = V m c main_arg7 := by
  unfold Yend; rw [Function.update_of_ne (by decide), Function.update_of_ne (by decide), Function.update_of_ne (by decide)]
omit [∀ e, Nonempty (Elt F e)] in
theorem Yend_0 (c : Dev nD) : Yend m c main_v4_0 = Y0 m c t0_0 := by
  unfold Yend; rw [Function.update_of_ne (by decide), Function.update_of_ne (by decide), Function.update_self]
omit [∀ e, Nonempty (Elt F e)] in
theorem Yend_1 (c : Dev nD) : Yend m c main_v4_1 = Y1 m c t0_0 := by
  unfold Yend; rw [Function.update_of_ne (by decide), Function.update_self]
omit [∀ e, Nonempty (Elt F e)] in
theorem Yend_3 (c : Dev nD) : Yend m c main_v4_3 = Y3 m c t0_0 := by
  unfold Yend; rw [Function.update_self]

/-- What the body's state is before the one point and after it. -/
def ends (c : Dev nD) (W : (b : Ref sig .tc) → Buf (Elt F) ((c.tc : Thread nD τ).loc b)) : sProp 𝕄 := Pipeline.Ends spec0 osem R0 c W

/-- The pipeline's data: each input window keeps its block, the two staged results take theirs. -/
def dats (_ : Fin 1) (c : Dev nD) : Pipeline.Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Y2 m c t
    | ⟨7, _⟩ => Y4 m c t
  Φ t := if t.val = 0 then ends c (V m c) else ends c (Yend m c)
  q _ := fullShare
  owed _ := 0

omit [∀ e, Nonempty (Elt F e)] in
theorem A_eqC (c : Dev nD) (w : Fin cfg0.W) : (dats m 0 c).A w = V m c (Pipeline.arrRef spec0 w) := by dsimp only [dats]
omit [∀ e, Nonempty (Elt F e)] in
theorem after0 (c : Dev nD) (t : Fin cfg0.N) : (dats m 0 c).after 0 t = iblk m c 0 t := by dsimp only [dats]
omit [∀ e, Nonempty (Elt F e)] in
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Pipeline.Dat.blockOf iblk; rw [A_eqC]; try rfl) t d).trans
    (by unfold Pipeline.Dat.fetched Pipeline.Dat.blockOf iblk; rw [A_eqC]; try rfl)
omit [∀ e, Nonempty (Elt F e)] in
theorem after1 (c : Dev nD) (t : Fin cfg0.N) : (dats m 0 c).after 1 t = iblk m c 1 t := by dsimp only [dats]
omit [∀ e, Nonempty (Elt F e)] in
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Pipeline.Dat.blockOf iblk; rw [A_eqC]; try rfl) t d).trans
    (by unfold Pipeline.Dat.fetched Pipeline.Dat.blockOf iblk; rw [A_eqC]; try rfl)
omit [∀ e, Nonempty (Elt F e)] in
theorem after2 (c : Dev nD) (t : Fin cfg0.N) : (dats m 0 c).after 2 t = iblk m c 2 t := by dsimp only [dats]
omit [∀ e, Nonempty (Elt F e)] in
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Pipeline.Dat.blockOf iblk; rw [A_eqC]; try rfl) t d).trans
    (by unfold Pipeline.Dat.fetched Pipeline.Dat.blockOf iblk; rw [A_eqC]; try rfl)
omit [∀ e, Nonempty (Elt F e)] in
theorem after3 (c : Dev nD) (t : Fin cfg0.N) : (dats m 0 c).after 3 t = iblk m c 3 t := by dsimp only [dats]
omit [∀ e, Nonempty (Elt F e)] in
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Pipeline.Dat.blockOf iblk; rw [A_eqC]; try rfl) t d).trans
    (by unfold Pipeline.Dat.fetched Pipeline.Dat.blockOf iblk; rw [A_eqC]; try rfl)
omit [∀ e, Nonempty (Elt F e)] in
theorem after4 (c : Dev nD) (t : Fin cfg0.N) : (dats m 0 c).after 4 t = iblk m c 4 t := by dsimp only [dats]
omit [∀ e, Nonempty (Elt F e)] in
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Pipeline.Dat.blockOf iblk; rw [A_eqC]; try rfl) t d).trans
    (by unfold Pipeline.Dat.fetched Pipeline.Dat.blockOf iblk; rw [A_eqC]; try rfl)
omit [∀ e, Nonempty (Elt F e)] in
theorem after5 (c : Dev nD) (t : Fin cfg0.N) : (dats m 0 c).after 5 t = iblk m c 5 t := by dsimp only [dats]
omit [∀ e, Nonempty (Elt F e)] in
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Pipeline.Dat.blockOf iblk; rw [A_eqC]; try rfl) t d).trans
    (by unfold Pipeline.Dat.fetched Pipeline.Dat.blockOf iblk; rw [A_eqC]; try rfl)
omit [∀ e, Nonempty (Elt F e)] in
theorem after6 (c : Dev nD) (t : Fin cfg0.N) : (dats m 0 c).after 6 t = Y2 m c t := by dsimp only [dats]
omit [∀ e, Nonempty (Elt F e)] in
theorem after7 (c : Dev nD) (t : Fin cfg0.N) : (dats m 0 c).after 7 t = Y4 m c t := by dsimp only [dats]
omit [∀ e, Nonempty (Elt F e)] in
theorem phi0 (c : Dev nD) : (dats m 0 c).Φ 0 = ends c (V m c) := by dsimp only [dats]; exact if_pos rfl
omit [∀ e, Nonempty (Elt F e)] in
theorem phi1 (c : Dev nD) : (dats m 0 c).Φ (Fin.last cfg0.N) = ends c (Yend m c) := by dsimp only [dats]; exact if_neg (by decide)

/-- The body's state taken apart. -/
theorem ends_eq (c : Dev nD) (W : (b : Ref sig .tc) → Buf (Elt F) ((c.tc : Thread nD τ).loc b)) :
    (ends c W : sProp 𝕄) = iprop((owns (c : Thread nD τ) (Memref.whole main_arg3) fullShare (W main_arg3) ∗ owns (c : Thread nD τ) (Memref.whole main_arg5) fullShare (W main_arg5) ∗ owns (c : Thread nD τ) (Memref.whole main_arg7) fullShare (W main_arg7)
      ∗ owns (c : Thread nD τ) (Memref.whole main_v4_0) fullShare (W main_v4_0) ∗ owns (c : Thread nD τ) (Memref.whole main_v4_1) fullShare (W main_v4_1) ∗ owns (c : Thread nD τ) (Memref.whole main_v4_3) fullShare (W main_v4_3))
      ∗ (bigSep Finset.univ (fun k : Fin 16 => semVal ((c : Thread nD τ), cellM cc0_scratch9 ![k.val] (cell_inb k)) 0)
      ∗ semVal ((c : Thread nD τ), cell24 cc0_scratch10) 0 ∗ semVal ((c : Thread nD τ), .dma 25) 0 ∗ semVal ((c : Thread nD τ), cell1 cc0_scratch11) 0
      ∗ semVal ((c : Thread nD τ), cell4 cc0_scratch12 ![0] (par_inb 0)) 0 ∗ semVal ((c : Thread nD τ), cell4 cc0_scratch12 ![1] (par_inb 1)) 0)
      ∗ ((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) )
      ∗ ∃ r, prngReg c r) := by
  unfold ends Pipeline.Ends
  rw [routed_eq, osem_eq, scopedRest0_eq]
  simp only [owns_whole]

/-- What the body is given at the point. -/
def bodyPreL (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- What it gives back. -/
def bodyPostL (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at the point. -/
theorem sound_body (c : Dev nD) (t : Fin cfg0.N) :
    bodyPreL m c t ⊢ wp frame (wpE (defs₀ (F := F)) Variants.none c none) Set.univ (bodyAt0 t) (fun _ => bodyPostL m c t) := by
  obtain rfl : t = t0_0 := fin_N0 t
  unfold bodyPreL bodyPostL bodyAt0
  rw [cc0_mod_block_eq_skeleton]
  simp only [before0, before1, before2, before3, before4, before5]
  rw [show (dats m 0 c).Φ (Fin.castSucc t0_0) = ends c (V m c) from phi0 m c, show (dats m 0 c).Φ (Fin.succ t0_0) = ends c (Yend m c) from phi1 m c,
    after0, after1, after2, after3, after4, after5, after6, after7, ends_eq, ends_eq, Yend_arg3, Yend_arg5, Yend_arg7, Yend_0, Yend_1, Yend_3]
  unfold Pipeline.Dat.owesAt Pipeline.owesWithin
  iintro ⟨⟨⟨A3, A5, A7, B0, B1, B3⟩, ⟨HS, C24, C25, C1, D0, D1⟩, ⟨S0, S1, S2, S3, S4, S5, S6, S7, S8⟩, HP⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave HW := (whole_run c (st0_0 t0_0) (hstage0_0 0) (st0_1 t0_0) (hstage0_1 0) (st0_2 t0_0) (hstage0_2 0) (Memref.whole main_arg3) (Memref.isWhole_whole _) (st0_3 t0_0) (hstage0_3 0) (Memref.whole main_arg5) (Memref.isWhole_whole _) (st0_4 t0_0) (hstage0_4 0) (Memref.whole main_arg7) (Memref.isWhole_whole _) (st0_5 t0_0) (hstage0_5 0) (Memref.whole main_v4_0) (Memref.isWhole_whole _) (Memref.whole main_v4_1) (Memref.isWhole_whole _) (st0_6 t0_0) (hstage0_6 0) (Memref.whole main_v4_3) (Memref.isWhole_whole _) (st0_7 t0_0) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (iblk m c 0 t0_0) (iblk m c 1 t0_0) (iblk m c 2 t0_0) (V m c main_arg3) (V m c main_arg5) (V m c main_arg7) (iblk m c 3 t0_0) (iblk m c 4 t0_0) (iblk m c 5 t0_0) W) $$ [A3 A5 A7 B0 B1 B3 HS C24 C1 D0 D1 S0 S1 S2 S3 S4 S5 S6 S7 S8 HO H0 H1 H2 H3 H4 H5 H6 H7]
  · isplitr [HO]
    · unfold wholePre
      isplitl [H0]; · iexact H0
      isplitl [H1]; · iexact H1
      isplitl [H2]; · iexact H2
      isplitl [A3]; · iexact A3
      isplitl [H3]; · iexact H3
      isplitl [A5]; · iexact A5
      isplitl [H4]; · iexact H4
      isplitl [A7]; · iexact A7
      isplitl [H5]; · iexact H5
      isplitl [B0]; · iexists _; iexact B0
      isplitl [B1]; · iexists _; iexact B1
      isplitl [H6]; · iexists _; iexact H6
      isplitl [B3]; · iexists _; iexact B3
      isplitl [H7]; · iexists _; iexact H7
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [HS]; · iexact HS
      isplitl [C24]; · iexact C24
      isplitl [C1]; · iexact C1
      isplitl [D0]; · iexact D0
      iexact D1
    · iexact HO
  iapply (wp_wand_r frame (wpE (defs₀ (F := F)) Variants.none (c : Thread nD τ) none) Set.univ)
  isplitl [HW]; · iexact HW
  iintro %_ HQ
  unfold wholePost
  icases HQ with ⟨⟨H0, H1, H2, A3, H3, A5, H4, A7, H5, B0, B1, H6, B3, H7, S0, S1, S2, S3, S4, S5, S6, S7, S8, HS, C24, C1, D0, D1⟩, ⟨%W', HO⟩⟩
  isplitl [A3 A5 A7 B0 B1 B3 HS C24 C25 C1 D0 D1 S0 S1 S2 S3 S4 S5 S6 S7 S8 HP]
  · isplitl [A3 A5 A7 B0 B1 B3]
    · isplitl [A3]; · iexact A3
      isplitl [A5]; · iexact A5
      isplitl [A7]; · iexact A7
      isplitl [B0]; · iexact B0
      isplitl [B1]; · iexact B1
      iexact B3
    isplitl [HS C24 C25 C1 D0 D1]
    · isplitl [HS]; · iexact HS
      isplitl [C24]; · iexact C24
      isplitl [C25]; · iexact C25
      isplitl [C1]; · iexact C1
      isplitl [D0]; · iexact D0
      iexact D1
    isplitr [HP]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact HP
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [∀ e, Nonempty (Elt F e)] in
/-- The body table's row is the body. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs to an end where every array holds what the proof's data says, every semaphore at zero. -/
theorem run_main : θ_run defs (onTc (τ := τ) (main (F := F))) (s₀ m ρ) (fun r => Pipeline.RoutedPost cfgs (dats m) 0 R0 (V m) (Yend m) r ∧ r.2.sem = fun _ => 0) :=
  Pipeline.θ_run_frame_routed (Q' := _) cfgs (dats m) (0 : Fin 1) launch0 osem_facts defs₀ Variants.none m ρ main
    (hbody := fun c => (body_obligation m c).loose) (hshare := fun c => (dats m 0 c).share_full fun _ => rfl) (howed := fun _ _ => rfl)
    (V := V m) (hmain := hmainC m Variants.none) (hA := A_eqC m) (R := R0) (hR := R0_sub) (Y := Yend m)
    (hin := fun c => by rw [phi0]; exact .rfl) (hout := fun c => by rw [phi1]; exact .rfl)
end Launch

end Cert.Proof.Kernel
-- ==== Proof.Fin.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Launch
public import Idealize.ShloMosaic.Lib.Pipeline.ValueKit
public import Idealize.ShloMosaic.Lib.Ring
public import Idealize.ShloMosaic.Lib.Ring.Tabled
public import Idealize.ShloMosaic.Lib.Batch
public import Idealize.ShloMosaic.Lib.VecWindow
public import Idealize.ShloMosaic.Lib.Pipeline.Routed

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## What the run says of the arguments and the results -/

section Fin
variable [∀ e, Nonempty (Elt F e)] (m : (ℓ : Loc nD τ sig) → Buf (Elt F) ℓ) (ρ : Dev nD → PrngReg)

/-- The program runs to an end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans ((A_eqC m c 0).trans (V_main_arg0 m c))),
      ((h.1 c).1 1).trans (((dats m 0 c).arrAt_in 1 rfl _).trans ((A_eqC m c 1).trans (V_main_arg1 m c))),
      ((h.1 c).2.2 main_arg2 (Finset.mem_sdiff.mpr ⟨Pipeline.mem_restRefs_of main_arg2 (by decide) (by decide), by decide⟩)).trans (V_main_arg2 m c),
      ((h.1 c).2.1 main_arg3 (by decide)).trans ((Yend_arg3 m c).trans (V_main_arg3 m c)),
      ((h.1 c).2.2 main_arg4 (Finset.mem_sdiff.mpr ⟨Pipeline.mem_restRefs_of main_arg4 (by decide) (by decide), by decide⟩)).trans (V_main_arg4 m c),
      ((h.1 c).2.1 main_arg5 (by decide)).trans ((Yend_arg5 m c).trans (V_main_arg5 m c)),
      ((h.1 c).2.2 main_arg6 (Finset.mem_sdiff.mpr ⟨Pipeline.mem_restRefs_of main_arg6 (by decide) (by decide), by decide⟩)).trans (V_main_arg6 m c),
      ((h.1 c).2.1 main_arg7 (by decide)).trans ((Yend_arg7 m c).trans (V_main_arg7 m c)),
      ((h.1 c).2.2 main_arg8 (Finset.mem_sdiff.mpr ⟨Pipeline.mem_restRefs_of main_arg8 (by decide) (by decide), by decide⟩)).trans (V_main_arg8 m c)⟩, h.2⟩) (run_main m ρ)

omit [∀ e, Nonempty (Elt F e)] in
/-- The scales of the first codes end at what the body left of them. -/
theorem final6 (c : Dev nD) : (dats m 0 c).arrAt 6 cfg0.N = Y2 m c t0_0 := by
  refine (dats m 0 c).arrAt_eq_of_after_last 6 t0_0 (by decide +kernel) _ fun j => ?_
  blk_simp; rw [after6]

omit [∀ e, Nonempty (Elt F e)] in
/-- The scales of the second codes end at what the body left of them. -/
theorem final7 (c : Dev nD) : (dats m 0 c).arrAt 7 cfg0.N = Y4 m c t0_0 := by
  refine (dats m 0 c).arrAt_eq_of_after_last 7 t0_0 (by decide +kernel) _ fun j => ?_
  blk_simp; rw [after7]

/-- The program runs to an end where its five results are what the body computes and its arguments are unchanged. -/
theorem run_values : θ_run defs (onTc (τ := τ) (main (F := F))) ⟨m, fun _ => 0, ρ⟩ (fun r => ∀ c : Dev nD,
      r.2.mem ((c.tc : Thread nD τ).loc main_v4_0) = Y0 m c t0_0
      ∧ r.2.mem ((c.tc : Thread nD τ).loc main_v4_1) = Y1 m c t0_0
      ∧ r.2.mem ((c.tc : Thread nD τ).loc main_v4_2) = Y2 m c t0_0
      ∧ r.2.mem ((c.tc : Thread nD τ).loc main_v4_3) = Y3 m c t0_0
      ∧ r.2.mem ((c.tc : Thread nD τ).loc main_v4_4) = Y4 m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).2.1 main_v4_0 (by decide)).trans (Yend_0 m c), ((h.1 c).2.1 main_v4_1 (by decide)).trans (Yend_1 m c),
      ((h.1 c).1 6).trans (final6 m c), ((h.1 c).2.1 main_v4_3 (by decide)).trans (Yend_3 m c), ((h.1 c).1 7).trans (final7 m c),
      ((h.1 c).1 0).trans (((dats m 0 c).arrAt_in 0 rfl _).trans ((A_eqC m c 0).trans (V_main_arg0 m c))),
      ((h.1 c).1 1).trans (((dats m 0 c).arrAt_in 1 rfl _).trans ((A_eqC m c 1).trans (V_main_arg1 m c))),
      ((h.1 c).2.2 main_arg2 (Finset.mem_sdiff.mpr ⟨Pipeline.mem_restRefs_of main_arg2 (by decide) (by decide), by decide⟩)).trans (V_main_arg2 m c),
      ((h.1 c).2.1 main_arg3 (by decide)).trans ((Yend_arg3 m c).trans (V_main_arg3 m c)),
      ((h.1 c).2.2 main_arg4 (Finset.mem_sdiff.mpr ⟨Pipeline.mem_restRefs_of main_arg4 (by decide) (by decide), by decide⟩)).trans (V_main_arg4 m c),
      ((h.1 c).2.1 main_arg5 (by decide)).trans ((Yend_arg5 m c).trans (V_main_arg5 m c)),
      ((h.1 c).2.2 main_arg6 (Finset.mem_sdiff.mpr ⟨Pipeline.mem_restRefs_of main_arg6 (by decide) (by decide), by decide⟩)).trans (V_main_arg6 m c),
      ((h.1 c).2.1 main_arg7 (by decide)).trans ((Yend_arg7 m c).trans (V_main_arg7 m c)),
      ((h.1 c).2.2 main_arg8 (Finset.mem_sdiff.mpr ⟨Pipeline.mem_restRefs_of main_arg8 (by decide) (by decide), by decide⟩)).trans (V_main_arg8 m c)⟩) (run_main m ρ)

end Fin

end Cert.Proof.Kernel
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Pair
public import proofs.«01_k».proof.Proof.Fin
public import proofs.«01_k».proof.Proof.IFin
public import Idealize.ShloMosaic.Adequacy
public import Idealize.ShloMosaic.Init

@[expose] public section

noncomputable section

namespace Cert.Proof

open Idealize.ShloMosaic Idealize.SL.Sem

/-- The claim: the three programs run to an end, arguments unchanged and semaphores at zero, the kernel's ideal reading is its own text,
    and over the extended reals the kernel's results are the reference's. -/
theorem claim : Cert.Claim := ⟨Cert.Kernel.Gen.facts, Cert.KernelIdeal.Gen.facts, Cert.ReferenceIdeal.Gen.facts,
  fun m g _ => Cert.Proof.Kernel.frame m g, fun m g _ => Cert.Proof.KernelIdeal.frame m g,
  fun m g _ => Cert.ReferenceIdeal.Gen.frame m g, trivial, same_results⟩

end Cert.Proof

end
